-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_heads [hPre_finite_heads : Cert.Pre_finite_heads.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_heads.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_heads [hPre_finite_heads : Cert.Pre_finite_heads.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_heads.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_finite_heads [hKernel5Ideal : Cert.Kernel5Ideal.Facts] [hPre_finite_heads : Cert.Pre_finite_heads.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_heads m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_finite_heads [hReference5Ideal : Cert.Reference5Ideal.Facts] [hPre_finite_heads : Cert.Pre_finite_heads.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_heads m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_v19) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite_heads [hKernel5Ideal : Cert.Kernel5Ideal.Facts] [hReference5Ideal : Cert.Reference5Ideal.Facts] [hPre_finite_heads : Cert.Pre_finite_heads.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_heads m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v28_0)) (v1 : (c : Dev Cert.Kernel5Ideal.nD) → Buf (Elt Ideal) ((c.tc : Thread Cert.Kernel5Ideal.nD Cert.Kernel5Ideal.τ).loc Cert.Kernel5Ideal.main_v28_1)) (v2 : (c : Dev Cert.Kernel5Ideal.nD) → Buf (Elt Ideal) ((c.tc : Thread Cert.Kernel5Ideal.nD Cert.Kernel5Ideal.τ).loc Cert.Kernel5Ideal.main_v28_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28_0) = v0 c
          ∧ r.2.mem ((c.tc : Thread Cert.Kernel5Ideal.nD Cert.Kernel5Ideal.τ).loc Cert.Kernel5Ideal.main_v28_1) = v1 c
          ∧ r.2.mem ((c.tc : Thread Cert.Kernel5Ideal.nD Cert.Kernel5Ideal.τ).loc Cert.Kernel5Ideal.main_v28_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_v52) = v1 c
          ∧ r.2.mem ((c.tc : Thread Cert.Reference5Ideal.nD Cert.Reference5Ideal.τ).loc Cert.Reference5Ideal.main_v53) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v42_0)) (v1 : (c : Dev Cert.Kernel16Ideal.nD) → Buf (Elt Ideal) ((c.tc : Thread Cert.Kernel16Ideal.nD Cert.Kernel16Ideal.τ).loc Cert.Kernel16Ideal.main_v42_1)) (v2 : (c : Dev Cert.Kernel16Ideal.nD) → Buf (Elt Ideal) ((c.tc : Thread Cert.Kernel16Ideal.nD Cert.Kernel16Ideal.τ).loc Cert.Kernel16Ideal.main_v42_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v42_0) = v0 c
          ∧ r.2.mem ((c.tc : Thread Cert.Kernel16Ideal.nD Cert.Kernel16Ideal.τ).loc Cert.Kernel16Ideal.main_v42_1) = v1 c
          ∧ r.2.mem ((c.tc : Thread Cert.Kernel16Ideal.nD Cert.Kernel16Ideal.τ).loc Cert.Kernel16Ideal.main_v42_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v108) = v0 c
          ∧ r.2.mem ((c.tc : Thread Cert.Reference16Ideal.nD Cert.Reference16Ideal.τ).loc Cert.Reference16Ideal.main_v110) = v1 c
          ∧ r.2.mem ((c.tc : Thread Cert.Reference16Ideal.nD Cert.Reference16Ideal.τ).loc Cert.Reference16Ideal.main_v113) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite_heads : Cert.Pre_finite_heads.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_heads (hKernel5Ideal := hKernel5Ideal) (hPre_finite_heads := hPre_finite_heads)
    ∧ quiescent_Reference5Ideal (hReference5Ideal := hReference5Ideal)
    ∧ quiescent_Reference5Ideal_pre_finite_heads (hReference5Ideal := hReference5Ideal) (hPre_finite_heads := hPre_finite_heads)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_heads (hKernel5Ideal := hKernel5Ideal) (hReference5Ideal := hReference5Ideal) (hPre_finite_heads := hPre_finite_heads)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4352x1024 : Shape := ⟨2, ![4352, 1024]⟩
abbrev S4352x512 : Shape := ⟨2, ![4352, 512]⟩
abbrev S4352x3072 : Shape := ⟨2, ![4352, 3072]⟩
abbrev S_ : Shape := ⟨0, ![]⟩

class Facts : Prop where
  bcast_S_S4352x1024 : S_.BroadcastsInDim S4352x1024 (![] : Fin 0 → Fin S4352x1024.rank)
  reducesTo_S4352x1024_S_d0_1 : S4352x1024.ReducesTo [0, 1] S_
  h_S_ : 0 < S_.numel
  bcast_S_S4352x512 : S_.BroadcastsInDim S4352x512 (![] : Fin 0 → Fin S4352x512.rank)
  reducesTo_S4352x512_S_d0_1 : S4352x512.ReducesTo [0, 1] S_

variable [Facts]

def fn {F : FTy → Type} [FloatOps F] (main_arg0 : FVec F S4352x1024 .f32) (main_arg1 : FVec F S4352x512 .f32) (main_arg2 : FVec F S4352x512 .f32) (main_arg3 : FVec F S4352x3072 .f32) : IVec S_ 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_c : IVec S_ 1 := constantI S_ 1 1#1
  let main_v3 : IVec S_ 1 := (fun x v => Host.reduce IntOp.andi x v reducesTo_S4352x1024_S_d0_1 h_S_) main_v2 main_c
  let main_v4 : FVec F S4352x512 .f32 := Host.absf main_arg1
  let main_cst_0 : FVec F S_ .f32 := constant S_ .f32 0x7F800000#32
  let main_v5 : FVec F S4352x512 .f32 := broadcastInDim S4352x512 ![] bcast_S_S4352x512 main_cst_0
  let main_v6 : IVec S4352x512 1 := cmpf .olt main_v4 main_v5
  let main_c_1 : IVec S_ 1 := constantI S_ 1 1#1
  let main_v7 : IVec S_ 1 := (fun x v => Host.reduce IntOp.andi x v reducesTo_S4352x512_S_d0_1 h_S_) main_v6 main_c_1
  let main_v8 : IVec S_ 1 := andi main_v3 main_v7
  let main_v9 : FVec F S4352x512 .f32 := Host.absf main_arg2
  let main_cst_2 : FVec F S_ .f32 := constant S_ .f32 0x7F800000#32
  let main_v10 : FVec F S4352x512 .f32 := broadcastInDim S4352x512 ![] bcast_S_S4352x512 main_cst_2
  let main_v11 : IVec S4352x512 1 := cmpf .olt main_v9 main_v10
  let main_c_3 : IVec S_ 1 := constantI S_ 1 1#1
  let main_v12 : IVec S_ 1 := (fun x v => Host.reduce IntOp.andi x v reducesTo_S4352x512_S_d0_1 h_S_) main_v11 main_c_3
  let main_v13 : IVec S_ 1 := andi main_v8 main_v12
  main_v13
-- ==== Pre_finite_heads.lean ====
abbrev S2x2176x3072 : Shape := ⟨3, ![2, 2176, 3072]⟩
abbrev S2x2176x512 : Shape := ⟨3, ![2, 2176, 512]⟩
abbrev S2x2176x1536 : Shape := ⟨3, ![2, 2176, 1536]⟩
abbrev S_ : Shape := ⟨0, ![]⟩

class Facts : Prop where
  slices_S2x2176x3072_S2x2176x1536_0_0_1024 : S2x2176x3072.Slices ![0, 0, 1024] S2x2176x1536
  bcast_S_S2x2176x1536 : S_.BroadcastsInDim S2x2176x1536 (![] : Fin 0 → Fin S2x2176x1536.rank)
  reducesTo_S2x2176x1536_S_d0_1_2 : S2x2176x1536.ReducesTo [0, 1, 2] S_
  h_S_ : 0 < S_.numel
  bcast_S_S2x2176x512 : S_.BroadcastsInDim S2x2176x512 (![] : Fin 0 → Fin S2x2176x512.rank)
  reducesTo_S2x2176x512_S_d0_1_2 : S2x2176x512.ReducesTo [0, 1, 2] S_

variable [Facts]

def fn {F : FTy → Type} [FloatOps F] (main_arg0 : FVec F S2x2176x3072 .f32) (main_arg1 : FVec F S2x2176x512 .f32) : IVec S_ 1 :=
  let main_v0 : FVec F S2x2176x1536 .f32 := (extractStridedSlice S2x2176x1536 ![0, 0, 1024] · slices_S2x2176x3072_S2x2176x1536_0_0_1024) main_arg0
  let main_v1 : FVec F S2x2176x1536 .f32 := Host.absf main_v0
  let main_cst : FVec F S_ .f32 := constant S_ .f32 0x7F800000#32
  let main_v2 : FVec F S2x2176x1536 .f32 := broadcastInDim S2x2176x1536 ![] bcast_S_S2x2176x1536 main_cst
  let main_v3 : IVec S2x2176x1536 1 := cmpf .olt main_v1 main_v2
  let main_c : IVec S_ 1 := constantI S_ 1 1#1
  let main_v4 : IVec S_ 1 := (fun x v => Host.reduce IntOp.andi x v reducesTo_S2x2176x1536_S_d0_1_2 h_S_) main_v3 main_c
  let main_v5 : FVec F S2x2176x512 .f32 := Host.absf main_arg1
  let main_cst_0 : FVec F S_ .f32 := constant S_ .f32 0x7F800000#32
  let main_v6 : FVec F S2x2176x512 .f32 := broadcastInDim S2x2176x512 ![] bcast_S_S2x2176x512 main_cst_0
  let main_v7 : IVec S2x2176x512 1 := cmpf .olt main_v5 main_v6
  let main_c_1 : IVec S_ 1 := constantI S_ 1 1#1
  let main_v8 : IVec S_ 1 := (fun x v => Host.reduce IntOp.andi x v reducesTo_S2x2176x512_S_d0_1_2 h_S_) main_v7 main_c_1
  let main_v9 : IVec S_ 1 := andi main_v4 main_v8
  main_v9
-- ==== Kernel.lean ====
abbrev S4352x1024 : Shape := ⟨2, ![4352, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S4352x1024, .f32⟩
  | .hbm, ⟨3, _⟩ => ⟨S4352x1024, .f32⟩
  | .hbm, ⟨4, _⟩ => ⟨S4352x1024, .f32⟩
  | .hbm, ⟨5, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4352x1024 : Shape := ⟨2, ![4352, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S4352x1024, .f32⟩
  | .hbm, ⟨3, _⟩ => ⟨S4352x1024, .f32⟩
  | .hbm, ⟨4, _⟩ => ⟨S4352x1024, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S4352x1024, .f32⟩
  | .hbm, ⟨20, _⟩ => ⟨S4352x1024, .f32⟩
  | .hbm, ⟨21, _⟩ => ⟨S4352x1024, .f32⟩
  | .hbm, ⟨22, _⟩ => ⟨S4352x1024, .f32⟩
  | .hbm, ⟨23, _⟩ => ⟨S4352x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4352x1024, .f32⟩
  | .hbm, ⟨28, _⟩ => ⟨S4352x1024, .f32⟩
  | .hbm, ⟨29, _⟩ => ⟨S4352x1024, .f32⟩
  | .hbm, ⟨30, _⟩ => ⟨S_, .f32⟩
  | .hbm, ⟨31, _⟩ => ⟨S4352, .f32⟩
  | .hbm, ⟨32, _⟩ => ⟨S4352x1, .f32⟩
  | .hbm, ⟨33, _⟩ => ⟨S4352x1024, .f32⟩
  | .hbm, ⟨34, _⟩ => ⟨S4352x1024, .f32⟩
  | .hbm, ⟨35, _⟩ => ⟨S4352x1, .f32⟩
  | .hbm, ⟨36, _⟩ => ⟨S_, .f32⟩
  | .hbm, ⟨37, _⟩ => ⟨S4352x1, .f32⟩
  | .hbm, ⟨38, _⟩ => ⟨S4352x1, .f32⟩
  | .hbm, ⟨39, _⟩ => ⟨S_, .f32⟩
  | .hbm, ⟨40, _⟩ => ⟨S4352, .f32⟩
  | .hbm, ⟨41, _⟩ => ⟨S4352x1024, .f32⟩
  | .hbm, ⟨42, _⟩ => ⟨S4352x1024, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel2.lean ====
abbrev S4352x1024 : Shape := ⟨2, ![4352, 1024]⟩
abbrev S4352x512 : Shape := ⟨2, ![4352, 512]⟩
abbrev S4352x3072 : Shape := ⟨2, ![4352, 3072]⟩
abbrev S544x1024 : Shape := ⟨2, ![544, 1024]⟩
abbrev S544x512 : Shape := ⟨2, ![544, 512]⟩

abbrev nBuf : Space → Nat
  | .hbm => 7
  | .vmem => 14
  | .smem => 0
  | _ => 0

abbrev bufTy : (tb : Table) → Fin (tcTables nBuf tb) → BufTy
  | .hbm, ⟨0, _⟩ => ⟨S4352x1024, .f32⟩
  | .hbm, ⟨1, _⟩ => ⟨S4352x512, .f32⟩
  | .hbm, ⟨2, _⟩ => ⟨S4352x512, .f32⟩
  | .hbm, ⟨3, _⟩ => ⟨S4352x3072, .f32⟩
  | .hbm, ⟨4, _⟩ => ⟨S4352x512, .f32⟩
  | .hbm, ⟨5, _⟩ => ⟨S4352x512, .f32⟩
  | .hbm, ⟨6, _⟩ => ⟨S4352x1024, .bf16⟩
  | .local _ .vmem, ⟨0, _⟩ => ⟨S544x1024, .f32⟩
  | .local _ .vmem, ⟨1, _⟩ => ⟨S544x1024, .f32⟩
  | .local _ .vmem, ⟨2, _⟩ => ⟨S544x512, .f32⟩
  | .local _ .vmem, ⟨3, _⟩ => ⟨S544x512, .f32⟩
  | .local _ .vmem, ⟨4, _⟩ => ⟨S544x512, .f32⟩
  | .local _ .vmem, ⟨5, _⟩ => ⟨S544x512, .f32⟩
  | .local _ .vmem, ⟨6, _⟩ => ⟨S544x1024, .f32⟩
  | .local _ .vmem, ⟨7, _⟩ => ⟨S544x1024, .f32⟩
  | .local _ .vmem, ⟨8, _⟩ => ⟨S544x512, .f32⟩
  | .local _ .vmem, ⟨9, _⟩ => ⟨S544x512, .f32⟩
  | .local _ .vmem, ⟨10, _⟩ => ⟨S544x512, .f32⟩
  | .local _ .vmem, ⟨11, _⟩ => ⟨S544x512, .f32⟩
  | .local _ .vmem, ⟨12, _⟩ => ⟨S544x1024, .bf16⟩
  | .local _ .vmem, ⟨13, _⟩ => ⟨S544x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4352x1024 : Shape := ⟨2, ![4352, 1024]⟩
abbrev S4352x512 : Shape := ⟨2, ![4352, 512]⟩
abbrev S4352x3072 : Shape := ⟨2, ![4352, 3072]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x512, .f32⟩
  | .hbm, ⟨2, _⟩ => ⟨S4352x512, .f32⟩
  | .hbm, ⟨3, _⟩ => ⟨S4352x3072, .f32⟩
  | .hbm, ⟨4, _⟩ => ⟨S4352x1024, .f32⟩
  | .hbm, ⟨5, _⟩ => ⟨S4352x512, .f32⟩
  | .hbm, ⟨6, _⟩ => ⟨S4352x512, .f32⟩
  | .hbm, ⟨7, _⟩ => ⟨S4352x512, .f32⟩
  | .hbm, ⟨8, _⟩ => ⟨S_, .f32⟩
  | .hbm, ⟨9, _⟩ => ⟨S4352x512, .f32⟩
  | .hbm, ⟨10, _⟩ => ⟨S4352x512, .f32⟩
  | .hbm, ⟨11, _⟩ => ⟨S_, .f32⟩
  | .hbm, ⟨12, _⟩ => ⟨S4352x512, .f32⟩
  | .hbm, ⟨13, _⟩ => ⟨S4352x512, .f32⟩
  | .hbm, ⟨14, _⟩ => ⟨S_, .f32⟩
  | .hbm, ⟨15, _⟩ => ⟨S4352x512, .f32⟩
  | .hbm, ⟨16, _⟩ => ⟨S4352x512, .f32⟩
  | .hbm, ⟨17, _⟩ => ⟨S4352x512, .f32⟩
  | .hbm, ⟨18, _⟩ => ⟨S4352x512, .f32⟩
  | .hbm, ⟨19, _⟩ => ⟨S4352x512, .f32⟩
  | .hbm, ⟨20, _⟩ => ⟨S4352x512, .f32⟩
  | .hbm, ⟨21, _⟩ => ⟨S4352x512, .f32⟩
  | .hbm, ⟨22, _⟩ => ⟨S4352x512, .f32⟩
  | .hbm, ⟨23, _⟩ => ⟨S_, .f32⟩
  | .hbm, ⟨24, _⟩ => ⟨S4352x512, .f32⟩
  | .hbm, ⟨25, _⟩ => ⟨S4352x512, .f32⟩
  | .hbm, ⟨26, _⟩ => ⟨S_, .f32⟩
  | .hbm, ⟨27, _⟩ => ⟨S4352x512, .f32⟩
  | .hbm, ⟨28, _⟩ => ⟨S4352x512, .f32⟩
  | .hbm, ⟨29, _⟩ => ⟨S_, .f32⟩
  | .hbm, ⟨30, _⟩ => ⟨S4352x512, .f32⟩
  | .hbm, ⟨31, _⟩ => ⟨S4352x512, .f32⟩
  | .hbm, ⟨32, _⟩ => ⟨S4352x512, .f32⟩
  | .hbm, ⟨33, _⟩ => ⟨S4352x512, .f32⟩
  | .hbm, ⟨34, _⟩ => ⟨S4352x512, .f32⟩
  | .hbm, ⟨35, _⟩ => ⟨S4352x1024, .f32⟩
  | .hbm, ⟨36, _⟩ => ⟨S4352x512, .f32⟩
  | .hbm, ⟨37, _⟩ => ⟨S4352x512, .f32⟩
  | .hbm, ⟨38, _⟩ => ⟨S4352x512, .f32⟩
  | .hbm, ⟨39, _⟩ => ⟨S4352x512, .f32⟩
  | .hbm, ⟨40, _⟩ => ⟨S4352x512, .f32⟩
  | .hbm, ⟨41, _⟩ => ⟨S4352x512, .f32⟩
  | .hbm, ⟨42, _⟩ => ⟨S4352x512, .f32⟩
  | .hbm, ⟨43, _⟩ => ⟨S4352x512, .f32⟩
  | .hbm, ⟨44, _⟩ => ⟨S_, .f32⟩
  | .hbm, ⟨45, _⟩ => ⟨S4352x1024, .f32⟩
  | .hbm, ⟨46, _⟩ => ⟨S4352x512, .f32⟩
  | .hbm, ⟨47, _⟩ => ⟨S4352x512, .f32⟩
  | .hbm, ⟨48, _⟩ => ⟨S4352x512, .f32⟩
  | .hbm, ⟨49, _⟩ => ⟨S4352x512, .f32⟩
  | .hbm, ⟨50, _⟩ => ⟨S4352x512, .f32⟩
  | .hbm, ⟨51, _⟩ => ⟨S4352x512, .f32⟩
  | .hbm, ⟨52, _⟩ => ⟨S_, .f32⟩
  | .hbm, ⟨53, _⟩ => ⟨S4352x1024, .f32⟩
  | .hbm, ⟨54, _⟩ => ⟨S4352x1024, .f32⟩
  | .hbm, ⟨55, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_v5_2 : Ref sig .tc := ⟨.hbm, 28, rfl⟩
abbrev main_call1_cst_1 : Ref sig .tc := ⟨.hbm, 29, rfl⟩
abbrev main_call1_v6 : Ref sig .tc := ⟨.hbm, 30, rfl⟩
abbrev main_call1_v7 : Ref sig .tc := ⟨.hbm, 31, rfl⟩
abbrev main_v5_1 : Ref sig .tc := ⟨.hbm, 32, rfl⟩
abbrev main_v5_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v12 : Ref sig .tc := ⟨.hbm, 43, rfl⟩
abbrev main_cst : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_v16 : Ref sig .tc := ⟨.hbm, 51, rfl⟩
abbrev main_cst_0 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩

abbrev nD : Nat := 1
abbrev τ : Topo := Topo.v7x

variable {F : FTy → Type} [FloatOps F]
-- ==== Kernel3.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .f32⟩
  | .hbm, ⟨2, _⟩ => ⟨S1024x1024, .f32⟩
  | .local _ .vmem, ⟨0, _⟩ => ⟨S1088x1024, .bf16⟩
  | .local _ .vmem, ⟨1, _⟩ => ⟨S1088x1024, .bf16⟩
  | .local _ .vmem, ⟨2, _⟩ => ⟨S1088x1024, .f32⟩
  | .local _ .vmem, ⟨3, _⟩ => ⟨S1088x1024, .f32⟩
  | .local _ .vmem, ⟨4, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .f32⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S1024x1024, .f32⟩
  | .hbm, ⟨7, _⟩ => ⟨S1024x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .f32⟩
  | .hbm, ⟨1, _⟩ => ⟨S1024x1024, .f32⟩
  | .hbm, ⟨2, _⟩ => ⟨S4352x1024, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .f32⟩
  | .local _ .vmem, ⟨3, _⟩ => ⟨S1088x1024, .f32⟩
  | .local _ .vmem, ⟨4, _⟩ => ⟨S1088x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4352x1024 : Shape := ⟨2, ![4352, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x1024, .f32⟩
  | .hbm, ⟨2, _⟩ => ⟨S_, .f32⟩
  | .hbm, ⟨3, _⟩ => ⟨S4352x1024, .f32⟩
  | .hbm, ⟨4, _⟩ => ⟨S4352x1024, .f32⟩
  | .hbm, ⟨5, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S2x2176x3072 : Shape := ⟨3, ![2, 2176, 3072]⟩
abbrev S2x2176x512 : Shape := ⟨3, ![2, 2176, 512]⟩
abbrev S2x2176x8x64 : Shape := ⟨4, ![2, 2176, 8, 64]⟩
abbrev S2x8x2176x2176 : Shape := ⟨4, ![2, 8, 2176, 2176]⟩
abbrev S_ : Shape := ⟨0, ![]⟩
abbrev S2176 : Shape := ⟨1, ![2176]⟩
abbrev S2176x1 : Shape := ⟨2, ![2176, 1]⟩
abbrev S1x2176 : Shape := ⟨2, ![1, 2176]⟩
abbrev S2176x2176 : Shape := ⟨2, ![2176, 2176]⟩
abbrev S2x8x2176 : Shape := ⟨3, ![2, 8, 2176]⟩
abbrev S2x2176x8 : Shape := ⟨3, ![2, 2176, 8]⟩
abbrev S2x2176x8x1 : Shape := ⟨4, ![2, 2176, 8, 1]⟩
abbrev S1x2176x128 : Shape := ⟨3, ![1, 2176, 128]⟩
abbrev S1x128 : Shape := ⟨2, ![1, 128]⟩
abbrev S512x512 : Shape := ⟨2, ![512, 512]⟩
abbrev S1x512x128 : Shape := ⟨3, ![1, 512, 128]⟩
abbrev S512x128 : Shape := ⟨2, ![512, 128]⟩
abbrev S512x1 : Shape := ⟨2, ![512, 1]⟩
abbrev S1024x128 : Shape := ⟨2, ![1024, 128]⟩
abbrev S512 : Shape := ⟨1, ![512]⟩
abbrev S1024x512 : Shape := ⟨2, ![1024, 512]⟩
abbrev S512x1024 : Shape := ⟨2, ![512, 1024]⟩
abbrev S1x128x128 : Shape := ⟨3, ![1, 128, 128]⟩
abbrev S128x128 : Shape := ⟨2, ![128, 128]⟩
abbrev S128x1 : Shape := ⟨2, ![128, 1]⟩
abbrev S256x128 : Shape := ⟨2, ![256, 128]⟩
abbrev S128x512 : Shape := ⟨2, ![128, 512]⟩
abbrev S128 : Shape := ⟨1, ![128]⟩
abbrev S256x512 : Shape := ⟨2, ![256, 512]⟩
abbrev S128x1024 : Shape := ⟨2, ![128, 1024]⟩

abbrev nBuf : Space → Nat
  | .hbm => 55
  | .vmem => 16
  | .smem => 0
  | _ => 0

abbrev bufTy : (tb : Table) → Fin (tcTables nBuf tb) → BufTy
  | .hbm, ⟨0, _⟩ => ⟨S2x2176x3072, .f32⟩
  | .hbm, ⟨1, _⟩ => ⟨S2x2176x512, .f32⟩
  | .hbm, ⟨2, _⟩ => ⟨S2x2176x512, .f32⟩
  | .hbm, ⟨3, _⟩ => ⟨S2x2176x8x64, .f32⟩
  | .hbm, ⟨4, _⟩ => ⟨S2x2176x512, .f32⟩
  | .hbm, ⟨5, _⟩ => ⟨S2x2176x8x64, .f32⟩
  | .hbm, ⟨6, _⟩ => ⟨S2x2176x512, .f32⟩
  | .hbm, ⟨7, _⟩ => ⟨S2x2176x8x64, .f32⟩
  | .hbm, ⟨8, _⟩ => ⟨S2x8x2176x2176, .f32⟩
  | .hbm, ⟨9, _⟩ => ⟨S_, .f32⟩
  | .hbm, ⟨10, _⟩ => ⟨S2x8x2176x2176, .f32⟩
  | .hbm, ⟨11, _⟩ => ⟨S2x8x2176x2176, .f32⟩
  | .hbm, ⟨12, _⟩ => ⟨S2176, .i32⟩
  | .hbm, ⟨13, _⟩ => ⟨S2176x1, .i32⟩
  | .hbm, ⟨14, _⟩ => ⟨S2176, .i32⟩
  | .hbm, ⟨15, _⟩ => ⟨S1x2176, .i32⟩
  | .hbm, ⟨16, _⟩ => ⟨S2176x2176, .i32⟩
  | .hbm, ⟨17, _⟩ => ⟨S2176x2176, .i32⟩
  | .hbm, ⟨18, _⟩ => ⟨S2176x2176, .i1⟩
  | .hbm, ⟨19, _⟩ => ⟨S_, .i32⟩
  | .hbm, ⟨20, _⟩ => ⟨S1x2176, .i32⟩
  | .hbm, ⟨21, _⟩ => ⟨S1x2176, .i1⟩
  | .hbm, ⟨22, _⟩ => ⟨S2176x2176, .i1⟩
  | .hbm, ⟨23, _⟩ => ⟨S2176x2176, .i1⟩
  | .hbm, ⟨24, _⟩ => ⟨S2x8x2176x2176, .f32⟩
  | .hbm, ⟨25, _⟩ => ⟨S_, .f32⟩
  | .hbm, ⟨26, _⟩ => ⟨S2x8x2176x2176, .f32⟩
  | .hbm, ⟨27, _⟩ => ⟨S2x8x2176x2176, .f32⟩
  | .hbm, ⟨28, _⟩ => ⟨S2x8x2176x2176, .f32⟩
  | .hbm, ⟨29, _⟩ => ⟨S2x8x2176x2176, .f32⟩
  | .hbm, ⟨30, _⟩ => ⟨S2x8x2176x2176, .i1⟩
  | .hbm, ⟨31, _⟩ => ⟨S2x8x2176x2176, .f32⟩
  | .hbm, ⟨32, _⟩ => ⟨S2x8x2176x2176, .f32⟩
  | .hbm, ⟨33, _⟩ => ⟨S2x8x2176x2176, .f32⟩
  | .hbm, ⟨34, _⟩ => ⟨S2x8x2176x2176, .f32⟩
  | .hbm, ⟨35, _⟩ => ⟨S2x8x2176x2176, .f32⟩
  | .hbm, ⟨36, _⟩ => ⟨S2x8x2176x2176, .f32⟩
  | .hbm, ⟨37, _⟩ => ⟨S2x8x2176x2176, .f32⟩
  | .hbm, ⟨38, _⟩ => ⟨S2x8x2176x2176, .f32⟩
  | .hbm, ⟨39, _⟩ => ⟨S2x8x2176x2176, .f32⟩
  | .hbm, ⟨40, _⟩ => ⟨S2x8x2176x2176, .f32⟩
  | .hbm, ⟨41, _⟩ => ⟨S_, .f32⟩
  | .hbm, ⟨42, _⟩ => ⟨S_, .f32⟩
  | .hbm, ⟨43, _⟩ => ⟨S2x8x2176x2176, .i1⟩
  | .hbm, ⟨44, _⟩ => ⟨S2x8x2176x2176, .f32⟩
  | .hbm, ⟨45, _⟩ => ⟨S2x8x2176x2176, .f32⟩
  | .hbm, ⟨46, _⟩ => ⟨S_, .f32⟩
  | .hbm, ⟨47, _⟩ => ⟨S2x8x2176, .f32⟩
  | .hbm, ⟨48, _⟩ => ⟨S2x2176x8, .f32⟩
  | .hbm, ⟨49, _⟩ => ⟨S2x2176x8x1, .f32⟩
  | .hbm, ⟨50, _⟩ => ⟨S2x2176x8x64, .f32⟩
  | .hbm, ⟨51, _⟩ => ⟨S2x2176x512, .f32⟩
  | .hbm, ⟨52, _⟩ => ⟨S2x2176x512, .f32⟩
  | .hbm, ⟨53, _⟩ => ⟨S2x2176x512, .f32⟩
  | .hbm, ⟨54, _⟩ => ⟨S2x2176x512, .f32⟩
  | .local _ .vmem, ⟨0, _⟩ => ⟨S1x2176x128, .f32⟩
  | .local _ .vmem, ⟨1, _⟩ => ⟨S1x2176x128, .f32⟩
  | .local _ .vmem, ⟨2, _⟩ => ⟨S1x2176x128, .f32⟩
  | .local _ .vmem, ⟨3, _⟩ => ⟨S1x2176x128, .f32⟩
  | .local _ .vmem, ⟨4, _⟩ => ⟨S1x2176x128, .f32⟩
  | .local _ .vmem, ⟨5, _⟩ => ⟨S1x2176x128, .f32⟩
  | .local _ .vmem, ⟨6, _⟩ => ⟨S1x2176x128, .f32⟩
  | .local _ .vmem, ⟨7, _⟩ => ⟨S1x2176x128, .f32⟩
  | .local _ .vmem, ⟨8, _⟩ => ⟨S1x2176x128, .f32⟩
  | .local _ .vmem, ⟨9, _⟩ => ⟨S1x2176x128, .f32⟩
  | .local _ .vmem, ⟨10, _⟩ => ⟨S1x2176x128, .f32⟩
  | .local _ .vmem, ⟨11, _⟩ => ⟨S1x2176x128, .f32⟩
  | .local _ .vmem, ⟨12, _⟩ => ⟨S1x2176x128, .f32⟩
  | .local _ .vmem, ⟨13, _⟩ => ⟨S1x2176x128, .f32⟩
  | .local _ .vmem, ⟨14, _⟩ => ⟨S1x2176x128, .f32⟩
  | .local _ .vmem, ⟨15, _⟩ => ⟨S1x2176x128, .f32⟩
  | _, _ => ⟨S2x2176x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v20 : Ref sig .tc := ⟨.hbm, 39, rfl⟩
abbrev main_v21 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28_0 : Ref sig .tc := ⟨.hbm, 52, rfl⟩
abbrev main_v28_1 : Ref sig .tc := ⟨.hbm, 53, rfl⟩
abbrev main_v28_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c4_i32 : BitVec 32 := 4#32
  let v19 : BitVec 32 := Scalar.addi c0_i32 c4_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_78 : BitVec 32 := 512#32
  let v216 : BitVec 32 := Scalar.muli arg10 c512_i32_78
  v216
def k0_off1 (k0_t1 : Fin k0_t1_loop.trips) : Fin 3 → Nat :=
  let c0_81 : Index := 0#32
  let c0_i32 : BitVec 32 := 0#32
  let c1_i32 : BitVec 32 := 1#32
  let arg10 : BitVec 32 := Scf.iv c0_i32 c1_i32 k0_t1
  let c512_i32_78 : BitVec 32 := 512#32
  let v216 : BitVec 32 := Scalar.muli arg10 c512_i32_78
  let v217 : BitVec 32 := v216
  let v220 : Index := Scalar.indexCast v217
  let c0_82 : Index := 0#32
  ![0, v220.toNat, 0]
def k0_mult2 : BitVec 32 :=
  let c0_i32_101 : BitVec 32 := 0#32
  let c0_i32_100 : BitVec 32 := 0#32
  let v274 : BitVec 32 := Scalar.addi c0_i32_101 c0_i32_100
  let c512_i32_102 : BitVec 32 := 512#32
  let v275 : BitVec 32 := Scalar.muli v274 c512_i32_102
  let c1664_i32_103 : BitVec 32 := 1664#32
  let v276 : BitVec 32 := Scalar.minsi v275 c1664_i32_103
  v276
def k0_off2 : Fin 3 → Nat :=
  let c0_105 : Index := 0#32
  let c0_i32_101 : BitVec 32 := 0#32
  let c0_i32_100 : BitVec 32 := 0#32
  let v274 : BitVec 32 := Scalar.addi c0_i32_101 c0_i32_100
  let c512_i32_102 : BitVec 32 := 512#32
  let v275 : BitVec 32 := Scalar.muli v274 c512_i32_102
  let c1664_i32_103 : BitVec 32 := 1664#32
  let v276 : BitVec 32 := Scalar.minsi v275 c1664_i32_103
  let v277 : BitVec 32 := v276
  let v286 : Index := Scalar.indexCast v277
  let c0_106 : Index := 0#32
  ![0, v286.toNat, 0]
@[reducible] def k0_t2_loop (k0_t1 : Fin k0_t1_loop.trips) : Scf.Loop 32 :=
  let c0_i32_147 : BitVec 32 := 0#32
  let c0_i32 : BitVec 32 := 0#32
  let c1_i32 : BitVec 32 := 1#32
  let arg10 : BitVec 32 := Scf.iv c0_i32 c1_i32 k0_t1
  let c512_i32_78 : BitVec 32 := 512#32
  let v216 : BitVec 32 := Scalar.muli arg10 c512_i32_78
  let v217 : BitVec 32 := v216
  let c0_i32_93 : BitVec 32 := 0#32
  let v257 : BitVec 1 := Scalar.cmpi .sgt v217 c0_i32_93
  let v258 : BitVec 32 := Scalar.extui v257
  let c0_i32_94 : BitVec 32 := 0#32
  let v259 : BitVec 1 := Scalar.cmpi .slt v217 c0_i32_94
  let v260 : BitVec 32 := Scalar.extui v259
  let v261 : BitVec 32 := Scalar.subi v258 v260
  let c512_i32_92 : BitVec 32 := 512#32
  let c0_i32_95 : BitVec 32 := 0#32
  let v262 : BitVec 1 := Scalar.cmpi .sgt c512_i32_92 c0_i32_95
  let v263 : BitVec 32 := Scalar.extui v262
  let c0_i32_96 : BitVec 32 := 0#32
  let v264 : BitVec 1 := Scalar.cmpi .slt c512_i32_92 c0_i32_96
  let v265 : BitVec 32 := Scalar.extui v264
  let v266 : BitVec 32 := Scalar.subi v263 v265
  let v267 : BitVec 1 := Scalar.cmpi .ne v261 v266
  let v268 : BitVec 32 := Scalar.remsi v217 c512_i32_92
  let c0_i32_97 : BitVec 32 := 0#32
  let v269 : BitVec 1 := Scalar.cmpi .ne v268 c0_i32_97
  let v270 : BitVec 1 := Scalar.andi v267 v269
  let v256 : BitVec 32 := Scalar.divsi v217 c512_i32_92
  let c1_i32_98 : BitVec 32 := 1#32
  let v271 : BitVec 32 := Scalar.subi v256 c1_i32_98
  let v272 : BitVec 32 := Scalar.select v270 v271 v256
  let c1_i32_99 : BitVec 32 := 1#32
  let v273 : BitVec 32 := Scalar.maxsi v272 c1_i32_99
  let c1_i32_146 : BitVec 32 := 1#32
  let v415 : BitVec 32 := Scalar.subi v273 c1_i32_146
  let v416 : BitVec 32 := Scalar.subi v415 c0_i32_147
  let c1_i32_148 : BitVec 32 := 1#32
  let v418 : BitVec 32 := Scalar.divsi v416 c1_i32_148
  let v419 : BitVec 32 := Scalar.muli v418 c1_i32_148
  let v420 : BitVec 32 := Scalar.addi c0_i32_147 v419
  let c1_i32_149 : BitVec 32 := 1#32
  ⟨c0_i32_147, v420, c1_i32_149⟩
def k0_mult3 (k0_t1 : Fin k0_t1_loop.trips) (k0_t2 : Fin (k0_t2_loop k0_t1).trips) : BitVec 32 :=
  let c1_i32_158 : BitVec 32 := 1#32
  let c0_i32_147 : BitVec 32 := 0#32
  let c1_i32_149 : BitVec 32 := 1#32
  let arg11 : BitVec 32 := Scf.iv c0_i32_147 c1_i32_149 k0_t2
  let v437 : BitVec 32 := Scalar.addi c1_i32_158 arg11
  let c512_i32_159 : BitVec 32 := 512#32
  let v438 : BitVec 32 := Scalar.muli v437 c512_i32_159
  let c1664_i32_160 : BitVec 32 := 1664#32
  let v439 : BitVec 32 := Scalar.minsi v438 c1664_i32_160
  v439
def k0_off3 (k0_t1 : Fin k0_t1_loop.trips) (k0_t2 : Fin (k0_t2_loop k0_t1).trips) : Fin 3 → Nat :=
  let c0_162 : Index := 0#32
  let c1_i32_158 : BitVec 32 := 1#32
  let c0_i32_147 : BitVec 32 := 0#32
  let c1_i32_149 : BitVec 32 := 1#32
  let arg11 : BitVec 32 := Scf.iv c0_i32_147 c1_i32_149 k0_t2
  let v437 : BitVec 32 := Scalar.addi c1_i32_158 arg11
  let c512_i32_159 : BitVec 32 := 512#32
  let v438 : BitVec 32 := Scalar.muli v437 c512_i32_159
  let c1664_i32_160 : BitVec 32 := 1664#32
  let v439 : BitVec 32 := Scalar.minsi v438 c1664_i32_160
  let v440 : BitVec 32 := v439
  let v449 : Index := Scalar.indexCast v440
  let c0_163 : Index := 0#32
  ![0, v449.toNat, 0]
@[reducible] def k0_t3_loop (k0_t1 : Fin k0_t1_loop.trips) : Scf.Loop 32 :=
  let c0_i32_147 : BitVec 32 := 0#32
  let c0_i32 : BitVec 32 := 0#32
  let c1_i32 : BitVec 32 := 1#32
  let arg10 : BitVec 32 := Scf.iv c0_i32 c1_i32 k0_t1
  let c512_i32_78 : BitVec 32 := 512#32
  let v216 : BitVec 32 := Scalar.muli arg10 c512_i32_78
  let v217 : BitVec 32 := v216
  let c0_i32_93 : BitVec 32 := 0#32
  let v257 : BitVec 1 := Scalar.cmpi .sgt v217 c0_i32_93
  let v258 : BitVec 32 := Scalar.extui v257
  let c0_i32_94 : BitVec 32 := 0#32
  let v259 : BitVec 1 := Scalar.cmpi .slt v217 c0_i32_94
  let v260 : BitVec 32 := Scalar.extui v259
  let v261 : BitVec 32 := Scalar.subi v258 v260
  let c512_i32_92 : BitVec 32 := 512#32
  let c0_i32_95 : BitVec 32 := 0#32
  let v262 : BitVec 1 := Scalar.cmpi .sgt c512_i32_92 c0_i32_95
  let v263 : BitVec 32 := Scalar.extui v262
  let c0_i32_96 : BitVec 32 := 0#32
  let v264 : BitVec 1 := Scalar.cmpi .slt c512_i32_92 c0_i32_96
  let v265 : BitVec 32 := Scalar.extui v264
  let v266 : BitVec 32 := Scalar.subi v263 v265
  let v267 : BitVec 1 := Scalar.cmpi .ne v261 v266
  let v268 : BitVec 32 := Scalar.remsi v217 c512_i32_92
  let c0_i32_97 : BitVec 32 := 0#32
  let v269 : BitVec 1 := Scalar.cmpi .ne v268 c0_i32_97
  let v270 : BitVec 1 := Scalar.andi v267 v269
  let v256 : BitVec 32 := Scalar.divsi v217 c512_i32_92
  let c1_i32_98 : BitVec 32 := 1#32
  let v271 : BitVec 32 := Scalar.subi v256 c1_i32_98
  let v272 : BitVec 32 := Scalar.select v270 v271 v256
  let c1_i32_99 : BitVec 32 := 1#32
  let v273 : BitVec 32 := Scalar.maxsi v272 c1_i32_99
  let c1_i32_146 : BitVec 32 := 1#32
  let v415 : BitVec 32 := Scalar.subi v273 c1_i32_146
  let v416 : BitVec 32 := Scalar.subi v415 c0_i32_147
  let c1_i32_148 : BitVec 32 := 1#32
  let v418 : BitVec 32 := Scalar.divsi v416 c1_i32_148
  let v419 : BitVec 32 := Scalar.muli v418 c1_i32_148
  let v420 : BitVec 32 := Scalar.addi c0_i32_147 v419
  let v417 : BitVec 32 := Scalar.addi c0_i32_147 v416
  let c1_i32_150 : BitVec 32 := 1#32
  ⟨v420, v417, c1_i32_150⟩
def k0_mult4 (k0_t1 : Fin k0_t1_loop.trips) (k0_t3 : Fin (k0_t3_loop k0_t1).trips) : BitVec 32 :=
  let c1_i32_158 : BitVec 32 := 1#32
  let c0_i32_147 : BitVec 32 := 0#32
  let c0_i32 : BitVec 32 := 0#32
  let c1_i32 : BitVec 32 := 1#32
  let arg10 : BitVec 32 := Scf.iv c0_i32 c1_i32 k0_t1
  let c512_i32_78 : BitVec 32 := 512#32
  let v216 : BitVec 32 := Scalar.muli arg10 c512_i32_78
  let v217 : BitVec 32 := v216
  let c0_i32_93 : BitVec 32 := 0#32
  let v257 : BitVec 1 := Scalar.cmpi .sgt v217 c0_i32_93
  let v258 : BitVec 32 := Scalar.extui v257
  let c0_i32_94 : BitVec 32 := 0#32
  let v259 : BitVec 1 := Scalar.cmpi .slt v217 c0_i32_94
  let v260 : BitVec 32 := Scalar.extui v259
  let v261 : BitVec 32 := Scalar.subi v258 v260
  let c512_i32_92 : BitVec 32 := 512#32
  let c0_i32_95 : BitVec 32 := 0#32
  let v262 : BitVec 1 := Scalar.cmpi .sgt c512_i32_92 c0_i32_95
  let v263 : BitVec 32 := Scalar.extui v262
  let c0_i32_96 : BitVec 32 := 0#32
  let v264 : BitVec 1 := Scalar.cmpi .slt c512_i32_92 c0_i32_96
  let v265 : BitVec 32 := Scalar.extui v264
  let v266 : BitVec 32 := Scalar.subi v263 v265
  let v267 : BitVec 1 := Scalar.cmpi .ne v261 v266
  let v268 : BitVec 32 := Scalar.remsi v217 c512_i32_92
  let c0_i32_97 : BitVec 32 := 0#32
  let v269 : BitVec 1 := Scalar.cmpi .ne v268 c0_i32_97
  let v270 : BitVec 1 := Scalar.andi v267 v269
  let v256 : BitVec 32 := Scalar.divsi v217 c512_i32_92
  let c1_i32_98 : BitVec 32 := 1#32
  let v271 : BitVec 32 := Scalar.subi v256 c1_i32_98
  let v272 : BitVec 32 := Scalar.select v270 v271 v256
  let c1_i32_99 : BitVec 32 := 1#32
  let v273 : BitVec 32 := Scalar.maxsi v272 c1_i32_99
  let c1_i32_146 : BitVec 32 := 1#32
  let v415 : BitVec 32 := Scalar.subi v273 c1_i32_146
  let v416 : BitVec 32 := Scalar.subi v415 c0_i32_147
  let c1_i32_148 : BitVec 32 := 1#32
  let v418 : BitVec 32 := Scalar.divsi v416 c1_i32_148
  let v419 : BitVec 32 := Scalar.muli v418 c1_i32_148
  let v420 : BitVec 32 := Scalar.addi c0_i32_147 v419
  let c1_i32_150 : BitVec 32 := 1#32
  let arg11 : BitVec 32 := Scf.iv v420 c1_i32_150 k0_t3
  let v437 : BitVec 32 := Scalar.addi c1_i32_158 arg11
  let c512_i32_159 : BitVec 32 := 512#32
  let v438 : BitVec 32 := Scalar.muli v437 c512_i32_159
  let c1664_i32_160 : BitVec 32 := 1664#32
  let v439 : BitVec 32 := Scalar.minsi v438 c1664_i32_160
  v439
def k0_off4 (k0_t1 : Fin k0_t1_loop.trips) (k0_t3 : Fin (k0_t3_loop k0_t1).trips) : Fin 3 → Nat :=
  let c0_162 : Index := 0#32
  let c1_i32_158 : BitVec 32 := 1#32
  let c0_i32_147 : BitVec 32 := 0#32
  let c0_i32 : BitVec 32 := 0#32
  let c1_i32 : BitVec 32 := 1#32
  let arg10 : BitVec 32 := Scf.iv c0_i32 c1_i32 k0_t1
  let c512_i32_78 : BitVec 32 := 512#32
  let v216 : BitVec 32 := Scalar.muli arg10 c512_i32_78
  let v217 : BitVec 32 := v216
  let c0_i32_93 : BitVec 32 := 0#32
  let v257 : BitVec 1 := Scalar.cmpi .sgt v217 c0_i32_93
  let v258 : BitVec 32 := Scalar.extui v257
  let c0_i32_94 : BitVec 32 := 0#32
  let v259 : BitVec 1 := Scalar.cmpi .slt v217 c0_i32_94
  let v260 : BitVec 32 := Scalar.extui v259
  let v261 : BitVec 32 := Scalar.subi v258 v260
  let c512_i32_92 : BitVec 32 := 512#32
  let c0_i32_95 : BitVec 32 := 0#32
  let v262 : BitVec 1 := Scalar.cmpi .sgt c512_i32_92 c0_i32_95
  let v263 : BitVec 32 := Scalar.extui v262
  let c0_i32_96 : BitVec 32 := 0#32
  let v264 : BitVec 1 := Scalar.cmpi .slt c512_i32_92 c0_i32_96
  let v265 : BitVec 32 := Scalar.extui v264
  let v266 : BitVec 32 := Scalar.subi v263 v265
  let v267 : BitVec 1 := Scalar.cmpi .ne v261 v266
  let v268 : BitVec 32 := Scalar.remsi v217 c512_i32_92
  let c0_i32_97 : BitVec 32 := 0#32
  let v269 : BitVec 1 := Scalar.cmpi .ne v268 c0_i32_97
  let v270 : BitVec 1 := Scalar.andi v267 v269
  let v256 : BitVec 32 := Scalar.divsi v217 c512_i32_92
  let c1_i32_98 : BitVec 32 := 1#32
  let v271 : BitVec 32 := Scalar.subi v256 c1_i32_98
  let v272 : BitVec 32 := Scalar.select v270 v271 v256
  let c1_i32_99 : BitVec 32 := 1#32
  let v273 : BitVec 32 := Scalar.maxsi v272 c1_i32_99
  let c1_i32_146 : BitVec 32 := 1#32
  let v415 : BitVec 32 := Scalar.subi v273 c1_i32_146
  let v416 : BitVec 32 := Scalar.subi v415 c0_i32_147
  let c1_i32_148 : BitVec 32 := 1#32
  let v418 : BitVec 32 := Scalar.divsi v416 c1_i32_148
  let v419 : BitVec 32 := Scalar.muli v418 c1_i32_148
  let v420 : BitVec 32 := Scalar.addi c0_i32_147 v419
  let c1_i32_150 : BitVec 32 := 1#32
  let arg11 : BitVec 32 := Scf.iv v420 c1_i32_150 k0_t3
  let v437 : BitVec 32 := Scalar.addi c1_i32_158 arg11
  let c512_i32_159 : BitVec 32 := 512#32
  let v438 : BitVec 32 := Scalar.muli v437 c512_i32_159
  let c1664_i32_160 : BitVec 32 := 1664#32
  let v439 : BitVec 32 := Scalar.minsi v438 c1664_i32_160
  let v440 : BitVec 32 := v439
  let v449 : Index := Scalar.indexCast v440
  let c0_163 : Index := 0#32
  ![0, v449.toNat, 0]
@[reducible] def k0_t4_loop (k0_t1 : Fin k0_t1_loop.trips) : Scf.Loop 32 :=
  let c0_i32_151 : BitVec 32 := 0#32
  let c0_i32 : BitVec 32 := 0#32
  let c1_i32 : BitVec 32 := 1#32
  let arg10 : BitVec 32 := Scf.iv c0_i32 c1_i32 k0_t1
  let c1_i32_79 : BitVec 32 := 1#32
  let v218 : BitVec 32 := Scalar.addi arg10 c1_i32_79
  let c1_i32_80 : BitVec 32 := 1#32
  let v219 : BitVec 32 := Scalar.muli v218 c1_i32_80
  let c512_i32_78 : BitVec 32 := 512#32
  let v216 : BitVec 32 := Scalar.muli arg10 c512_i32_78
  let v217 : BitVec 32 := v216
  let c0_i32_93 : BitVec 32 := 0#32
  let v257 : BitVec 1 := Scalar.cmpi .sgt v217 c0_i32_93
  let v258 : BitVec 32 := Scalar.extui v257
  let c0_i32_94 : BitVec 32 := 0#32
  let v259 : BitVec 1 := Scalar.cmpi .slt v217 c0_i32_94
  let v260 : BitVec 32 := Scalar.extui v259
  let v261 : BitVec 32 := Scalar.subi v258 v260
  let c512_i32_92 : BitVec 32 := 512#32
  let c0_i32_95 : BitVec 32 := 0#32
  let v262 : BitVec 1 := Scalar.cmpi .sgt c512_i32_92 c0_i32_95
  let v263 : BitVec 32 := Scalar.extui v262
  let c0_i32_96 : BitVec 32 := 0#32
  let v264 : BitVec 1 := Scalar.cmpi .slt c512_i32_92 c0_i32_96
  let v265 : BitVec 32 := Scalar.extui v264
  let v266 : BitVec 32 := Scalar.subi v263 v265
  let v267 : BitVec 1 := Scalar.cmpi .ne v261 v266
  let v268 : BitVec 32 := Scalar.remsi v217 c512_i32_92
  let c0_i32_97 : BitVec 32 := 0#32
  let v269 : BitVec 1 := Scalar.cmpi .ne v268 c0_i32_97
  let v270 : BitVec 1 := Scalar.andi v267 v269
  let v256 : BitVec 32 := Scalar.divsi v217 c512_i32_92
  let c1_i32_98 : BitVec 32 := 1#32
  let v271 : BitVec 32 := Scalar.subi v256 c1_i32_98
  let v272 : BitVec 32 := Scalar.select v270 v271 v256
  let c1_i32_99 : BitVec 32 := 1#32
  let v273 : BitVec 32 := Scalar.maxsi v272 c1_i32_99
  let v423 : BitVec 32 := Scalar.subi v219 v273
  let v424 : BitVec 32 := Scalar.subi v423 c0_i32_151
  let c1_i32_152 : BitVec 32 := 1#32
  let v426 : BitVec 32 := Scalar.divsi v424 c1_i32_152
  let v427 : BitVec 32 := Scalar.muli v426 c1_i32_152
  let v428 : BitVec 32 := Scalar.addi c0_i32_151 v427
  let c1_i32_153 : BitVec 32 := 1#32
  ⟨c0_i32_151, v428, c1_i32_153⟩
def k0_mult5 (k0_t1 : Fin k0_t1_loop.trips) (k0_t4 : Fin (k0_t4_loop k0_t1).trips) : BitVec 32 :=
  let c0_i32 : BitVec 32 := 0#32
  let c1_i32 : BitVec 32 := 1#32
  let arg10 : BitVec 32 := Scf.iv c0_i32 c1_i32 k0_t1
  let c512_i32_78 : BitVec 32 := 512#32
  let v216 : BitVec 32 := Scalar.muli arg10 c512_i32_78
  let v217 : BitVec 32 := v216
  let c0_i32_93 : BitVec 32 := 0#32
  let v257 : BitVec 1 := Scalar.cmpi .sgt v217 c0_i32_93
  let v258 : BitVec 32 := Scalar.extui v257
  let c0_i32_94 : BitVec 32 := 0#32
  let v259 : BitVec 1 := Scalar.cmpi .slt v217 c0_i32_94
  let v260 : BitVec 32 := Scalar.extui v259
  let v261 : BitVec 32 := Scalar.subi v258 v260
  let c512_i32_92 : BitVec 32 := 512#32
  let c0_i32_95 : BitVec 32 := 0#32
  let v262 : BitVec 1 := Scalar.cmpi .sgt c512_i32_92 c0_i32_95
  let v263 : BitVec 32 := Scalar.extui v262
  let c0_i32_96 : BitVec 32 := 0#32
  let v264 : BitVec 1 := Scalar.cmpi .slt c512_i32_92 c0_i32_96
  let v265 : BitVec 32 := Scalar.extui v264
  let v266 : BitVec 32 := Scalar.subi v263 v265
  let v267 : BitVec 1 := Scalar.cmpi .ne v261 v266
  let v268 : BitVec 32 := Scalar.remsi v217 c512_i32_92
  let c0_i32_97 : BitVec 32 := 0#32
  let v269 : BitVec 1 := Scalar.cmpi .ne v268 c0_i32_97
  let v270 : BitVec 1 := Scalar.andi v267 v269
  let v256 : BitVec 32 := Scalar.divsi v217 c512_i32_92
  let c1_i32_98 : BitVec 32 := 1#32
  let v271 : BitVec 32 := Scalar.subi v256 c1_i32_98
  let v272 : BitVec 32 := Scalar.select v270 v271 v256
  let c1_i32_99 : BitVec 32 := 1#32
  let v273 : BitVec 32 := Scalar.maxsi v272 c1_i32_99
  let c0_i32_151 : BitVec 32 := 0#32
  let c1_i32_153 : BitVec 32 := 1#32
  let arg11 : BitVec 32 := Scf.iv c0_i32_151 c1_i32_153 k0_t4
  let v437 : BitVec 32 := Scalar.addi v273 arg11
  let c512_i32_158 : BitVec 32 := 512#32
  let v438 : BitVec 32 := Scalar.muli v437 c512_i32_158
  let c1664_i32_159 : BitVec 32 := 1664#32
  let v439 : BitVec 32 := Scalar.minsi v438 c1664_i32_159
  v439
def k0_off5 (k0_t1 : Fin k0_t1_loop.trips) (k0_t4 : Fin (k0_t4_loop k0_t1).trips) : Fin 3 → Nat :=
  let c0_161 : Index := 0#32
  let c0_i32 : BitVec 32 := 0#32
  let c1_i32 : BitVec 32 := 1#32
  let arg10 : BitVec 32 := Scf.iv c0_i32 c1_i32 k0_t1
  let c512_i32_78 : BitVec 32 := 512#32
  let v216 : BitVec 32 := Scalar.muli arg10 c512_i32_78
  let v217 : BitVec 32 := v216
  let c0_i32_93 : BitVec 32 := 0#32
  let v257 : BitVec 1 := Scalar.cmpi .sgt v217 c0_i32_93
  let v258 : BitVec 32 := Scalar.extui v257
  let c0_i32_94 : BitVec 32 := 0#32
  let v259 : BitVec 1 := Scalar.cmpi .slt v217 c0_i32_94
  let v260 : BitVec 32 := Scalar.extui v259
  let v261 : BitVec 32 := Scalar.subi v258 v260
  let c512_i32_92 : BitVec 32 := 512#32
  let c0_i32_95 : BitVec 32 := 0#32
  let v262 : BitVec 1 := Scalar.cmpi .sgt c512_i32_92 c0_i32_95
  let v263 : BitVec 32 := Scalar.extui v262
  let c0_i32_96 : BitVec 32 := 0#32
  let v264 : BitVec 1 := Scalar.cmpi .slt c512_i32_92 c0_i32_96
  let v265 : BitVec 32 := Scalar.extui v264
  let v266 : BitVec 32 := Scalar.subi v263 v265
  let v267 : BitVec 1 := Scalar.cmpi .ne v261 v266
  let v268 : BitVec 32 := Scalar.remsi v217 c512_i32_92
  let c0_i32_97 : BitVec 32 := 0#32
  let v269 : BitVec 1 := Scalar.cmpi .ne v268 c0_i32_97
  let v270 : BitVec 1 := Scalar.andi v267 v269
  let v256 : BitVec 32 := Scalar.divsi v217 c512_i32_92
  let c1_i32_98 : BitVec 32 := 1#32
  let v271 : BitVec 32 := Scalar.subi v256 c1_i32_98
  let v272 : BitVec 32 := Scalar.select v270 v271 v256
  let c1_i32_99 : BitVec 32 := 1#32
  let v273 : BitVec 32 := Scalar.maxsi v272 c1_i32_99
  let c0_i32_151 : BitVec 32 := 0#32
  let c1_i32_153 : BitVec 32 := 1#32
  let arg11 : BitVec 32 := Scf.iv c0_i32_151 c1_i32_153 k0_t4
  let v437 : BitVec 32 := Scalar.addi v273 arg11
  let c512_i32_158 : BitVec 32 := 512#32
  let v438 : BitVec 32 := Scalar.muli v437 c512_i32_158
  let c1664_i32_159 : BitVec 32 := 1664#32
  let v439 : BitVec 32 := Scalar.minsi v438 c1664_i32_159
  let v440 : BitVec 32 := v439
  let v449 : Index := Scalar.indexCast v440
  let c0_162 : Index := 0#32
  ![0, v449.toNat, 0]
@[reducible] def k0_t5_loop (k0_t1 : Fin k0_t1_loop.trips) : Scf.Loop 32 :=
  let c0_i32_151 : BitVec 32 := 0#32
  let c0_i32 : BitVec 32 := 0#32
  let c1_i32 : BitVec 32 := 1#32
  let arg10 : BitVec 32 := Scf.iv c0_i32 c1_i32 k0_t1
  let c1_i32_79 : BitVec 32 := 1#32
  let v218 : BitVec 32 := Scalar.addi arg10 c1_i32_79
  let c1_i32_80 : BitVec 32 := 1#32
  let v219 : BitVec 32 := Scalar.muli v218 c1_i32_80
  let c512_i32_78 : BitVec 32 := 512#32
  let v216 : BitVec 32 := Scalar.muli arg10 c512_i32_78
  let v217 : BitVec 32 := v216
  let c0_i32_93 : BitVec 32 := 0#32
  let v257 : BitVec 1 := Scalar.cmpi .sgt v217 c0_i32_93
  let v258 : BitVec 32 := Scalar.extui v257
  let c0_i32_94 : BitVec 32 := 0#32
  let v259 : BitVec 1 := Scalar.cmpi .slt v217 c0_i32_94
  let v260 : BitVec 32 := Scalar.extui v259
  let v261 : BitVec 32 := Scalar.subi v258 v260
  let c512_i32_92 : BitVec 32 := 512#32
  let c0_i32_95 : BitVec 32 := 0#32
  let v262 : BitVec 1 := Scalar.cmpi .sgt c512_i32_92 c0_i32_95
  let v263 : BitVec 32 := Scalar.extui v262
  let c0_i32_96 : BitVec 32 := 0#32
  let v264 : BitVec 1 := Scalar.cmpi .slt c512_i32_92 c0_i32_96
  let v265 : BitVec 32 := Scalar.extui v264
  let v266 : BitVec 32 := Scalar.subi v263 v265
  let v267 : BitVec 1 := Scalar.cmpi .ne v261 v266
  let v268 : BitVec 32 := Scalar.remsi v217 c512_i32_92
  let c0_i32_97 : BitVec 32 := 0#32
  let v269 : BitVec 1 := Scalar.cmpi .ne v268 c0_i32_97
  let v270 : BitVec 1 := Scalar.andi v267 v269
  let v256 : BitVec 32 := Scalar.divsi v217 c512_i32_92
  let c1_i32_98 : BitVec 32 := 1#32
  let v271 : BitVec 32 := Scalar.subi v256 c1_i32_98
  let v272 : BitVec 32 := Scalar.select v270 v271 v256
  let c1_i32_99 : BitVec 32 := 1#32
  let v273 : BitVec 32 := Scalar.maxsi v272 c1_i32_99
  let v423 : BitVec 32 := Scalar.subi v219 v273
  let v424 : BitVec 32 := Scalar.subi v423 c0_i32_151
  let c1_i32_152 : BitVec 32 := 1#32
  let v426 : BitVec 32 := Scalar.divsi v424 c1_i32_152
  let v427 : BitVec 32 := Scalar.muli v426 c1_i32_152
  let v428 : BitVec 32 := Scalar.addi c0_i32_151 v427
  let v425 : BitVec 32 := Scalar.addi c0_i32_151 v424
  let c1_i32_154 : BitVec 32 := 1#32
  ⟨v428, v425, c1_i32_154⟩
def k0_mult6 (k0_t1 : Fin k0_t1_loop.trips) (k0_t5 : Fin (k0_t5_loop k0_t1).trips) : BitVec 32 :=
  let c0_i32 : BitVec 32 := 0#32
  let c1_i32 : BitVec 32 := 1#32
  let arg10 : BitVec 32 := Scf.iv c0_i32 c1_i32 k0_t1
  let c512_i32_78 : BitVec 32 := 512#32
  let v216 : BitVec 32 := Scalar.muli arg10 c512_i32_78
  let v217 : BitVec 32 := v216
  let c0_i32_93 : BitVec 32 := 0#32
  let v257 : BitVec 1 := Scalar.cmpi .sgt v217 c0_i32_93
  let v258 : BitVec 32 := Scalar.extui v257
  let c0_i32_94 : BitVec 32 := 0#32
  let v259 : BitVec 1 := Scalar.cmpi .slt v217 c0_i32_94
  let v260 : BitVec 32 := Scalar.extui v259
  let v261 : BitVec 32 := Scalar.subi v258 v260
  let c512_i32_92 : BitVec 32 := 512#32
  let c0_i32_95 : BitVec 32 := 0#32
  let v262 : BitVec 1 := Scalar.cmpi .sgt c512_i32_92 c0_i32_95
  let v263 : BitVec 32 := Scalar.extui v262
  let c0_i32_96 : BitVec 32 := 0#32
  let v264 : BitVec 1 := Scalar.cmpi .slt c512_i32_92 c0_i32_96
  let v265 : BitVec 32 := Scalar.extui v264
  let v266 : BitVec 32 := Scalar.subi v263 v265
  let v267 : BitVec 1 := Scalar.cmpi .ne v261 v266
  let v268 : BitVec 32 := Scalar.remsi v217 c512_i32_92
  let c0_i32_97 : BitVec 32 := 0#32
  let v269 : BitVec 1 := Scalar.cmpi .ne v268 c0_i32_97
  let v270 : BitVec 1 := Scalar.andi v267 v269
  let v256 : BitVec 32 := Scalar.divsi v217 c512_i32_92
  let c1_i32_98 : BitVec 32 := 1#32
  let v271 : BitVec 32 := Scalar.subi v256 c1_i32_98
  let v272 : BitVec 32 := Scalar.select v270 v271 v256
  let c1_i32_99 : BitVec 32 := 1#32
  let v273 : BitVec 32 := Scalar.maxsi v272 c1_i32_99
  let c0_i32_151 : BitVec 32 := 0#32
  let c1_i32_79 : BitVec 32 := 1#32
  let v218 : BitVec 32 := Scalar.addi arg10 c1_i32_79
  let c1_i32_80 : BitVec 32 := 1#32
  let v219 : BitVec 32 := Scalar.muli v218 c1_i32_80
  let v423 : BitVec 32 := Scalar.subi v219 v273
  let v424 : BitVec 32 := Scalar.subi v423 c0_i32_151
  let c1_i32_152 : BitVec 32 := 1#32
  let v426 : BitVec 32 := Scalar.divsi v424 c1_i32_152
  let v427 : BitVec 32 := Scalar.muli v426 c1_i32_152
  let v428 : BitVec 32 := Scalar.addi c0_i32_151 v427
  let c1_i32_154 : BitVec 32 := 1#32
  let arg11 : BitVec 32 := Scf.iv v428 c1_i32_154 k0_t5
  let v437 : BitVec 32 := Scalar.addi v273 arg11
  let c512_i32_158 : BitVec 32 := 512#32
  let v438 : BitVec 32 := Scalar.muli v437 c512_i32_158
  let c1664_i32_159 : BitVec 32 := 1664#32
  let v439 : BitVec 32 := Scalar.minsi v438 c1664_i32_159
  v439
def k0_off6 (k0_t1 : Fin k0_t1_loop.trips) (k0_t5 : Fin (k0_t5_loop k0_t1).trips) : Fin 3 → Nat :=
  let c0_161 : Index := 0#32
  let c0_i32 : BitVec 32 := 0#32
  let c1_i32 : BitVec 32 := 1#32
  let arg10 : BitVec 32 := Scf.iv c0_i32 c1_i32 k0_t1
  let c512_i32_78 : BitVec 32 := 512#32
  let v216 : BitVec 32 := Scalar.muli arg10 c512_i32_78
  let v217 : BitVec 32 := v216
  let c0_i32_93 : BitVec 32 := 0#32
  let v257 : BitVec 1 := Scalar.cmpi .sgt v217 c0_i32_93
  let v258 : BitVec 32 := Scalar.extui v257
  let c0_i32_94 : BitVec 32 := 0#32
  let v259 : BitVec 1 := Scalar.cmpi .slt v217 c0_i32_94
  let v260 : BitVec 32 := Scalar.extui v259
  let v261 : BitVec 32 := Scalar.subi v258 v260
  let c512_i32_92 : BitVec 32 := 512#32
  let c0_i32_95 : BitVec 32 := 0#32
  let v262 : BitVec 1 := Scalar.cmpi .sgt c512_i32_92 c0_i32_95
  let v263 : BitVec 32 := Scalar.extui v262
  let c0_i32_96 : BitVec 32 := 0#32
  let v264 : BitVec 1 := Scalar.cmpi .slt c512_i32_92 c0_i32_96
  let v265 : BitVec 32 := Scalar.extui v264
  let v266 : BitVec 32 := Scalar.subi v263 v265
  let v267 : BitVec 1 := Scalar.cmpi .ne v261 v266
  let v268 : BitVec 32 := Scalar.remsi v217 c512_i32_92
  let c0_i32_97 : BitVec 32 := 0#32
  let v269 : BitVec 1 := Scalar.cmpi .ne v268 c0_i32_97
  let v270 : BitVec 1 := Scalar.andi v267 v269
  let v256 : BitVec 32 := Scalar.divsi v217 c512_i32_92
  let c1_i32_98 : BitVec 32 := 1#32
  let v271 : BitVec 32 := Scalar.subi v256 c1_i32_98
  let v272 : BitVec 32 := Scalar.select v270 v271 v256
  let c1_i32_99 : BitVec 32 := 1#32
  let v273 : BitVec 32 := Scalar.maxsi v272 c1_i32_99
  let c0_i32_151 : BitVec 32 := 0#32
  let c1_i32_79 : BitVec 32 := 1#32
  let v218 : BitVec 32 := Scalar.addi arg10 c1_i32_79
  let c1_i32_80 : BitVec 32 := 1#32
  let v219 : BitVec 32 := Scalar.muli v218 c1_i32_80
  let v423 : BitVec 32 := Scalar.subi v219 v273
  let v424 : BitVec 32 := Scalar.subi v423 c0_i32_151
  let c1_i32_152 : BitVec 32 := 1#32
  let v426 : BitVec 32 := Scalar.divsi v424 c1_i32_152
  let v427 : BitVec 32 := Scalar.muli v426 c1_i32_152
  let v428 : BitVec 32 := Scalar.addi c0_i32_151 v427
  let c1_i32_154 : BitVec 32 := 1#32
  let arg11 : BitVec 32 := Scf.iv v428 c1_i32_154 k0_t5
  let v437 : BitVec 32 := Scalar.addi v273 arg11
  let c512_i32_158 : BitVec 32 := 512#32
  let v438 : BitVec 32 := Scalar.muli v437 c512_i32_158
  let c1664_i32_159 : BitVec 32 := 1664#32
  let v439 : BitVec 32 := Scalar.minsi v438 c1664_i32_159
  let v440 : BitVec 32 := v439
  let v449 : Index := Scalar.indexCast v440
  let c0_162 : Index := 0#32
  ![0, v449.toNat, 0]
def k0_mult7 : BitVec 32 :=
  let c0_i32_23 : BitVec 32 := 0#32
  let c0_i32_22 : BitVec 32 := 0#32
  let v54 : BitVec 32 := Scalar.addi c0_i32_23 c0_i32_22
  let c512_i32 : BitVec 32 := 512#32
  let v55 : BitVec 32 := Scalar.muli v54 c512_i32
  let c1664_i32 : BitVec 32 := 1664#32
  let v56 : BitVec 32 := Scalar.minsi v55 c1664_i32
  v56
def k0_off7 : Fin 3 → Nat :=
  let c0_24 : Index := 0#32
  let c0_i32_23 : BitVec 32 := 0#32
  let c0_i32_22 : BitVec 32 := 0#32
  let v54 : BitVec 32 := Scalar.addi c0_i32_23 c0_i32_22
  let c512_i32 : BitVec 32 := 512#32
  let v55 : BitVec 32 := Scalar.muli v54 c512_i32
  let c1664_i32 : BitVec 32 := 1664#32
  let v56 : BitVec 32 := Scalar.minsi v55 c1664_i32
  let v57 : BitVec 32 := v56
  let v66 : Index := Scalar.indexCast v57
  let c0_25 : Index := 0#32
  ![0, v66.toNat, 0]
@[reducible] def k0_t6_loop : Scf.Loop 32 :=
  let c0_i32_66 : BitVec 32 := 0#32
  let c4_i32_20 : BitVec 32 := 4#32
  let c1_i32_21 : BitVec 32 := 1#32
  let v53 : BitVec 32 := Scalar.maxsi c4_i32_20 c1_i32_21
  let c1_i32_65 : BitVec 32 := 1#32
  let v195 : BitVec 32 := Scalar.subi v53 c1_i32_65
  let v196 : BitVec 32 := Scalar.subi v195 c0_i32_66
  let c1_i32_67 : BitVec 32 := 1#32
  let v198 : BitVec 32 := Scalar.divsi v196 c1_i32_67
  let v199 : BitVec 32 := Scalar.muli v198 c1_i32_67
  let v200 : BitVec 32 := Scalar.addi c0_i32_66 v199
  let c1_i32_68 : BitVec 32 := 1#32
  ⟨c0_i32_66, v200, c1_i32_68⟩
def k0_mult8 (k0_t6 : Fin k0_t6_loop.trips) : BitVec 32 :=
  let c1_i32_78 : BitVec 32 := 1#32
  let c0_i32_66 : BitVec 32 := 0#32
  let c1_i32_68 : BitVec 32 := 1#32
  let arg10 : BitVec 32 := Scf.iv c0_i32_66 c1_i32_68 k0_t6
  let v216 : BitVec 32 := Scalar.addi c1_i32_78 arg10
  let c512_i32_79 : BitVec 32 := 512#32
  let v217 : BitVec 32 := Scalar.muli v216 c512_i32_79
  let c1664_i32_80 : BitVec 32 := 1664#32
  let v218 : BitVec 32 := Scalar.minsi v217 c1664_i32_80
  v218
def k0_off8 (k0_t6 : Fin k0_t6_loop.trips) : Fin 3 → Nat :=
  let c0_82 : Index := 0#32
  let c1_i32_78 : BitVec 32 := 1#32
  let c0_i32_66 : BitVec 32 := 0#32
  let c1_i32_68 : BitVec 32 := 1#32
  let arg10 : BitVec 32 := Scf.iv c0_i32_66 c1_i32_68 k0_t6
  let v216 : BitVec 32 := Scalar.addi c1_i32_78 arg10
  let c512_i32_79 : BitVec 32 := 512#32
  let v217 : BitVec 32 := Scalar.muli v216 c512_i32_79
  let c1664_i32_80 : BitVec 32 := 1664#32
  let v218 : BitVec 32 := Scalar.minsi v217 c1664_i32_80
  let v219 : BitVec 32 := v218
  let v228 : Index := Scalar.indexCast v219
  let c0_83 : Index := 0#32
  ![0, v228.toNat, 0]
@[reducible] def k0_t7_loop : Scf.Loop 32 :=
  let c0_i32_66 : BitVec 32 := 0#32
  let c4_i32_20 : BitVec 32 := 4#32
  let c1_i32_21 : BitVec 32 := 1#32
  let v53 : BitVec 32 := Scalar.maxsi c4_i32_20 c1_i32_21
  let c1_i32_65 : BitVec 32 := 1#32
  let v195 : BitVec 32 := Scalar.subi v53 c1_i32_65
  let v196 : BitVec 32 := Scalar.subi v195 c0_i32_66
  let c1_i32_67 : BitVec 32 := 1#32
  let v198 : BitVec 32 := Scalar.divsi v196 c1_i32_67
  let v199 : BitVec 32 := Scalar.muli v198 c1_i32_67
  let v200 : BitVec 32 := Scalar.addi c0_i32_66 v199
  let v197 : BitVec 32 := Scalar.addi c0_i32_66 v196
  let c1_i32_69 : BitVec 32 := 1#32
  ⟨v200, v197, c1_i32_69⟩
def k0_mult9 (k0_t7 : Fin k0_t7_loop.trips) : BitVec 32 :=
  let c1_i32_78 : BitVec 32 := 1#32
  let c0_i32_66 : BitVec 32 := 0#32
  let c4_i32_20 : BitVec 32 := 4#32
  let c1_i32_21 : BitVec 32 := 1#32
  let v53 : BitVec 32 := Scalar.maxsi c4_i32_20 c1_i32_21
  let c1_i32_65 : BitVec 32 := 1#32
  let v195 : BitVec 32 := Scalar.subi v53 c1_i32_65
  let v196 : BitVec 32 := Scalar.subi v195 c0_i32_66
  let c1_i32_67 : BitVec 32 := 1#32
  let v198 : BitVec 32 := Scalar.divsi v196 c1_i32_67
  let v199 : BitVec 32 := Scalar.muli v198 c1_i32_67
  let v200 : BitVec 32 := Scalar.addi c0_i32_66 v199
  let c1_i32_69 : BitVec 32 := 1#32
  let arg10 : BitVec 32 := Scf.iv v200 c1_i32_69 k0_t7
  let v216 : BitVec 32 := Scalar.addi c1_i32_78 arg10
  let c512_i32_79 : BitVec 32 := 512#32
  let v217 : BitVec 32 := Scalar.muli v216 c512_i32_79
  let c1664_i32_80 : BitVec 32 := 1664#32
  let v218 : BitVec 32 := Scalar.minsi v217 c1664_i32_80
  v218
def k0_off9 (k0_t7 : Fin k0_t7_loop.trips) : Fin 3 → Nat :=
  let c0_82 : Index := 0#32
  let c1_i32_78 : BitVec 32 := 1#32
  let c0_i32_66 : BitVec 32 := 0#32
  let c4_i32_20 : BitVec 32 := 4#32
  let c1_i32_21 : BitVec 32 := 1#32
  let v53 : BitVec 32 := Scalar.maxsi c4_i32_20 c1_i32_21
  let c1_i32_65 : BitVec 32 := 1#32
  let v195 : BitVec 32 := Scalar.subi v53 c1_i32_65
  let v196 : BitVec 32 := Scalar.subi v195 c0_i32_66
  let c1_i32_67 : BitVec 32 := 1#32
  let v198 : BitVec 32 := Scalar.divsi v196 c1_i32_67
  let v199 : BitVec 32 := Scalar.muli v198 c1_i32_67
  let v200 : BitVec 32 := Scalar.addi c0_i32_66 v199
  let c1_i32_69 : BitVec 32 := 1#32
  let arg10 : BitVec 32 := Scf.iv v200 c1_i32_69 k0_t7
  let v216 : BitVec 32 := Scalar.addi c1_i32_78 arg10
  let c512_i32_79 : BitVec 32 := 512#32
  let v217 : BitVec 32 := Scalar.muli v216 c512_i32_79
  let c1664_i32_80 : BitVec 32 := 1664#32
  let v218 : BitVec 32 := Scalar.minsi v217 c1664_i32_80
  let v219 : BitVec 32 := v218
  let v228 : Index := Scalar.indexCast v219
  let c0_83 : Index := 0#32
  ![0, v228.toNat, 0]
@[reducible] def k0_t8_loop : Scf.Loop 32 :=
  let c0_i32_70 : BitVec 32 := 0#32
  let c5_i32 : BitVec 32 := 5#32
  let c4_i32_20 : BitVec 32 := 4#32
  let c1_i32_21 : BitVec 32 := 1#32
  let v53 : BitVec 32 := Scalar.maxsi c4_i32_20 c1_i32_21
  let v203 : BitVec 32 := Scalar.subi c5_i32 v53
  let v204 : BitVec 32 := Scalar.subi v203 c0_i32_70
  let c1_i32_71 : BitVec 32 := 1#32
  let v206 : BitVec 32 := Scalar.divsi v204 c1_i32_71
  let v207 : BitVec 32 := Scalar.muli v206 c1_i32_71
  let v208 : BitVec 32 := Scalar.addi c0_i32_70 v207
  let c1_i32_72 : BitVec 32 := 1#32
  ⟨c0_i32_70, v208, c1_i32_72⟩
def k0_mult10 (k0_t8 : Fin k0_t8_loop.trips) : BitVec 32 :=
  let c4_i32_20 : BitVec 32 := 4#32
  let c1_i32_21 : BitVec 32 := 1#32
  let v53 : BitVec 32 := Scalar.maxsi c4_i32_20 c1_i32_21
  let c0_i32_70 : BitVec 32 := 0#32
  let c1_i32_72 : BitVec 32 := 1#32
  let arg10 : BitVec 32 := Scf.iv c0_i32_70 c1_i32_72 k0_t8
  let v216 : BitVec 32 := Scalar.addi v53 arg10
  let c512_i32_78 : BitVec 32 := 512#32
  let v217 : BitVec 32 := Scalar.muli v216 c512_i32_78
  let c1664_i32_79 : BitVec 32 := 1664#32
  let v218 : BitVec 32 := Scalar.minsi v217 c1664_i32_79
  v218
def k0_off10 (k0_t8 : Fin k0_t8_loop.trips) : Fin 3 → Nat :=
  let c0_81 : Index := 0#32
  let c4_i32_20 : BitVec 32 := 4#32
  let c1_i32_21 : BitVec 32 := 1#32
  let v53 : BitVec 32 := Scalar.maxsi c4_i32_20 c1_i32_21
  let c0_i32_70 : BitVec 32 := 0#32
  let c1_i32_72 : BitVec 32 := 1#32
  let arg10 : BitVec 32 := Scf.iv c0_i32_70 c1_i32_72 k0_t8
  let v216 : BitVec 32 := Scalar.addi v53 arg10
  let c512_i32_78 : BitVec 32 := 512#32
  let v217 : BitVec 32 := Scalar.muli v216 c512_i32_78
  let c1664_i32_79 : BitVec 32 := 1664#32
  let v218 : BitVec 32 := Scalar.minsi v217 c1664_i32_79
  let v219 : BitVec 32 := v218
  let v228 : Index := Scalar.indexCast v219
  let c0_82 : Index := 0#32
  ![0, v228.toNat, 0]
@[reducible] def k0_t9_loop : Scf.Loop 32 :=
  let c0_i32_70 : BitVec 32 := 0#32
  let c5_i32 : BitVec 32 := 5#32
  let c4_i32_20 : BitVec 32 := 4#32
  let c1_i32_21 : BitVec 32 := 1#32
  let v53 : BitVec 32 := Scalar.maxsi c4_i32_20 c1_i32_21
  let v203 : BitVec 32 := Scalar.subi c5_i32 v53
  let v204 : BitVec 32 := Scalar.subi v203 c0_i32_70
  let c1_i32_71 : BitVec 32 := 1#32
  let v206 : BitVec 32 := Scalar.divsi v204 c1_i32_71
  let v207 : BitVec 32 := Scalar.muli v206 c1_i32_71
  let v208 : BitVec 32 := Scalar.addi c0_i32_70 v207
  let v205 : BitVec 32 := Scalar.addi c0_i32_70 v204
  let c1_i32_73 : BitVec 32 := 1#32
  ⟨v208, v205, c1_i32_73⟩
def k0_mult11 (k0_t9 : Fin k0_t9_loop.trips) : BitVec 32 :=
  let c4_i32_20 : BitVec 32 := 4#32
  let c1_i32_21 : BitVec 32 := 1#32
  let v53 : BitVec 32 := Scalar.maxsi c4_i32_20 c1_i32_21
  let c0_i32_70 : BitVec 32 := 0#32
  let c5_i32 : BitVec 32 := 5#32
  let v203 : BitVec 32 := Scalar.subi c5_i32 v53
  let v204 : BitVec 32 := Scalar.subi v203 c0_i32_70
  let c1_i32_71 : BitVec 32 := 1#32
  let v206 : BitVec 32 := Scalar.divsi v204 c1_i32_71
  let v207 : BitVec 32 := Scalar.muli v206 c1_i32_71
  let v208 : BitVec 32 := Scalar.addi c0_i32_70 v207
  let c1_i32_73 : BitVec 32 := 1#32
  let arg10 : BitVec 32 := Scf.iv v208 c1_i32_73 k0_t9
  let v216 : BitVec 32 := Scalar.addi v53 arg10
  let c512_i32_78 : BitVec 32 := 512#32
  let v217 : BitVec 32 := Scalar.muli v216 c512_i32_78
  let c1664_i32_79 : BitVec 32 := 1664#32
  let v218 : BitVec 32 := Scalar.minsi v217 c1664_i32_79
  v218
def k0_off11 (k0_t9 : Fin k0_t9_loop.trips) : Fin 3 → Nat :=
  let c0_81 : Index := 0#32
  let c4_i32_20 : BitVec 32 := 4#32
  let c1_i32_21 : BitVec 32 := 1#32
  let v53 : BitVec 32 := Scalar.maxsi c4_i32_20 c1_i32_21
  let c0_i32_70 : BitVec 32 := 0#32
  let c5_i32 : BitVec 32 := 5#32
  let v203 : BitVec 32 := Scalar.subi c5_i32 v53
  let v204 : BitVec 32 := Scalar.subi v203 c0_i32_70
  let c1_i32_71 : BitVec 32 := 1#32
  let v206 : BitVec 32 := Scalar.divsi v204 c1_i32_71
  let v207 : BitVec 32 := Scalar.muli v206 c1_i32_71
  let v208 : BitVec 32 := Scalar.addi c0_i32_70 v207
  let c1_i32_73 : BitVec 32 := 1#32
  let arg10 : BitVec 32 := Scf.iv v208 c1_i32_73 k0_t9
  let v216 : BitVec 32 := Scalar.addi v53 arg10
  let c512_i32_78 : BitVec 32 := 512#32
  let v217 : BitVec 32 := Scalar.muli v216 c512_i32_78
  let c1664_i32_79 : BitVec 32 := 1664#32
  let v218 : BitVec 32 := Scalar.minsi v217 c1664_i32_79
  let v219 : BitVec 32 := v218
  let v228 : Index := Scalar.indexCast v219
  let c0_82 : Index := 0#32
  ![0, v228.toNat, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2176x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2176x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S2x2176x3072 : Shape := ⟨3, ![2, 2176, 3072]⟩
abbrev S2x2176x512 : Shape := ⟨3, ![2, 2176, 512]⟩
abbrev S2x2176x8x64 : Shape := ⟨4, ![2, 2176, 8, 64]⟩
abbrev S2x8x2176x2176 : Shape := ⟨4, ![2, 8, 2176, 2176]⟩
abbrev S_ : Shape := ⟨0, ![]⟩
abbrev S2176 : Shape := ⟨1, ![2176]⟩
abbrev S2176x1 : Shape := ⟨2, ![2176, 1]⟩
abbrev S1x2176 : Shape := ⟨2, ![1, 2176]⟩
abbrev S2176x2176 : Shape := ⟨2, ![2176, 2176]⟩
abbrev S2x8x64x2176 : Shape := ⟨4, ![2, 8, 64, 2176]⟩
abbrev S2x8x2176x64 : Shape := ⟨4, ![2, 8, 2176, 64]⟩

abbrev nBuf : Space → Nat
  | .hbm => 128
  | .vmem => 0
  | .smem => 0
  | _ => 0

abbrev bufTy : (tb : Table) → Fin (tcTables nBuf tb) → BufTy
  | .hbm, ⟨0, _⟩ => ⟨S2x2176x3072, .f32⟩
  | .hbm, ⟨1, _⟩ => ⟨S2x2176x512, .f32⟩
  | .hbm, ⟨2, _⟩ => ⟨S2x2176x512, .f32⟩
  | .hbm, ⟨3, _⟩ => ⟨S2x2176x8x64, .f32⟩
  | .hbm, ⟨4, _⟩ => ⟨S2x2176x512, .f32⟩
  | .hbm, ⟨5, _⟩ => ⟨S2x2176x8x64, .f32⟩
  | .hbm, ⟨6, _⟩ => ⟨S2x2176x512, .f32⟩
  | .hbm, ⟨7, _⟩ => ⟨S2x2176x8x64, .f32⟩
  | .hbm, ⟨8, _⟩ => ⟨S2x8x2176x2176, .f32⟩
  | .hbm, ⟨9, _⟩ => ⟨S_, .f32⟩
  | .hbm, ⟨10, _⟩ => ⟨S2x8x2176x2176, .f32⟩
  | .hbm, ⟨11, _⟩ => ⟨S2x8x2176x2176, .f32⟩
  | .hbm, ⟨12, _⟩ => ⟨S2176, .i32⟩
  | .hbm, ⟨13, _⟩ => ⟨S2176x1, .i32⟩
  | .hbm, ⟨14, _⟩ => ⟨S2176, .i32⟩
  | .hbm, ⟨15, _⟩ => ⟨S1x2176, .i32⟩
  | .hbm, ⟨16, _⟩ => ⟨S2176x2176, .i32⟩
  | .hbm, ⟨17, _⟩ => ⟨S2176x2176, .i32⟩
  | .hbm, ⟨18, _⟩ => ⟨S2176x2176, .i1⟩
  | .hbm, ⟨19, _⟩ => ⟨S_, .i32⟩
  | .hbm, ⟨20, _⟩ => ⟨S1x2176, .i32⟩
  | .hbm, ⟨21, _⟩ => ⟨S1x2176, .i1⟩
  | .hbm, ⟨22, _⟩ => ⟨S2176x2176, .i1⟩
  | .hbm, ⟨23, _⟩ => ⟨S2176x2176, .i1⟩
  | .hbm, ⟨24, _⟩ => ⟨S2x8x2176x2176, .f32⟩
  | .hbm, ⟨25, _⟩ => ⟨S_, .f32⟩
  | .hbm, ⟨26, _⟩ => ⟨S2x8x2176x2176, .f32⟩
  | .hbm, ⟨27, _⟩ => ⟨S2x8x2176x2176, .f32⟩
  | .hbm, ⟨28, _⟩ => ⟨S2x8x2176x2176, .f32⟩
  | .hbm, ⟨29, _⟩ => ⟨S2x8x2176x2176, .f32⟩
  | .hbm, ⟨30, _⟩ => ⟨S2x8x2176x2176, .i1⟩
  | .hbm, ⟨31, _⟩ => ⟨S2x8x2176x2176, .f32⟩
  | .hbm, ⟨32, _⟩ => ⟨S2x8x2176x2176, .f32⟩
  | .hbm, ⟨33, _⟩ => ⟨S2x8x2176x2176, .f32⟩
  | .hbm, ⟨34, _⟩ => ⟨S2x8x2176x2176, .f32⟩
  | .hbm, ⟨35, _⟩ => ⟨S2x8x2176x2176, .f32⟩
  | .hbm, ⟨36, _⟩ => ⟨S2x8x2176x2176, .f32⟩
  | .hbm, ⟨37, _⟩ => ⟨S2x8x2176x2176, .f32⟩
  | .hbm, ⟨38, _⟩ => ⟨S2x8x2176x2176, .f32⟩
  | .hbm, ⟨39, _⟩ => ⟨S_, .f32⟩
  | .hbm, ⟨40, _⟩ => ⟨S2x8x2176x2176, .f32⟩
  | .hbm, ⟨41, _⟩ => ⟨S2x8x2176x2176, .i1⟩
  | .hbm, ⟨42, _⟩ => ⟨S_, .f32⟩
  | .hbm, ⟨43, _⟩ => ⟨S2x8x2176x2176, .f32⟩
  | .hbm, ⟨44, _⟩ => ⟨S2x8x2176x2176, .f32⟩
  | .hbm, ⟨45, _⟩ => ⟨S_, .f32⟩
  | .hbm, ⟨46, _⟩ => ⟨S2x8x2176x2176, .f32⟩
  | .hbm, ⟨47, _⟩ => ⟨S2x8x2176x2176, .i1⟩
  | .hbm, ⟨48, _⟩ => ⟨S_, .f32⟩
  | .hbm, ⟨49, _⟩ => ⟨S2x8x2176x2176, .f32⟩
  | .hbm, ⟨50, _⟩ => ⟨S2x8x2176x2176, .f32⟩
  | .hbm, ⟨51, _⟩ => ⟨S2x8x2176x2176, .f32⟩
  | .hbm, ⟨52, _⟩ => ⟨S2x8x2176x2176, .f32⟩
  | .hbm, ⟨53, _⟩ => ⟨S_, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S2x8x2176x2176, .f32⟩
  | .hbm, ⟨61, _⟩ => ⟨S2x8x2176x2176, .i1⟩
  | .hbm, ⟨62, _⟩ => ⟨S_, .f32⟩
  | .hbm, ⟨63, _⟩ => ⟨S2x8x2176x2176, .f32⟩
  | .hbm, ⟨64, _⟩ => ⟨S2x8x2176x2176, .f32⟩
  | .hbm, ⟨65, _⟩ => ⟨S2x8x2176x2176, .f32⟩
  | .hbm, ⟨66, _⟩ => ⟨S2x8x2176x2176, .f32⟩
  | .hbm, ⟨67, _⟩ => ⟨S2x8x2176x2176, .f32⟩
  | .hbm, ⟨68, _⟩ => ⟨S_, .f32⟩
  | .hbm, ⟨69, _⟩ => ⟨S2x8x2176x2176, .f32⟩
  | .hbm, ⟨70, _⟩ => ⟨S2x8x2176x2176, .f32⟩
  | .hbm, ⟨71, _⟩ => ⟨S2x8x2176x2176, .f32⟩
  | .hbm, ⟨72, _⟩ => ⟨S2x8x2176x2176, .f32⟩
  | .hbm, ⟨73, _⟩ => ⟨S_, .f32⟩
  | .hbm, ⟨74, _⟩ => ⟨S_, .f32⟩
  | .hbm, ⟨75, _⟩ => ⟨S2x8x2176x2176, .i1⟩
  | .hbm, ⟨76, _⟩ => ⟨S2x8x2176x2176, .f32⟩
  | .hbm, ⟨77, _⟩ => ⟨S2x8x2176x2176, .f32⟩
  | .hbm, ⟨78, _⟩ => ⟨S_, .f32⟩
  | .hbm, ⟨79, _⟩ => ⟨S2x8x2176x2176, .f32⟩
  | .hbm, ⟨80, _⟩ => ⟨S_, .f32⟩
  | .hbm, ⟨81, _⟩ => ⟨S_, .f32⟩
  | .hbm, ⟨82, _⟩ => ⟨S2x8x2176x2176, .f32⟩
  | .hbm, ⟨83, _⟩ => ⟨S2x8x2176x2176, .f32⟩
  | .hbm, ⟨84, _⟩ => ⟨S2x8x2176x2176, .f32⟩
  | .hbm, ⟨85, _⟩ => ⟨S2x8x2176x2176, .f32⟩
  | .hbm, ⟨86, _⟩ => ⟨S_, .f32⟩
  | .hbm, ⟨87, _⟩ => ⟨S_, .f32⟩
  | .hbm, ⟨88, _⟩ => ⟨S2x8x2176x2176, .i1⟩
  | .hbm, ⟨89, _⟩ => ⟨S2x8x2176x2176, .f32⟩
  | .hbm, ⟨90, _⟩ => ⟨S2x8x2176x2176, .f32⟩
  | .hbm, ⟨91, _⟩ => ⟨S_, .f32⟩
  | .hbm, ⟨92, _⟩ => ⟨S2x8x2176x2176, .f32⟩
  | .hbm, ⟨93, _⟩ => ⟨S2x8x64x2176, .f32⟩
  | .hbm, ⟨94, _⟩ => ⟨S2x2176x8x64, .f32⟩
  | .hbm, ⟨95, _⟩ => ⟨S2x2176x8x64, .f32⟩
  | .hbm, ⟨96, _⟩ => ⟨S2x8x64x2176, .f32⟩
  | .hbm, ⟨97, _⟩ => ⟨S2x8x2176x2176, .f32⟩
  | .hbm, ⟨98, _⟩ => ⟨S2x8x64x2176, .f32⟩
  | .hbm, ⟨99, _⟩ => ⟨S2x2176x8x64, .f32⟩
  | .hbm, ⟨100, _⟩ => ⟨S_, .f32⟩
  | .hbm, ⟨101, _⟩ => ⟨S2x8x2176x2176, .f32⟩
  | .hbm, ⟨102, _⟩ => ⟨S2x8x2176x2176, .f32⟩
  | .hbm, ⟨103, _⟩ => ⟨S2x8x2176x2176, .f32⟩
  | .hbm, ⟨104, _⟩ => ⟨S2x8x2176x2176, .f32⟩
  | .hbm, ⟨105, _⟩ => ⟨S_, .f32⟩
  | .hbm, ⟨106, _⟩ => ⟨S_, .f32⟩
  | .hbm, ⟨107, _⟩ => ⟨S2x8x2176x2176, .f32⟩
  | .hbm, ⟨108, _⟩ => ⟨S2x8x2176x2176, .f32⟩
  | .hbm, ⟨109, _⟩ => ⟨S_, .f32⟩
  | .hbm, ⟨110, _⟩ => ⟨S2x8x2176x2176, .f32⟩
  | .hbm, ⟨111, _⟩ => ⟨S2x8x2176x2176, .f32⟩
  | .hbm, ⟨112, _⟩ => ⟨S2x8x2176x2176, .f32⟩
  | .hbm, ⟨113, _⟩ => ⟨S2x8x2176x2176, .f32⟩
  | .hbm, ⟨114, _⟩ => ⟨S2x8x2176x2176, .f32⟩
  | .hbm, ⟨115, _⟩ => ⟨S2x8x2176x2176, .f32⟩
  | .hbm, ⟨116, _⟩ => ⟨S2x8x2176x2176, .f32⟩
  | .hbm, ⟨117, _⟩ => ⟨S2x8x2176x2176, .f32⟩
  | .hbm, ⟨118, _⟩ => ⟨S_, .f32⟩
  | .hbm, ⟨119, _⟩ => ⟨S2x8x2176x2176, .f32⟩
  | .hbm, ⟨120, _⟩ => ⟨S2x8x2176x2176, .f32⟩
  | .hbm, ⟨121, _⟩ => ⟨S2x8x2176x64, .f32⟩
  | .hbm, ⟨122, _⟩ => ⟨S2x2176x8x64, .f32⟩
  | .hbm, ⟨123, _⟩ => ⟨S2x8x2176x64, .f32⟩
  | .hbm, ⟨124, _⟩ => ⟨S2x2176x8x64, .f32⟩
  | .hbm, ⟨125, _⟩ => ⟨S2x2176x512, .f32⟩
  | .hbm, ⟨126, _⟩ => ⟨S2x2176x512, .f32⟩
  | .hbm, ⟨127, _⟩ => ⟨S2x2176x512, .f32⟩
  | _, _ => ⟨S2x2176x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v20_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v20_2 : Ref sig .tc := ⟨.hbm, 70, rfl⟩
abbrev main_v20_0 : Ref sig .tc := ⟨.hbm, 71, rfl⟩
abbrev main_v21 : Ref sig .tc := ⟨.hbm, 72, rfl⟩
abbrev main_cst_0 : Ref sig .tc := ⟨.hbm, 73, rfl⟩
abbrev main_call1_v0 : Ref sig .tc := ⟨.hbm, 74, rfl⟩
abbrev main_v22_1 : Ref sig .tc := ⟨.hbm, 75, rfl⟩
abbrev main_call1_v2 : Ref sig .tc := ⟨.hbm, 76, rfl⟩
abbrev main_v22_0 : Ref sig .tc := ⟨.hbm, 77, rfl⟩
abbrev main_call1_cst : Ref sig .tc := ⟨.hbm, 78, rfl⟩
abbrev main_v22_2 : Ref sig .tc := ⟨.hbm, 79, rfl⟩
abbrev main_call2_cst : Ref sig .tc := ⟨.hbm, 80, rfl⟩
abbrev main_call2_v0 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_cst_1 : Ref sig .tc := ⟨.hbm, 86, rfl⟩
abbrev main_call3_v0 : Ref sig .tc := ⟨.hbm, 87, rfl⟩
abbrev main_v27_1 : Ref sig .tc := ⟨.hbm, 88, rfl⟩
abbrev main_call3_v2 : Ref sig .tc := ⟨.hbm, 89, rfl⟩
abbrev main_v27_0 : Ref sig .tc := ⟨.hbm, 90, rfl⟩
abbrev main_call3_cst : Ref sig .tc := ⟨.hbm, 91, rfl⟩
abbrev main_v27_2 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_call4_cst : Ref sig .tc := ⟨.hbm, 100, rfl⟩
abbrev main_call4_v0 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_call5_cst : Ref sig .tc := ⟨.hbm, 105, rfl⟩
abbrev main_call5_v0 : Ref sig .tc := ⟨.hbm, 106, rfl⟩
abbrev main_v38 : Ref sig .tc := ⟨.hbm, 107, rfl⟩
abbrev main_v39 : Ref sig .tc := ⟨.hbm, 108, rfl⟩
abbrev main_call6_cst : Ref sig .tc := ⟨.hbm, 109, rfl⟩
abbrev main_call6_v0 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_call7_v0 : Ref sig .tc := ⟨.hbm, 114, rfl⟩
abbrev main_call7_v1 : Ref sig .tc := ⟨.hbm, 115, rfl⟩
abbrev main_v43 : Ref sig .tc := ⟨.hbm, 116, rfl⟩
abbrev main_v44 : Ref sig .tc := ⟨.hbm, 117, rfl⟩
abbrev main_cst_2 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩

abbrev nD : Nat := 1
abbrev τ : Topo := Topo.v7x

variable {F : FTy → Type} [FloatOps F]
-- ==== Kernel6.lean ====
abbrev S4352x1024 : Shape := ⟨2, ![4352, 1024]⟩
abbrev S4352x3072 : Shape := ⟨2, ![4352, 3072]⟩
abbrev S1024x3072 : Shape := ⟨2, ![1024, 3072]⟩
abbrev S1088x1024 : Shape := ⟨2, ![1088, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x3072, .bf16⟩
  | .hbm, ⟨2, _⟩ => ⟨S1024x3072, .f32⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .f32⟩
  | .local _ .vmem, ⟨5, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4352x1024 : Shape := ⟨2, ![4352, 1024]⟩
abbrev S4352x3072 : Shape := ⟨2, ![4352, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x3072, .bf16⟩
  | .hbm, ⟨2, _⟩ => ⟨S_, .f32⟩
  | .hbm, ⟨3, _⟩ => ⟨S1024x3072, .f32⟩
  | .hbm, ⟨4, _⟩ => ⟨S4352x1024, .f32⟩
  | .hbm, ⟨5, _⟩ => ⟨S4352x3072, .f32⟩
  | .hbm, ⟨6, _⟩ => ⟨S4352x3072, .f32⟩
  | .hbm, ⟨7, _⟩ => ⟨S3072x1024, .f32⟩
  | .hbm, ⟨8, _⟩ => ⟨S1024x3072, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4352x1024 : Shape := ⟨2, ![4352, 1024]⟩
abbrev S4352x2304 : Shape := ⟨2, ![4352, 2304]⟩
abbrev S1024x2304 : Shape := ⟨2, ![1024, 2304]⟩
abbrev S1088x1024 : Shape := ⟨2, ![1088, 1024]⟩
abbrev S1088x768 : Shape := ⟨2, ![1088, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x2304, .bf16⟩
  | .hbm, ⟨2, _⟩ => ⟨S1024x2304, .f32⟩
  | .local _ .vmem, ⟨0, _⟩ => ⟨S1088x1024, .bf16⟩
  | .local _ .vmem, ⟨1, _⟩ => ⟨S1088x1024, .bf16⟩
  | .local _ .vmem, ⟨2, _⟩ => ⟨S1088x768, .bf16⟩
  | .local _ .vmem, ⟨3, _⟩ => ⟨S1088x768, .bf16⟩
  | .local _ .vmem, ⟨4, _⟩ => ⟨S1024x768, .f32⟩
  | .local _ .vmem, ⟨5, _⟩ => ⟨S1024x768, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1088x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4352x1024 : Shape := ⟨2, ![4352, 1024]⟩
abbrev S4352x2304 : Shape := ⟨2, ![4352, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2304, .bf16⟩
  | .hbm, ⟨2, _⟩ => ⟨S_, .f32⟩
  | .hbm, ⟨3, _⟩ => ⟨S1024x2304, .f32⟩
  | .hbm, ⟨4, _⟩ => ⟨S4352x1024, .f32⟩
  | .hbm, ⟨5, _⟩ => ⟨S4352x2304, .f32⟩
  | .hbm, ⟨6, _⟩ => ⟨S4352x2304, .f32⟩
  | .hbm, ⟨7, _⟩ => ⟨S2304x1024, .f32⟩
  | .hbm, ⟨8, _⟩ => ⟨S1024x2304, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4352x3072 : Shape := ⟨2, ![4352, 3072]⟩
abbrev S1024x3072 : Shape := ⟨2, ![1024, 3072]⟩
abbrev S4352x1024 : Shape := ⟨2, ![4352, 1024]⟩
abbrev S1088x3072 : Shape := ⟨2, ![1088, 3072]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x3072, .bf16⟩
  | .hbm, ⟨1, _⟩ => ⟨S1024x3072, .f32⟩
  | .hbm, ⟨2, _⟩ => ⟨S4352x1024, .f32⟩
  | .local _ .vmem, ⟨0, _⟩ => ⟨S1088x3072, .bf16⟩
  | .local _ .vmem, ⟨1, _⟩ => ⟨S1088x3072, .bf16⟩
  | .local _ .vmem, ⟨2, _⟩ => ⟨S1024x3072, .f32⟩
  | .local _ .vmem, ⟨3, _⟩ => ⟨S1088x1024, .f32⟩
  | .local _ .vmem, ⟨4, _⟩ => ⟨S1088x1024, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4352x3072 : Shape := ⟨2, ![4352, 3072]⟩
abbrev S1024x3072 : Shape := ⟨2, ![1024, 3072]⟩
abbrev S_ : Shape := ⟨0, ![]⟩
abbrev S4352x1024 : Shape := ⟨2, ![4352, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S1024x3072, .f32⟩
  | .hbm, ⟨2, _⟩ => ⟨S_, .f32⟩
  | .hbm, ⟨3, _⟩ => ⟨S4352x1024, .f32⟩
  | .hbm, ⟨4, _⟩ => ⟨S4352x3072, .f32⟩
  | .hbm, ⟨5, _⟩ => ⟨S4352x3072, .f32⟩
  | .hbm, ⟨6, _⟩ => ⟨S4352x1024, .f32⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4352x2304 : Shape := ⟨2, ![4352, 2304]⟩
abbrev S1024x2304 : Shape := ⟨2, ![1024, 2304]⟩
abbrev S4352x1024 : Shape := ⟨2, ![4352, 1024]⟩
abbrev S1088x2304 : Shape := ⟨2, ![1088, 2304]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x2304, .bf16⟩
  | .hbm, ⟨1, _⟩ => ⟨S1024x2304, .f32⟩
  | .hbm, ⟨2, _⟩ => ⟨S4352x1024, .f32⟩
  | .local _ .vmem, ⟨0, _⟩ => ⟨S1088x2304, .bf16⟩
  | .local _ .vmem, ⟨1, _⟩ => ⟨S1088x2304, .bf16⟩
  | .local _ .vmem, ⟨2, _⟩ => ⟨S1024x2304, .f32⟩
  | .local _ .vmem, ⟨3, _⟩ => ⟨S1088x1024, .f32⟩
  | .local _ .vmem, ⟨4, _⟩ => ⟨S1088x1024, .f32⟩
  | _, _ => ⟨S4352x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4352x2304 : Shape := ⟨2, ![4352, 2304]⟩
abbrev S1024x2304 : Shape := ⟨2, ![1024, 2304]⟩
abbrev S_ : Shape := ⟨0, ![]⟩
abbrev S4352x1024 : Shape := ⟨2, ![4352, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4352x2304, .bf16⟩
  | .hbm, ⟨1, _⟩ => ⟨S1024x2304, .f32⟩
  | .hbm, ⟨2, _⟩ => ⟨S_, .f32⟩
  | .hbm, ⟨3, _⟩ => ⟨S4352x1024, .f32⟩
  | .hbm, ⟨4, _⟩ => ⟨S4352x2304, .f32⟩
  | .hbm, ⟨5, _⟩ => ⟨S4352x2304, .f32⟩
  | .hbm, ⟨6, _⟩ => ⟨S4352x1024, .f32⟩
  | _, _ => ⟨S4352x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4352x1024 : Shape := ⟨2, ![4352, 1024]⟩
abbrev S1024x3072 : Shape := ⟨2, ![1024, 3072]⟩
abbrev S4352x3072 : Shape := ⟨2, ![4352, 3072]⟩
abbrev S1088x1024 : Shape := ⟨2, ![1088, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x3072, .f32⟩
  | .hbm, ⟨2, _⟩ => ⟨S4352x3072, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .f32⟩
  | .local _ .vmem, ⟨3, _⟩ => ⟨S1024x1024, .f32⟩
  | .local _ .vmem, ⟨4, _⟩ => ⟨S1088x1024, .f32⟩
  | .local _ .vmem, ⟨5, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4352x1024 : Shape := ⟨2, ![4352, 1024]⟩
abbrev S1024x3072 : Shape := ⟨2, ![1024, 3072]⟩
abbrev S4352x3072 : Shape := ⟨2, ![4352, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x3072, .f32⟩
  | .hbm, ⟨2, _⟩ => ⟨S4352x1024, .f32⟩
  | .hbm, ⟨3, _⟩ => ⟨S4352x3072, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S4352x1024 : Shape := ⟨2, ![4352, 1024]⟩
abbrev S1024x2304 : Shape := ⟨2, ![1024, 2304]⟩
abbrev S4352x2304 : Shape := ⟨2, ![4352, 2304]⟩
abbrev S1088x1024 : Shape := ⟨2, ![1088, 1024]⟩
abbrev S1024x768 : Shape := ⟨2, ![1024, 768]⟩
abbrev S1088x768 : Shape := ⟨2, ![1088, 768]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x2304, .f32⟩
  | .hbm, ⟨2, _⟩ => ⟨S4352x2304, .f32⟩
  | .local _ .vmem, ⟨0, _⟩ => ⟨S1088x1024, .bf16⟩
  | .local _ .vmem, ⟨1, _⟩ => ⟨S1088x1024, .bf16⟩
  | .local _ .vmem, ⟨2, _⟩ => ⟨S1024x768, .f32⟩
  | .local _ .vmem, ⟨3, _⟩ => ⟨S1024x768, .f32⟩
  | .local _ .vmem, ⟨4, _⟩ => ⟨S1088x768, .f32⟩
  | .local _ .vmem, ⟨5, _⟩ => ⟨S1088x768, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4352x1024 : Shape := ⟨2, ![4352, 1024]⟩
abbrev S1024x2304 : Shape := ⟨2, ![1024, 2304]⟩
abbrev S4352x2304 : Shape := ⟨2, ![4352, 2304]⟩

abbrev nBuf : Space → Nat
  | .hbm => 4
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x2304, .f32⟩
  | .hbm, ⟨2, _⟩ => ⟨S4352x1024, .f32⟩
  | .hbm, ⟨3, _⟩ => ⟨S4352x2304, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .f32⟩
  | .hbm, ⟨2, _⟩ => ⟨S4352x1024, .f32⟩
  | .hbm, ⟨3, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .f32⟩
  | .local _ .vmem, ⟨3, _⟩ => ⟨S1088x1024, .f32⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S4352x1024 : Shape := ⟨2, ![4352, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .f32⟩
  | .hbm, ⟨2, _⟩ => ⟨S4352x1024, .f32⟩
  | .hbm, ⟨3, _⟩ => ⟨S4352x1024, .f32⟩
  | .hbm, ⟨4, _⟩ => ⟨S4352x1024, .f32⟩
  | .hbm, ⟨5, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S4352x1024 : Shape := ⟨2, ![4352, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S4352x1024, .bf16⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .bf16⟩
  | .local _ .vmem, ⟨4, _⟩ => ⟨S544x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4352x1024 : Shape := ⟨2, ![4352, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩

abbrev nBuf : Space → Nat
  | .hbm => 18
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S4352x1024, .f32⟩
  | .hbm, ⟨3, _⟩ => ⟨S_, .f32⟩
  | .hbm, ⟨4, _⟩ => ⟨S4352, .f32⟩
  | .hbm, ⟨5, _⟩ => ⟨S4352x1, .f32⟩
  | .hbm, ⟨6, _⟩ => ⟨S_, .f32⟩
  | .hbm, ⟨7, _⟩ => ⟨S4352x1, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S4352x1, .f32⟩
  | .hbm, ⟨13, _⟩ => ⟨S4352x1024, .f32⟩
  | .hbm, ⟨14, _⟩ => ⟨S4352x1024, .f32⟩
  | .hbm, ⟨15, _⟩ => ⟨S4352x1024, .f32⟩
  | .hbm, ⟨16, _⟩ => ⟨S4352x1024, .f32⟩
  | .hbm, ⟨17, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel14.lean ====
abbrev S4352x512 : Shape := ⟨2, ![4352, 512]⟩
abbrev S4352x3072 : Shape := ⟨2, ![4352, 3072]⟩
abbrev S4352x1024 : Shape := ⟨2, ![4352, 1024]⟩
abbrev S544x512 : Shape := ⟨2, ![544, 512]⟩
abbrev S544x1024 : Shape := ⟨2, ![544, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x3072, .f32⟩
  | .hbm, ⟨3, _⟩ => ⟨S4352x1024, .bf16⟩
  | .local _ .vmem, ⟨0, _⟩ => ⟨S544x512, .f32⟩
  | .local _ .vmem, ⟨1, _⟩ => ⟨S544x512, .f32⟩
  | .local _ .vmem, ⟨2, _⟩ => ⟨S544x512, .f32⟩
  | .local _ .vmem, ⟨3, _⟩ => ⟨S544x512, .f32⟩
  | .local _ .vmem, ⟨4, _⟩ => ⟨S544x1024, .f32⟩
  | .local _ .vmem, ⟨5, _⟩ => ⟨S544x1024, .f32⟩
  | .local _ .vmem, ⟨6, _⟩ => ⟨S544x1024, .bf16⟩
  | .local _ .vmem, ⟨7, _⟩ => ⟨S544x1024, .bf16⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S4352x512 : Shape := ⟨2, ![4352, 512]⟩
abbrev S4352x3072 : Shape := ⟨2, ![4352, 3072]⟩
abbrev S4352x1024 : Shape := ⟨2, ![4352, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x3072, .f32⟩
  | .hbm, ⟨3, _⟩ => ⟨S4352x1024, .f32⟩
  | .hbm, ⟨4, _⟩ => ⟨S4352x512, .f32⟩
  | .hbm, ⟨5, _⟩ => ⟨S4352x512, .f32⟩
  | .hbm, ⟨6, _⟩ => ⟨S4352x512, .f32⟩
  | .hbm, ⟨7, _⟩ => ⟨S_, .f32⟩
  | .hbm, ⟨8, _⟩ => ⟨S4352x512, .f32⟩
  | .hbm, ⟨9, _⟩ => ⟨S4352x512, .f32⟩
  | .hbm, ⟨10, _⟩ => ⟨S_, .f32⟩
  | .hbm, ⟨11, _⟩ => ⟨S4352x512, .f32⟩
  | .hbm, ⟨12, _⟩ => ⟨S4352x512, .f32⟩
  | .hbm, ⟨13, _⟩ => ⟨S4352x512, .f32⟩
  | .hbm, ⟨14, _⟩ => ⟨S4352x512, .f32⟩
  | .hbm, ⟨15, _⟩ => ⟨S4352x512, .f32⟩
  | .hbm, ⟨16, _⟩ => ⟨S4352x512, .f32⟩
  | .hbm, ⟨17, _⟩ => ⟨S4352x512, .f32⟩
  | .hbm, ⟨18, _⟩ => ⟨S_, .f32⟩
  | .hbm, ⟨19, _⟩ => ⟨S4352x512, .f32⟩
  | .hbm, ⟨20, _⟩ => ⟨S4352x512, .f32⟩
  | .hbm, ⟨21, _⟩ => ⟨S_, .f32⟩
  | .hbm, ⟨22, _⟩ => ⟨S4352x512, .f32⟩
  | .hbm, ⟨23, _⟩ => ⟨S4352x512, .f32⟩
  | .hbm, ⟨24, _⟩ => ⟨S4352x512, .f32⟩
  | .hbm, ⟨25, _⟩ => ⟨S4352x512, .f32⟩
  | .hbm, ⟨26, _⟩ => ⟨S4352x1024, .f32⟩
  | .hbm, ⟨27, _⟩ => ⟨S4352x1024, .bf16⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel15.lean ====
abbrev S4352x1024 : Shape := ⟨2, ![4352, 1024]⟩
abbrev S4352x2304 : Shape := ⟨2, ![4352, 2304]⟩
abbrev S544x1024 : Shape := ⟨2, ![544, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S4352x2304, .f32⟩
  | .hbm, ⟨2, _⟩ => ⟨S4352x1024, .bf16⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S544x1024, .bf16⟩
  | .local _ .vmem, ⟨5, _⟩ => ⟨S544x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S4352x1024 : Shape := ⟨2, ![4352, 1024]⟩
abbrev S4352x2304 : Shape := ⟨2, ![4352, 2304]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x2304, .f32⟩
  | .hbm, ⟨2, _⟩ => ⟨S4352x1024, .f32⟩
  | .hbm, ⟨3, _⟩ => ⟨S4352x1024, .f32⟩
  | .hbm, ⟨4, _⟩ => ⟨S4352x1024, .f32⟩
  | .hbm, ⟨5, _⟩ => ⟨S_, .f32⟩
  | .hbm, ⟨6, _⟩ => ⟨S4352x1024, .f32⟩
  | .hbm, ⟨7, _⟩ => ⟨S4352x1024, .f32⟩
  | .hbm, ⟨8, _⟩ => ⟨S_, .f32⟩
  | .hbm, ⟨9, _⟩ => ⟨S4352x1024, .f32⟩
  | .hbm, ⟨10, _⟩ => ⟨S4352x1024, .f32⟩
  | .hbm, ⟨11, _⟩ => ⟨S4352x1024, .f32⟩
  | .hbm, ⟨12, _⟩ => ⟨S4352x1024, .f32⟩
  | .hbm, ⟨13, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Kernel16.lean ====
abbrev S2x2176x256 : Shape := ⟨3, ![2, 2176, 256]⟩
abbrev S2x2176x128 : Shape := ⟨3, ![2, 2176, 128]⟩
abbrev S2x2176x32 : Shape := ⟨3, ![2, 2176, 32]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S_ : Shape := ⟨0, ![]⟩
abbrev S2x2176x2560 : Shape := ⟨3, ![2, 2176, 2560]⟩
abbrev S2x2176x64 : Shape := ⟨3, ![2, 2176, 64]⟩
abbrev S2x2176x3072 : Shape := ⟨3, ![2, 2176, 3072]⟩
abbrev S256x8x96 : Shape := ⟨3, ![256, 8, 96]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S2176 : Shape := ⟨1, ![2176]⟩
abbrev S16 : Shape := ⟨1, ![16]⟩
abbrev S2176x1 : Shape := ⟨2, ![2176, 1]⟩
abbrev S1x16 : Shape := ⟨2, ![1, 16]⟩
abbrev S2176x16 : Shape := ⟨2, ![2176, 16]⟩
abbrev S2176x64 : Shape := ⟨2, ![2176, 64]⟩
abbrev S2176x32 : Shape := ⟨2, ![2176, 32]⟩
abbrev S2176x128 : Shape := ⟨2, ![2176, 128]⟩
abbrev S2x2176x1024 : Shape := ⟨3, ![2, 2176, 1024]⟩
abbrev S2x2176x512 : Shape := ⟨3, ![2, 2176, 512]⟩
abbrev S1x1088x256 : Shape := ⟨3, ![1, 1088, 256]⟩
abbrev S1x1088x128 : Shape := ⟨3, ![1, 1088, 128]⟩
abbrev S1088x128 : Shape := ⟨2, ![1088, 128]⟩
abbrev S1x1088x1024 : Shape := ⟨3, ![1, 1088, 1024]⟩
abbrev S1x1088x512 : Shape := ⟨3, ![1, 1088, 512]⟩
abbrev S1088x256 : Shape := ⟨2, ![1088, 256]⟩
abbrev S1088 : Shape := ⟨1, ![1088]⟩
abbrev S1088x1 : Shape := ⟨2, ![1088, 1]⟩
abbrev S1088x1024 : Shape := ⟨2, ![1088, 1024]⟩
abbrev S1088x512 : Shape := ⟨2, ![1088, 512]⟩

abbrev nBuf : Space → Nat
  | .hbm => 70
  | .vmem => 23
  | .smem => 0
  | _ => 0

abbrev bufTy : (tb : Table) → Fin (tcTables nBuf tb) → BufTy
  | .hbm, ⟨0, _⟩ => ⟨S2x2176x256, .f32⟩
  | .hbm, ⟨1, _⟩ => ⟨S2x2176x128, .f32⟩
  | .hbm, ⟨2, _⟩ => ⟨S2x2176x32, .f32⟩
  | .hbm, ⟨3, _⟩ => ⟨S1x256, .f32⟩
  | .hbm, ⟨4, _⟩ => ⟨S1x128, .f32⟩
  | .hbm, ⟨5, _⟩ => ⟨S256x768, .f32⟩
  | .hbm, ⟨6, _⟩ => ⟨S128x1024, .f32⟩
  | .hbm, ⟨7, _⟩ => ⟨S_, .f32⟩
  | .hbm, ⟨8, _⟩ => ⟨S2x2176x2560, .f32⟩
  | .hbm, ⟨9, _⟩ => ⟨S_, .f32⟩
  | .hbm, ⟨10, _⟩ => ⟨S2x2176x64, .f32⟩
  | .hbm, ⟨11, _⟩ => ⟨S_, .f32⟩
  | .hbm, ⟨12, _⟩ => ⟨S2x2176x32, .f32⟩
  | .hbm, ⟨13, _⟩ => ⟨S2x2176x3072, .f32⟩
  | .hbm, ⟨14, _⟩ => ⟨S256x8x96, .f32⟩
  | .hbm, ⟨15, _⟩ => ⟨S_, .i32⟩
  | .hbm, ⟨16, _⟩ => ⟨S_, .f32⟩
  | .hbm, ⟨17, _⟩ => ⟨S256x8x128, .f32⟩
  | .hbm, ⟨18, _⟩ => ⟨S256x1024, .f32⟩
  | .hbm, ⟨19, _⟩ => ⟨S128x8x128, .f32⟩
  | .hbm, ⟨20, _⟩ => ⟨S128x8x64, .f32⟩
  | .hbm, ⟨21, _⟩ => ⟨S_, .i32⟩
  | .hbm, ⟨22, _⟩ => ⟨S_, .f32⟩
  | .hbm, ⟨23, _⟩ => ⟨S128x8x128, .f32⟩
  | .hbm, ⟨24, _⟩ => ⟨S128x1024, .f32⟩
  | .hbm, ⟨25, _⟩ => ⟨S128x8x64, .f32⟩
  | .hbm, ⟨26, _⟩ => ⟨S128x512, .f32⟩
  | .hbm, ⟨27, _⟩ => ⟨S2176, .i32⟩
  | .hbm, ⟨28, _⟩ => ⟨S_, .i32⟩
  | .hbm, ⟨29, _⟩ => ⟨S2176, .i32⟩
  | .hbm, ⟨30, _⟩ => ⟨S2176, .i32⟩
  | .hbm, ⟨31, _⟩ => ⟨S2176, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S2176x1, .f32⟩
  | .hbm, ⟨41, _⟩ => ⟨S1x16, .f32⟩
  | .hbm, ⟨42, _⟩ => ⟨S2176x16, .f32⟩
  | .hbm, ⟨43, _⟩ => ⟨S2176x16, .f32⟩
  | .hbm, ⟨44, _⟩ => ⟨S2176x16, .f32⟩
  | .hbm, ⟨45, _⟩ => ⟨S2176x16, .f32⟩
  | .hbm, ⟨46, _⟩ => ⟨S2176x16, .f32⟩
  | .hbm, ⟨47, _⟩ => ⟨S_, .f32⟩
  | .hbm, ⟨48, _⟩ => ⟨S2176x64, .f32⟩
  | .hbm, ⟨49, _⟩ => ⟨S_, .f32⟩
  | .hbm, ⟨50, _⟩ => ⟨S2176x32, .f32⟩
  | .hbm, ⟨51, _⟩ => ⟨S2176x128, .f32⟩
  | .hbm, ⟨52, _⟩ => ⟨S_, .f32⟩
  | .hbm, ⟨53, _⟩ => ⟨S2176x64, .f32⟩
  | .hbm, ⟨54, _⟩ => ⟨S2176x16, .f32⟩
  | .hbm, ⟨55, _⟩ => ⟨S_, .f32⟩
  | .hbm, ⟨56, _⟩ => ⟨S2176x16, .f32⟩
  | .hbm, ⟨57, _⟩ => ⟨S_, .f32⟩
  | .hbm, ⟨58, _⟩ => ⟨S2176x32, .f32⟩
  | .hbm, ⟨59, _⟩ => ⟨S2176x128, .f32⟩
  | .hbm, ⟨60, _⟩ => ⟨S_, .f32⟩
  | .hbm, ⟨61, _⟩ => ⟨S2176x64, .f32⟩
  | .hbm, ⟨62, _⟩ => ⟨S_, .f32⟩
  | .hbm, ⟨63, _⟩ => ⟨S2176x16, .f32⟩
  | .hbm, ⟨64, _⟩ => ⟨S_, .f32⟩
  | .hbm, ⟨65, _⟩ => ⟨S2176x32, .f32⟩
  | .hbm, ⟨66, _⟩ => ⟨S2176x128, .f32⟩
  | .hbm, ⟨67, _⟩ => ⟨S2x2176x1024, .bf16⟩
  | .hbm, ⟨68, _⟩ => ⟨S2x2176x1024, .bf16⟩
  | .hbm, ⟨69, _⟩ => ⟨S2x2176x512, .bf16⟩
  | .local _ .vmem, ⟨0, _⟩ => ⟨S1x1088x256, .f32⟩
  | .local _ .vmem, ⟨1, _⟩ => ⟨S1x1088x256, .f32⟩
  | .local _ .vmem, ⟨2, _⟩ => ⟨S1x1088x128, .f32⟩
  | .local _ .vmem, ⟨3, _⟩ => ⟨S1x1088x128, .f32⟩
  | .local _ .vmem, ⟨4, _⟩ => ⟨S1x1088x128, .f32⟩
  | .local _ .vmem, ⟨5, _⟩ => ⟨S1x1088x128, .f32⟩
  | .local _ .vmem, ⟨6, _⟩ => ⟨S1x256, .f32⟩
  | .local _ .vmem, ⟨7, _⟩ => ⟨S1x128, .f32⟩
  | .local _ .vmem, ⟨8, _⟩ => ⟨S256x1024, .f32⟩
  | .local _ .vmem, ⟨9, _⟩ => ⟨S128x1024, .f32⟩
  | .local _ .vmem, ⟨10, _⟩ => ⟨S128x512, .f32⟩
  | .local _ .vmem, ⟨11, _⟩ => ⟨S1088x128, .f32⟩
  | .local _ .vmem, ⟨12, _⟩ => ⟨S1088x128, .f32⟩
  | .local _ .vmem, ⟨13, _⟩ => ⟨S1088x128, .f32⟩
  | .local _ .vmem, ⟨14, _⟩ => ⟨S1088x128, .f32⟩
  | .local _ .vmem, ⟨15, _⟩ => ⟨S1088x128, .f32⟩
  | .local _ .vmem, ⟨16, _⟩ => ⟨S1088x128, .f32⟩
  | .local _ .vmem, ⟨17, _⟩ => ⟨S1x1088x1024, .bf16⟩
  | .local _ .vmem, ⟨18, _⟩ => ⟨S1x1088x1024, .bf16⟩
  | .local _ .vmem, ⟨19, _⟩ => ⟨S1x1088x1024, .bf16⟩
  | .local _ .vmem, ⟨20, _⟩ => ⟨S1x1088x1024, .bf16⟩
  | .local _ .vmem, ⟨21, _⟩ => ⟨S1x1088x512, .bf16⟩
  | .local _ .vmem, ⟨22, _⟩ => ⟨S1x1088x512, .bf16⟩
  | _, _ => ⟨S2x2176x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_cst_12 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_v41 : Ref sig .tc := ⟨.hbm, 66, rfl⟩
abbrev main_v42_0 : Ref sig .tc := ⟨.hbm, 67, rfl⟩
abbrev main_v42_1 : Ref sig .tc := ⟨.hbm, 68, rfl⟩
abbrev main_v42_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let c0_i32 : BitVec 32 := 0#32
  ![arg0.toNat, arg1.toNat, c22_i32.toNat]

def cc0_transform_2 (i : grid0.Coords) : Fin 3 → Nat :=
  let arg0 : BitVec 32 := BitVec.ofNat 32 (i 0).val
  let arg1 : BitVec 32 := BitVec.ofNat 32 (i 1).val
  let c23_i32 : BitVec 32 := 23#32
  let c0_i32 : BitVec 32 := 0#32
  ![arg0.toNat, arg1.toNat, c23_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1088x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1088x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1088x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1088x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1088x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1088x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1088x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1088x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference16Ideal.lean ====
abbrev S2x2176x256 : Shape := ⟨3, ![2, 2176, 256]⟩
abbrev S2x2176x128 : Shape := ⟨3, ![2, 2176, 128]⟩
abbrev S2x2176x32 : Shape := ⟨3, ![2, 2176, 32]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S2176 : Shape := ⟨1, ![2176]⟩
abbrev S_ : Shape := ⟨0, ![]⟩
abbrev S2x2176 : Shape := ⟨2, ![2, 2176]⟩
abbrev S2x2176x1 : Shape := ⟨3, ![2, 2176, 1]⟩
abbrev S1x1x256 : Shape := ⟨3, ![1, 1, 256]⟩
abbrev S2x2176x768 : Shape := ⟨3, ![2, 2176, 768]⟩
abbrev S2x2176x8x96 : Shape := ⟨4, ![2, 2176, 8, 96]⟩
abbrev S1x1x128 : Shape := ⟨3, ![1, 1, 128]⟩
abbrev S2x2176x1024 : Shape := ⟨3, ![2, 2176, 1024]⟩
abbrev S2x2176x8x128 : Shape := ⟨4, ![2, 2176, 8, 128]⟩
abbrev S2x2176x1x32 : Shape := ⟨4, ![2, 2176, 1, 32]⟩
abbrev S16 : Shape := ⟨1, ![16]⟩
abbrev S2176x1 : Shape := ⟨2, ![2176, 1]⟩
abbrev S1x16 : Shape := ⟨2, ![1, 16]⟩
abbrev S2176x16 : Shape := ⟨2, ![2176, 16]⟩
abbrev S2176x1x16 : Shape := ⟨3, ![2176, 1, 16]⟩
abbrev S2x2176x1x16 : Shape := ⟨4, ![2, 2176, 1, 16]⟩
abbrev S1x2176x1x16 : Shape := ⟨4, ![1, 2176, 1, 16]⟩
abbrev S2x2176x8x32 : Shape := ⟨4, ![2, 2176, 8, 32]⟩
abbrev S2x2176x8x64 : Shape := ⟨4, ![2, 2176, 8, 64]⟩
abbrev S2x2176x8x16 : Shape := ⟨4, ![2, 2176, 8, 16]⟩
abbrev S2x2176x512 : Shape := ⟨3, ![2, 2176, 512]⟩

abbrev nBuf : Space → Nat
  | .hbm => 133
  | .vmem => 0
  | .smem => 0
  | _ => 0

abbrev hbmTy0_0 (i : Nat) : BufTy := match i % 128 with
  | 0 => ⟨S2x2176x256, .f32⟩
  | 1 => ⟨S2x2176x128, .f32⟩
  | 2 => ⟨S2x2176x32, .f32⟩
  | 3 => ⟨S1x256, .f32⟩
  | 4 => ⟨S1x128, .f32⟩
  | 5 => ⟨S256x768, .f32⟩
  | 6 => ⟨S128x1024, .f32⟩
  | 7 => ⟨S2176, .i32⟩
  | 8 => ⟨S_, .i32⟩
  | 9 => ⟨S2176, .i32⟩
  | 10 => ⟨S2176, .i32⟩
  | 11 => ⟨S2x2176x256, .f32⟩
  | 12 => ⟨S_, .f32⟩
  | 13 => ⟨S2x2176, .f32⟩
  | 14 => ⟨S2x2176x1, .f32⟩
  | 15 => ⟨S_, .f32⟩
  | 16 => ⟨S2x2176x1, .f32⟩
  | 17 => ⟨S2x2176x1, .f32⟩
  | 18 => ⟨S_, .f32⟩
  | 19 => ⟨S2x2176x1, .f32⟩
  | 20 => ⟨S2x2176x1, .f32⟩
  | 21 => ⟨S2x2176x1, .f32⟩
  | 22 => ⟨S2x2176x256, .f32⟩
  | 23 => ⟨S2x2176x256, .f32⟩
  | 24 => ⟨S1x1x256, .f32⟩
  | 25 => ⟨S2x2176x256, .f32⟩
  | 26 => ⟨S2x2176x256, .f32⟩
  | 27 => ⟨S2x2176x768, .f32⟩
  | 28 => ⟨S2x2176x8x96, .f32⟩
  | 29 => ⟨S2x2176x128, .f32⟩
  | 30 => ⟨S_, .f32⟩
  | 31 => ⟨S2x2176, .f32⟩
  | 32 => ⟨S2x2176x1, .f32⟩
  | 33 => ⟨S_, .f32⟩
  | 34 => ⟨S2x2176x1, .f32⟩
  | 35 => ⟨S2x2176x1, .f32⟩
  | 36 => ⟨S_, .f32⟩
  | 37 => ⟨S2x2176x1, .f32⟩
  | 38 => ⟨S2x2176x1, .f32⟩
  | 39 => ⟨S2x2176x1, .f32⟩
  | 40 => ⟨S2x2176x128, .f32⟩
  | 41 => ⟨S2x2176x128, .f32⟩
  | 42 => ⟨S1x1x128, .f32⟩
  | 43 => ⟨S2x2176x128, .f32⟩
  | 44 => ⟨S2x2176x128, .f32⟩
  | 45 => ⟨S2x2176x1024, .f32⟩
  | 46 => ⟨S2x2176x8x128, .f32⟩
  | 47 => ⟨S2x2176x1x32, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S2176, .f32⟩
  | 57 => ⟨S2176x1, .f32⟩
  | 58 => ⟨S1x16, .f32⟩
  | 59 => ⟨S2176x16, .f32⟩
  | 60 => ⟨S2176x16, .f32⟩
  | 61 => ⟨S2176x16, .f32⟩
  | 62 => ⟨S2176x16, .f32⟩
  | 63 => ⟨S2176x1x16, .f32⟩
  | 64 => ⟨S2176x16, .f32⟩
  | 65 => ⟨S2176x1x16, .f32⟩
  | 66 => ⟨S2x2176x1x16, .f32⟩
  | 67 => ⟨S2x2176x1x16, .f32⟩
  | 68 => ⟨S1x2176x1x16, .f32⟩
  | 69 => ⟨S2x2176x1x16, .f32⟩
  | 70 => ⟨S2x2176x1x16, .f32⟩
  | 71 => ⟨S1x2176x1x16, .f32⟩
  | 72 => ⟨S2x2176x1x16, .f32⟩
  | 73 => ⟨S2x2176x1x16, .f32⟩
  | 74 => ⟨S2x2176x1x16, .f32⟩
  | 75 => ⟨S1x2176x1x16, .f32⟩
  | 76 => ⟨S2x2176x1x16, .f32⟩
  | 77 => ⟨S2x2176x1x16, .f32⟩
  | 78 => ⟨S1x2176x1x16, .f32⟩
  | 79 => ⟨S2x2176x1x16, .f32⟩
  | 80 => ⟨S2x2176x1x16, .f32⟩
  | 81 => ⟨S2x2176x1x16, .f32⟩
  | 82 => ⟨S2x2176x1x32, .f32⟩
  | 83 => ⟨S2x2176x8x32, .f32⟩
  | 84 => ⟨S_, .f32⟩
  | 85 => ⟨S2x2176x8x32, .f32⟩
  | 86 => ⟨S2x2176x8x64, .f32⟩
  | 87 => ⟨S2x2176x8x32, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S2176, .f32⟩
  | 97 => ⟨S2176x1, .f32⟩
  | 98 => ⟨S1x16, .f32⟩
  | 99 => ⟨S2176x16, .f32⟩
  | 100 => ⟨S2176x16, .f32⟩
  | 101 => ⟨S2176x16, .f32⟩
  | 102 => ⟨S2176x16, .f32⟩
  | 103 => ⟨S2176x1x16, .f32⟩
  | 104 => ⟨S2176x16, .f32⟩
  | 105 => ⟨S2176x1x16, .f32⟩
  | 106 => ⟨S2x2176x8x16, .f32⟩
  | 107 => ⟨S2x2176x8x16, .f32⟩
  | 108 => ⟨S1x2176x1x16, .f32⟩
  | 109 => ⟨S2x2176x8x16, .f32⟩
  | 110 => ⟨S2x2176x8x16, .f32⟩
  | 111 => ⟨S1x2176x1x16, .f32⟩
  | 112 => ⟨S2x2176x8x16, .f32⟩
  | 113 => ⟨S2x2176x8x16, .f32⟩
  | 114 => ⟨S2x2176x8x16, .f32⟩
  | 115 => ⟨S1x2176x1x16, .f32⟩
  | 116 => ⟨S2x2176x8x16, .f32⟩
  | 117 => ⟨S2x2176x8x16, .f32⟩
  | 118 => ⟨S1x2176x1x16, .f32⟩
  | 119 => ⟨S2x2176x8x16, .f32⟩
  | 120 => ⟨S2x2176x8x16, .f32⟩
  | 121 => ⟨S2x2176x8x16, .f32⟩
  | 122 => ⟨S2x2176x8x32, .f32⟩
  | 123 => ⟨S2x2176x8x128, .f32⟩
  | 124 => ⟨S2x2176x8x64, .f32⟩
  | 125 => ⟨S2x2176x8x128, .f32⟩
  | 126 => ⟨S2x2176x1024, .f32⟩
  | 127 => ⟨S2x2176x1024, .bf16⟩
  | _ => ⟨S2x2176x256, .f32⟩

abbrev hbmTy0_1 (i : Nat) : BufTy := match i % 128 with
  | 0 => ⟨S2x2176x1024, .f32⟩
  | 1 => ⟨S2x2176x1024, .bf16⟩
  | 2 => ⟨S2x2176x8x64, .f32⟩
  | 3 => ⟨S2x2176x512, .f32⟩
  | 4 => ⟨S2x2176x512, .bf16⟩
  | _ => ⟨S2x2176x256, .f32⟩

abbrev hbmTy (i : Nat) : BufTy := match i / 128 with
  | 0 => hbmTy0_0 i
  | 1 => hbmTy0_1 i
  | _ => ⟨S2x2176x256, .f32⟩

abbrev bufTy : (tb : Table) → Fin (tcTables nBuf tb) → BufTy
  | .hbm, ⟨i, _⟩ => hbmTy i
  | _, _ => ⟨S2x2176x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_8 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩

abbrev nD : Nat := 1
abbrev τ : Topo := Topo.v7x

variable {F : FTy → Type} [FloatOps F]
-- ==== Proof.Norm.lean ====
/- The gradient of the root-mean-square norm: what the kernel leaves in its two result arrays, and the reference's
   expressions brought to the same form. No entry need be finite. -/
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

/-- The reciprocal root of a row's mean square, regularised. -/
def rowInv (x : Fin 1024 → EReal) : EReal :=
  Ideal.rsqrt (Ideal.div (∑ k, x k * x k) (Ideal.ofBits .f32 0x44800000#32) + Ideal.ofBits .f32 0x358637BD#32)

/-- One entry of the input's gradient, beside the residual's: `r · (u − x r · mean (u x r))`. -/
def dhEntry (x u : Fin 1024 → EReal) (j : Fin 1024) : EReal :=
  rowInv x * (u j - x j * rowInv x * Ideal.div (∑ k, u k * (x k * rowInv x)) (Ideal.ofBits .f32 0x44800000#32))

/-- The input's gradient. -/
def gradH (h : FVec Ideal S4352x1024 .f32) (g : FVec Ideal S1x1024 .f32) (dy dres : FVec Ideal S4352x1024 .f32) :
    FVec Ideal S4352x1024 .f32 :=
  fun j => dres j + dhEntry (fun k => h (ix2 (j 0) k)) (fun k => dy (ix2 (j 0) k) * g (ix2 0 k)) (j 1)

/-- The scale's gradient. -/
def gradG (h dy : FVec Ideal S4352x1024 .f32) : FVec Ideal S1x1024 .f32 :=
  fun j => ∑ r : Fin 4352, dy (ix2 r (j 1)) * (h (ix2 r (j 1)) * rowInv fun k => h (ix2 r k))

theorem zero_apply (j : S1x1024.Idx) : k0_pay1 (F := Ideal) j = 0 := by pointwise [k0_pay1]

theorem inv_apply (x : Vec Ideal S544x1024 .f32) (j : S544x1.Idx) :
    k0_pay2 (F := Ideal) x j = rowInv fun k => x (ix2 (j 0) k) := by
  idx_vars j
  pointwise [k0_pay2, rowInv]

theorem dh_apply (x dy : Vec Ideal S544x1024 .f32) (g : Vec Ideal S1x1024 .f32) (dres : Vec Ideal S544x1024 .f32)
    (j : S544x1024.Idx) :
    k0_pay4 (F := Ideal) x dy g dres j
      = dres j + dhEntry (fun k => x (ix2 (j 0) k)) (fun k => dy (ix2 (j 0) k) * g (ix2 0 k)) (j 1) := by
  idx_vars j
  pointwise [k0_pay4, k0_pay3, inv_apply, dhEntry]

theorem dg_apply (x dy : Vec Ideal S544x1024 .f32) (acc : Vec Ideal S1x1024 .f32) (j : S1x1024.Idx) :
    k0_pay5 (F := Ideal) x dy acc j
      = acc j + ∑ r : Fin 544, dy (ix2 r (j 1)) * (x (ix2 r (j 1)) * rowInv fun k => x (ix2 r k)) := by
  idx_vars j
  pointwise [k0_pay5, k0_pay3, inv_apply]

variable (m : (ℓ : Loc nD τ sig) → Buf (Elt Ideal) ℓ)

theorem final_dh (c : Dev nD) : (dats m 0 c).arrAt 4 cfg0.N
    = gradH (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  have e0 : ∀ t : Fin cfg0.N, win0_0.index t = ![t.val, 0] := (by decide +kernel : ∀ t : Fin grid0.N, _)
  have e1 : ∀ t : Fin cfg0.N, win0_1.index t = ![0, 0] := (by decide +kernel : ∀ t : Fin grid0.N, _)
  have e2 : ∀ t : Fin cfg0.N, win0_2.index t = ![t.val, 0] := (by decide +kernel : ∀ t : Fin grid0.N, _)
  have e3 : ∀ t : Fin cfg0.N, win0_3.index t = ![t.val, 0] := (by decide +kernel : ∀ t : Fin grid0.N, _)
  have e4 : ∀ t : Fin cfg0.N, win0_4.index t = ![t.val, 0] := (by decide +kernel : ∀ t : Fin grid0.N, _)
  blk_simp
  have key : (outsAt0 m c t.val t.isLt).1 y
      = k0_pay4 (F := Ideal) (iblk m c 0 t) (iblk m c 2 t) (iblk m c 1 t) (iblk m c 3 t) y := by
    by_cases h : t.val % 8 = 0
    · rw [outsAt0_A m c t h]; frame_out
    · rw [outsAt0_B m c t h]; frame_out
  rw [after0_4, key, dh_apply, gradH]
  blk_point [iblk, V, e0 t, e1 t, e2 t, e3 t, e4 t]

theorem final_dg (c : Dev nD) : (dats m 0 c).arrAt 5 cfg0.N
    = gradG (m ((c : Thread nD τ).loc main_arg0)) (m ((c : Thread nD τ).loc main_arg2)) := by
  have e0 : ∀ t : Fin cfg0.N, win0_0.index t = ![t.val, 0] := (by decide +kernel : ∀ t : Fin grid0.N, _)
  have e2 : ∀ t : Fin cfg0.N, win0_2.index t = ![t.val, 0] := (by decide +kernel : ∀ t : Fin grid0.N, _)
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0) _
    (fun t h j => by rw [outsAt0_A m c t h]; frame_out; rw [dg_apply, zero_apply])
    (fun t h j => by rw [outsAt0_B m c t h]; frame_out; rw [dg_apply])
    (le_of_eq N_0) t0_7 rfl j, zero_add, gradG]
  refine Fin.sum_mul_add_congr fun t k hl => ?_
  blk_point [iblk, V, e0 t, e2 t]

end Cert.KernelIdeal.Value
-- ==== Proof.NormRef.lean ====
/- The reference's gradients of the norm, entry by entry, equal the kernel's over the extended reals. -/
module

public import proofs.«01_k».proof.Proof.Norm

@[expose] public section

set_option maxRecDepth 16384

noncomputable section

namespace Cert.KernelIdeal.Value

open Cert.KernelIdeal Cert.KernelIdeal.Gen Idealize.ShloMosaic Idealize.ShloMosaic.TcCoe Idealize.SL.Sem

/-! ## Sums and products of extended reals -/

/-- A real that is not negative may be taken out of a sum, whatever the terms. -/
theorem sum_mul_real {ι : Type} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

/-- Two halves of a term's opposite are its opposite, whatever the term. -/
theorem neg_halves (t : EReal) {k : ℝ} (hk : 0 < k) :
    t * ((-(k / 2) : ℝ) : EReal) + t * ((-(k / 2) : ℝ) : EReal) = -(t * (k : EReal)) := by
  induction t with
  | bot =>
    rw [EReal.bot_mul_coe_of_neg (by linarith), EReal.bot_mul_coe_of_pos hk]; rfl
  | top =>
    rw [EReal.top_mul_coe_of_neg (by linarith), EReal.top_mul_coe_of_pos hk]; rfl
  | coe x =>
    rw [← EReal.coe_mul, ← EReal.coe_mul, ← EReal.coe_add, ← EReal.coe_neg]; congr 1; ring

/-- The gradient of one entry: the kernel's grouping is the chain rule's. -/
theorem entry_eq (x u w : EReal) {r k : ℝ} (hr : 0 < r) (hk : 0 < k) :
    (r : EReal) * (u - x * r * (w * r * (k : EReal)))
      = u * r + x * (w * ((-(1/2) * (r * (r * r)) : ℝ) : EReal) * (k : EReal))
        + w * ((-(1/2) * (r * (r * r)) : ℝ) : EReal) * (k : EReal) * x := by
  have e : ∀ z : EReal, (r : EReal) * z = z * r := fun z => mul_comm _ _
  have hK : 0 < r * (r * r) * k := by positivity
  have h1 : x * (w * ((-(1/2) * (r * (r * r)) : ℝ) : EReal) * (k : EReal)) = x * w * ((-(r * (r * r) * k / 2) : ℝ) : EReal) := by
    rw [mul_assoc w, ← EReal.coe_mul, ← mul_assoc]; congr 2; ring
  have h2 : w * ((-(1/2) * (r * (r * r)) : ℝ) : EReal) * (k : EReal) * x = x * w * ((-(r * (r * r) * k / 2) : ℝ) : EReal) := by
    rw [mul_comm _ x, h1]
  have h3 : x * r * (w * r * (k : EReal)) * r = x * w * ((r * (r * r) * k : ℝ) : EReal) := by
    rw [EReal.coe_mul, EReal.coe_mul, EReal.coe_mul]; ac_rfl
  rw [h1, h2, add_assoc, neg_halves _ hK, e, sub_eq_add_neg,
    EReal.right_distrib_of_nonneg_of_ne_top (by exact_mod_cast hr.le) (EReal.coe_ne_top r), EReal.neg_mul, h3]

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1/2) : ℝ) : EReal) := by
  simp [Ideal.ofBits, Ideal.ieee, -EReal.coe_mul, -EReal.coe_neg]; norm_num

theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-- The regularised mean square is a positive real or `⊤`; its reciprocal root is accordingly a positive real or zero. -/
theorem inv_cases {S : EReal} (hS : 0 ≤ S) :
    let y := Ideal.div S (Ideal.ofBits .f32 0x44800000#32) + Ideal.ofBits .f32 0x358637BD#32
    (∃ r : ℝ, 0 < r ∧ Ideal.rsqrt y = (r : EReal) ∧ Ideal.div (Ideal.rsqrt y) y = ((r * (r * r) : ℝ) : EReal))
      ∨ (Ideal.rsqrt y = 0 ∧ Ideal.div (Ideal.rsqrt y) y = 0) := by
  obtain ⟨e, he, hb⟩ := ofBits_eps
  intro y
  have hy : y = S * ((1 / 1024 : ℝ) : EReal) + (e : EReal) := by
    simp only [y]; rw [ofBits_1024, hb, Ideal.div_coe (by norm_num)]
  clear_value y
  subst hy
  induction S with
  | bot => exact absurd hS (by simp)
  | top =>
    right
    rw [EReal.top_mul_coe_of_pos (by norm_num), EReal.top_add_coe]
    refine ⟨rfl, ?_⟩
    show Ideal.div 0 ⊤ = 0
    simp [Ideal.div]
  | coe x =>
    left
    have hx : 0 ≤ x := by exact_mod_cast hS
    have hz : 0 < x * (1 / 1024) + e := by positivity
    rw [← EReal.coe_mul, ← EReal.coe_add]
    generalize x * (1 / 1024) + e = z at hz
    refine ⟨(Real.sqrt z)⁻¹, by positivity, ?_, ?_⟩
    · show (if z < 0 then ⊥ else if z = 0 then ⊤ else (((Real.sqrt z)⁻¹ : ℝ) : EReal)) = _
      rw [if_neg (not_lt.mpr hz.le), if_neg hz.ne']
    · have : Ideal.rsqrt (z : EReal) = (((Real.sqrt z)⁻¹ : ℝ) : EReal) := by
        show (if z < 0 then ⊥ else if z = 0 then ⊤ else (((Real.sqrt z)⁻¹ : ℝ) : EReal)) = _
        rw [if_neg (not_lt.mpr hz.le), if_neg hz.ne']
      rw [this, Ideal.div_coe hz.ne', ← EReal.coe_mul]
      congr 2
      rw [← mul_inv, Real.mul_self_sqrt hz.le, one_div]

/-- One entry of the reference's gradient, brought to the kernel's form. -/
theorem entry_ref (x u : Fin 1024 → EReal) (j : Fin 1024) :
    let y := Ideal.div (∑ k, x k * x k) (Ideal.ofBits .f32 0x44800000#32) + Ideal.ofBits .f32 0x358637BD#32
    let c := Ideal.div ((∑ k, x k * u k) * (Ideal.ofBits .f32 0xBF000000#32 * Ideal.div (Ideal.rsqrt y) y))
      (Ideal.ofBits .f32 0x44800000#32)
    dhEntry x u j = u j * Ideal.rsqrt y + x j * c + c * x j := by
  intro y c
  have hS : (0 : EReal) ≤ ∑ k, x k * x k := Finset.sum_nonneg fun k _ => by
    rcases le_total 0 (x k) with h | h
    · exact mul_nonneg h h
    · have := mul_nonneg (EReal.neg_nonneg.mpr h) (EReal.neg_nonneg.mpr h)
      rwa [EReal.neg_mul, mul_comm, EReal.neg_mul, neg_neg] at this
  have hi : rowInv x = Ideal.rsqrt y := rfl
  rw [dhEntry, hi]
  rcases inv_cases hS with ⟨r, hr, h1, h2⟩ | ⟨h1, h2⟩
  · have hc : c = (∑ k, x k * u k) * ((-(1/2) * (r * (r * r)) : ℝ) : EReal) * ((1 / 1024 : ℝ) : EReal) := by
      simp only [c, y]; rw [h2, ofBits_1024, ofBits_neg_half, Ideal.div_coe (by norm_num), ← EReal.coe_mul]
    have hs : ∑ k, u k * (x k * Ideal.rsqrt y) = (∑ k, x k * u k) * (r : EReal) := by
      rw [show Ideal.rsqrt y = (r : EReal) from h1, ← sum_mul_real _ _ hr.le]
      exact Finset.sum_congr rfl fun k _ => by ac_rfl
    rw [hs, show Ideal.rsqrt y = (r : EReal) from h1, ofBits_1024, Ideal.div_coe (by norm_num), hc]
    exact entry_eq _ _ _ hr (by norm_num)
  · have hc : c = 0 := by
      simp only [c, y]; rw [h2, ofBits_1024, mul_zero, mul_zero, Ideal.div_coe (by norm_num), zero_mul]
    rw [show Ideal.rsqrt y = 0 from h1, hc, zero_mul, mul_zero, mul_zero, zero_mul, add_zero, add_zero]

open Cert.ReferenceIdeal.Read in
/-- The reference's gradient of the input, the residual's added. -/
theorem reference_dh (h : FVec Ideal S4352x1024 .f32) (g : FVec Ideal S1x1024 .f32) (dy dres : FVec Ideal S4352x1024 .f32) :
    val_main_v34 (F := Ideal) h g dy dres = gradH h g dy dres := by
  funext j
  idx_vars j
  show _ = dres (ix2 j0 j1) + dhEntry (fun k => h (ix2 j0 k)) (fun k => dy (ix2 j0 k) * g (ix2 0 k)) j1
  rw [entry_ref]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst, val_main_cst_0, val_main_cst_1, val_main_cst_2, val_main_cst_3, val_main_cst_4, val_main_cst_5, val_main_cst_6]
  simp only [Finset.univ_unique, Finset.sum_singleton]

open Cert.ReferenceIdeal.Read in
/-- The reference's gradient of the scale. -/
theorem reference_dg (h dy : FVec Ideal S4352x1024 .f32) : val_main_v17 (F := Ideal) h dy = gradG h dy := by
  funext j
  idx_vars j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst, val_main_cst_0, val_main_cst_1, val_main_cst_2, val_main_cst_3, val_main_cst_4, val_main_cst_5, val_main_cst_6, gradG, rowInv]
  exact Finset.sum_congr rfl fun k _ => by ac_rfl

end Cert.KernelIdeal.Value
-- ==== Proof.Gate.lean ====
/- The gradient of the gate `o · silu(g)`: what the kernel leaves in its three result arrays, and the reference's
   expressions brought to the same form. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Kernel2Ideal.Value

open Cert.Kernel2Ideal Cert.Kernel2Ideal.Gen Idealize.ShloMosaic Idealize.ShloMosaic.TcCoe Idealize.SL.Sem

/-- The logistic function. -/
def logit (x : EReal) : EReal := Ideal.div 1 (1 + Ideal.exp (-x))

/-- The gate's gradient at one entry, as the kernel groups it. -/
def dgEntry (da o x : EReal) : EReal := da * o * (logit x * (1 + x * (1 - logit x)))

/-- Column `off + k` of an array of `n` columns. -/
def col {n : ℕ} (off : ℕ) (h : off + 512 ≤ n) (k : Fin 512) : Fin n := ⟨off + k.val, by have := k.isLt; omega⟩

/-- The gradient of one half of the gated outputs: the half whose columns begin at `off`. -/
def gradPart (off : ℕ) (h : off + 512 ≤ 1024) (dao : FVec Ideal S4352x1024 .f32) (proj : FVec Ideal S4352x3072 .f32) :
    FVec Ideal S4352x512 .f32 :=
  fun j => dao (ix2 (j 0) (col off h (j 1)))
    * (proj (ix2 (j 0) (col off (h.trans (by decide)) (j 1))) * logit (proj (ix2 (j 0) (col off (h.trans (by decide)) (j 1)))))

/-- The two halves of the gated outputs side by side. -/
def joined (o_sb o_mla : FVec Ideal S4352x512 .f32) (r : Fin 4352) (k : Fin 1024) : EReal :=
  if h : k.val < 512 then o_sb (ix2 r ⟨k.val, h⟩) else o_mla (ix2 r ⟨k.val - 512, by have := k.isLt; omega⟩)

theorem joined_lo (o_sb o_mla : FVec Ideal S4352x512 .f32) (r : Fin 4352) (k : Fin 1024) (i : Fin 512) (h : k.val = i.val) :
    joined o_sb o_mla r k = o_sb (ix2 r i) := by
  have := i.isLt
  rw [joined, dif_pos (by omega)]; congr 2; exact Fin.ext h

theorem joined_hi (o_sb o_mla : FVec Ideal S4352x512 .f32) (r : Fin 4352) (k : Fin 1024) (i : Fin 512) (h : k.val = 512 + i.val) :
    joined o_sb o_mla r k = o_mla (ix2 r i) := by
  rw [joined, dif_neg (by omega)]; congr 2; exact Fin.ext (by simp only; omega)

/-- A column of the gate's logits as a column of the projection. -/
def wide (k : Fin 1024) : Fin 3072 := ⟨k.val, by have := k.isLt; omega⟩

/-- The gradient of the gate's logits. -/
def gradGate (dao : FVec Ideal S4352x1024 .f32) (o_sb o_mla : FVec Ideal S4352x512 .f32) (proj : FVec Ideal S4352x3072 .f32) :
    FVec Ideal S4352x1024 .bf16 :=
  fun j => dgEntry (dao j) (joined o_sb o_mla (j 0) (j 1)) (proj (ix2 (j 0) (wide (j 1))))

theorem gradGate_lo (dao : FVec Ideal S4352x1024 .f32) (o_sb o_mla : FVec Ideal S4352x512 .f32) (proj : FVec Ideal S4352x3072 .f32)
    (j : S4352x1024.Idx) (i : Fin 512) (h : (j 1).val = i.val) :
    gradGate dao o_sb o_mla proj j = dgEntry (dao j) (o_sb (ix2 (j 0) i)) (proj (ix2 (j 0) (wide (j 1)))) :=
  congrArg (fun o => dgEntry (dao j) o (proj (ix2 (j 0) (wide (j 1))))) (joined_lo o_sb o_mla (j 0) (j 1) i h)

theorem gradGate_hi (dao : FVec Ideal S4352x1024 .f32) (o_sb o_mla : FVec Ideal S4352x512 .f32) (proj : FVec Ideal S4352x3072 .f32)
    (j : S4352x1024.Idx) (i : Fin 512) (h : (j 1).val = 512 + i.val) :
    gradGate dao o_sb o_mla proj j = dgEntry (dao j) (o_mla (ix2 (j 0) i)) (proj (ix2 (j 0) (wide (j 1)))) :=
  congrArg (fun o => dgEntry (dao j) o (proj (ix2 (j 0) (wide (j 1))))) (joined_hi o_sb o_mla (j 0) (j 1) i h)

theorem pay1_apply (g da : Vec Ideal S544x512 .f32) (j : S544x512.Idx) :
    k0_pay1 (F := Ideal) (k0_pay7 g) da j = da j * (g j * logit (g j)) := by
  idx_vars j
  pointwise [k0_pay1, k0_pay7, k0_pay6, logit]
  rw [zero_sub]

theorem pay4_apply (g da : Vec Ideal S544x512 .f32) (j : S544x512.Idx) :
    k0_pay4 (F := Ideal) g da j = da j * (g j * logit (g j)) := by
  idx_vars j
  pointwise [k0_pay4, k0_pay3, logit]
  rw [zero_sub]

theorem pay5_apply (g da o : Vec Ideal S544x512 .f32) (j : S544x512.Idx) :
    k0_pay5 (F := Ideal) g da o j = dgEntry (da j) (o j) (g j) := by
  idx_vars j
  pointwise [k0_pay5, k0_pay3, logit, dgEntry]
  rw [zero_sub]

theorem pay2_apply (g da o : Vec Ideal S544x512 .f32) (j : S544x512.Idx) :
    k0_pay2 (F := Ideal) (k0_pay6 g) (k0_pay8 g) (Scalar.ofBits .f32 0x3F800000#32) da o j = dgEntry (da j) (o j) (g j) := by
  idx_vars j
  pointwise [k0_pay2, k0_pay6, k0_pay8, logit, dgEntry]
  rw [zero_sub]

variable (m : (ℓ : Loc nD τ sig) → Buf (Elt Ideal) ℓ)

theorem final_sb (c : Dev nD) : (dats m 0 c).arrAt 4 cfg0.N
    = gradPart 0 (by decide) (m ((c : Thread nD τ).loc main_arg0)) (m ((c : Thread nD τ).loc main_arg3)) := by
  refine (dats m 0 c).arrAt_eq_of_covers 4 _ (by decide +kernel) fun t hf y => ?_
  have e0 : ∀ t : Fin cfg0.N, win0_0.index t = ![t.val, 0] := (by decide +kernel : ∀ t : Fin grid0.N, _)
  have e3 : ∀ t : Fin cfg0.N, win0_3.index t = ![t.val, 0] := (by decide +kernel : ∀ t : Fin grid0.N, _)
  have e4 : ∀ t : Fin cfg0.N, win0_4.index t = ![t.val, 0] := (by decide +kernel : ∀ t : Fin grid0.N, _)
  blk_simp
  rw [after0_4]; frame_out
  rw [pay4_apply, gradPart]
  pointwise [col]
  blk_point [iblk, V, e0 t, e3 t, e4 t]

theorem final_mla (c : Dev nD) : (dats m 0 c).arrAt 5 cfg0.N
    = gradPart 512 (by decide) (m ((c : Thread nD τ).loc main_arg0)) (m ((c : Thread nD τ).loc main_arg3)) := by
  refine (dats m 0 c).arrAt_eq_of_covers 5 _ (by decide +kernel) fun t hf y => ?_
  have e0 : ∀ t : Fin cfg0.N, win0_0.index t = ![t.val, 0] := (by decide +kernel : ∀ t : Fin grid0.N, _)
  have e3 : ∀ t : Fin cfg0.N, win0_3.index t = ![t.val, 0] := (by decide +kernel : ∀ t : Fin grid0.N, _)
  have e5 : ∀ t : Fin cfg0.N, win0_5.index t = ![t.val, 0] := (by decide +kernel : ∀ t : Fin grid0.N, _)
  blk_simp
  rw [after0_5]; frame_out
  rw [pay1_apply, gradPart]
  pointwise [col]
  blk_point [iblk, V, e0 t, e3 t, e5 t]

theorem final_gate (c : Dev nD) : (dats m 0 c).arrAt 6 cfg0.N
    = gradGate (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  have e0 : ∀ t : Fin cfg0.N, win0_0.index t = ![t.val, 0] := (by decide +kernel : ∀ t : Fin grid0.N, _)
  have e1 : ∀ t : Fin cfg0.N, win0_1.index t = ![t.val, 0] := (by decide +kernel : ∀ t : Fin grid0.N, _)
  have e2 : ∀ t : Fin cfg0.N, win0_2.index t = ![t.val, 0] := (by decide +kernel : ∀ t : Fin grid0.N, _)
  have e3 : ∀ t : Fin cfg0.N, win0_3.index t = ![t.val, 0] := (by decide +kernel : ∀ t : Fin grid0.N, _)
  have e6 : ∀ t : Fin cfg0.N, win0_6.index t = ![t.val, 0] := (by decide +kernel : ∀ t : Fin grid0.N, _)
  blk_simp
  rw [after0_6]
  unfold out0_6
  canon_tiles x hx
  · refine (pay2_apply _ _ _ x).trans (Eq.trans ?_ (gradGate_hi _ _ _ _ _ (x 1) (by blk_simp [e6 t] <;> omega)).symm)
    pointwise [wide]
    blk_point [iblk, V, e0 t, e2 t, e3 t, e6 t]
  · refine (pay5_apply _ _ _ x).trans (Eq.trans ?_ (gradGate_lo _ _ _ _ _ (x 1) (by blk_simp [e6 t] <;> omega)).symm)
    pointwise [wide]
    blk_point [iblk, V, e0 t, e1 t, e3 t, e6 t]

end Cert.Kernel2Ideal.Value
-- ==== Proof.GateRef.lean ====
/- The reference's gradients of the gate equal the kernel's: the gated outputs' without condition, the logits' where the
   incoming gradient and the gated outputs are finite. -/
module

public import proofs.«01_k».proof.Proof.Gate

@[expose] public section

set_option maxRecDepth 16384

noncomputable section

namespace Cert.Kernel2Ideal.Value

open Cert.Kernel2Ideal Cert.Kernel2Ideal.Gen Idealize.ShloMosaic Idealize.ShloMosaic.TcCoe Idealize.SL.Sem

/-- The logistic function's values are reals, and with them `x · (logit x · (1 − logit x))`. -/
theorem logit_real (x : EReal) : ∃ s q : ℝ, logit x = (s : EReal) ∧ logit x * (1 - logit x) * x = (q : EReal) ∧
    logit x * (x * (1 - logit x)) = (q : EReal) ∧ logit x * (1 + x * (1 - logit x)) = ((s + q : ℝ) : EReal) := by
  induction x with
  | bot =>
    have h : logit ⊥ = 0 := by
      show Ideal.div 1 (1 + Ideal.exp (-⊥)) = 0
      rw [EReal.neg_bot]
      show Ideal.div 1 (1 + ⊤) = 0
      rw [show (1 : EReal) + ⊤ = ⊤ from rfl]; simp [Ideal.div]
    refine ⟨0, 0, ?_, ?_, ?_, ?_⟩ <;> rw [h] <;> simp
  | top =>
    have h : logit ⊤ = 1 := by
      show Ideal.div 1 (1 + Ideal.exp (-⊤)) = 1
      rw [EReal.neg_top]
      show Ideal.div 1 (1 + 0) = 1
      simp [Ideal.div]
    have h1 : (1 : EReal) - 1 = 0 := by rw [← EReal.coe_one, ← EReal.coe_sub, sub_self]; rfl
    refine ⟨1, 0, ?_, ?_, ?_, ?_⟩ <;> rw [h] <;> simp [h1]
  | coe x =>
    have h : logit (x : EReal) = ((1 / (1 + Real.exp (-x)) : ℝ) : EReal) := by
      show Ideal.div 1 (1 + Ideal.exp (-(x : EReal))) = _
      rw [← EReal.coe_neg]
      show Ideal.div 1 (1 + (Real.exp (-x) : EReal)) = _
      rw [← EReal.coe_one, ← EReal.coe_add, Ideal.div_coe (by positivity), ← EReal.coe_mul, one_mul]
    generalize (1 / (1 + Real.exp (-x)) : ℝ) = s at h
    refine ⟨s, s * (1 - s) * x, h, ?_, ?_, ?_⟩ <;> rw [h] <;> norm_cast <;> ring_nf

/-- The gate's gradient at one entry as the chain rule groups it. -/
theorem entry_ref (da o x : EReal) (hd : ∃ r : ℝ, da = r) (ho : ∃ r : ℝ, o = r) :
    dgEntry da o x = o * da * logit x + x * (o * da) * (logit x * (1 - logit x)) := by
  obtain ⟨d, rfl⟩ := hd
  obtain ⟨o, rfl⟩ := ho
  obtain ⟨s, q, h1, h2, -, h4⟩ := logit_real x
  have h : x * ((o : EReal) * (d : EReal)) * (logit x * (1 - logit x)) = ((o * d * q : ℝ) : EReal) := by
    rw [mul_comm x, mul_assoc, mul_comm x, h2, ← EReal.coe_mul, ← EReal.coe_mul]
  rw [dgEntry, h4, h, h1]
  norm_cast
  ring

theorem logit_eq (x : EReal) : Ideal.div 1 (1 + Ideal.exp (-x)) = logit x := rfl

open Cert.Reference2Ideal.Read in
theorem reference_sb (dao : FVec Ideal S4352x1024 .f32) (proj : FVec Ideal S4352x3072 .f32) :
    val_main_v15 (F := Ideal) dao proj = gradPart 0 (by decide) dao proj := by
  funext j
  idx_vars j
  pointwise [val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_call1_v0, val_main_call1_v1, val_main_call1_cst, val_main_call1_v2, val_main_call1_v3, val_main_call1_cst_0, val_main_call1_v4, val_main_v5_2, val_main_call1_cst_1, val_main_call1_v6, val_main_call1_v7, val_main_v5_1, val_main_v5_0, val_main_v6, val_main_v7, val_main_v8, val_main_v9, val_main_v10, val_main_v11, val_main_call2_v0, val_main_call2_v1, val_main_call2_v2, val_main_v12, val_main_cst, val_main_v13, val_main_v14, val_main_v15, val_main_call3_v0, val_main_call3_v1, val_main_call3_v2, val_main_v16, val_main_cst_0, val_main_v17, val_main_v18, val_main_v19, gradPart, logit, col]

open Cert.Reference2Ideal.Read in
theorem reference_mla (dao : FVec Ideal S4352x1024 .f32) (proj : FVec Ideal S4352x3072 .f32) :
    val_main_v11 (F := Ideal) dao proj = gradPart 512 (by decide) dao proj := by
  funext j
  idx_vars j
  pointwise [val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_call1_v0, val_main_call1_v1, val_main_call1_cst, val_main_call1_v2, val_main_call1_v3, val_main_call1_cst_0, val_main_call1_v4, val_main_v5_2, val_main_call1_cst_1, val_main_call1_v6, val_main_call1_v7, val_main_v5_1, val_main_v5_0, val_main_v6, val_main_v7, val_main_v8, val_main_v9, val_main_v10, val_main_v11, val_main_call2_v0, val_main_call2_v1, val_main_call2_v2, val_main_v12, val_main_cst, val_main_v13, val_main_v14, val_main_v15, val_main_call3_v0, val_main_call3_v1, val_main_call3_v2, val_main_v16, val_main_cst_0, val_main_v17, val_main_v18, val_main_v19, gradPart, logit, col]

open Cert.Reference2Ideal.Read in
theorem reference_gate (dao : FVec Ideal S4352x1024 .f32) (o_sb o_mla : FVec Ideal S4352x512 .f32) (proj : FVec Ideal S4352x3072 .f32)
    (hd : ∀ j, ∃ r : ℝ, dao j = r) (hs : ∀ j, ∃ r : ℝ, o_sb j = r) (hm : ∀ j, ∃ r : ℝ, o_mla j = r) :
    val_main_v19 (F := Ideal) dao o_sb o_mla proj = gradGate dao o_sb o_mla proj := by
  funext j
  idx_vars j
  have hj := j1.isLt
  by_cases h : j1.val < 512
  · refine Eq.trans ?_ (gradGate_lo dao o_sb o_mla proj (ix2 j0 j1) ⟨j1.val, h⟩ rfl).symm
    refine Eq.trans ?_ (entry_ref _ _ _ (hd _) (hs _)).symm
    pointwise [val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_call1_v0, val_main_call1_v1, val_main_call1_cst, val_main_call1_v2, val_main_call1_v3, val_main_call1_cst_0, val_main_call1_v4, val_main_v5_2, val_main_call1_cst_1, val_main_call1_v6, val_main_call1_v7, val_main_v5_1, val_main_v5_0, val_main_v6, val_main_v7, val_main_v8, val_main_v9, val_main_v10, val_main_v11, val_main_call2_v0, val_main_call2_v1, val_main_call2_v2, val_main_v12, val_main_cst, val_main_v13, val_main_v14, val_main_v15, val_main_call3_v0, val_main_call3_v1, val_main_call3_v2, val_main_v16, val_main_cst_0, val_main_v17, val_main_v18, val_main_v19, logit, wide]
    rw [dif_neg (by omega), dif_pos h, zero_add]
  · refine Eq.trans ?_ (gradGate_hi dao o_sb o_mla proj (ix2 j0 j1) ⟨j1.val - 512, by omega⟩ (show j1.val = 512 + (j1.val - 512) by omega)).symm
    refine Eq.trans ?_ (entry_ref _ _ _ (hd _) (hm _)).symm
    pointwise [val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_call1_v0, val_main_call1_v1, val_main_call1_cst, val_main_call1_v2, val_main_call1_v3, val_main_call1_cst_0, val_main_call1_v4, val_main_v5_2, val_main_call1_cst_1, val_main_call1_v6, val_main_call1_v7, val_main_v5_1, val_main_v5_0, val_main_v6, val_main_v7, val_main_v8, val_main_v9, val_main_v10, val_main_v11, val_main_call2_v0, val_main_call2_v1, val_main_call2_v2, val_main_v12, val_main_cst, val_main_v13, val_main_v14, val_main_v15, val_main_call3_v0, val_main_call3_v1, val_main_call3_v2, val_main_v16, val_main_cst_0, val_main_v17, val_main_v18, val_main_v19, logit, wide]
    have e : (⟨512 + (j1.val - 512), by omega⟩ : Fin 1024) = j1 := Fin.ext (by simp only; omega)
    have e' : (⟨512 + (j1.val - 512), by omega⟩ : Fin 3072) = ⟨j1.val, by omega⟩ := Fin.ext (by simp only; omega)
    rw [dif_pos ⟨by omega, by omega⟩, dif_neg h, add_zero]
    simp only [e, e']

/-- An entry whose absolute value is below `⊤` is a real. -/
theorem real_of_abs_lt {x : EReal} (h : Ideal.cmp .olt (max x (-x)) (Ideal.ofBits .f32 0x7F800000#32) = 1#1) :
    ∃ r : ℝ, x = r := by
  have ht : Ideal.ofBits .f32 0x7F800000#32 = ⊤ := by simp [Ideal.ofBits, Ideal.ieee]
  rw [ht] at h
  induction x with
  | bot => exact absurd h (by simp [Ideal.cmp])
  | top => exact absurd h (by simp [Ideal.cmp])
  | coe x => exact ⟨x, rfl⟩

end Cert.Kernel2Ideal.Value
-- ==== Proof.Finite.lean ====
/- The precondition on the gate's arguments, as facts about their entries. -/
module

public import proofs.«01_k».proof.Pre_finite
public import proofs.«01_k».proof.Proof.GateRef
public import Idealize.ShloMosaic.Lib.ReduceAll

@[expose] public section

set_option maxRecDepth 16384

namespace Cert.Pre_finite

open Idealize.ShloMosaic Idealize.SL.Sem

theorem facts : Facts where
  bcast_S_S4352x1024 := by decide
  reducesTo_S4352x1024_S_d0_1 := by decide
  h_S_ := by decide
  bcast_S_S4352x512 := by decide
  reducesTo_S4352x512_S_d0_1 := by decide

attribute [local instance] facts

theorem and_one {x y : BitVec 1} (h : IntOp.andi x y = 1#1) : x = 1#1 ∧ y = 1#1 := by
  revert x y; decide

theorem reals (dao : FVec Ideal S4352x1024 .f32) (o_sb o_mla : FVec Ideal S4352x512 .f32) (proj : FVec Ideal S4352x3072 .f32)
    (h : fn (F := Ideal) dao o_sb o_mla proj = fun _ => 1#1) :
    (∀ j, ∃ r : ℝ, dao j = r) ∧ (∀ j, ∃ r : ℝ, o_sb j = r) ∧ ∀ j, ∃ r : ℝ, o_mla j = r := by
  have h0 := congrFun h ix0
  obtain ⟨h1, h2⟩ := and_one h0
  obtain ⟨h1, h3⟩ := and_one h1
  haveI : Subsingleton S_.Idx := ⟨fun a b => funext fun i => i.elim0⟩
  exact ⟨fun j => Cert.Kernel2Ideal.Value.real_of_abs_lt (Host.reduce_andi_all _ _ _ _ _ h1 j),
    fun j => Cert.Kernel2Ideal.Value.real_of_abs_lt (Host.reduce_andi_all _ _ _ _ _ h3 j),
    fun j => Cert.Kernel2Ideal.Value.real_of_abs_lt (Host.reduce_andi_all _ _ _ _ _ h2 j)⟩

end Cert.Pre_finite
-- ==== Proof.TnOut.lean ====
/- The weight gradient `dw = xᵀ · dy`, accumulated over the row blocks: what the kernel leaves in the result array. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Kernel3Ideal.Value

open Cert.Kernel3Ideal Cert.Kernel3Ideal.Gen Idealize.ShloMosaic Idealize.ShloMosaic.TcCoe Idealize.SL.Sem

variable (m : (ℓ : Loc nD τ sig) → Buf (Elt Ideal) ℓ)

theorem zero_apply (j : S1024x1024.Idx) : k0_pay1 (F := Ideal) j = 0 := by pointwise [k0_pay1]

/-- One grid point adds the product of its row blocks. -/
theorem step_apply (acc : Vec Ideal S1024x1024 .f32) (x0 : Vec Ideal S1088x1024 .bf16) (x1 : Vec Ideal S1088x1024 .f32)
    (j : S1024x1024.Idx) :
    k0_pay2 (F := Ideal) acc x0 x1 j = acc j + ∑ k : Fin 1088, x0 (ix2 k (j 0)) * x1 (ix2 k (j 1)) := by
  pointwise [k0_pay2]

/-- The product over all rows. -/
def grad (x : FVec Ideal S4352x1024 .bf16) (dy : FVec Ideal S4352x1024 .f32) : FVec Ideal S1024x1024 .f32 :=
  fun j => ∑ r : Fin 4352, x (ix2 r (j 0)) * dy (ix2 r (j 1))

/-- The reference's expression is that product. -/
theorem reference_eq (x : FVec Ideal S4352x1024 .bf16) (dy : FVec Ideal S4352x1024 .f32) :
    transpose S1024x1024 [1, 0] (Host.dotGeneral (F := Ideal) (φ₁ := .f32) (φ₂ := .f32)
      Cert.Reference3Ideal.dot_S4352x1024_S4352x1024_S1024x1024_0_0_1_1_n_n none dy (extf .f32 x bitsLt_bf16_f32))
      Cert.Reference3Ideal.Gen.transposes_S1024x1024_S1024x1024_1_0 = grad x dy := by
  funext j
  idx_vars j
  pointwise [grad]
  exact Finset.sum_congr rfl fun _ _ => mul_comm _ _

/-- The result array holds the product over all rows. -/
theorem final_o (c : Dev nD) : (dats m 0 c).arrAt 2 cfg0.N
    = grad (m ((c : Thread nD τ).loc main_arg0)) (m ((c : Thread nD τ).loc main_arg1)) := by
  have idx0 : ∀ t : Fin cfg0.N, win0_0.index t = ![t.val, 0] := (by decide +kernel : ∀ t : Fin grid0.N, _)
  have idx1 : ∀ t : Fin cfg0.N, win0_1.index t = ![t.val, 0] := (by decide +kernel : ∀ t : Fin grid0.N, _)
  refine (dats m 0 c).arrAt_eq_of_after_last 2 t0_3 (by decide +kernel) _ fun j => ?_
  blk_simp
  rw [after0_2, Pipeline.eq_sum_fin_of_reset_step_apply_last (fun n h => outsAt0 m c n h) 4 (fun _ => 0) _
    (fun t h j => by rw [outsAt0_A m c t h]; frame_out; rw [step_apply, zero_apply])
    (fun t h j => by rw [outsAt0_B m c t h]; frame_out; rw [step_apply])
    (le_of_eq N_0) t0_3 rfl j, zero_add, grad]
  refine Fin.sum_mul_add_congr fun t k hl => ?_
  blk_point [iblk, V, idx0 t, idx1 t]

end Cert.Kernel3Ideal.Value
-- ==== Proof.NtOut.lean ====
/- The product with a transposed weight, `dx = dy · wᵀ`: what the kernel's blocks leave in the result array. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Kernel4Ideal.Value

open Cert.Kernel4Ideal Cert.Kernel4Ideal.Gen Idealize.ShloMosaic Idealize.ShloMosaic.TcCoe Idealize.SL.Sem

variable (m : (ℓ : Loc nD τ sig) → Buf (Elt Ideal) ℓ)

theorem pay_apply (x0 : Vec Ideal S1088x1024 .f32) (x1 : Vec Ideal S1024x1024 .f32) (j : S1088x1024.Idx) :
    k0_pay1 (F := Ideal) x0 x1 j = ∑ k : Fin 1024, x0 (ix2 (j 0) k) * x1 (ix2 (j 1) k) := by
  unfold k0_pay1
  idx_vars j
  pointwise

/-- The result array: row `i` of `dy` against row `j` of the weight. -/
theorem final_o (c : Dev nD) : (dats m 0 c).arrAt 2 cfg0.N
    = Host.dotGeneral (F := Ideal) (φ₁ := .f32) (φ₂ := .f32) Cert.Reference4Ideal.dot_S4352x1024_S1024x1024_S4352x1024_1_1_0_0_n_n none
        (m ((c : Thread nD τ).loc main_arg0)) (m ((c : Thread nD τ).loc main_arg1)) := by
  refine (dats m 0 c).arrAt_eq_of_covers 2 _ (by decide +kernel) fun t hf y => ?_
  have e0 : ∀ t : Fin cfg0.N, win0_0.index t = ![win0_2.index t 0, 0] := (by decide +kernel : ∀ t : Fin grid0.N, _)
  have e1 : ∀ t : Fin cfg0.N, win0_1.index t = ![win0_2.index t 1, 0] := (by decide +kernel : ∀ t : Fin grid0.N, _)
  blk_simp
  rw [after0_2]; frame_out
  rw [pay_apply]
  pointwise
  blk_point [iblk, V, e0, e1]

end Cert.Kernel4Ideal.Value
-- ==== Proof.SbLoop.lean ====
module

public import proofs.«01_k».proof.Proof.Gen.Kernel5Ideal.Loops
public import proofs.«01_k».proof.Proof.Gen.Kernel5Ideal.Frame

@[expose] public section

set_option maxRecDepth 16384
set_option maxHeartbeats 8000000

noncomputable section

/-! # The loop over the four blocks of queries of the stick-breaking gradient -/

namespace Cert.Kernel5Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (UR sig nD τ) ℕ

/-- The rectangle of the query gradient which trip `k` writes. -/
abbrev rowRect (k : Fin k0_t1_loop.trips) : Rect S1x2176x128 :=
  Rect.unit (s := S1x2176x128) (k0_off1 k) S1x512x128.size (k0_off1_inb k)

/-- What one block of queries reads and writes: the five operands, and the three gradients. -/
abbrev QTrip (c : Dev nD) (arg2 : Memref sig .tc .vmem S1x2176x128 .f32) (arg3 : Memref sig .tc .vmem S1x2176x128 .f32) (arg4 : Memref sig .tc .vmem S1x2176x128 .f32) (arg5 : Memref sig .tc .vmem S1x2176x128 .f32) (arg6 : Memref sig .tc .vmem S1x2176x128 .f32) (arg7 : Memref sig .tc .vmem S1x2176x128 .f32) (arg8 : Memref sig .tc .vmem S1x2176x128 .f32) (arg9 : Memref sig .tc .vmem S1x2176x128 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))

/-- One block of queries, run: the block of the query gradient it writes, and what it adds to the other two. -/
@[irreducible] def qtrip (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (k : Fin k0_t1_loop.trips) :
    Σ' (P7 : BufTy.Contents (Elt F) arg8.view.ty → BufTy.Contents (Elt F) arg9.view.ty → Vec F S1x512x128 .f32) (L8 : BufTy.Contents (Elt F) arg8.view.ty → BufTy.Contents (Elt F) arg9.view.ty → List (View.Piece (Elt F) S1x2176x128 .f32)), { L9 : BufTy.Contents (Elt F) arg8.view.ty → BufTy.Contents (Elt F) arg9.view.ty → List (View.Piece (Elt F) S1x2176x128 .f32) // ∀ (E : Set ℕ) (f7 : BufTy.Contents (Elt F) arg7.view.ty) (f8 : BufTy.Contents (Elt F) arg8.view.ty) (f9 : BufTy.Contents (Elt F) arg9.view.ty),
      QTrip (F := F) c arg2 arg3 arg4 arg5 arg6 arg7 arg8 arg9 X2 X3 X4 X5 X6 f7 f8 f9
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 k ())
          (fun _ => iprop(QTrip (F := F) c arg2 arg3 arg4 arg5 arg6 arg7 arg8 arg9 X2 X3 X4 X5 X6 (arg7.view.writes (Elt F) f7 [⟨rowRect k, P7 f8 f9⟩]) (arg8.view.writes (Elt F) f8 (L8 f8 f9)) (arg9.view.writes (Elt F) f9 (L9 f8 f9)))) } := by
  refine ⟨?_, ?_, ?_, fun E f7 f8 f9 => ?run⟩
  case run =>
    unfold k0_t1_body
    iintro ⟨H2, H3, H4, H5, H6, H7, H8, H9⟩
    sl_exec
    sl_step
    sl_close

/-- One more block of queries after the pieces `prev`. -/
@[irreducible] def qstStep (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (G8 : BufTy.Contents (Elt F) arg8.view.ty) (G9 : BufTy.Contents (Elt F) arg9.view.ty) (k : ℕ) (prev : List (View.Piece (Elt F) S1x2176x128 .f32) × List (View.Piece (Elt F) S1x2176x128 .f32) × List (View.Piece (Elt F) S1x2176x128 .f32)) : List (View.Piece (Elt F) S1x2176x128 .f32) × List (View.Piece (Elt F) S1x2176x128 .f32) × List (View.Piece (Elt F) S1x2176x128 .f32) :=
  if h : k < k0_t1_loop.trips then
    (⟨rowRect ⟨k, h⟩, (qtrip (F := F) 𝒱 c bd i arg2 harg2 arg3 harg3 arg4 harg4 arg5 harg5 arg6 harg6 arg7 harg7 arg8 harg8 arg9 harg9 X2 X3 X4 X5 X6 ⟨k, h⟩).1 (arg8.view.writes (Elt F) G8 prev.2.1) (arg9.view.writes (Elt F) G9 prev.2.2)⟩ :: prev.1,
      (qtrip (F := F) 𝒱 c bd i arg2 harg2 arg3 harg3 arg4 harg4 arg5 harg5 arg6 harg6 arg7 harg7 arg8 harg8 arg9 harg9 X2 X3 X4 X5 X6 ⟨k, h⟩).2.1 (arg8.view.writes (Elt F) G8 prev.2.1) (arg9.view.writes (Elt F) G9 prev.2.2) ++ prev.2.1,
      (qtrip (F := F) 𝒱 c bd i arg2 harg2 arg3 harg3 arg4 harg4 arg5 harg5 arg6 harg6 arg7 harg7 arg8 harg8 arg9 harg9 X2 X3 X4 X5 X6 ⟨k, h⟩).2.2.1 (arg8.view.writes (Elt F) G8 prev.2.1) (arg9.view.writes (Elt F) G9 prev.2.2) ++ prev.2.2)
  else prev

/-- The pieces written into the three gradients by the blocks of queries before `k`. -/
def qst (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (G8 : BufTy.Contents (Elt F) arg8.view.ty) (G9 : BufTy.Contents (Elt F) arg9.view.ty) : ℕ → List (View.Piece (Elt F) S1x2176x128 .f32) × List (View.Piece (Elt F) S1x2176x128 .f32) × List (View.Piece (Elt F) S1x2176x128 .f32)
  | 0 => ([], [], [])
  | k + 1 => qstStep 𝒱 c bd i arg2 harg2 arg3 harg3 arg4 harg4 arg5 harg5 arg6 harg6 arg7 harg7 arg8 harg8 arg9 harg9 X2 X3 X4 X5 X6 G8 G9 k (qst 𝒱 c bd i arg2 harg2 arg3 harg3 arg4 harg4 arg5 harg5 arg6 harg6 arg7 harg7 arg8 harg8 arg9 harg9 X2 X3 X4 X5 X6 G8 G9 k)

theorem qst_succ (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (G8 : BufTy.Contents (Elt F) arg8.view.ty) (G9 : BufTy.Contents (Elt F) arg9.view.ty) (k : Fin k0_t1_loop.trips) :
    qst (F := F) 𝒱 c bd i arg2 harg2 arg3 harg3 arg4 harg4 arg5 harg5 arg6 harg6 arg7 harg7 arg8 harg8 arg9 harg9 X2 X3 X4 X5 X6 G8 G9 (k.val + 1)
      = (⟨rowRect k, (qtrip (F := F) 𝒱 c bd i arg2 harg2 arg3 harg3 arg4 harg4 arg5 harg5 arg6 harg6 arg7 harg7 arg8 harg8 arg9 harg9 X2 X3 X4 X5 X6 k).1 (arg8.view.writes (Elt F) G8 (qst (F := F) 𝒱 c bd i arg2 harg2 arg3 harg3 arg4 harg4 arg5 harg5 arg6 harg6 arg7 harg7 arg8 harg8 arg9 harg9 X2 X3 X4 X5 X6 G8 G9 k.val).2.1) (arg9.view.writes (Elt F) G9 (qst (F := F) 𝒱 c bd i arg2 harg2 arg3 harg3 arg4 harg4 arg5 harg5 arg6 harg6 arg7 harg7 arg8 harg8 arg9 harg9 X2 X3 X4 X5 X6 G8 G9 k.val).2.2)⟩ :: (qst (F := F) 𝒱 c bd i arg2 harg2 arg3 harg3 arg4 harg4 arg5 harg5 arg6 harg6 arg7 harg7 arg8 harg8 arg9 harg9 X2 X3 X4 X5 X6 G8 G9 k.val).1,
        (qtrip (F := F) 𝒱 c bd i arg2 harg2 arg3 harg3 arg4 harg4 arg5 harg5 arg6 harg6 arg7 harg7 arg8 harg8 arg9 harg9 X2 X3 X4 X5 X6 k).2.1 (arg8.view.writes (Elt F) G8 (qst (F := F) 𝒱 c bd i arg2 harg2 arg3 harg3 arg4 harg4 arg5 harg5 arg6 harg6 arg7 harg7 arg8 harg8 arg9 harg9 X2 X3 X4 X5 X6 G8 G9 k.val).2.1) (arg9.view.writes (Elt F) G9 (qst (F := F) 𝒱 c bd i arg2 harg2 arg3 harg3 arg4 harg4 arg5 harg5 arg6 harg6 arg7 harg7 arg8 harg8 arg9 harg9 X2 X3 X4 X5 X6 G8 G9 k.val).2.2) ++ (qst (F := F) 𝒱 c bd i arg2 harg2 arg3 harg3 arg4 harg4 arg5 harg5 arg6 harg6 arg7 harg7 arg8 harg8 arg9 harg9 X2 X3 X4 X5 X6 G8 G9 k.val).2.1,
        (qtrip (F := F) 𝒱 c bd i arg2 harg2 arg3 harg3 arg4 harg4 arg5 harg5 arg6 harg6 arg7 harg7 arg8 harg8 arg9 harg9 X2 X3 X4 X5 X6 k).2.2.1 (arg8.view.writes (Elt F) G8 (qst (F := F) 𝒱 c bd i arg2 harg2 arg3 harg3 arg4 harg4 arg5 harg5 arg6 harg6 arg7 harg7 arg8 harg8 arg9 harg9 X2 X3 X4 X5 X6 G8 G9 k.val).2.1) (arg9.view.writes (Elt F) G9 (qst (F := F) 𝒱 c bd i arg2 harg2 arg3 harg3 arg4 harg4 arg5 harg5 arg6 harg6 arg7 harg7 arg8 harg8 arg9 harg9 X2 X3 X4 X5 X6 G8 G9 k.val).2.2) ++ (qst (F := F) 𝒱 c bd i arg2 harg2 arg3 harg3 arg4 harg4 arg5 harg5 arg6 harg6 arg7 harg7 arg8 harg8 arg9 harg9 X2 X3 X4 X5 X6 G8 G9 k.val).2.2) := by
  rw [qst.eq_2]; unfold qstStep; exact dif_pos k.isLt

/-- Before block `k`: the operands as they were, the three gradients with the pieces so far written over what they held. -/
abbrev qinv (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (G7 : BufTy.Contents (Elt F) arg7.view.ty) (G8 : BufTy.Contents (Elt F) arg8.view.ty) (G9 : BufTy.Contents (Elt F) arg9.view.ty) (k : ℕ) (_ : Unit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f) ∗ ⌜f = arg7.view.writes (Elt F) G7 (qst (F := F) 𝒱 c bd i arg2 harg2 arg3 harg3 arg4 harg4 arg5 harg5 arg6 harg6 arg7 harg7 arg8 harg8 arg9 harg9 X2 X3 X4 X5 X6 G8 G9 k).1⌝)
    ∗ (∃ f, (arg8.view.loc (c : Thread nD τ) ↦[arg8.view.set]{fullShare} f) ∗ ⌜f = arg8.view.writes (Elt F) G8 (qst (F := F) 𝒱 c bd i arg2 harg2 arg3 harg3 arg4 harg4 arg5 harg5 arg6 harg6 arg7 harg7 arg8 harg8 arg9 harg9 X2 X3 X4 X5 X6 G8 G9 k).2.1⌝)
    ∗ (∃ f, (arg9.view.loc (c : Thread nD τ) ↦[arg9.view.set]{fullShare} f) ∗ ⌜f = arg9.view.writes (Elt F) G9 (qst (F := F) 𝒱 c bd i arg2 harg2 arg3 harg3 arg4 harg4 arg5 harg5 arg6 harg6 arg7 harg7 arg8 harg8 arg9 harg9 X2 X3 X4 X5 X6 G8 G9 k).2.2⌝))

set_option warn.classDefReducibility false in
/-- The loop over the blocks of queries keeps that. -/
@[sl_loop] def loopInv_k0_t1 (𝒱 : Variants) (c : Dev nD) (bd : Option 𝒱.V) (E : Set ℕ) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (G7 : BufTy.Contents (Elt F) arg7.view.ty) (G8 : BufTy.Contents (Elt F) arg8.view.ty) (G9 : BufTy.Contents (Elt F) arg9.view.ty) :
    LoopInvTy_k0_t1 (F := F) Unit ℕ (UR sig nD τ) ℕ 𝒱 c bd E i arg2 harg2 arg3 harg3 arg4 harg4 arg5 harg5 arg6 harg6 arg7 harg7 arg8 harg8 arg9 harg9 where
  inv := qinv (F := F) 𝒱 c bd i arg2 harg2 arg3 harg3 arg4 harg4 arg5 harg5 arg6 harg6 arg7 harg7 arg8 harg8 arg9 harg9 X2 X3 X4 X5 X6 G7 G8 G9
  step k acc := by
    iintro ⟨H2, H3, H4, H5, H6, ⟨%f7, H7, %h7⟩, ⟨%f8, H8, %h8⟩, ⟨%f9, H9, %h9⟩⟩
    iapply (wp_wand_r Idealize.ShloMosaic.frame (wpE (defs₀ (F := F)) 𝒱 (c : Thread nD τ) bd) E)
    isplitl [H2 H3 H4 H5 H6 H7 H8 H9]
    · iapply ((qtrip (F := F) 𝒱 c bd i arg2 harg2 arg3 harg3 arg4 harg4 arg5 harg5 arg6 harg6 arg7 harg7 arg8 harg8 arg9 harg9 X2 X3 X4 X5 X6 k).2.2.2 E f7 f8 f9)
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro %yld ⟨H2, H3, H4, H5, H6, H7, H8, H9⟩
      isplitl [H2]; · iexact H2
      isplitl [H3]; · iexact H3
      isplitl [H4]; · iexact H4
      isplitl [H5]; · iexact H5
      isplitl [H6]; · iexact H6
      simp only [qst_succ]
      isplitl [H7]
      · iexists _; isplitl [H7]; · iexact H7
        ipureintro; rw [h7, h8, h9, ← View.writes_append, List.singleton_append]
      isplitl [H8]
      · iexists _; isplitl [H8]; · iexact H8
        ipureintro; rw [h8, h9, ← View.writes_append]
      · iexists _; isplitl [H9]; · iexact H9
        ipureintro; rw [h8, h9, ← View.writes_append]

end Cert.Kernel5Ideal

end
-- ==== Proof.SbBody.lean ====
module

public import proofs.«01_k».proof.Proof.SbLoop

@[expose] public section

set_option maxRecDepth 16384
set_option maxHeartbeats 8000000

noncomputable section

/-! # The stick-breaking gradient: its body run, and the run of the whole call -/

namespace Cert.Kernel5Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle of the last rows. -/
abbrev tailRect : Rect S1x2176x128 :=
  Rect.unit (s := S1x2176x128) ![0, 2048, 0] S1x128x128.size inb_S1x2176x128_S1x128x128_0_2048_0

/-- The whole body, run: the last rows of the query gradient (after the pieces of the loop), and what the other two gradients
    end as. -/
@[irreducible] def sbRun (c : Dev nD) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    Σ' (P7 : Vec F S1x128x128 .f32) (G8 : BufTy.Contents (Elt F) arg8.view.ty) (G9 : BufTy.Contents (Elt F) arg9.view.ty) (R8 : BufTy.Contents (Elt F) arg8.view.ty), { R9 : BufTy.Contents (Elt F) arg9.view.ty // ∀ (E : Set ℕ) (f7 : BufTy.Contents (Elt F) arg7.view.ty) (f8 : BufTy.Contents (Elt F) arg8.view.ty) (f9 : BufTy.Contents (Elt F) arg9.view.ty),
      QTrip (F := F) c arg2 arg3 arg4 arg5 arg6 arg7 arg8 arg9 X2 X3 X4 X5 X6 f7 f8 f9
      ⊢ wp frame (wpE (defs₀ (F := F)) Variants.none (c : Thread nD τ) none) E (cc0_sb_bwd (F := F) i arg2 harg2 arg3 harg3 arg4 harg4 arg5 harg5 arg6 harg6 arg7 harg7 arg8 harg8 arg9 harg9)
          (fun _ => QTrip (F := F) c arg2 arg3 arg4 arg5 arg6 arg7 arg8 arg9 X2 X3 X4 X5 X6 (arg7.view.writes (Elt F) f7 (⟨tailRect, P7⟩ :: (qst (F := F) Variants.none c none i arg2 harg2 arg3 harg3 arg4 harg4 arg5 harg5 arg6 harg6 arg7 harg7 arg8 harg8 arg9 harg9 X2 X3 X4 X5 X6 G8 G9 k0_t1_loop.trips).1)) R8 R9) } := by
  refine ⟨?_, ?_, ?_, ?_, ?_, fun E f7 f8 f9 => ?run⟩
  case run =>
    simp only [cc0_sb_bwd_eq_skeleton]; unfold cc0_sb_bwd_skel
    iintro ⟨H2, H3, H4, H5, H6, H7, H8, H9⟩
    sl_exec
    sl_step
    sl_close

end Cert.Kernel5Ideal

end
-- ==== Proof.SbFrame.lean ====
module

public import proofs.«01_k».proof.Proof.SbBody
public import Idealize.ShloMosaic.Lib.Claim

@[expose] public section

set_option maxRecDepth 16384
set_option maxHeartbeats 8000000

noncomputable section

/-! # The stick-breaking gradient: the run of the whole call -/

namespace Cert.Kernel5Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at one grid point. -/
abbrev runAt (c : Dev nD) (t : Fin cfg0.N) := sbRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t))

/-- The pieces of the query gradient at one grid point. -/
abbrev dqPieces (c : Dev nD) (t : Fin cfg0.N) : List (View.Piece (Elt F) S1x2176x128 .f32) :=
  ⟨tailRect, (runAt m c t).1⟩ :: (qst (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) (runAt m c t).2.1 (runAt m c t).2.2.1 k0_t1_loop.trips).1

/-- The three gradients' blocks at one grid point. -/
def dqBlock (c : Dev nD) (t : Fin cfg0.N) : Vec F S1x2176x128 .f32 := View.canon (dqPieces m c t)
def dkBlock (c : Dev nD) (t : Fin cfg0.N) : Vec F S1x2176x128 .f32 := (win0_6.stage (cfg0.slots t 6)).view.read (Elt F) (runAt m c t).2.2.2.1
def dvBlock (c : Dev nD) (t : Fin cfg0.N) : Vec F S1x2176x128 .f32 := (win0_7.stage (cfg0.slots t 7)).view.read (Elt F) (runAt m c t).2.2.2.2.1

theorem trips_eq : k0_t1_loop.trips = 4 := by decide +kernel

/-- Each block of queries before `n` is among the pieces. -/
theorem mem_qst (c : Dev nD) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (G8 : BufTy.Contents (Elt F) arg8.view.ty) (G9 : BufTy.Contents (Elt F) arg9.view.ty) (n : ℕ) (hn : n ≤ k0_t1_loop.trips) (k : Fin k0_t1_loop.trips) (hk : k.val < n) :
    ∃ p ∈ (qst (F := F) Variants.none c none i arg2 harg2 arg3 harg3 arg4 harg4 arg5 harg5 arg6 harg6 arg7 harg7 arg8 harg8 arg9 harg9 X2 X3 X4 X5 X6 G8 G9 n).1, p.1 = rowRect k := by
  induction n with
  | zero => omega
  | succ n ih =>
    have e := qst_succ (F := F) Variants.none c none i arg2 harg2 arg3 harg3 arg4 harg4 arg5 harg5 arg6 harg6 arg7 harg7 arg8 harg8 arg9 harg9 X2 X3 X4 X5 X6 G8 G9 ⟨n, hn⟩
    dsimp only at e
    rw [e]
    by_cases h : k.val = n
    · exact ⟨_, List.mem_cons_self, by rw [show k = ⟨n, hn⟩ from Fin.ext h]⟩
    · obtain ⟨p, hp, hr⟩ := ih (by omega) (by omega)
      exact ⟨p, List.mem_cons_of_mem _ hp, hr⟩

/-- The pieces of the query gradient cover its block. -/
theorem dq_cover (c : Dev nD) (t : Fin cfg0.N) (y : S1x2176x128.Idx) : ∃ p ∈ dqPieces m c t, y ∈ p.1.set := by
  have h0 := (y 0).isLt
  have h1 : (y 1).val < 2176 := (y 1).isLt
  have h2 := (y 2).isLt
  by_cases h : (y 1).val < 2048
  · obtain ⟨p, hp, hr⟩ := mem_qst (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) (runAt m c t).2.1 (runAt m c t).2.2.1 k0_t1_loop.trips le_rfl
      ⟨(y 1).val / 512, by rw [trips_eq]; omega⟩ (by show (y 1).val / 512 < k0_t1_loop.trips; rw [trips_eq]; omega)
    refine ⟨p, List.mem_cons_of_mem _ hp, ?_⟩
    rw [hr, Rect.mem_set_unit]
    simp only [k0_off1_eq]
    intro ax
    fin_cases ax
    · exact ⟨Nat.zero_le _, by simpa using h0⟩
    · constructor
      · show 512 * ((y 1).val / 512) ≤ (y 1).val; omega
      · show (y 1).val < 512 * ((y 1).val / 512) + 512; omega
    · exact ⟨Nat.zero_le _, by simpa using h2⟩
  · refine ⟨_, List.mem_cons_self, ?_⟩
    rw [Rect.mem_set_unit]
    intro ax
    fin_cases ax
    · exact ⟨Nat.zero_le _, by simpa using h0⟩
    · constructor
      · show 2048 ≤ (y 1).val; omega
      · show (y 1).val < 2048 + 128; omega
    · exact ⟨Nat.zero_le _, by simpa using h2⟩

/-- The proof data of the call: the operands stay, the three gradients end as the run leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqBlock m c t
    | ⟨6, _⟩ => dkBlock m c t
    | ⟨7, _⟩ => dvBlock m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dqBlock m c t := by dsimp only [dats]
theorem after0_6 (c : Dev nD) (t : Fin cfg0.N) : (dats m 0 c).after 6 t = dkBlock m c t := by dsimp only [dats]
theorem after0_7 (c : Dev nD) (t : Fin cfg0.N) : (dats m 0 c).after 7 t = dvBlock m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩, ⟨%d6, %f6, -, H6⟩, ⟨%d7, %f7, -, H7⟩⟩
  have e0 := (hstage0_0 ((cfg0.slots t 0).cast nbuf0_0)).eq_unread h0
  have e1 := (hstage0_1 ((cfg0.slots t 1).cast nbuf0_1)).eq_unread h1
  have e2 := (hstage0_2 ((cfg0.slots t 2).cast nbuf0_2)).eq_unread h2
  have e3 := (hstage0_3 ((cfg0.slots t 3).cast nbuf0_3)).eq_unread h3
  have e4 := (hstage0_4 ((cfg0.slots t 4).cast nbuf0_4)).eq_unread h4
  subst e0 e1 e2 e3 e4
  iapply (wp_wand_r Idealize.ShloMosaic.frame (wpE (defs₀ (F := F)) Variants.none (c : Thread nD τ) none) Set.univ)
  isplitl [H0 H1 H2 H3 H4 H5 H6 H7]
  · iapply ((runAt m c t).2.2.2.2.2 Set.univ f5 f6 f7)
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro %_ ⟨H0, H1, H2, H3, H4, H5, H6, H7⟩
    isplitl [HΦ]; · iexact HΦ
    isplitl [Ho]; · iexact Ho
    isplitl [H0]
    · iexists _; isplitr
      swap; · iexact H0
      ipureintro; exact h0
    isplitl [H1]
    · iexists _; isplitr
      swap; · iexact H1
      ipureintro; exact h1
    isplitl [H2]
    · iexists _; isplitr
      swap; · iexact H2
      ipureintro; exact h2
    isplitl [H3]
    · iexists _; isplitr
      swap; · iexact H3
      ipureintro; exact h3
    isplitl [H4]
    · iexists _; isplitr
      swap; · iexact H4
      ipureintro; exact h4
    isplitl [H5]
    · iexists _; isplitr
      swap; · iexact H5
      ipureintro
      exact View.read_writes_eq_canon _ _ _ (dq_cover m c t)
    isplitl [H6]
    · iexists _; isplitr
      swap; · iexact H6
      ipureintro; rfl
    · iexists _; isplitr
      swap; · iexact H7
      ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the call: every array ends as the proof data say, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Kernel5Ideal

end
-- ==== Proof.SbBits.lean ====
module
public import proofs.«01_k».proof.Proof.SbFrame
public import proofs.«01_k».proof.Proof.Gen.Kernel5
public import proofs.«01_k».proof.Defs

@[expose] public section

noncomputable section

/-! The stick-breaking gradient's frame at the float formats: its program has the same text as the one read at the ideal values,
and the run is over any float values. -/

namespace Cert.Claims
open Idealize.ShloMosaic Idealize.SL.Sem
attribute [local instance] Cert.Kernel5.Gen.facts Cert.Kernel5Ideal.Gen.facts
set_option maxHeartbeats 20000000 in
theorem sb_body_eq : Cert.Kernel5.cc0_sb_bwd (F := Bits) = Cert.Kernel5Ideal.cc0_sb_bwd (F := Bits) := rfl

set_option maxHeartbeats 20000000 in
theorem sb_labels_eq : Cert.Kernel5.defs₀ (F := Bits) = Cert.Kernel5Ideal.defs₀ (F := Bits) := by
  unfold Cert.Kernel5.defs₀ Cert.Kernel5Ideal.defs₀
  refine congrArg (Defs.onTc (nD := Cert.Kernel5Ideal.nD) (τ := Cert.Kernel5Ideal.τ) (sig := Cert.Kernel5Ideal.sig) (Val := Elt Bits) (Λ := Cert.Kernel5Ideal.Λ₀)) (funext fun l => funext fun x => ?_)
  match l, x with
  | 0, (t, s) => exact congrFun (congrFun (congrFun (congrFun (congrFun (congrFun (congrFun (congrFun (congrFun (congrFun (congrFun (congrFun (congrFun (congrFun (congrFun (congrFun (congrFun sb_body_eq _) _) _) _) _) _) _) _) _) _) _) _) _) _) _) _) _
  | ⟨_ + 1, h⟩, _ => exact absurd h (Nat.not_lt.2 (Nat.le_add_left _ _))

theorem sb_defs_eq : Cert.Kernel5.defs (F := Bits) = Cert.Kernel5Ideal.defs (F := Bits) :=
  congrArg (Pipeline.defs (Cert.Kernel5Ideal.pcfgs (F := Bits))) sb_labels_eq
set_option maxHeartbeats 20000000 in
theorem sb_main_eq : Cert.Kernel5.main (F := Bits) = Cert.Kernel5Ideal.main (F := Bits) := rfl

/-- The frame of the stick-breaking gradient. -/
theorem frame_stick_breaking : Cert.quiescent_Kernel5 := fun m ρ _ => by
  have h := Cert.Kernel5Ideal.frame_run (F := Bits) m ρ
  rw [← sb_defs_eq, ← sb_main_eq] at h
  exact h

end Cert.Claims

end
-- ==== Proof.SbStep.lean ====
module

public import proofs.«01_k».proof.Proof.Gen.Kernel5Ideal.Skeleton

@[expose] public section

set_option maxRecDepth 16384
set_option maxHeartbeats 8000000

noncomputable section

/-! # The stick-breaking gradient: one chunk of keys, as operations on vectors -/

namespace Cert.Kernel5Ideal

open Idealize.ShloMosaic Idealize.ShloMosaic.TcCoe
open Gen

variable {F : FTy → Type} [FloatOps F]

/-- A chunk of keys (or values), rounded. -/
def winV (x : Vec F S1x512x128 .f32) : FVec F S512x128 .bf16 :=
  truncf .bf16 (shapeCast S512x128 x shapeCasts_S1x512x128_S512x128) bitsLt_bf16_f32

/-- The keys of the first head, and below them those of the second. -/
def stackV (lo : IVec S1x128 1) (kb : FVec F S512x128 .bf16) : FVec F S1024x128 .bf16 :=
  concatenate S1024x128 0 [⟨S512x128, select (broadcastTo S512x128 (shapeCast S1x128 lo shapeCasts_S1x128_S1x128) broadcasts_S1x128_S512x128) kb (broadcast S512x128 (Scalar.ofBits (F := F) .bf16 0x0000#16))⟩, ⟨S512x128, select (broadcastTo S512x128 (shapeCast S1x128 lo shapeCasts_S1x128_S1x128) broadcasts_S1x128_S512x128) (broadcast S512x128 (Scalar.ofBits (F := F) .bf16 0x0000#16)) kb⟩] concatenates_S512x128_S512x128_S1024x128_d0

/-! ## Blocks of 512 queries -/

/-- The scores. -/
def zV_512 (qh : FVec F S512x128 .bf16) (kb : FVec F S512x128 .bf16) : FVec F S512x512 .f32 :=
  matmul dot_S512x128_S512x128_S512x512_1_1_0_0_n_n none qh kb (constant S512x512 .f32 0x00000000#32)

/-- The logarithm of the sigmoid. -/
def lbV_512 (z : FVec F S512x512 .f32) : FVec F S512x512 .f32 :=
  subf (minimumf z (broadcast S512x512 (Scalar.ofBits (F := F) .f32 0x00000000#32))) (log (addf (broadcast S512x512 (Scalar.ofBits (F := F) .f32 0x3F800000#32)) (exp (subf (broadcast S512x512 (Scalar.ofBits (F := F) .f32 0x00000000#32)) (absf z)))))

/-- Zero where the key is not seen. -/
def mV_512 (m : IVec S512x512 1) (x : FVec F S512x512 .f32) : FVec F S512x512 .f32 :=
  select m x (broadcast S512x512 (Scalar.ofBits (F := F) .f32 0x00000000#32))

/-- The sum over the chunk's keys. -/
def sumV_512 (x : FVec F S512x512 .f32) : FVec F S512x1 .f32 :=
  shapeCast S512x1 (multiReduction .add [1] S512 x 0x00000000#32 reduces_S512x512_S512 (.inl rfl) rfl) shapeCasts_S512_S512x1

/-- The weights, before the mask. -/
def aV_512 (aft : FVec F S512x512 .bf16) (lb L : FVec F S512x512 .f32) (tot left : FVec F S512x1 .f32) : FVec F S512x512 .f32 :=
  exp (addf (addf lb (matmul dot_S512x512_S512x512_S512x512_1_0_0_1_n_n none (truncf .bf16 L bitsLt_bf16_f32) aft (constant S512x512 .f32 0x00000000#32))) (broadcastTo S512x512 (subf (subf tot left) (sumV_512 L)) broadcasts_S512x1_S512x512))

/-- The weights times the gradients of the weights. -/
def wV_512 (gh : FVec F S512x128 .bf16) (vb : FVec F S512x128 .bf16) (a : FVec F S512x512 .f32) : FVec F S512x512 .f32 :=
  mulf a (matmul dot_S512x128_S512x128_S512x512_1_1_0_0_n_n none gh vb (constant S512x512 .f32 0x00000000#32))

/-- The gradient of the scores, before the mask. -/
def dzV_512 (bef : FVec F S512x512 .bf16) (pre : FVec F S512x1 .f32) (lb l1 w : FVec F S512x512 .f32) : FVec F S512x512 .f32 :=
  subf (mulf w (exp l1)) (mulf (addf (broadcastTo S512x512 pre broadcasts_S512x1_S512x512) (matmul dot_S512x512_S512x512_S512x512_1_0_0_1_n_n none (truncf .bf16 w bitsLt_bf16_f32) bef (constant S512x512 .f32 0x00000000#32))) (exp lb))

/-- What the chunk adds to the gradient of the queries. -/
def accV_512 (lo : IVec S1x128 1) (acc : FVec F S512x128 .f32) (kb : FVec F S512x128 .bf16) (dz0 dz1 : FVec F S512x512 .f32) : FVec F S512x128 .f32 :=
  addf acc (matmul dot_S512x1024_S1024x128_S512x128_1_0_0_1_n_n none (concatenate S512x1024 1 [⟨S512x512, truncf .bf16 dz0 bitsLt_bf16_f32⟩, ⟨S512x512, truncf .bf16 dz1 bitsLt_bf16_f32⟩] concatenates_S512x512_S512x512_S512x1024_d1) (stackV lo kb) (constant S512x128 .f32 0x00000000#32))

/-- What a block of queries adds to a chunk of the gradient of the keys or of the values. -/
def addV_512 (st : FVec F S1024x128 .bf16) (x0 x1 : FVec F S512x512 .f32) (old : Vec F S1x512x128 .f32) : Vec F S1x512x128 .f32 :=
  shapeCast S1x512x128 (addf (shapeCast S512x128 old shapeCasts_S1x512x128_S512x128) (matmul dot_S1024x512_S1024x128_S512x128_0_0_1_1_n_n none (concatenate S1024x512 0 [⟨S512x512, truncf .bf16 x0 bitsLt_bf16_f32⟩, ⟨S512x512, truncf .bf16 x1 bitsLt_bf16_f32⟩] concatenates_S512x512_S512x512_S1024x512_d0) st (constant S512x128 .f32 0x00000000#32))) shapeCasts_S512x128_S1x512x128

/-- One head's weights on a chunk: seen keys only. -/
def aM_512 (m : IVec S512x512 1) (aft : FVec F S512x512 .bf16) (qh : FVec F S512x128 .bf16) (tot left : FVec F S512x1 .f32) (kb : FVec F S512x128 .bf16) : FVec F S512x512 .f32 :=
  mV_512 m (aV_512 aft (lbV_512 (zV_512 qh kb)) (mV_512 m (subf (lbV_512 (zV_512 qh kb)) (zV_512 qh kb))) tot left)

/-- One head's gradient of the scores on a chunk: seen keys only. -/
def dzM_512 (m : IVec S512x512 1) (aft bef : FVec F S512x512 .bf16) (qh gh : FVec F S512x128 .bf16) (tot left pre : FVec F S512x1 .f32) (kb vb : FVec F S512x128 .bf16) : FVec F S512x512 .f32 :=
  mV_512 m (dzV_512 bef pre (lbV_512 (zV_512 qh kb)) (subf (lbV_512 (zV_512 qh kb)) (zV_512 qh kb)) (wV_512 gh vb (aM_512 m aft qh tot left kb)))

/-- What is carried from chunk to chunk after a chunk of which the keys under the mask are seen. -/
def stepM_512 (lo : IVec S1x128 1) (aft bef : FVec F S512x512 .bf16) (m : IVec S512x512 1) (q0 q1 g0 g1 : FVec F S512x128 .bf16) (tot0 tot1 : FVec F S512x1 .f32) (k v : Vec F S1x512x128 .f32)
    (s : FVec F S512x1 .f32 × FVec F S512x1 .f32 × FVec F S512x1 .f32 × FVec F S512x1 .f32 × FVec F S512x128 .f32) :
    FVec F S512x1 .f32 × FVec F S512x1 .f32 × FVec F S512x1 .f32 × FVec F S512x1 .f32 × FVec F S512x128 .f32 :=
  (addf s.1 (sumV_512 (mV_512 m (subf (lbV_512 (zV_512 q0 (winV k))) (zV_512 q0 (winV k))))),
    addf s.2.1 (sumV_512 (wV_512 g0 (winV v) (aM_512 m aft q0 tot0 s.1 (winV k)))),
    addf s.2.2.1 (sumV_512 (mV_512 m (subf (lbV_512 (zV_512 q1 (winV k))) (zV_512 q1 (winV k))))),
    addf s.2.2.2.1 (sumV_512 (wV_512 g1 (winV v) (aM_512 m aft q1 tot1 s.2.2.1 (winV k)))),
    accV_512 lo s.2.2.2.2 (winV k) (dzM_512 m aft bef q0 g0 tot0 s.1 s.2.1 (winV k) (winV v)) (dzM_512 m aft bef q1 g1 tot1 s.2.2.1 s.2.2.2.1 (winV k) (winV v)))

/-- One head's weights on a chunk all of whose keys are seen. -/
def aU_512 (aft : FVec F S512x512 .bf16) (qh : FVec F S512x128 .bf16) (tot left : FVec F S512x1 .f32) (kb : FVec F S512x128 .bf16) : FVec F S512x512 .f32 :=
  aV_512 aft (lbV_512 (zV_512 qh kb)) (subf (lbV_512 (zV_512 qh kb)) (zV_512 qh kb)) tot left

/-- One head's gradient of the scores on a chunk all of whose keys are seen. -/
def dzU_512 (aft bef : FVec F S512x512 .bf16) (qh gh : FVec F S512x128 .bf16) (tot left pre : FVec F S512x1 .f32) (kb vb : FVec F S512x128 .bf16) : FVec F S512x512 .f32 :=
  dzV_512 bef pre (lbV_512 (zV_512 qh kb)) (subf (lbV_512 (zV_512 qh kb)) (zV_512 qh kb)) (wV_512 gh vb (aU_512 aft qh tot left kb))

/-- What is carried from chunk to chunk after a chunk all of whose keys are seen. -/
def stepU_512 (lo : IVec S1x128 1) (aft bef : FVec F S512x512 .bf16) (q0 q1 g0 g1 : FVec F S512x128 .bf16) (tot0 tot1 : FVec F S512x1 .f32) (k v : Vec F S1x512x128 .f32)
    (s : FVec F S512x1 .f32 × FVec F S512x1 .f32 × FVec F S512x1 .f32 × FVec F S512x1 .f32 × FVec F S512x128 .f32) :
    FVec F S512x1 .f32 × FVec F S512x1 .f32 × FVec F S512x1 .f32 × FVec F S512x1 .f32 × FVec F S512x128 .f32 :=
  (addf s.1 (sumV_512 (subf (lbV_512 (zV_512 q0 (winV k))) (zV_512 q0 (winV k)))),
    addf s.2.1 (sumV_512 (wV_512 g0 (winV v) (aU_512 aft q0 tot0 s.1 (winV k)))),
    addf s.2.2.1 (sumV_512 (subf (lbV_512 (zV_512 q1 (winV k))) (zV_512 q1 (winV k)))),
    addf s.2.2.2.1 (sumV_512 (wV_512 g1 (winV v) (aU_512 aft q1 tot1 s.2.2.1 (winV k)))),
    accV_512 lo s.2.2.2.2 (winV k) (dzU_512 aft bef q0 g0 tot0 s.1 s.2.1 (winV k) (winV v)) (dzU_512 aft bef q1 g1 tot1 s.2.2.1 s.2.2.2.1 (winV k) (winV v)))

/-- Nothing carried yet. -/
def zeroV_512 : FVec F S512x1 .f32 × FVec F S512x1 .f32 × FVec F S512x1 .f32 × FVec F S512x1 .f32 × FVec F S512x128 .f32 :=
  (broadcast S512x1 (Scalar.ofBits (F := F) .f32 0x00000000#32), broadcast S512x1 (Scalar.ofBits (F := F) .f32 0x00000000#32), broadcast S512x1 (Scalar.ofBits (F := F) .f32 0x00000000#32), broadcast S512x1 (Scalar.ofBits (F := F) .f32 0x00000000#32), broadcast S512x128 (Scalar.ofBits (F := F) .f32 0x00000000#32))

/-- A block of queries, scaled and rounded. -/
def qV_512 (x : Vec F S1x512x128 .f32) : FVec F S512x128 .bf16 :=
  truncf .bf16 (mulf (shapeCast S512x128 x shapeCasts_S1x512x128_S512x128) (broadcast S512x128 (Scalar.ofBits (F := F) .f32 0x3E000000#32))) bitsLt_bf16_f32

/-- A block of the result's gradient, rounded. -/
def gV_512 (x : Vec F S1x512x128 .f32) : FVec F S512x128 .bf16 :=
  truncf .bf16 (shapeCast S512x128 x shapeCasts_S1x512x128_S512x128) bitsLt_bf16_f32

/-- The first head's lanes. -/
def loV_512 (lo : IVec S1x128 1) (x : FVec F S512x128 .bf16) : FVec F S512x128 .bf16 :=
  select (broadcastTo S512x128 (shapeCast S1x128 lo shapeCasts_S1x128_S1x128) broadcasts_S1x128_S512x128) x (broadcast S512x128 (Scalar.ofBits (F := F) .bf16 0x0000#16))

/-- The second head's lanes. -/
def hiV_512 (lo : IVec S1x128 1) (x : FVec F S512x128 .bf16) : FVec F S512x128 .bf16 :=
  select (broadcastTo S512x128 (shapeCast S1x128 lo shapeCasts_S1x128_S1x128) broadcasts_S1x128_S512x128) (broadcast S512x128 (Scalar.ofBits (F := F) .bf16 0x0000#16)) x

/-- The first head's total, and the second's. -/
def tot0V_512 (x : Vec F S1x512x128 .f32) : FVec F S512x1 .f32 :=
  extractStridedSlice S512x1 ![0, 0] (shapeCast S512x128 x shapeCasts_S1x512x128_S512x128) slices_S512x128_o0_0_S512x1
def tot1V_512 (x : Vec F S1x512x128 .f32) : FVec F S512x1 .f32 :=
  extractStridedSlice S512x1 ![0, 64] (shapeCast S512x128 x shapeCasts_S1x512x128_S512x128) slices_S512x128_o0_64_S512x1

/-- Both heads of a block, one below the other. -/
def catV_512 (x y : FVec F S512x128 .bf16) : FVec F S1024x128 .bf16 :=
  concatenate S1024x128 0 [⟨S512x128, x⟩, ⟨S512x128, y⟩] concatenates_S512x128_S512x128_S1024x128_d0

/-- Which keys of the chunk at `s0` are seen: before the query's row, and not before `lower`. -/
def maskV_512 (r0 s0 lower : BitVec 32) : IVec S512x512 1 :=
  andi (cmpi .slt (addi (broadcast S512x512 s0) (iota .tc S512x512 32 [1] iota_S512x512_d1_w32)) (addi (broadcast S512x512 r0) (iota .tc S512x512 32 [0] iota_S512x512_d0_w32)))
    (cmpi .sge (addi (broadcast S512x512 s0) (iota .tc S512x512 32 [1] iota_S512x512_d1_w32)) (broadcast S512x512 lower))

/-! ## Blocks of 128 queries -/

/-- The scores. -/
def zV_128 (qh : FVec F S128x128 .bf16) (kb : FVec F S512x128 .bf16) : FVec F S128x512 .f32 :=
  matmul dot_S128x128_S512x128_S128x512_1_1_0_0_n_n none qh kb (constant S128x512 .f32 0x00000000#32)

/-- The logarithm of the sigmoid. -/
def lbV_128 (z : FVec F S128x512 .f32) : FVec F S128x512 .f32 :=
  subf (minimumf z (broadcast S128x512 (Scalar.ofBits (F := F) .f32 0x00000000#32))) (log (addf (broadcast S128x512 (Scalar.ofBits (F := F) .f32 0x3F800000#32)) (exp (subf (broadcast S128x512 (Scalar.ofBits (F := F) .f32 0x00000000#32)) (absf z)))))

/-- Zero where the key is not seen. -/
def mV_128 (m : IVec S128x512 1) (x : FVec F S128x512 .f32) : FVec F S128x512 .f32 :=
  select m x (broadcast S128x512 (Scalar.ofBits (F := F) .f32 0x00000000#32))

/-- The sum over the chunk's keys. -/
def sumV_128 (x : FVec F S128x512 .f32) : FVec F S128x1 .f32 :=
  shapeCast S128x1 (multiReduction .add [1] S128 x 0x00000000#32 reduces_S128x512_S128 (.inl rfl) rfl) shapeCasts_S128_S128x1

/-- The weights, before the mask. -/
def aV_128 (aft : FVec F S512x512 .bf16) (lb L : FVec F S128x512 .f32) (tot left : FVec F S128x1 .f32) : FVec F S128x512 .f32 :=
  exp (addf (addf lb (matmul dot_S128x512_S512x512_S128x512_1_0_0_1_n_n none (truncf .bf16 L bitsLt_bf16_f32) aft (constant S128x512 .f32 0x00000000#32))) (broadcastTo S128x512 (subf (subf tot left) (sumV_128 L)) broadcasts_S128x1_S128x512))

/-- The weights times the gradients of the weights. -/
def wV_128 (gh : FVec F S128x128 .bf16) (vb : FVec F S512x128 .bf16) (a : FVec F S128x512 .f32) : FVec F S128x512 .f32 :=
  mulf a (matmul dot_S128x128_S512x128_S128x512_1_1_0_0_n_n none gh vb (constant S128x512 .f32 0x00000000#32))

/-- The gradient of the scores, before the mask. -/
def dzV_128 (bef : FVec F S512x512 .bf16) (pre : FVec F S128x1 .f32) (lb l1 w : FVec F S128x512 .f32) : FVec F S128x512 .f32 :=
  subf (mulf w (exp l1)) (mulf (addf (broadcastTo S128x512 pre broadcasts_S128x1_S128x512) (matmul dot_S128x512_S512x512_S128x512_1_0_0_1_n_n none (truncf .bf16 w bitsLt_bf16_f32) bef (constant S128x512 .f32 0x00000000#32))) (exp lb))

/-- What the chunk adds to the gradient of the queries. -/
def accV_128 (lo : IVec S1x128 1) (acc : FVec F S128x128 .f32) (kb : FVec F S512x128 .bf16) (dz0 dz1 : FVec F S128x512 .f32) : FVec F S128x128 .f32 :=
  addf acc (matmul dot_S128x1024_S1024x128_S128x128_1_0_0_1_n_n none (concatenate S128x1024 1 [⟨S128x512, truncf .bf16 dz0 bitsLt_bf16_f32⟩, ⟨S128x512, truncf .bf16 dz1 bitsLt_bf16_f32⟩] concatenates_S128x512_S128x512_S128x1024_d1) (stackV lo kb) (constant S128x128 .f32 0x00000000#32))

/-- What a block of queries adds to a chunk of the gradient of the keys or of the values. -/
def addV_128 (st : FVec F S256x128 .bf16) (x0 x1 : FVec F S128x512 .f32) (old : Vec F S1x512x128 .f32) : Vec F S1x512x128 .f32 :=
  shapeCast S1x512x128 (addf (shapeCast S512x128 old shapeCasts_S1x512x128_S512x128) (matmul dot_S256x512_S256x128_S512x128_0_0_1_1_n_n none (concatenate S256x512 0 [⟨S128x512, truncf .bf16 x0 bitsLt_bf16_f32⟩, ⟨S128x512, truncf .bf16 x1 bitsLt_bf16_f32⟩] concatenates_S128x512_S128x512_S256x512_d0) st (constant S512x128 .f32 0x00000000#32))) shapeCasts_S512x128_S1x512x128

/-- One head's weights on a chunk: seen keys only. -/
def aM_128 (m : IVec S128x512 1) (aft : FVec F S512x512 .bf16) (qh : FVec F S128x128 .bf16) (tot left : FVec F S128x1 .f32) (kb : FVec F S512x128 .bf16) : FVec F S128x512 .f32 :=
  mV_128 m (aV_128 aft (lbV_128 (zV_128 qh kb)) (mV_128 m (subf (lbV_128 (zV_128 qh kb)) (zV_128 qh kb))) tot left)

/-- One head's gradient of the scores on a chunk: seen keys only. -/
def dzM_128 (m : IVec S128x512 1) (aft bef : FVec F S512x512 .bf16) (qh gh : FVec F S128x128 .bf16) (tot left pre : FVec F S128x1 .f32) (kb vb : FVec F S512x128 .bf16) : FVec F S128x512 .f32 :=
  mV_128 m (dzV_128 bef pre (lbV_128 (zV_128 qh kb)) (subf (lbV_128 (zV_128 qh kb)) (zV_128 qh kb)) (wV_128 gh vb (aM_128 m aft qh tot left kb)))

/-- What is carried from chunk to chunk after a chunk of which the keys under the mask are seen. -/
def stepM_128 (lo : IVec S1x128 1) (aft bef : FVec F S512x512 .bf16) (m : IVec S128x512 1) (q0 q1 g0 g1 : FVec F S128x128 .bf16) (tot0 tot1 : FVec F S128x1 .f32) (k v : Vec F S1x512x128 .f32)
    (s : FVec F S128x1 .f32 × FVec F S128x1 .f32 × FVec F S128x1 .f32 × FVec F S128x1 .f32 × FVec F S128x128 .f32) :
    FVec F S128x1 .f32 × FVec F S128x1 .f32 × FVec F S128x1 .f32 × FVec F S128x1 .f32 × FVec F S128x128 .f32 :=
  (addf s.1 (sumV_128 (mV_128 m (subf (lbV_128 (zV_128 q0 (winV k))) (zV_128 q0 (winV k))))),
    addf s.2.1 (sumV_128 (wV_128 g0 (winV v) (aM_128 m aft q0 tot0 s.1 (winV k)))),
    addf s.2.2.1 (sumV_128 (mV_128 m (subf (lbV_128 (zV_128 q1 (winV k))) (zV_128 q1 (winV k))))),
    addf s.2.2.2.1 (sumV_128 (wV_128 g1 (winV v) (aM_128 m aft q1 tot1 s.2.2.1 (winV k)))),
    accV_128 lo s.2.2.2.2 (winV k) (dzM_128 m aft bef q0 g0 tot0 s.1 s.2.1 (winV k) (winV v)) (dzM_128 m aft bef q1 g1 tot1 s.2.2.1 s.2.2.2.1 (winV k) (winV v)))

/-- One head's weights on a chunk all of whose keys are seen. -/
def aU_128 (aft : FVec F S512x512 .bf16) (qh : FVec F S128x128 .bf16) (tot left : FVec F S128x1 .f32) (kb : FVec F S512x128 .bf16) : FVec F S128x512 .f32 :=
  aV_128 aft (lbV_128 (zV_128 qh kb)) (subf (lbV_128 (zV_128 qh kb)) (zV_128 qh kb)) tot left

/-- One head's gradient of the scores on a chunk all of whose keys are seen. -/
def dzU_128 (aft bef : FVec F S512x512 .bf16) (qh gh : FVec F S128x128 .bf16) (tot left pre : FVec F S128x1 .f32) (kb vb : FVec F S512x128 .bf16) : FVec F S128x512 .f32 :=
  dzV_128 bef pre (lbV_128 (zV_128 qh kb)) (subf (lbV_128 (zV_128 qh kb)) (zV_128 qh kb)) (wV_128 gh vb (aU_128 aft qh tot left kb))

/-- What is carried from chunk to chunk after a chunk all of whose keys are seen. -/
def stepU_128 (lo : IVec S1x128 1) (aft bef : FVec F S512x512 .bf16) (q0 q1 g0 g1 : FVec F S128x128 .bf16) (tot0 tot1 : FVec F S128x1 .f32) (k v : Vec F S1x512x128 .f32)
    (s : FVec F S128x1 .f32 × FVec F S128x1 .f32 × FVec F S128x1 .f32 × FVec F S128x1 .f32 × FVec F S128x128 .f32) :
    FVec F S128x1 .f32 × FVec F S128x1 .f32 × FVec F S128x1 .f32 × FVec F S128x1 .f32 × FVec F S128x128 .f32 :=
  (addf s.1 (sumV_128 (subf (lbV_128 (zV_128 q0 (winV k))) (zV_128 q0 (winV k)))),
    addf s.2.1 (sumV_128 (wV_128 g0 (winV v) (aU_128 aft q0 tot0 s.1 (winV k)))),
    addf s.2.2.1 (sumV_128 (subf (lbV_128 (zV_128 q1 (winV k))) (zV_128 q1 (winV k)))),
    addf s.2.2.2.1 (sumV_128 (wV_128 g1 (winV v) (aU_128 aft q1 tot1 s.2.2.1 (winV k)))),
    accV_128 lo s.2.2.2.2 (winV k) (dzU_128 aft bef q0 g0 tot0 s.1 s.2.1 (winV k) (winV v)) (dzU_128 aft bef q1 g1 tot1 s.2.2.1 s.2.2.2.1 (winV k) (winV v)))

/-- Nothing carried yet. -/
def zeroV_128 : FVec F S128x1 .f32 × FVec F S128x1 .f32 × FVec F S128x1 .f32 × FVec F S128x1 .f32 × FVec F S128x128 .f32 :=
  (broadcast S128x1 (Scalar.ofBits (F := F) .f32 0x00000000#32), broadcast S128x1 (Scalar.ofBits (F := F) .f32 0x00000000#32), broadcast S128x1 (Scalar.ofBits (F := F) .f32 0x00000000#32), broadcast S128x1 (Scalar.ofBits (F := F) .f32 0x00000000#32), broadcast S128x128 (Scalar.ofBits (F := F) .f32 0x00000000#32))

/-- A block of queries, scaled and rounded. -/
def qV_128 (x : Vec F S1x128x128 .f32) : FVec F S128x128 .bf16 :=
  truncf .bf16 (mulf (shapeCast S128x128 x shapeCasts_S1x128x128_S128x128) (broadcast S128x128 (Scalar.ofBits (F := F) .f32 0x3E000000#32))) bitsLt_bf16_f32

/-- A block of the result's gradient, rounded. -/
def gV_128 (x : Vec F S1x128x128 .f32) : FVec F S128x128 .bf16 :=
  truncf .bf16 (shapeCast S128x128 x shapeCasts_S1x128x128_S128x128) bitsLt_bf16_f32

/-- The first head's lanes. -/
def loV_128 (lo : IVec S1x128 1) (x : FVec F S128x128 .bf16) : FVec F S128x128 .bf16 :=
  select (broadcastTo S128x128 (shapeCast S1x128 lo shapeCasts_S1x128_S1x128) broadcasts_S1x128_S128x128) x (broadcast S128x128 (Scalar.ofBits (F := F) .bf16 0x0000#16))

/-- The second head's lanes. -/
def hiV_128 (lo : IVec S1x128 1) (x : FVec F S128x128 .bf16) : FVec F S128x128 .bf16 :=
  select (broadcastTo S128x128 (shapeCast S1x128 lo shapeCasts_S1x128_S1x128) broadcasts_S1x128_S128x128) (broadcast S128x128 (Scalar.ofBits (F := F) .bf16 0x0000#16)) x

/-- The first head's total, and the second's. -/
def tot0V_128 (x : Vec F S1x128x128 .f32) : FVec F S128x1 .f32 :=
  extractStridedSlice S128x1 ![0, 0] (shapeCast S128x128 x shapeCasts_S1x128x128_S128x128) slices_S128x128_o0_0_S128x1
def tot1V_128 (x : Vec F S1x128x128 .f32) : FVec F S128x1 .f32 :=
  extractStridedSlice S128x1 ![0, 64] (shapeCast S128x128 x shapeCasts_S1x128x128_S128x128) slices_S128x128_o0_64_S128x1

/-- Both heads of a block, one below the other. -/
def catV_128 (x y : FVec F S128x128 .bf16) : FVec F S256x128 .bf16 :=
  concatenate S256x128 0 [⟨S128x128, x⟩, ⟨S128x128, y⟩] concatenates_S128x128_S128x128_S256x128_d0

/-- Which keys of the chunk at `s0` are seen: before the query's row, and not before `lower`. -/
def maskV_128 (r0 s0 lower : BitVec 32) : IVec S128x512 1 :=
  andi (cmpi .slt (addi (broadcast S128x512 s0) (iota .tc S128x512 32 [1] iota_S128x512_d1_w32)) (addi (broadcast S128x512 r0) (iota .tc S128x512 32 [0] iota_S128x512_d0_w32)))
    (cmpi .sge (addi (broadcast S128x512 s0) (iota .tc S128x512 32 [1] iota_S128x512_d1_w32)) (broadcast S128x512 lower))

end Cert.Kernel5Ideal

end
-- ==== Proof.SbTrip.lean ====
module

public import proofs.«01_k».proof.Proof.Gen.Kernel5Ideal.Loops
public import proofs.«01_k».proof.Proof.SbStep

@[expose] public section

set_option maxRecDepth 65536
set_option maxHeartbeats 8000000

noncomputable section

/-! # The stick-breaking gradient: what one trip of each inner loop carries and writes -/

namespace Cert.Kernel5Ideal

open Idealize.ShloMosaic Idealize.ShloMosaic.TcCoe Idealize.ShloMosaic.Tactic
open Idealize.SL Idealize.SL.RA Idealize.SL.BI
open Gen

variable {F : FTy → Type} [FloatOps F]

theorem tripR_t2_eq (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec F S512x512 .bf16) (v14 : FVec F S512x512 .bf16) (k0_t1 : Fin k0_t1_loop.trips) (v217 : BitVec 32) (v219 : BitVec 32) (v229 : FVec F S512x128 .bf16) (v232 : FVec F S512x128 .bf16) (v240 : FVec F S512x128 .bf16) (v243 : FVec F S512x128 .bf16) (v247 : FVec F S512x1 .f32) (v248 : FVec F S512x1 .f32) (v249 : FVec F S1024x128 .bf16) (v250 : FVec F S1024x128 .bf16) (v253 : IVec S512x512 32) (v255 : FVec F S512x128 .f32) (v273 : BitVec 32) (v277 : BitVec 32) (v289 : FVec F S512x128 .bf16) (v333 : FVec F S512x1 .f32) (v336 : FVec F S512x1 .f32) (v337 : FVec F S512x512 .bf16) (v338 : FVec F S512x512 .bf16) (v378 : FVec F S512x1 .f32) (v381 : FVec F S512x1 .f32) (v382 : FVec F S512x512 .bf16) (v383 : FVec F S512x512 .bf16) (X_arg3 : BufTy.Contents (Elt F) arg3.view.ty) (X_arg4 : BufTy.Contents (Elt F) arg4.view.ty) (k : Fin (k0_t2_loop k0_t1).trips) (acc : FVec F S512x1 .f32 × FVec F S512x1 .f32 × FVec F S512x1 .f32 × FVec F S512x1 .f32 × FVec F S512x128 .f32) (f_arg8 : BufTy.Contents (Elt F) arg8.view.ty) (f_arg9 : BufTy.Contents (Elt F) arg9.view.ty) :
    tripR_k0_t2 (F := F) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 X_arg3 X_arg4 k acc f_arg8 f_arg9 = stepU_512 v2 v8 v14 v229 v232 v240 v243 v247 v248 (View.readAt (Elt F) arg3.view (Rect.unit (s := S1x2176x128) (k0_off3 k0_t1 k) S1x512x128.size (k0_off3_inb k0_t1 k)).toLoadRect X_arg3) (View.readAt (Elt F) arg4.view (Rect.unit (s := S1x2176x128) (k0_off3 k0_t1 k) S1x512x128.size (k0_off3_inb k0_t1 k)).toLoadRect X_arg4) acc := by
  unfold tripR_k0_t2 trip_k0_t2; rfl

theorem tripL_t2_eq (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec F S512x512 .bf16) (v14 : FVec F S512x512 .bf16) (k0_t1 : Fin k0_t1_loop.trips) (v217 : BitVec 32) (v219 : BitVec 32) (v229 : FVec F S512x128 .bf16) (v232 : FVec F S512x128 .bf16) (v240 : FVec F S512x128 .bf16) (v243 : FVec F S512x128 .bf16) (v247 : FVec F S512x1 .f32) (v248 : FVec F S512x1 .f32) (v249 : FVec F S1024x128 .bf16) (v250 : FVec F S1024x128 .bf16) (v253 : IVec S512x512 32) (v255 : FVec F S512x128 .f32) (v273 : BitVec 32) (v277 : BitVec 32) (v289 : FVec F S512x128 .bf16) (v333 : FVec F S512x1 .f32) (v336 : FVec F S512x1 .f32) (v337 : FVec F S512x512 .bf16) (v338 : FVec F S512x512 .bf16) (v378 : FVec F S512x1 .f32) (v381 : FVec F S512x1 .f32) (v382 : FVec F S512x512 .bf16) (v383 : FVec F S512x512 .bf16) (X_arg3 : BufTy.Contents (Elt F) arg3.view.ty) (X_arg4 : BufTy.Contents (Elt F) arg4.view.ty) (k : Fin (k0_t2_loop k0_t1).trips) (acc : FVec F S512x1 .f32 × FVec F S512x1 .f32 × FVec F S512x1 .f32 × FVec F S512x1 .f32 × FVec F S512x128 .f32) (f_arg8 : BufTy.Contents (Elt F) arg8.view.ty) (f_arg9 : BufTy.Contents (Elt F) arg9.view.ty) :
    tripL_k0_t2 (F := F) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 X_arg3 X_arg4 k acc f_arg8 f_arg9
      = ([⟨(Rect.unit (s := S1x2176x128) (k0_off3 k0_t1 k) S1x512x128.size (k0_off3_inb k0_t1 k)), addV_512 v249 (dzU_512 v8 v14 v229 v240 v247 acc.1 acc.2.1 (winV (View.readAt (Elt F) arg3.view (Rect.unit (s := S1x2176x128) (k0_off3 k0_t1 k) S1x512x128.size (k0_off3_inb k0_t1 k)).toLoadRect X_arg3)) (winV (View.readAt (Elt F) arg4.view (Rect.unit (s := S1x2176x128) (k0_off3 k0_t1 k) S1x512x128.size (k0_off3_inb k0_t1 k)).toLoadRect X_arg4))) (dzU_512 v8 v14 v232 v243 v248 acc.2.2.1 acc.2.2.2.1 (winV (View.readAt (Elt F) arg3.view (Rect.unit (s := S1x2176x128) (k0_off3 k0_t1 k) S1x512x128.size (k0_off3_inb k0_t1 k)).toLoadRect X_arg3)) (winV (View.readAt (Elt F) arg4.view (Rect.unit (s := S1x2176x128) (k0_off3 k0_t1 k) S1x512x128.size (k0_off3_inb k0_t1 k)).toLoadRect X_arg4))) (View.readAt (Elt F) arg8.view (Rect.unit (s := S1x2176x128) (k0_off3 k0_t1 k) S1x512x128.size (k0_off3_inb k0_t1 k)).toLoadRect f_arg8)⟩],
        [⟨(Rect.unit (s := S1x2176x128) (k0_off3 k0_t1 k) S1x512x128.size (k0_off3_inb k0_t1 k)), addV_512 v250 (aU_512 v8 v229 v247 acc.1 (winV (View.readAt (Elt F) arg3.view (Rect.unit (s := S1x2176x128) (k0_off3 k0_t1 k) S1x512x128.size (k0_off3_inb k0_t1 k)).toLoadRect X_arg3))) (aU_512 v8 v232 v248 acc.2.2.1 (winV (View.readAt (Elt F) arg3.view (Rect.unit (s := S1x2176x128) (k0_off3 k0_t1 k) S1x512x128.size (k0_off3_inb k0_t1 k)).toLoadRect X_arg3))) (View.readAt (Elt F) arg9.view (Rect.unit (s := S1x2176x128) (k0_off3 k0_t1 k) S1x512x128.size (k0_off3_inb k0_t1 k)).toLoadRect f_arg9)⟩]) := by
  unfold tripL_k0_t2 trip_k0_t2; rfl

theorem tripR_t4_eq (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec F S512x512 .bf16) (v14 : FVec F S512x512 .bf16) (k0_t1 : Fin k0_t1_loop.trips) (v217 : BitVec 32) (v219 : BitVec 32) (v229 : FVec F S512x128 .bf16) (v232 : FVec F S512x128 .bf16) (v240 : FVec F S512x128 .bf16) (v243 : FVec F S512x128 .bf16) (v247 : FVec F S512x1 .f32) (v248 : FVec F S512x1 .f32) (v249 : FVec F S1024x128 .bf16) (v250 : FVec F S1024x128 .bf16) (v253 : IVec S512x512 32) (v255 : FVec F S512x128 .f32) (v273 : BitVec 32) (v277 : BitVec 32) (v289 : FVec F S512x128 .bf16) (v333 : FVec F S512x1 .f32) (v336 : FVec F S512x1 .f32) (v337 : FVec F S512x512 .bf16) (v338 : FVec F S512x512 .bf16) (v378 : FVec F S512x1 .f32) (v381 : FVec F S512x1 .f32) (v382 : FVec F S512x512 .bf16) (v383 : FVec F S512x512 .bf16) (X_arg3 : BufTy.Contents (Elt F) arg3.view.ty) (X_arg4 : BufTy.Contents (Elt F) arg4.view.ty) (k : Fin (k0_t4_loop k0_t1).trips) (acc : FVec F S512x1 .f32 × FVec F S512x1 .f32 × FVec F S512x1 .f32 × FVec F S512x1 .f32 × FVec F S512x128 .f32) (f_arg8 : BufTy.Contents (Elt F) arg8.view.ty) (f_arg9 : BufTy.Contents (Elt F) arg9.view.ty) :
    tripR_k0_t4 (F := F) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 X_arg3 X_arg4 k acc f_arg8 f_arg9 = stepM_512 v2 v8 v14 (k0_pay44 k0_t1 v253 v273 0#32 1#32 k) v229 v232 v240 v243 v247 v248 (View.readAt (Elt F) arg3.view (Rect.unit (s := S1x2176x128) (k0_off5 k0_t1 k) S1x512x128.size (k0_off5_inb k0_t1 k)).toLoadRect X_arg3) (View.readAt (Elt F) arg4.view (Rect.unit (s := S1x2176x128) (k0_off5 k0_t1 k) S1x512x128.size (k0_off5_inb k0_t1 k)).toLoadRect X_arg4) acc := by
  unfold tripR_k0_t4 trip_k0_t4; rfl

theorem tripL_t4_eq (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec F S512x512 .bf16) (v14 : FVec F S512x512 .bf16) (k0_t1 : Fin k0_t1_loop.trips) (v217 : BitVec 32) (v219 : BitVec 32) (v229 : FVec F S512x128 .bf16) (v232 : FVec F S512x128 .bf16) (v240 : FVec F S512x128 .bf16) (v243 : FVec F S512x128 .bf16) (v247 : FVec F S512x1 .f32) (v248 : FVec F S512x1 .f32) (v249 : FVec F S1024x128 .bf16) (v250 : FVec F S1024x128 .bf16) (v253 : IVec S512x512 32) (v255 : FVec F S512x128 .f32) (v273 : BitVec 32) (v277 : BitVec 32) (v289 : FVec F S512x128 .bf16) (v333 : FVec F S512x1 .f32) (v336 : FVec F S512x1 .f32) (v337 : FVec F S512x512 .bf16) (v338 : FVec F S512x512 .bf16) (v378 : FVec F S512x1 .f32) (v381 : FVec F S512x1 .f32) (v382 : FVec F S512x512 .bf16) (v383 : FVec F S512x512 .bf16) (X_arg3 : BufTy.Contents (Elt F) arg3.view.ty) (X_arg4 : BufTy.Contents (Elt F) arg4.view.ty) (k : Fin (k0_t4_loop k0_t1).trips) (acc : FVec F S512x1 .f32 × FVec F S512x1 .f32 × FVec F S512x1 .f32 × FVec F S512x1 .f32 × FVec F S512x128 .f32) (f_arg8 : BufTy.Contents (Elt F) arg8.view.ty) (f_arg9 : BufTy.Contents (Elt F) arg9.view.ty) :
    tripL_k0_t4 (F := F) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 X_arg3 X_arg4 k acc f_arg8 f_arg9
      = ([⟨(Rect.unit (s := S1x2176x128) (k0_off5 k0_t1 k) S1x512x128.size (k0_off5_inb k0_t1 k)), addV_512 v249 (dzM_512 (k0_pay44 k0_t1 v253 v273 0#32 1#32 k) v8 v14 v229 v240 v247 acc.1 acc.2.1 (winV (View.readAt (Elt F) arg3.view (Rect.unit (s := S1x2176x128) (k0_off5 k0_t1 k) S1x512x128.size (k0_off5_inb k0_t1 k)).toLoadRect X_arg3)) (winV (View.readAt (Elt F) arg4.view (Rect.unit (s := S1x2176x128) (k0_off5 k0_t1 k) S1x512x128.size (k0_off5_inb k0_t1 k)).toLoadRect X_arg4))) (dzM_512 (k0_pay44 k0_t1 v253 v273 0#32 1#32 k) v8 v14 v232 v243 v248 acc.2.2.1 acc.2.2.2.1 (winV (View.readAt (Elt F) arg3.view (Rect.unit (s := S1x2176x128) (k0_off5 k0_t1 k) S1x512x128.size (k0_off5_inb k0_t1 k)).toLoadRect X_arg3)) (winV (View.readAt (Elt F) arg4.view (Rect.unit (s := S1x2176x128) (k0_off5 k0_t1 k) S1x512x128.size (k0_off5_inb k0_t1 k)).toLoadRect X_arg4))) (View.readAt (Elt F) arg8.view (Rect.unit (s := S1x2176x128) (k0_off5 k0_t1 k) S1x512x128.size (k0_off5_inb k0_t1 k)).toLoadRect f_arg8)⟩],
        [⟨(Rect.unit (s := S1x2176x128) (k0_off5 k0_t1 k) S1x512x128.size (k0_off5_inb k0_t1 k)), addV_512 v250 (aM_512 (k0_pay44 k0_t1 v253 v273 0#32 1#32 k) v8 v229 v247 acc.1 (winV (View.readAt (Elt F) arg3.view (Rect.unit (s := S1x2176x128) (k0_off5 k0_t1 k) S1x512x128.size (k0_off5_inb k0_t1 k)).toLoadRect X_arg3))) (aM_512 (k0_pay44 k0_t1 v253 v273 0#32 1#32 k) v8 v232 v248 acc.2.2.1 (winV (View.readAt (Elt F) arg3.view (Rect.unit (s := S1x2176x128) (k0_off5 k0_t1 k) S1x512x128.size (k0_off5_inb k0_t1 k)).toLoadRect X_arg3))) (View.readAt (Elt F) arg9.view (Rect.unit (s := S1x2176x128) (k0_off5 k0_t1 k) S1x512x128.size (k0_off5_inb k0_t1 k)).toLoadRect f_arg9)⟩]) := by
  unfold tripL_k0_t4 trip_k0_t4; rfl

theorem tripR_t6_eq (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec F S512x512 .bf16) (v14 : FVec F S512x512 .bf16) (v28 : FVec F S128x128 .bf16) (v31 : FVec F S128x128 .bf16) (v38 : FVec F S128x128 .bf16) (v41 : FVec F S128x128 .bf16) (v44 : FVec F S128x1 .f32) (v45 : FVec F S128x1 .f32) (v46 : FVec F S256x128 .bf16) (v47 : FVec F S256x128 .bf16) (v50 : IVec S128x512 32) (v52 : FVec F S128x128 .f32) (v53 : BitVec 32) (v57 : BitVec 32) (v69 : FVec F S512x128 .bf16) (v113 : FVec F S128x1 .f32) (v116 : FVec F S128x1 .f32) (v117 : FVec F S128x512 .bf16) (v118 : FVec F S128x512 .bf16) (v158 : FVec F S128x1 .f32) (v161 : FVec F S128x1 .f32) (v162 : FVec F S128x512 .bf16) (v163 : FVec F S128x512 .bf16) (v166 : FVec F S512x128 .f32) (v168 : FVec F S512x128 .f32) (X_arg3 : BufTy.Contents (Elt F) arg3.view.ty) (X_arg4 : BufTy.Contents (Elt F) arg4.view.ty) (k : Fin k0_t6_loop.trips) (acc : FVec F S128x1 .f32 × FVec F S128x1 .f32 × FVec F S128x1 .f32 × FVec F S128x1 .f32 × FVec F S128x128 .f32) (f_arg8 : BufTy.Contents (Elt F) arg8.view.ty) (f_arg9 : BufTy.Contents (Elt F) arg9.view.ty) :
    tripR_k0_t6 (F := F) 𝒱 c bd i arg2 harg2 arg3 harg3 arg4 harg4 arg5 harg5 arg6 harg6 arg7 harg7 arg8 harg8 arg9 harg9 v2 v8 v14 v28 v31 v38 v41 v44 v45 v46 v47 v50 v52 v53 v57 v69 v113 v116 v117 v118 v158 v161 v162 v163 v166 v168 X_arg3 X_arg4 k acc f_arg8 f_arg9 = stepU_128 v2 v8 v14 v28 v31 v38 v41 v44 v45 (View.readAt (Elt F) arg3.view (Rect.unit (s := S1x2176x128) (k0_off8 k) S1x512x128.size (k0_off8_inb k)).toLoadRect X_arg3) (View.readAt (Elt F) arg4.view (Rect.unit (s := S1x2176x128) (k0_off8 k) S1x512x128.size (k0_off8_inb k)).toLoadRect X_arg4) acc := by
  unfold tripR_k0_t6 trip_k0_t6; rfl

theorem tripL_t6_eq (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec F S512x512 .bf16) (v14 : FVec F S512x512 .bf16) (v28 : FVec F S128x128 .bf16) (v31 : FVec F S128x128 .bf16) (v38 : FVec F S128x128 .bf16) (v41 : FVec F S128x128 .bf16) (v44 : FVec F S128x1 .f32) (v45 : FVec F S128x1 .f32) (v46 : FVec F S256x128 .bf16) (v47 : FVec F S256x128 .bf16) (v50 : IVec S128x512 32) (v52 : FVec F S128x128 .f32) (v53 : BitVec 32) (v57 : BitVec 32) (v69 : FVec F S512x128 .bf16) (v113 : FVec F S128x1 .f32) (v116 : FVec F S128x1 .f32) (v117 : FVec F S128x512 .bf16) (v118 : FVec F S128x512 .bf16) (v158 : FVec F S128x1 .f32) (v161 : FVec F S128x1 .f32) (v162 : FVec F S128x512 .bf16) (v163 : FVec F S128x512 .bf16) (v166 : FVec F S512x128 .f32) (v168 : FVec F S512x128 .f32) (X_arg3 : BufTy.Contents (Elt F) arg3.view.ty) (X_arg4 : BufTy.Contents (Elt F) arg4.view.ty) (k : Fin k0_t6_loop.trips) (acc : FVec F S128x1 .f32 × FVec F S128x1 .f32 × FVec F S128x1 .f32 × FVec F S128x1 .f32 × FVec F S128x128 .f32) (f_arg8 : BufTy.Contents (Elt F) arg8.view.ty) (f_arg9 : BufTy.Contents (Elt F) arg9.view.ty) :
    tripL_k0_t6 (F := F) 𝒱 c bd i arg2 harg2 arg3 harg3 arg4 harg4 arg5 harg5 arg6 harg6 arg7 harg7 arg8 harg8 arg9 harg9 v2 v8 v14 v28 v31 v38 v41 v44 v45 v46 v47 v50 v52 v53 v57 v69 v113 v116 v117 v118 v158 v161 v162 v163 v166 v168 X_arg3 X_arg4 k acc f_arg8 f_arg9
      = ([⟨(Rect.unit (s := S1x2176x128) (k0_off8 k) S1x512x128.size (k0_off8_inb k)), addV_128 v46 (dzU_128 v8 v14 v28 v38 v44 acc.1 acc.2.1 (winV (View.readAt (Elt F) arg3.view (Rect.unit (s := S1x2176x128) (k0_off8 k) S1x512x128.size (k0_off8_inb k)).toLoadRect X_arg3)) (winV (View.readAt (Elt F) arg4.view (Rect.unit (s := S1x2176x128) (k0_off8 k) S1x512x128.size (k0_off8_inb k)).toLoadRect X_arg4))) (dzU_128 v8 v14 v31 v41 v45 acc.2.2.1 acc.2.2.2.1 (winV (View.readAt (Elt F) arg3.view (Rect.unit (s := S1x2176x128) (k0_off8 k) S1x512x128.size (k0_off8_inb k)).toLoadRect X_arg3)) (winV (View.readAt (Elt F) arg4.view (Rect.unit (s := S1x2176x128) (k0_off8 k) S1x512x128.size (k0_off8_inb k)).toLoadRect X_arg4))) (View.readAt (Elt F) arg8.view (Rect.unit (s := S1x2176x128) (k0_off8 k) S1x512x128.size (k0_off8_inb k)).toLoadRect f_arg8)⟩],
        [⟨(Rect.unit (s := S1x2176x128) (k0_off8 k) S1x512x128.size (k0_off8_inb k)), addV_128 v47 (aU_128 v8 v28 v44 acc.1 (winV (View.readAt (Elt F) arg3.view (Rect.unit (s := S1x2176x128) (k0_off8 k) S1x512x128.size (k0_off8_inb k)).toLoadRect X_arg3))) (aU_128 v8 v31 v45 acc.2.2.1 (winV (View.readAt (Elt F) arg3.view (Rect.unit (s := S1x2176x128) (k0_off8 k) S1x512x128.size (k0_off8_inb k)).toLoadRect X_arg3))) (View.readAt (Elt F) arg9.view (Rect.unit (s := S1x2176x128) (k0_off8 k) S1x512x128.size (k0_off8_inb k)).toLoadRect f_arg9)⟩]) := by
  unfold tripL_k0_t6 trip_k0_t6; rfl

theorem tripR_t8_eq (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec F S512x512 .bf16) (v14 : FVec F S512x512 .bf16) (v28 : FVec F S128x128 .bf16) (v31 : FVec F S128x128 .bf16) (v38 : FVec F S128x128 .bf16) (v41 : FVec F S128x128 .bf16) (v44 : FVec F S128x1 .f32) (v45 : FVec F S128x1 .f32) (v46 : FVec F S256x128 .bf16) (v47 : FVec F S256x128 .bf16) (v50 : IVec S128x512 32) (v53 : BitVec 32) (c0_i32_70 : BitVec 32) (X_arg3 : BufTy.Contents (Elt F) arg3.view.ty) (X_arg4 : BufTy.Contents (Elt F) arg4.view.ty) (k : Fin k0_t8_loop.trips) (acc : FVec F S128x1 .f32 × FVec F S128x1 .f32 × FVec F S128x1 .f32 × FVec F S128x1 .f32 × FVec F S128x128 .f32) (f_arg8 : BufTy.Contents (Elt F) arg8.view.ty) (f_arg9 : BufTy.Contents (Elt F) arg9.view.ty) :
    tripR_k0_t8 (F := F) 𝒱 c bd i arg2 harg2 arg3 harg3 arg4 harg4 arg5 harg5 arg6 harg6 arg7 harg7 arg8 harg8 arg9 harg9 v2 v8 v14 v28 v31 v38 v41 v44 v45 v46 v47 v50 v53 c0_i32_70 X_arg3 X_arg4 k acc f_arg8 f_arg9 = stepM_128 v2 v8 v14 (k0_pay205 v50 v53 c0_i32_70 1#32 k) v28 v31 v38 v41 v44 v45 (View.readAt (Elt F) arg3.view (Rect.unit (s := S1x2176x128) (k0_off10 k) S1x512x128.size (k0_off10_inb k)).toLoadRect X_arg3) (View.readAt (Elt F) arg4.view (Rect.unit (s := S1x2176x128) (k0_off10 k) S1x512x128.size (k0_off10_inb k)).toLoadRect X_arg4) acc := by
  unfold tripR_k0_t8 trip_k0_t8; rfl

theorem tripL_t8_eq (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec F S512x512 .bf16) (v14 : FVec F S512x512 .bf16) (v28 : FVec F S128x128 .bf16) (v31 : FVec F S128x128 .bf16) (v38 : FVec F S128x128 .bf16) (v41 : FVec F S128x128 .bf16) (v44 : FVec F S128x1 .f32) (v45 : FVec F S128x1 .f32) (v46 : FVec F S256x128 .bf16) (v47 : FVec F S256x128 .bf16) (v50 : IVec S128x512 32) (v53 : BitVec 32) (c0_i32_70 : BitVec 32) (X_arg3 : BufTy.Contents (Elt F) arg3.view.ty) (X_arg4 : BufTy.Contents (Elt F) arg4.view.ty) (k : Fin k0_t8_loop.trips) (acc : FVec F S128x1 .f32 × FVec F S128x1 .f32 × FVec F S128x1 .f32 × FVec F S128x1 .f32 × FVec F S128x128 .f32) (f_arg8 : BufTy.Contents (Elt F) arg8.view.ty) (f_arg9 : BufTy.Contents (Elt F) arg9.view.ty) :
    tripL_k0_t8 (F := F) 𝒱 c bd i arg2 harg2 arg3 harg3 arg4 harg4 arg5 harg5 arg6 harg6 arg7 harg7 arg8 harg8 arg9 harg9 v2 v8 v14 v28 v31 v38 v41 v44 v45 v46 v47 v50 v53 c0_i32_70 X_arg3 X_arg4 k acc f_arg8 f_arg9
      = ([⟨(Rect.unit (s := S1x2176x128) (k0_off10 k) S1x512x128.size (k0_off10_inb k)), addV_128 v46 (dzM_128 (k0_pay205 v50 v53 c0_i32_70 1#32 k) v8 v14 v28 v38 v44 acc.1 acc.2.1 (winV (View.readAt (Elt F) arg3.view (Rect.unit (s := S1x2176x128) (k0_off10 k) S1x512x128.size (k0_off10_inb k)).toLoadRect X_arg3)) (winV (View.readAt (Elt F) arg4.view (Rect.unit (s := S1x2176x128) (k0_off10 k) S1x512x128.size (k0_off10_inb k)).toLoadRect X_arg4))) (dzM_128 (k0_pay205 v50 v53 c0_i32_70 1#32 k) v8 v14 v31 v41 v45 acc.2.2.1 acc.2.2.2.1 (winV (View.readAt (Elt F) arg3.view (Rect.unit (s := S1x2176x128) (k0_off10 k) S1x512x128.size (k0_off10_inb k)).toLoadRect X_arg3)) (winV (View.readAt (Elt F) arg4.view (Rect.unit (s := S1x2176x128) (k0_off10 k) S1x512x128.size (k0_off10_inb k)).toLoadRect X_arg4))) (View.readAt (Elt F) arg8.view (Rect.unit (s := S1x2176x128) (k0_off10 k) S1x512x128.size (k0_off10_inb k)).toLoadRect f_arg8)⟩],
        [⟨(Rect.unit (s := S1x2176x128) (k0_off10 k) S1x512x128.size (k0_off10_inb k)), addV_128 v47 (aM_128 (k0_pay205 v50 v53 c0_i32_70 1#32 k) v8 v28 v44 acc.1 (winV (View.readAt (Elt F) arg3.view (Rect.unit (s := S1x2176x128) (k0_off10 k) S1x512x128.size (k0_off10_inb k)).toLoadRect X_arg3))) (aM_128 (k0_pay205 v50 v53 c0_i32_70 1#32 k) v8 v31 v45 acc.2.2.1 (winV (View.readAt (Elt F) arg3.view (Rect.unit (s := S1x2176x128) (k0_off10 k) S1x512x128.size (k0_off10_inb k)).toLoadRect X_arg3))) (View.readAt (Elt F) arg9.view (Rect.unit (s := S1x2176x128) (k0_off10 k) S1x512x128.size (k0_off10_inb k)).toLoadRect f_arg9)⟩]) := by
  unfold tripL_k0_t8 trip_k0_t8; rfl

end Cert.Kernel5Ideal

end
-- ==== Proof.SbPoint.lean ====
/- One chunk of keys of the stick-breaking gradient, entry by entry. -/
module

public import proofs.«01_k».proof.Proof.SbStep
public import Idealize.ShloMosaic.Lib.Pipeline.ValueKit
public import Idealize.ShloMosaic.Lib.Pointwise
public import Idealize.ShloMosaic.Lib.WordCmp

@[expose] public section

set_option maxRecDepth 16384
set_option maxHeartbeats 1000000

noncomputable section

namespace Cert.Kernel5Ideal

open Idealize.ShloMosaic Idealize.ShloMosaic.TcCoe
open Gen

theorem winV_apply (x : Vec Ideal S1x512x128 .f32) (j : Fin 512) (l : Fin 128) :
    winV (F := Ideal) x (ix2 j l) = x (ix3 0 j l) := by
  unfold winV; pointwise

theorem stackV_lo (lo : IVec S1x128 1) (kb : FVec Ideal S512x128 .bf16) (s : Fin 512) (h : s.val < 1024) (l : Fin 128) :
    stackV (F := Ideal) lo kb (ix2 (⟨s.val, h⟩ : Fin 1024) l) = if lo (ix2 0 l) = 1#1 then kb (ix2 s l) else 0 := by
  unfold stackV; pointwise
  rfl

theorem stackV_hi (lo : IVec S1x128 1) (kb : FVec Ideal S512x128 .bf16) (s : Fin 512) (h : 512 + s.val < 1024) (l : Fin 128) :
    stackV (F := Ideal) lo kb (ix2 (⟨512 + s.val, h⟩ : Fin 1024) l) = if lo (ix2 0 l) = 1#1 then 0 else kb (ix2 s l) := by
  unfold stackV; pointwise
  rfl

theorem lanes (l : Fin 128) : k0_pay265 (ix2 0 l) = 1#1 ↔ l.val < 64 := by
  revert l; decide +kernel

/-- A comparison's bit as a number. -/
theorem bit_num (p : Bool) : FloatOps.sitofp (F := Ideal) FTy.f32 (BitVec.setWidth 32 (BitVec.ofBool p)) = if p then 1 else 0 := by
  show ((((BitVec.setWidth 32 (BitVec.ofBool p)).toInt : ℤ) : ℝ) : EReal) = _
  cases p <;> simp

theorem after_apply (x j : Fin 512) : k0_pay266 (F := Ideal) (ix2 x j) = if j < x then 1 else 0 := by
  unfold k0_pay266; pointwise
  rw [WordCmp.cmpi_sgt_ofNat (by omega) (by omega), bit_num]
  simp only [decide_eq_true_eq, Fin.lt_def]

theorem before_apply (x j : Fin 512) : k0_pay267 (F := Ideal) (ix2 x j) = if x < j then 1 else 0 := by
  unfold k0_pay267; pointwise
  rw [WordCmp.cmpi_slt_ofNat (by omega) (by omega), bit_num]
  simp only [decide_eq_true_eq, Fin.lt_def]

theorem zV_512_apply (qh : FVec Ideal S512x128 .bf16) (kb : FVec Ideal S512x128 .bf16) (i : Fin 512) (j : Fin 512) :
    zV_512 (F := Ideal) qh kb (ix2 i j) = ∑ l : Fin 128, qh (ix2 i l) * kb (ix2 j l) := by
  unfold zV_512; pointwise

theorem lbV_512_apply (z : FVec Ideal S512x512 .f32) (i : Fin 512) (j : Fin 512) :
    lbV_512 (F := Ideal) z (ix2 i j) = min (z (ix2 i j)) 0 - Ideal.log (1 + Ideal.exp (0 - max (z (ix2 i j)) (-z (ix2 i j)))) := by
  unfold lbV_512; pointwise
  rfl

theorem mV_512_apply (m : IVec S512x512 1) (x : FVec Ideal S512x512 .f32) (i : Fin 512) (j : Fin 512) :
    mV_512 (F := Ideal) m x (ix2 i j) = if m (ix2 i j) = 1#1 then x (ix2 i j) else 0 := by
  unfold mV_512; pointwise
  rfl

theorem sumV_512_apply (x : FVec Ideal S512x512 .f32) (i : Fin 512) (u : Fin 1) :
    sumV_512 (F := Ideal) x (ix2 i u) = ∑ j : Fin 512, x (ix2 i j) := by
  unfold sumV_512; pointwise

theorem aV_512_apply (aft : FVec Ideal S512x512 .bf16) (lb L : FVec Ideal S512x512 .f32) (tot left : FVec Ideal S512x1 .f32) (i : Fin 512) (j : Fin 512) :
    aV_512 (F := Ideal) aft lb L tot left (ix2 i j)
      = Ideal.exp (lb (ix2 i j) + (∑ s : Fin 512, L (ix2 i s) * aft (ix2 s j)) + (tot (ix2 i 0) - left (ix2 i 0) - ∑ s : Fin 512, L (ix2 i s))) := by
  unfold aV_512; pointwise [sumV_512_apply]

theorem wV_512_apply (gh : FVec Ideal S512x128 .bf16) (vb : FVec Ideal S512x128 .bf16) (a : FVec Ideal S512x512 .f32) (i : Fin 512) (j : Fin 512) :
    wV_512 (F := Ideal) gh vb a (ix2 i j) = a (ix2 i j) * ∑ l : Fin 128, gh (ix2 i l) * vb (ix2 j l) := by
  unfold wV_512; pointwise

theorem dzV_512_apply (bef : FVec Ideal S512x512 .bf16) (pre : FVec Ideal S512x1 .f32) (lb l1 w : FVec Ideal S512x512 .f32) (i : Fin 512) (j : Fin 512) :
    dzV_512 (F := Ideal) bef pre lb l1 w (ix2 i j)
      = w (ix2 i j) * Ideal.exp (l1 (ix2 i j)) - (pre (ix2 i 0) + ∑ s : Fin 512, w (ix2 i s) * bef (ix2 s j)) * Ideal.exp (lb (ix2 i j)) := by
  unfold dzV_512; pointwise

theorem accV_512_apply (lo : IVec S1x128 1) (acc : FVec Ideal S512x128 .f32) (kb : FVec Ideal S512x128 .bf16) (dz0 dz1 : FVec Ideal S512x512 .f32) (i : Fin 512) (l : Fin 128) :
    accV_512 (F := Ideal) lo acc kb dz0 dz1 (ix2 i l)
      = acc (ix2 i l) + ((∑ x : Fin 512, dz0 (ix2 i x) * if lo (ix2 0 l) = 1#1 then kb (ix2 x l) else 0)
        + ∑ x : Fin 512, dz1 (ix2 i x) * if lo (ix2 0 l) = 1#1 then 0 else kb (ix2 x l)) := by
  unfold accV_512; pointwise
  simp only [stackV_lo, stackV_hi]

theorem addV_512_apply (st : FVec Ideal S1024x128 .bf16) (x0 x1 : FVec Ideal S512x512 .f32) (old : Vec Ideal S1x512x128 .f32) (j : Fin 512) (l : Fin 128) :
    addV_512 (F := Ideal) st x0 x1 old (ix3 0 j l)
      = old (ix3 0 j l) + ((∑ x : Fin 512, x0 (ix2 x j) * st (ix2 (⟨x.val, by omega⟩ : Fin 1024) l))
        + ∑ x : Fin 512, x1 (ix2 x j) * st (ix2 (⟨512 + x.val, by omega⟩ : Fin 1024) l)) := by
  unfold addV_512; pointwise

theorem tot0V_512_apply (x : Vec Ideal S1x512x128 .f32) (i : Fin 512) (u : Fin 1) : tot0V_512 (F := Ideal) x (ix2 i u) = x (ix3 0 i 0) := by
  unfold tot0V_512; pointwise

theorem tot1V_512_apply (x : Vec Ideal S1x512x128 .f32) (i : Fin 512) (u : Fin 1) : tot1V_512 (F := Ideal) x (ix2 i u) = x (ix3 0 i 64) := by
  unfold tot1V_512; pointwise

theorem loV_512_apply (lo : IVec S1x128 1) (x : FVec Ideal S512x128 .bf16) (i : Fin 512) (l : Fin 128) :
    loV_512 (F := Ideal) lo x (ix2 i l) = if lo (ix2 0 l) = 1#1 then x (ix2 i l) else 0 := by
  unfold loV_512; pointwise
  rfl

theorem hiV_512_apply (lo : IVec S1x128 1) (x : FVec Ideal S512x128 .bf16) (i : Fin 512) (l : Fin 128) :
    hiV_512 (F := Ideal) lo x (ix2 i l) = if lo (ix2 0 l) = 1#1 then 0 else x (ix2 i l) := by
  unfold hiV_512; pointwise
  rfl

theorem qV_512_apply (x : Vec Ideal S1x512x128 .f32) (i : Fin 512) (l : Fin 128) :
    qV_512 (F := Ideal) x (ix2 i l) = x (ix3 0 i l) * Ideal.ofBits .f32 0x3E000000#32 := by
  unfold qV_512; pointwise

theorem gV_512_apply (x : Vec Ideal S1x512x128 .f32) (i : Fin 512) (l : Fin 128) :
    gV_512 (F := Ideal) x (ix2 i l) = x (ix3 0 i l) := by
  unfold gV_512; pointwise

theorem catV_512_lo (x y : FVec Ideal S512x128 .bf16) (i : Fin 512) (h : i.val < 1024) (l : Fin 128) :
    catV_512 (F := Ideal) x y (ix2 (⟨i.val, h⟩ : Fin 1024) l) = x (ix2 i l) := by
  unfold catV_512; pointwise

theorem catV_512_hi (x y : FVec Ideal S512x128 .bf16) (i : Fin 512) (h : 512 + i.val < 1024) (l : Fin 128) :
    catV_512 (F := Ideal) x y (ix2 (⟨512 + i.val, h⟩ : Fin 1024) l) = y (ix2 i l) := by
  unfold catV_512; pointwise

theorem stepU_512_eq (lo : IVec S1x128 1) (aft bef : FVec Ideal S512x512 .bf16) (q0 q1 g0 g1 : FVec Ideal S512x128 .bf16) (tot0 tot1 : FVec Ideal S512x1 .f32) (k v : Vec Ideal S1x512x128 .f32)
    (s : FVec Ideal S512x1 .f32 × FVec Ideal S512x1 .f32 × FVec Ideal S512x1 .f32 × FVec Ideal S512x1 .f32 × FVec Ideal S512x128 .f32) :
    stepU_512 (F := Ideal) lo aft bef q0 q1 g0 g1 tot0 tot1 k v s = stepM_512 lo aft bef (fun _ => 1#1) q0 q1 g0 g1 tot0 tot1 k v s := rfl

theorem dzU_512_eq (aft bef : FVec Ideal S512x512 .bf16) (qh gh : FVec Ideal S512x128 .bf16) (tot left pre : FVec Ideal S512x1 .f32) (kb vb : FVec Ideal S512x128 .bf16) :
    dzU_512 (F := Ideal) aft bef qh gh tot left pre kb vb = dzM_512 (fun _ => 1#1) aft bef qh gh tot left pre kb vb := rfl

theorem aU_512_eq (aft : FVec Ideal S512x512 .bf16) (qh : FVec Ideal S512x128 .bf16) (tot left : FVec Ideal S512x1 .f32) (kb : FVec Ideal S512x128 .bf16) :
    aU_512 (F := Ideal) aft qh tot left kb = aM_512 (fun _ => 1#1) aft qh tot left kb := rfl

theorem zV_128_apply (qh : FVec Ideal S128x128 .bf16) (kb : FVec Ideal S512x128 .bf16) (i : Fin 128) (j : Fin 512) :
    zV_128 (F := Ideal) qh kb (ix2 i j) = ∑ l : Fin 128, qh (ix2 i l) * kb (ix2 j l) := by
  unfold zV_128; pointwise

theorem lbV_128_apply (z : FVec Ideal S128x512 .f32) (i : Fin 128) (j : Fin 512) :
    lbV_128 (F := Ideal) z (ix2 i j) = min (z (ix2 i j)) 0 - Ideal.log (1 + Ideal.exp (0 - max (z (ix2 i j)) (-z (ix2 i j)))) := by
  unfold lbV_128; pointwise
  rfl

theorem mV_128_apply (m : IVec S128x512 1) (x : FVec Ideal S128x512 .f32) (i : Fin 128) (j : Fin 512) :
    mV_128 (F := Ideal) m x (ix2 i j) = if m (ix2 i j) = 1#1 then x (ix2 i j) else 0 := by
  unfold mV_128; pointwise
  rfl

theorem sumV_128_apply (x : FVec Ideal S128x512 .f32) (i : Fin 128) (u : Fin 1) :
    sumV_128 (F := Ideal) x (ix2 i u) = ∑ j : Fin 512, x (ix2 i j) := by
  unfold sumV_128; pointwise

theorem aV_128_apply (aft : FVec Ideal S512x512 .bf16) (lb L : FVec Ideal S128x512 .f32) (tot left : FVec Ideal S128x1 .f32) (i : Fin 128) (j : Fin 512) :
    aV_128 (F := Ideal) aft lb L tot left (ix2 i j)
      = Ideal.exp (lb (ix2 i j) + (∑ s : Fin 512, L (ix2 i s) * aft (ix2 s j)) + (tot (ix2 i 0) - left (ix2 i 0) - ∑ s : Fin 512, L (ix2 i s))) := by
  unfold aV_128; pointwise [sumV_128_apply]

theorem wV_128_apply (gh : FVec Ideal S128x128 .bf16) (vb : FVec Ideal S512x128 .bf16) (a : FVec Ideal S128x512 .f32) (i : Fin 128) (j : Fin 512) :
    wV_128 (F := Ideal) gh vb a (ix2 i j) = a (ix2 i j) * ∑ l : Fin 128, gh (ix2 i l) * vb (ix2 j l) := by
  unfold wV_128; pointwise

theorem dzV_128_apply (bef : FVec Ideal S512x512 .bf16) (pre : FVec Ideal S128x1 .f32) (lb l1 w : FVec Ideal S128x512 .f32) (i : Fin 128) (j : Fin 512) :
    dzV_128 (F := Ideal) bef pre lb l1 w (ix2 i j)
      = w (ix2 i j) * Ideal.exp (l1 (ix2 i j)) - (pre (ix2 i 0) + ∑ s : Fin 512, w (ix2 i s) * bef (ix2 s j)) * Ideal.exp (lb (ix2 i j)) := by
  unfold dzV_128; pointwise

theorem accV_128_apply (lo : IVec S1x128 1) (acc : FVec Ideal S128x128 .f32) (kb : FVec Ideal S512x128 .bf16) (dz0 dz1 : FVec Ideal S128x512 .f32) (i : Fin 128) (l : Fin 128) :
    accV_128 (F := Ideal) lo acc kb dz0 dz1 (ix2 i l)
      = acc (ix2 i l) + ((∑ x : Fin 512, dz0 (ix2 i x) * if lo (ix2 0 l) = 1#1 then kb (ix2 x l) else 0)
        + ∑ x : Fin 512, dz1 (ix2 i x) * if lo (ix2 0 l) = 1#1 then 0 else kb (ix2 x l)) := by
  unfold accV_128; pointwise
  simp only [stackV_lo, stackV_hi]

theorem addV_128_apply (st : FVec Ideal S256x128 .bf16) (x0 x1 : FVec Ideal S128x512 .f32) (old : Vec Ideal S1x512x128 .f32) (j : Fin 512) (l : Fin 128) :
    addV_128 (F := Ideal) st x0 x1 old (ix3 0 j l)
      = old (ix3 0 j l) + ((∑ x : Fin 128, x0 (ix2 x j) * st (ix2 (⟨x.val, by omega⟩ : Fin 256) l))
        + ∑ x : Fin 128, x1 (ix2 x j) * st (ix2 (⟨128 + x.val, by omega⟩ : Fin 256) l)) := by
  unfold addV_128; pointwise

theorem tot0V_128_apply (x : Vec Ideal S1x128x128 .f32) (i : Fin 128) (u : Fin 1) : tot0V_128 (F := Ideal) x (ix2 i u) = x (ix3 0 i 0) := by
  unfold tot0V_128; pointwise

theorem tot1V_128_apply (x : Vec Ideal S1x128x128 .f32) (i : Fin 128) (u : Fin 1) : tot1V_128 (F := Ideal) x (ix2 i u) = x (ix3 0 i 64) := by
  unfold tot1V_128; pointwise

theorem loV_128_apply (lo : IVec S1x128 1) (x : FVec Ideal S128x128 .bf16) (i : Fin 128) (l : Fin 128) :
    loV_128 (F := Ideal) lo x (ix2 i l) = if lo (ix2 0 l) = 1#1 then x (ix2 i l) else 0 := by
  unfold loV_128; pointwise
  rfl

theorem hiV_128_apply (lo : IVec S1x128 1) (x : FVec Ideal S128x128 .bf16) (i : Fin 128) (l : Fin 128) :
    hiV_128 (F := Ideal) lo x (ix2 i l) = if lo (ix2 0 l) = 1#1 then 0 else x (ix2 i l) := by
  unfold hiV_128; pointwise
  rfl

theorem qV_128_apply (x : Vec Ideal S1x128x128 .f32) (i : Fin 128) (l : Fin 128) :
    qV_128 (F := Ideal) x (ix2 i l) = x (ix3 0 i l) * Ideal.ofBits .f32 0x3E000000#32 := by
  unfold qV_128; pointwise

theorem gV_128_apply (x : Vec Ideal S1x128x128 .f32) (i : Fin 128) (l : Fin 128) :
    gV_128 (F := Ideal) x (ix2 i l) = x (ix3 0 i l) := by
  unfold gV_128; pointwise

theorem catV_128_lo (x y : FVec Ideal S128x128 .bf16) (i : Fin 128) (h : i.val < 256) (l : Fin 128) :
    catV_128 (F := Ideal) x y (ix2 (⟨i.val, h⟩ : Fin 256) l) = x (ix2 i l) := by
  unfold catV_128; pointwise

theorem catV_128_hi (x y : FVec Ideal S128x128 .bf16) (i : Fin 128) (h : 128 + i.val < 256) (l : Fin 128) :
    catV_128 (F := Ideal) x y (ix2 (⟨128 + i.val, h⟩ : Fin 256) l) = y (ix2 i l) := by
  unfold catV_128; pointwise

theorem stepU_128_eq (lo : IVec S1x128 1) (aft bef : FVec Ideal S512x512 .bf16) (q0 q1 g0 g1 : FVec Ideal S128x128 .bf16) (tot0 tot1 : FVec Ideal S128x1 .f32) (k v : Vec Ideal S1x512x128 .f32)
    (s : FVec Ideal S128x1 .f32 × FVec Ideal S128x1 .f32 × FVec Ideal S128x1 .f32 × FVec Ideal S128x1 .f32 × FVec Ideal S128x128 .f32) :
    stepU_128 (F := Ideal) lo aft bef q0 q1 g0 g1 tot0 tot1 k v s = stepM_128 lo aft bef (fun _ => 1#1) q0 q1 g0 g1 tot0 tot1 k v s := rfl

theorem dzU_128_eq (aft bef : FVec Ideal S512x512 .bf16) (qh gh : FVec Ideal S128x128 .bf16) (tot left pre : FVec Ideal S128x1 .f32) (kb vb : FVec Ideal S512x128 .bf16) :
    dzU_128 (F := Ideal) aft bef qh gh tot left pre kb vb = dzM_128 (fun _ => 1#1) aft bef qh gh tot left pre kb vb := rfl

theorem aU_128_eq (aft : FVec Ideal S512x512 .bf16) (qh : FVec Ideal S128x128 .bf16) (tot left : FVec Ideal S128x1 .f32) (kb : FVec Ideal S512x128 .bf16) :
    aU_128 (F := Ideal) aft qh tot left kb = aM_128 (fun _ => 1#1) aft qh tot left kb := rfl

end Cert.Kernel5Ideal
-- ==== Proof.SbReal.lean ====
/- The stick-breaking gradient on real numbers: one head's quantities, and what a chunk of keys knows of them. -/
module

public import Idealize.ShloMosaic.Lib.Pointwise

@[expose] public section

noncomputable section

namespace Cert.Stick

open Finset

/-- The query `t` sees the key `s`: a key before it, past the padding. -/
def Vis (t s : ℕ) : Prop := s < t ∧ 112 ≤ s

instance (t s : ℕ) : Decidable (Vis t s) := inferInstanceAs (Decidable (_ ∧ _))

/-- The logarithm of the sigmoid. -/
def lb (x : ℝ) : ℝ := min x 0 - Real.log (1 + Real.exp (-|x|))

variable (z g : ℕ → ℕ → ℝ)

/-- The logarithm of what a key leaves of the stick. -/
def lv (t s : ℕ) : ℝ := if Vis t s then lb (z t s) - z t s else 0

/-- Its sum over the first `n` keys. -/
def lvTo (n t : ℕ) : ℝ := ∑ s ∈ range n, lv z t s

/-- The weight of a key: its part of what the keys after it leave. -/
def wt (t s : ℕ) : ℝ := if Vis t s then Real.exp (lb (z t s) + (lvTo z 2176 t - lvTo z (s + 1) t)) else 0

/-- The weight times the gradient of the weight. -/
def wg (t s : ℕ) : ℝ := wt z t s * g t s

/-- Its sum over the first `n` keys. -/
def wgTo (n t : ℕ) : ℝ := ∑ s ∈ range n, wg z g t s

/-- The gradient of the scores. -/
def dz (t s : ℕ) : ℝ :=
  if Vis t s then wg z g t s * Real.exp (lb (z t s) - z t s) - wgTo z g s t * Real.exp (lb (z t s)) else 0

/-- The part of a function on the keys that a chunk beginning at `s0` has to count, the keys before `S` being counted already. -/
def part (S s0 : ℕ) (f : ℕ → ℝ) (j : ℕ) : ℝ := if S ≤ s0 + j then f (s0 + j) else 0

theorem part_sum (S s0 : ℕ) (f : ℕ → ℝ) (h0 : s0 ≤ S) (n : ℕ) (h : S ≤ s0 + n) :
    ∑ j ∈ range n, part S s0 f j = ∑ s ∈ range (s0 + n), f s - ∑ s ∈ range S, f s := by
  induction n with
  | zero => obtain rfl : S = s0 := by omega
            simp
  | succ n ih =>
    by_cases hn : S ≤ s0 + n
    · rw [sum_range_succ, ih hn, ← add_assoc, sum_range_succ, part, if_pos hn]; ring
    · obtain rfl : S = s0 + n + 1 := by omega
      rw [← add_assoc, sub_self]
      refine sum_eq_zero fun j hj => if_neg ?_
      have := mem_range.1 hj
      omega

theorem sum_lt (c : ℕ → ℝ) (n j : ℕ) (h : j ≤ n) :
    ∑ x ∈ range n, c x * (if x < j then 1 else 0) = ∑ x ∈ range j, c x := by
  rw [← sum_subset (range_mono h) fun x _ hx => by rw [if_neg (by simpa using hx), mul_zero]]
  exact sum_congr rfl fun x hx => by rw [if_pos (mem_range.1 hx), mul_one]

theorem sum_gt (c : ℕ → ℝ) (n j : ℕ) (h : j < n) :
    ∑ x ∈ range n, c x * (if j < x then 1 else 0) = ∑ x ∈ range n, c x - ∑ x ∈ range (j + 1), c x := by
  rw [← sum_lt c n (j + 1) h, ← sum_sub_distrib]
  refine sum_congr rfl fun x _ => ?_
  by_cases hx : j < x
  · rw [if_pos hx, if_neg (by omega)]; ring
  · rw [if_neg hx, if_pos (by omega)]; ring

section
variable {S s0 : ℕ} (h0 : s0 ≤ S) (h1 : S ≤ s0 + 512)
include h0 h1

theorem chunk_lv (t : ℕ) : lvTo z S t + ∑ j ∈ range 512, part S s0 (lv z t) j = lvTo z (s0 + 512) t := by
  rw [part_sum S s0 _ h0 512 h1, lvTo, lvTo]; ring

theorem chunk_wg (t : ℕ) : wgTo z g S t + ∑ j ∈ range 512, part S s0 (wg z g t) j = wgTo z g (s0 + 512) t := by
  rw [part_sum S s0 _ h0 512 h1, wgTo, wgTo]; ring

theorem chunk_wt (t j : ℕ) (hj : j < 512) (hS : S ≤ s0 + j) (hv : Vis t (s0 + j)) :
    Real.exp (lb (z t (s0 + j)) + ∑ x ∈ range 512, part S s0 (lv z t) x * (if j < x then 1 else 0)
      + (lvTo z 2176 t - lvTo z S t - ∑ x ∈ range 512, part S s0 (lv z t) x)) = wt z t (s0 + j) := by
  rw [sum_gt _ _ _ hj, part_sum S s0 _ h0 512 h1, part_sum S s0 _ h0 (j + 1) (by omega), wt, if_pos hv]
  simp only [lvTo, ← add_assoc]
  congr 1; ring

theorem chunk_dz (t j : ℕ) (hj : j < 512) (hS : S ≤ s0 + j) (hv : Vis t (s0 + j)) :
    wg z g t (s0 + j) * Real.exp (lb (z t (s0 + j)) - z t (s0 + j))
      - (wgTo z g S t + ∑ x ∈ range 512, part S s0 (wg z g t) x * (if x < j then 1 else 0)) * Real.exp (lb (z t (s0 + j)))
      = dz z g t (s0 + j) := by
  rw [sum_lt _ _ _ hj.le, part_sum S s0 _ h0 j hS, dz, if_pos hv]
  simp only [wgTo]
  ring

end

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

theorem coe_sum_fin (n : ℕ) (f : ℕ → ℝ) : ∑ i : Fin n, (f i.val : EReal) = ((∑ i ∈ range n, f i : ℝ) : EReal) := by
  rw [coe_sum, Fin.sum_univ_eq_sum_range f n]

end Cert.Stick
-- ==== Proof.SbHead.lean ====
/- One chunk of keys of the stick-breaking gradient, on real numbers: what the masked chunk carries on. -/
module

public import proofs.«01_k».proof.Proof.SbPoint
public import proofs.«01_k».proof.Proof.SbReal

@[expose] public section

set_option maxRecDepth 16384
set_option maxHeartbeats 1000000

noncomputable section

namespace Cert.Kernel5Ideal

open Idealize.ShloMosaic Idealize.ShloMosaic.TcCoe
open Gen Cert.Stick

theorem lb_coe (x : ℝ) : min (x : EReal) 0 - Ideal.log (1 + Ideal.exp (0 - max (x : EReal) (-x))) = ((lb x : ℝ) : EReal) := by
  have h1 : max (x : EReal) (-x) = ((|x| : ℝ) : EReal) := by
    rw [← EReal.coe_neg, abs_eq_max_neg]; exact (EReal.coe_strictMono.monotone.map_max).symm
  have h2 : min (x : EReal) 0 = ((min x 0 : ℝ) : EReal) := (EReal.coe_strictMono.monotone.map_min).symm
  have h3 : ¬ (1 + Real.exp (-|x|)) ≤ 0 := not_le.2 (by positivity)
  rw [h1, h2, zero_sub, ← EReal.coe_neg, Ideal.exp_coe, ← EReal.coe_one, ← EReal.coe_add, Ideal.log_coe, if_neg h3, ← EReal.coe_sub, lb]

/-- One, or nothing. -/
theorem ite_coe (p : Prop) [Decidable p] : (if p then (1 : EReal) else 0) = ((if p then (1 : ℝ) else 0 : ℝ) : EReal) := by
  split <;> simp

section
variable {m : IVec S512x512 1} {aft bef : FVec Ideal S512x512 .bf16} {qh gh : FVec Ideal S512x128 .bf16} {tot left pre : FVec Ideal S512x1 .f32}
  {kb vb : FVec Ideal S512x128 .bf16} {z g : ℕ → ℕ → ℝ} {r0 s0 S : ℕ}
  (hm : ∀ (i : Fin 512) (j : Fin 512), m (ix2 i j) = 1#1 ↔ S ≤ s0 + j.val ∧ Vis (r0 + i.val) (s0 + j.val))
  (ha : ∀ x j : Fin 512, aft (ix2 x j) = if j < x then 1 else 0)
  (hb : ∀ x j : Fin 512, bef (ix2 x j) = if x < j then 1 else 0)
  (hz : ∀ (i : Fin 512) (j : Fin 512), ∑ l : Fin 128, qh (ix2 i l) * kb (ix2 j l) = (z (r0 + i.val) (s0 + j.val) : EReal))
  (hg : ∀ (i : Fin 512) (j : Fin 512), ∑ l : Fin 128, gh (ix2 i l) * vb (ix2 j l) = (g (r0 + i.val) (s0 + j.val) : EReal))
  (ht : ∀ i : Fin 512, tot (ix2 i 0) = (lvTo z 2176 (r0 + i.val) : EReal))
  (hl : ∀ i : Fin 512, left (ix2 i 0) = (lvTo z S (r0 + i.val) : EReal))
  (hp : ∀ i : Fin 512, pre (ix2 i 0) = (wgTo z g S (r0 + i.val) : EReal))
  (h0 : s0 ≤ S) (h1 : S ≤ s0 + 512)

include hz in
theorem lbz_512 (i : Fin 512) (j : Fin 512) : lbV_512 (zV_512 qh kb) (ix2 i j) = (lb (z (r0 + i.val) (s0 + j.val)) : EReal) := by
  rw [lbV_512_apply, zV_512_apply, hz, lb_coe]

include hz in
theorem l1_512 (i : Fin 512) (j : Fin 512) :
    subf (lbV_512 (zV_512 qh kb)) (zV_512 qh kb) (ix2 i j) = ((lb (z (r0 + i.val) (s0 + j.val)) - z (r0 + i.val) (s0 + j.val) : ℝ) : EReal) := by
  have := lbz_512 hz i j
  have h2 := zV_512_apply qh kb i j
  rw [hz] at h2
  rw [subf_apply, Ideal.subf_def, this, h2, EReal.coe_sub]

include hm hz in
theorem lm_512 (i : Fin 512) (j : Fin 512) :
    mV_512 m (subf (lbV_512 (zV_512 qh kb)) (zV_512 qh kb)) (ix2 i j) = ((part S s0 (lv z (r0 + i.val)) j.val : ℝ) : EReal) := by
  rw [mV_512_apply, l1_512 hz, part, lv]
  simp only [hm]
  by_cases a : S ≤ s0 + j.val <;> by_cases b : Vis (r0 + i.val) (s0 + j.val) <;> simp [a, b]

include hm hz hl h0 h1 in
theorem left_512 (i : Fin 512) :
    addf left (sumV_512 (mV_512 m (subf (lbV_512 (zV_512 qh kb)) (zV_512 qh kb)))) (ix2 i 0) = ((lvTo z (s0 + 512) (r0 + i.val) : ℝ) : EReal) := by
  rw [addf_apply, Ideal.addf_def, sumV_512_apply, hl]
  simp only [lm_512 hm hz]
  rw [coe_sum_fin 512 (part S s0 (lv z (r0 + i.val))), ← EReal.coe_add, chunk_lv z h0 h1]

include hm ha hz ht hl h0 h1 in
theorem a_512 (i : Fin 512) (j : Fin 512) :
    aM_512 m aft qh tot left kb (ix2 i j) = ((part S s0 (wt z (r0 + i.val)) j.val : ℝ) : EReal) := by
  rw [aM_512, mV_512_apply, part]
  by_cases hv : m (ix2 i j) = 1#1
  · obtain ⟨hS, hvis⟩ := (hm i j).1 hv
    rw [if_pos hv, if_pos hS, aV_512_apply, lbz_512 hz, ht, hl]
    simp only [lm_512 hm hz, ha, Fin.lt_def, ite_coe, ← EReal.coe_mul]
    rw [coe_sum_fin 512 (part S s0 (lv z (r0 + i.val))),
      coe_sum_fin 512 (fun x => part S s0 (lv z (r0 + i.val)) x * (if j.val < x then 1 else 0)),
      ← EReal.coe_sub, ← EReal.coe_sub, ← EReal.coe_add, ← EReal.coe_add, Ideal.exp_coe, chunk_wt z h0 h1 _ _ j.isLt hS hvis]
  · rw [if_neg hv]
    split
    · next hS => rw [wt, if_neg fun h => hv ((hm i j).2 ⟨hS, h⟩)]; rfl
    · rfl

include hm ha hz hg ht hl h0 h1 in
theorem w_512 (i : Fin 512) (j : Fin 512) :
    wV_512 gh vb (aM_512 m aft qh tot left kb) (ix2 i j) = ((part S s0 (wg z g (r0 + i.val)) j.val : ℝ) : EReal) := by
  rw [wV_512_apply, a_512 hm ha hz ht hl h0 h1, hg, ← EReal.coe_mul, part, part]
  split
  · rfl
  · rw [zero_mul]

include hm ha hz hg ht hl hp h0 h1 in
theorem pre_512 (i : Fin 512) :
    addf pre (sumV_512 (wV_512 gh vb (aM_512 m aft qh tot left kb))) (ix2 i 0) = ((wgTo z g (s0 + 512) (r0 + i.val) : ℝ) : EReal) := by
  rw [addf_apply, Ideal.addf_def, sumV_512_apply, hp]
  simp only [w_512 hm ha hz hg ht hl h0 h1]
  rw [coe_sum_fin 512 (part S s0 (wg z g (r0 + i.val))), ← EReal.coe_add, chunk_wg z g h0 h1]

include hm ha hb hz hg ht hl hp h0 h1 in
theorem dz_512 (i : Fin 512) (j : Fin 512) :
    dzM_512 m aft bef qh gh tot left pre kb vb (ix2 i j) = ((part S s0 (dz z g (r0 + i.val)) j.val : ℝ) : EReal) := by
  rw [dzM_512, mV_512_apply, part]
  by_cases hv : m (ix2 i j) = 1#1
  · obtain ⟨hS, hvis⟩ := (hm i j).1 hv
    rw [if_pos hv, if_pos hS, dzV_512_apply, lbz_512 hz, l1_512 hz, hp]
    simp only [w_512 hm ha hz hg ht hl h0 h1, hb, Fin.lt_def, ite_coe, ← EReal.coe_mul]
    rw [coe_sum_fin 512 (fun x => part S s0 (wg z g (r0 + i.val)) x * (if x < j.val then 1 else 0)), Ideal.exp_coe, Ideal.exp_coe,
      ← EReal.coe_add, ← EReal.coe_mul, ← EReal.coe_mul, ← EReal.coe_sub, ← chunk_dz z g h0 h1 _ _ j.isLt hS hvis]
    rw [part, if_pos hS]
  · rw [if_neg hv]
    split
    · next hS => rw [dz, if_neg fun h => hv ((hm i j).2 ⟨hS, h⟩)]; rfl
    · rfl

end

section
variable {m : IVec S128x512 1} {aft bef : FVec Ideal S512x512 .bf16} {qh gh : FVec Ideal S128x128 .bf16} {tot left pre : FVec Ideal S128x1 .f32}
  {kb vb : FVec Ideal S512x128 .bf16} {z g : ℕ → ℕ → ℝ} {r0 s0 S : ℕ}
  (hm : ∀ (i : Fin 128) (j : Fin 512), m (ix2 i j) = 1#1 ↔ S ≤ s0 + j.val ∧ Vis (r0 + i.val) (s0 + j.val))
  (ha : ∀ x j : Fin 512, aft (ix2 x j) = if j < x then 1 else 0)
  (hb : ∀ x j : Fin 512, bef (ix2 x j) = if x < j then 1 else 0)
  (hz : ∀ (i : Fin 128) (j : Fin 512), ∑ l : Fin 128, qh (ix2 i l) * kb (ix2 j l) = (z (r0 + i.val) (s0 + j.val) : EReal))
  (hg : ∀ (i : Fin 128) (j : Fin 512), ∑ l : Fin 128, gh (ix2 i l) * vb (ix2 j l) = (g (r0 + i.val) (s0 + j.val) : EReal))
  (ht : ∀ i : Fin 128, tot (ix2 i 0) = (lvTo z 2176 (r0 + i.val) : EReal))
  (hl : ∀ i : Fin 128, left (ix2 i 0) = (lvTo z S (r0 + i.val) : EReal))
  (hp : ∀ i : Fin 128, pre (ix2 i 0) = (wgTo z g S (r0 + i.val) : EReal))
  (h0 : s0 ≤ S) (h1 : S ≤ s0 + 512)

include hz in
theorem lbz_128 (i : Fin 128) (j : Fin 512) : lbV_128 (zV_128 qh kb) (ix2 i j) = (lb (z (r0 + i.val) (s0 + j.val)) : EReal) := by
  rw [lbV_128_apply, zV_128_apply, hz, lb_coe]

include hz in
theorem l1_128 (i : Fin 128) (j : Fin 512) :
    subf (lbV_128 (zV_128 qh kb)) (zV_128 qh kb) (ix2 i j) = ((lb (z (r0 + i.val) (s0 + j.val)) - z (r0 + i.val) (s0 + j.val) : ℝ) : EReal) := by
  have := lbz_128 hz i j
  have h2 := zV_128_apply qh kb i j
  rw [hz] at h2
  rw [subf_apply, Ideal.subf_def, this, h2, EReal.coe_sub]

include hm hz in
theorem lm_128 (i : Fin 128) (j : Fin 512) :
    mV_128 m (subf (lbV_128 (zV_128 qh kb)) (zV_128 qh kb)) (ix2 i j) = ((part S s0 (lv z (r0 + i.val)) j.val : ℝ) : EReal) := by
  rw [mV_128_apply, l1_128 hz, part, lv]
  simp only [hm]
  by_cases a : S ≤ s0 + j.val <;> by_cases b : Vis (r0 + i.val) (s0 + j.val) <;> simp [a, b]

include hm hz hl h0 h1 in
theorem left_128 (i : Fin 128) :
    addf left (sumV_128 (mV_128 m (subf (lbV_128 (zV_128 qh kb)) (zV_128 qh kb)))) (ix2 i 0) = ((lvTo z (s0 + 512) (r0 + i.val) : ℝ) : EReal) := by
  rw [addf_apply, Ideal.addf_def, sumV_128_apply, hl]
  simp only [lm_128 hm hz]
  rw [coe_sum_fin 512 (part S s0 (lv z (r0 + i.val))), ← EReal.coe_add, chunk_lv z h0 h1]

include hm ha hz ht hl h0 h1 in
theorem a_128 (i : Fin 128) (j : Fin 512) :
    aM_128 m aft qh tot left kb (ix2 i j) = ((part S s0 (wt z (r0 + i.val)) j.val : ℝ) : EReal) := by
  rw [aM_128, mV_128_apply, part]
  by_cases hv : m (ix2 i j) = 1#1
  · obtain ⟨hS, hvis⟩ := (hm i j).1 hv
    rw [if_pos hv, if_pos hS, aV_128_apply, lbz_128 hz, ht, hl]
    simp only [lm_128 hm hz, ha, Fin.lt_def, ite_coe, ← EReal.coe_mul]
    rw [coe_sum_fin 512 (part S s0 (lv z (r0 + i.val))),
      coe_sum_fin 512 (fun x => part S s0 (lv z (r0 + i.val)) x * (if j.val < x then 1 else 0)),
      ← EReal.coe_sub, ← EReal.coe_sub, ← EReal.coe_add, ← EReal.coe_add, Ideal.exp_coe, chunk_wt z h0 h1 _ _ j.isLt hS hvis]
  · rw [if_neg hv]
    split
    · next hS => rw [wt, if_neg fun h => hv ((hm i j).2 ⟨hS, h⟩)]; rfl
    · rfl

include hm ha hz hg ht hl h0 h1 in
theorem w_128 (i : Fin 128) (j : Fin 512) :
    wV_128 gh vb (aM_128 m aft qh tot left kb) (ix2 i j) = ((part S s0 (wg z g (r0 + i.val)) j.val : ℝ) : EReal) := by
  rw [wV_128_apply, a_128 hm ha hz ht hl h0 h1, hg, ← EReal.coe_mul, part, part]
  split
  · rfl
  · rw [zero_mul]

include hm ha hz hg ht hl hp h0 h1 in
theorem pre_128 (i : Fin 128) :
    addf pre (sumV_128 (wV_128 gh vb (aM_128 m aft qh tot left kb))) (ix2 i 0) = ((wgTo z g (s0 + 512) (r0 + i.val) : ℝ) : EReal) := by
  rw [addf_apply, Ideal.addf_def, sumV_128_apply, hp]
  simp only [w_128 hm ha hz hg ht hl h0 h1]
  rw [coe_sum_fin 512 (part S s0 (wg z g (r0 + i.val))), ← EReal.coe_add, chunk_wg z g h0 h1]

include hm ha hb hz hg ht hl hp h0 h1 in
theorem dz_128 (i : Fin 128) (j : Fin 512) :
    dzM_128 m aft bef qh gh tot left pre kb vb (ix2 i j) = ((part S s0 (dz z g (r0 + i.val)) j.val : ℝ) : EReal) := by
  rw [dzM_128, mV_128_apply, part]
  by_cases hv : m (ix2 i j) = 1#1
  · obtain ⟨hS, hvis⟩ := (hm i j).1 hv
    rw [if_pos hv, if_pos hS, dzV_128_apply, lbz_128 hz, l1_128 hz, hp]
    simp only [w_128 hm ha hz hg ht hl h0 h1, hb, Fin.lt_def, ite_coe, ← EReal.coe_mul]
    rw [coe_sum_fin 512 (fun x => part S s0 (wg z g (r0 + i.val)) x * (if x < j.val then 1 else 0)), Ideal.exp_coe, Ideal.exp_coe,
      ← EReal.coe_add, ← EReal.coe_mul, ← EReal.coe_mul, ← EReal.coe_sub, ← chunk_dz z g h0 h1 _ _ j.isLt hS hvis]
    rw [part, if_pos hS]
  · rw [if_neg hv]
    split
    · next hS => rw [dz, if_neg fun h => hv ((hm i j).2 ⟨hS, h⟩)]; rfl
    · rfl

end

end Cert.Kernel5Ideal
-- ==== Proof.SbChunk.lean ====
/- A block of queries and a chunk of keys of the stick-breaking gradient: what is carried over the chunks, and what has been added to
   the gradients of the keys and of the values, as sums of real numbers. -/
module

public import proofs.«01_k».proof.Proof.SbHead

@[expose] public section

set_option maxRecDepth 16384
set_option maxHeartbeats 1000000

noncomputable section

namespace Cert.Stick

open Finset

/-- The product of two rows over the lanes of the head `h`. -/
def dotH (x y : ℕ → ℕ → ℝ) (h t s : ℕ) : ℝ := ∑ l ∈ range 64, x t (64 * h + l) * y s (64 * h + l)

/-- A head's weights, and its gradient of the scores. -/
def wtH (q k : ℕ → ℕ → ℝ) (h t s : ℕ) : ℝ := wt (dotH q k h) t s
def dzH (q k v d : ℕ → ℕ → ℝ) (h t s : ℕ) : ℝ := dz (dotH q k h) (dotH d v h) t s

theorem dot_lo (f g : ℕ → ℝ) : ∑ l ∈ range 128, (if l < 64 then f l else 0) * g l = ∑ l ∈ range 64, f (64 * 0 + l) * g (64 * 0 + l) := by
  rw [show (128 : ℕ) = 64 + 64 from rfl, sum_range_add]
  rw [show ∑ x ∈ range 64, (if 64 + x < 64 then f (64 + x) else 0) * g (64 + x) = 0 from
    sum_eq_zero fun x _ => by rw [if_neg (by omega), zero_mul], add_zero]
  exact sum_congr rfl fun x hx => by rw [if_pos (mem_range.1 hx)]; simp

theorem dot_hi (f g : ℕ → ℝ) : ∑ l ∈ range 128, (if l < 64 then 0 else f l) * g l = ∑ l ∈ range 64, f (64 * 1 + l) * g (64 * 1 + l) := by
  rw [show (128 : ℕ) = 64 + 64 from rfl, sum_range_add]
  rw [show ∑ x ∈ range 64, (if x < 64 then 0 else f x) * g x = 0 from
    sum_eq_zero fun x hx => by rw [if_pos (mem_range.1 hx), zero_mul], zero_add]
  exact sum_congr rfl fun x hx => by rw [if_neg (by omega)]

theorem lane_lo {l : ℕ} (h : l < 64) : l / 64 = 0 := by omega
theorem lane_hi {l : ℕ} (h : ¬ l < 64) (h2 : l < 128) : l / 64 = 1 := by omega

theorem part_mul (S s0 : ℕ) (f g : ℕ → ℝ) (j : ℕ) : part S s0 f j * g (s0 + j) = part S s0 (fun s => f s * g s) j := by
  unfold part; split <;> simp

end Cert.Stick

namespace Cert.Kernel5Ideal

open Idealize.ShloMosaic Idealize.ShloMosaic.TcCoe
open Gen Cert.Stick

/-- Lanes of the one head, as reals. -/
theorem coe_lo (p : Prop) [Decidable p] (x : ℝ) : (if p then (x : EReal) else 0) = ((if p then x else 0 : ℝ) : EReal) := by
  split <;> rfl
theorem coe_hi (p : Prop) [Decidable p] (x : ℝ) : (if p then (0 : EReal) else x) = ((if p then 0 else x : ℝ) : EReal) := by
  split <;> rfl

/-- The keys before `S` have been added by a block of `R` queries. -/
def Cols (R r0 S : ℕ) (D : ℕ → ℕ → ℝ) (x : ℕ → ℕ → ℕ → ℝ) (f : ℕ → ℕ → ℝ) (c : S1x2176x128.Idx → EReal) : Prop :=
  ∀ (s : Fin 2176) (l : Fin 128), c (ix3 0 s l) =
    ((D s.val l.val + if s.val < S then ∑ i ∈ Finset.range R, x (l.val / 64) (r0 + i) s.val * f (r0 + i) l.val else 0 : ℝ) : EReal)

/-! ## Blocks of 512 queries -/

/-- A block of queries: its vectors, and the real numbers they hold. -/
structure Tile_512 (q k v d : ℕ → ℕ → ℝ) (r0 : ℕ) (q0 q1 g0 g1 : FVec Ideal S512x128 .bf16) (tot0 tot1 : FVec Ideal S512x1 .f32) : Prop where
  hq0 : ∀ (i : Fin 512) (l : Fin 128), q0 (ix2 i l) = ((if l.val < 64 then q (r0 + i.val) l.val else 0 : ℝ) : EReal)
  hq1 : ∀ (i : Fin 512) (l : Fin 128), q1 (ix2 i l) = ((if l.val < 64 then 0 else q (r0 + i.val) l.val : ℝ) : EReal)
  hg0 : ∀ (i : Fin 512) (l : Fin 128), g0 (ix2 i l) = ((if l.val < 64 then d (r0 + i.val) l.val else 0 : ℝ) : EReal)
  hg1 : ∀ (i : Fin 512) (l : Fin 128), g1 (ix2 i l) = ((if l.val < 64 then 0 else d (r0 + i.val) l.val : ℝ) : EReal)
  ht0 : ∀ i : Fin 512, tot0 (ix2 i 0) = (lvTo (dotH q k 0) 2176 (r0 + i.val) : EReal)
  ht1 : ∀ i : Fin 512, tot1 (ix2 i 0) = (lvTo (dotH q k 1) 2176 (r0 + i.val) : EReal)

/-- What is carried once the keys before `S` are counted. -/
structure Carry_512 (q k v d : ℕ → ℕ → ℝ) (r0 S : ℕ)
    (s : FVec Ideal S512x1 .f32 × FVec Ideal S512x1 .f32 × FVec Ideal S512x1 .f32 × FVec Ideal S512x1 .f32 × FVec Ideal S512x128 .f32) : Prop where
  l0 : ∀ i : Fin 512, s.1 (ix2 i 0) = (lvTo (dotH q k 0) S (r0 + i.val) : EReal)
  p0 : ∀ i : Fin 512, s.2.1 (ix2 i 0) = (wgTo (dotH q k 0) (dotH d v 0) S (r0 + i.val) : EReal)
  l1 : ∀ i : Fin 512, s.2.2.1 (ix2 i 0) = (lvTo (dotH q k 1) S (r0 + i.val) : EReal)
  p1 : ∀ i : Fin 512, s.2.2.2.1 (ix2 i 0) = (wgTo (dotH q k 1) (dotH d v 1) S (r0 + i.val) : EReal)
  acc : ∀ (i : Fin 512) (l : Fin 128), s.2.2.2.2 (ix2 i l) =
    ((∑ s ∈ Finset.range S, dzH q k v d (l.val / 64) (r0 + i.val) s * k s l.val : ℝ) : EReal)

/-- Nothing carried before the first key. -/
theorem carry_zero_512 (q k v d : ℕ → ℕ → ℝ) (r0 : ℕ) : Carry_512 q k v d r0 0 (zeroV_512 (F := Ideal)) where
  l0 i := by unfold zeroV_512; pointwise; simp [lvTo]
  p0 i := by unfold zeroV_512; pointwise; simp [wgTo]
  l1 i := by unfold zeroV_512; pointwise; simp [lvTo]
  p1 i := by unfold zeroV_512; pointwise; simp [wgTo]
  acc i l := by unfold zeroV_512; pointwise; simp

section
variable {q k v d : ℕ → ℕ → ℝ} {r0 s0 S : ℕ} {m : IVec S512x512 1} {q0 q1 g0 g1 : FVec Ideal S512x128 .bf16} {tot0 tot1 : FVec Ideal S512x1 .f32}
  {kw vw : Vec Ideal S1x512x128 .f32}
  {s : FVec Ideal S512x1 .f32 × FVec Ideal S512x1 .f32 × FVec Ideal S512x1 .f32 × FVec Ideal S512x1 .f32 × FVec Ideal S512x128 .f32}
  (T : Tile_512 q k v d r0 q0 q1 g0 g1 tot0 tot1)
  (hm : ∀ (i : Fin 512) (j : Fin 512), m (ix2 i j) = 1#1 ↔ S ≤ s0 + j.val ∧ Vis (r0 + i.val) (s0 + j.val))
  (hk : ∀ (j : Fin 512) (l : Fin 128), kw (ix3 0 j l) = (k (s0 + j.val) l.val : EReal))
  (hv : ∀ (j : Fin 512) (l : Fin 128), vw (ix3 0 j l) = (v (s0 + j.val) l.val : EReal))
  (h0 : s0 ≤ S) (h1 : S ≤ s0 + 512) (C : Carry_512 q k v d r0 S s)

theorem dotlo_512 {x y : ℕ → ℕ → ℝ} {xv : FVec Ideal S512x128 .bf16} {yw : Vec Ideal S1x512x128 .f32}
    (hx : ∀ (i : Fin 512) (l : Fin 128), xv (ix2 i l) = ((if l.val < 64 then x (r0 + i.val) l.val else 0 : ℝ) : EReal))
    (hy : ∀ (j : Fin 512) (l : Fin 128), yw (ix3 0 j l) = (y (s0 + j.val) l.val : EReal)) (i : Fin 512) (j : Fin 512) :
    ∑ l : Fin 128, xv (ix2 i l) * winV (F := Ideal) yw (ix2 j l) = (dotH x y 0 (r0 + i.val) (s0 + j.val) : EReal) := by
  simp only [winV_apply, hx, hy, ← EReal.coe_mul]
  rw [coe_sum_fin 128 (fun l => (if l < 64 then x (r0 + i.val) l else 0) * y (s0 + j.val) l), dot_lo, dotH]

theorem dothi_512 {x y : ℕ → ℕ → ℝ} {xv : FVec Ideal S512x128 .bf16} {yw : Vec Ideal S1x512x128 .f32}
    (hx : ∀ (i : Fin 512) (l : Fin 128), xv (ix2 i l) = ((if l.val < 64 then 0 else x (r0 + i.val) l.val : ℝ) : EReal))
    (hy : ∀ (j : Fin 512) (l : Fin 128), yw (ix3 0 j l) = (y (s0 + j.val) l.val : EReal)) (i : Fin 512) (j : Fin 512) :
    ∑ l : Fin 128, xv (ix2 i l) * winV (F := Ideal) yw (ix2 j l) = (dotH x y 1 (r0 + i.val) (s0 + j.val) : EReal) := by
  simp only [winV_apply, hx, hy, ← EReal.coe_mul]
  rw [coe_sum_fin 128 (fun l => (if l < 64 then 0 else x (r0 + i.val) l) * y (s0 + j.val) l), dot_hi, dotH]

include T hm hk h0 h1 C in
theorem a0_512 (i : Fin 512) (j : Fin 512) :
    aM_512 m k0_pay266 q0 tot0 s.1 (winV kw) (ix2 i j) = ((part S s0 (wtH q k 0 (r0 + i.val)) j.val : ℝ) : EReal) :=
  a_512 hm after_apply (dotlo_512 T.hq0 hk) T.ht0 C.l0 h0 h1 i j

include T hm hk h0 h1 C in
theorem a1_512 (i : Fin 512) (j : Fin 512) :
    aM_512 m k0_pay266 q1 tot1 s.2.2.1 (winV kw) (ix2 i j) = ((part S s0 (wtH q k 1 (r0 + i.val)) j.val : ℝ) : EReal) :=
  a_512 hm after_apply (dothi_512 T.hq1 hk) T.ht1 C.l1 h0 h1 i j

include T hm hk hv h0 h1 C in
theorem dz0_512 (i : Fin 512) (j : Fin 512) :
    dzM_512 m k0_pay266 k0_pay267 q0 g0 tot0 s.1 s.2.1 (winV kw) (winV vw) (ix2 i j) = ((part S s0 (dzH q k v d 0 (r0 + i.val)) j.val : ℝ) : EReal) :=
  dz_512 hm after_apply before_apply (dotlo_512 T.hq0 hk) (dotlo_512 T.hg0 hv) T.ht0 C.l0 C.p0 h0 h1 i j

include T hm hk hv h0 h1 C in
theorem dz1_512 (i : Fin 512) (j : Fin 512) :
    dzM_512 m k0_pay266 k0_pay267 q1 g1 tot1 s.2.2.1 s.2.2.2.1 (winV kw) (winV vw) (ix2 i j) = ((part S s0 (dzH q k v d 1 (r0 + i.val)) j.val : ℝ) : EReal) :=
  dz_512 hm after_apply before_apply (dothi_512 T.hq1 hk) (dothi_512 T.hg1 hv) T.ht1 C.l1 C.p1 h0 h1 i j

include T hm hk hv h0 h1 C in
/-- A chunk carries on. -/
theorem carry_512 : Carry_512 q k v d r0 (s0 + 512) (stepM_512 k0_pay265 k0_pay266 k0_pay267 m q0 q1 g0 g1 tot0 tot1 kw vw s) where
  l0 i := left_512 hm (dotlo_512 T.hq0 hk) C.l0 h0 h1 i
  p0 i := pre_512 hm after_apply (dotlo_512 T.hq0 hk) (dotlo_512 T.hg0 hv) T.ht0 C.l0 C.p0 h0 h1 i
  l1 i := left_512 hm (dothi_512 T.hq1 hk) C.l1 h0 h1 i
  p1 i := pre_512 hm after_apply (dothi_512 T.hq1 hk) (dothi_512 T.hg1 hv) T.ht1 C.l1 C.p1 h0 h1 i
  acc i l := by
    refine (accV_512_apply _ _ _ _ _ i l).trans ?_
    rw [C.acc]
    simp only [dz0_512 T hm hk hv h0 h1 C, dz1_512 T hm hk hv h0 h1 C, winV_apply, hk, lanes, coe_lo, coe_hi, ← EReal.coe_mul]
    rw [coe_sum_fin 512 (fun x => part S s0 (dzH q k v d 0 (r0 + i.val)) x * if l.val < 64 then k (s0 + x) l.val else 0),
      coe_sum_fin 512 (fun x => part S s0 (dzH q k v d 1 (r0 + i.val)) x * if l.val < 64 then 0 else k (s0 + x) l.val),
      ← EReal.coe_add, ← EReal.coe_add]
    congr 1
    by_cases hl : l.val < 64
    · simp only [hl, if_true, mul_zero, Finset.sum_const_zero, add_zero, lane_lo hl]
      simp only [part_mul S s0 _ (fun s => k s l.val)]
      rw [part_sum S s0 _ h0 512 h1]; ring
    · simp only [hl, if_false, mul_zero, Finset.sum_const_zero, zero_add, lane_hi hl l.isLt]
      simp only [part_mul S s0 _ (fun s => k s l.val)]
      rw [part_sum S s0 _ h0 512 h1]; ring

include h0 h1 in
/-- A chunk's additions to the gradient of the keys or of the values. -/
theorem cols_512 {D : ℕ → ℕ → ℝ} {x : ℕ → ℕ → ℕ → ℝ} {f : ℕ → ℕ → ℝ} {x0 x1 : FVec Ideal S512x512 .f32} {f0 f1 : FVec Ideal S512x128 .bf16}
    (hx0 : ∀ (i : Fin 512) (j : Fin 512), x0 (ix2 i j) = ((part S s0 (x 0 (r0 + i.val)) j.val : ℝ) : EReal))
    (hx1 : ∀ (i : Fin 512) (j : Fin 512), x1 (ix2 i j) = ((part S s0 (x 1 (r0 + i.val)) j.val : ℝ) : EReal))
    (hf0 : ∀ (i : Fin 512) (l : Fin 128), f0 (ix2 i l) = ((if l.val < 64 then f (r0 + i.val) l.val else 0 : ℝ) : EReal))
    (hf1 : ∀ (i : Fin 512) (l : Fin 128), f1 (ix2 i l) = ((if l.val < 64 then 0 else f (r0 + i.val) l.val : ℝ) : EReal))
    {c c' : S1x2176x128.Idx → EReal} (hc : Cols 512 r0 S D x f c) {old : Vec Ideal S1x512x128 .f32}
    (hold : ∀ (j : Fin 512) (l : Fin 128) (s : Fin 2176), s.val = s0 + j.val → old (ix3 0 j l) = c (ix3 0 s l))
    (hin : ∀ (j : Fin 512) (l : Fin 128) (s : Fin 2176), s.val = s0 + j.val → c' (ix3 0 s l) = addV_512 (catV_512 f0 f1) x0 x1 old (ix3 0 j l))
    (hout : ∀ (s : Fin 2176) (l : Fin 128), s.val < s0 ∨ s0 + 512 ≤ s.val → c' (ix3 0 s l) = c (ix3 0 s l)) :
    Cols 512 r0 (s0 + 512) D x f c' := by
  intro s l
  by_cases hs : s0 ≤ s.val ∧ s.val < s0 + 512
  · obtain ⟨j, hj⟩ : ∃ j : Fin 512, s.val = s0 + j.val := ⟨⟨s.val - s0, by omega⟩, by simp; omega⟩
    rw [hin j l s hj, addV_512_apply, hold j l s hj, hc, if_pos hs.2]
    simp only [catV_512_lo, catV_512_hi, hx0, hx1, hf0, hf1, ← EReal.coe_mul]
    rw [coe_sum_fin 512 (fun i => part S s0 (x 0 (r0 + i)) j.val * if l.val < 64 then f (r0 + i) l.val else 0),
      coe_sum_fin 512 (fun i => part S s0 (x 1 (r0 + i)) j.val * if l.val < 64 then 0 else f (r0 + i) l.val),
      ← EReal.coe_add, ← EReal.coe_add]
    congr 1
    rw [add_assoc]; congr 1
    unfold part
    rw [← hj]
    by_cases hS : s.val < S <;> by_cases hl : l.val < 64
    · simp [hS, hl, lane_lo hl, not_le.2 hS]
    · simp [hS, hl, lane_hi hl l.isLt, not_le.2 hS]
    · simp [hS, hl, lane_lo hl, not_lt.1 hS]
    · simp [hS, hl, lane_hi hl l.isLt, not_lt.1 hS]
  · rw [hout s l (by omega), hc]
    have : s.val < S ↔ s.val < s0 + 512 := by omega
    simp only [this]

end

/-! ## Blocks of 128 queries -/

/-- A block of queries: its vectors, and the real numbers they hold. -/
structure Tile_128 (q k v d : ℕ → ℕ → ℝ) (r0 : ℕ) (q0 q1 g0 g1 : FVec Ideal S128x128 .bf16) (tot0 tot1 : FVec Ideal S128x1 .f32) : Prop where
  hq0 : ∀ (i : Fin 128) (l : Fin 128), q0 (ix2 i l) = ((if l.val < 64 then q (r0 + i.val) l.val else 0 : ℝ) : EReal)
  hq1 : ∀ (i : Fin 128) (l : Fin 128), q1 (ix2 i l) = ((if l.val < 64 then 0 else q (r0 + i.val) l.val : ℝ) : EReal)
  hg0 : ∀ (i : Fin 128) (l : Fin 128), g0 (ix2 i l) = ((if l.val < 64 then d (r0 + i.val) l.val else 0 : ℝ) : EReal)
  hg1 : ∀ (i : Fin 128) (l : Fin 128), g1 (ix2 i l) = ((if l.val < 64 then 0 else d (r0 + i.val) l.val : ℝ) : EReal)
  ht0 : ∀ i : Fin 128, tot0 (ix2 i 0) = (lvTo (dotH q k 0) 2176 (r0 + i.val) : EReal)
  ht1 : ∀ i : Fin 128, tot1 (ix2 i 0) = (lvTo (dotH q k 1) 2176 (r0 + i.val) : EReal)

/-- What is carried once the keys before `S` are counted. -/
structure Carry_128 (q k v d : ℕ → ℕ → ℝ) (r0 S : ℕ)
    (s : FVec Ideal S128x1 .f32 × FVec Ideal S128x1 .f32 × FVec Ideal S128x1 .f32 × FVec Ideal S128x1 .f32 × FVec Ideal S128x128 .f32) : Prop where
  l0 : ∀ i : Fin 128, s.1 (ix2 i 0) = (lvTo (dotH q k 0) S (r0 + i.val) : EReal)
  p0 : ∀ i : Fin 128, s.2.1 (ix2 i 0) = (wgTo (dotH q k 0) (dotH d v 0) S (r0 + i.val) : EReal)
  l1 : ∀ i : Fin 128, s.2.2.1 (ix2 i 0) = (lvTo (dotH q k 1) S (r0 + i.val) : EReal)
  p1 : ∀ i : Fin 128, s.2.2.2.1 (ix2 i 0) = (wgTo (dotH q k 1) (dotH d v 1) S (r0 + i.val) : EReal)
  acc : ∀ (i : Fin 128) (l : Fin 128), s.2.2.2.2 (ix2 i l) =
    ((∑ s ∈ Finset.range S, dzH q k v d (l.val / 64) (r0 + i.val) s * k s l.val : ℝ) : EReal)

/-- Nothing carried before the first key. -/
theorem carry_zero_128 (q k v d : ℕ → ℕ → ℝ) (r0 : ℕ) : Carry_128 q k v d r0 0 (zeroV_128 (F := Ideal)) where
  l0 i := by unfold zeroV_128; pointwise; simp [lvTo]
  p0 i := by unfold zeroV_128; pointwise; simp [wgTo]
  l1 i := by unfold zeroV_128; pointwise; simp [lvTo]
  p1 i := by unfold zeroV_128; pointwise; simp [wgTo]
  acc i l := by unfold zeroV_128; pointwise; simp

section
variable {q k v d : ℕ → ℕ → ℝ} {r0 s0 S : ℕ} {m : IVec S128x512 1} {q0 q1 g0 g1 : FVec Ideal S128x128 .bf16} {tot0 tot1 : FVec Ideal S128x1 .f32}
  {kw vw : Vec Ideal S1x512x128 .f32}
  {s : FVec Ideal S128x1 .f32 × FVec Ideal S128x1 .f32 × FVec Ideal S128x1 .f32 × FVec Ideal S128x1 .f32 × FVec Ideal S128x128 .f32}
  (T : Tile_128 q k v d r0 q0 q1 g0 g1 tot0 tot1)
  (hm : ∀ (i : Fin 128) (j : Fin 512), m (ix2 i j) = 1#1 ↔ S ≤ s0 + j.val ∧ Vis (r0 + i.val) (s0 + j.val))
  (hk : ∀ (j : Fin 512) (l : Fin 128), kw (ix3 0 j l) = (k (s0 + j.val) l.val : EReal))
  (hv : ∀ (j : Fin 512) (l : Fin 128), vw (ix3 0 j l) = (v (s0 + j.val) l.val : EReal))
  (h0 : s0 ≤ S) (h1 : S ≤ s0 + 512) (C : Carry_128 q k v d r0 S s)

theorem dotlo_128 {x y : ℕ → ℕ → ℝ} {xv : FVec Ideal S128x128 .bf16} {yw : Vec Ideal S1x512x128 .f32}
    (hx : ∀ (i : Fin 128) (l : Fin 128), xv (ix2 i l) = ((if l.val < 64 then x (r0 + i.val) l.val else 0 : ℝ) : EReal))
    (hy : ∀ (j : Fin 512) (l : Fin 128), yw (ix3 0 j l) = (y (s0 + j.val) l.val : EReal)) (i : Fin 128) (j : Fin 512) :
    ∑ l : Fin 128, xv (ix2 i l) * winV (F := Ideal) yw (ix2 j l) = (dotH x y 0 (r0 + i.val) (s0 + j.val) : EReal) := by
  simp only [winV_apply, hx, hy, ← EReal.coe_mul]
  rw [coe_sum_fin 128 (fun l => (if l < 64 then x (r0 + i.val) l else 0) * y (s0 + j.val) l), dot_lo, dotH]

theorem dothi_128 {x y : ℕ → ℕ → ℝ} {xv : FVec Ideal S128x128 .bf16} {yw : Vec Ideal S1x512x128 .f32}
    (hx : ∀ (i : Fin 128) (l : Fin 128), xv (ix2 i l) = ((if l.val < 64 then 0 else x (r0 + i.val) l.val : ℝ) : EReal))
    (hy : ∀ (j : Fin 512) (l : Fin 128), yw (ix3 0 j l) = (y (s0 + j.val) l.val : EReal)) (i : Fin 128) (j : Fin 512) :
    ∑ l : Fin 128, xv (ix2 i l) * winV (F := Ideal) yw (ix2 j l) = (dotH x y 1 (r0 + i.val) (s0 + j.val) : EReal) := by
  simp only [winV_apply, hx, hy, ← EReal.coe_mul]
  rw [coe_sum_fin 128 (fun l => (if l < 64 then 0 else x (r0 + i.val) l) * y (s0 + j.val) l), dot_hi, dotH]

include T hm hk h0 h1 C in
theorem a0_128 (i : Fin 128) (j : Fin 512) :
    aM_128 m k0_pay266 q0 tot0 s.1 (winV kw) (ix2 i j) = ((part S s0 (wtH q k 0 (r0 + i.val)) j.val : ℝ) : EReal) :=
  a_128 hm after_apply (dotlo_128 T.hq0 hk) T.ht0 C.l0 h0 h1 i j

include T hm hk h0 h1 C in
theorem a1_128 (i : Fin 128) (j : Fin 512) :
    aM_128 m k0_pay266 q1 tot1 s.2.2.1 (winV kw) (ix2 i j) = ((part S s0 (wtH q k 1 (r0 + i.val)) j.val : ℝ) : EReal) :=
  a_128 hm after_apply (dothi_128 T.hq1 hk) T.ht1 C.l1 h0 h1 i j

include T hm hk hv h0 h1 C in
theorem dz0_128 (i : Fin 128) (j : Fin 512) :
    dzM_128 m k0_pay266 k0_pay267 q0 g0 tot0 s.1 s.2.1 (winV kw) (winV vw) (ix2 i j) = ((part S s0 (dzH q k v d 0 (r0 + i.val)) j.val : ℝ) : EReal) :=
  dz_128 hm after_apply before_apply (dotlo_128 T.hq0 hk) (dotlo_128 T.hg0 hv) T.ht0 C.l0 C.p0 h0 h1 i j

include T hm hk hv h0 h1 C in
theorem dz1_128 (i : Fin 128) (j : Fin 512) :
    dzM_128 m k0_pay266 k0_pay267 q1 g1 tot1 s.2.2.1 s.2.2.2.1 (winV kw) (winV vw) (ix2 i j) = ((part S s0 (dzH q k v d 1 (r0 + i.val)) j.val : ℝ) : EReal) :=
  dz_128 hm after_apply before_apply (dothi_128 T.hq1 hk) (dothi_128 T.hg1 hv) T.ht1 C.l1 C.p1 h0 h1 i j

include T hm hk hv h0 h1 C in
/-- A chunk carries on. -/
theorem carry_128 : Carry_128 q k v d r0 (s0 + 512) (stepM_128 k0_pay265 k0_pay266 k0_pay267 m q0 q1 g0 g1 tot0 tot1 kw vw s) where
  l0 i := left_128 hm (dotlo_128 T.hq0 hk) C.l0 h0 h1 i
  p0 i := pre_128 hm after_apply (dotlo_128 T.hq0 hk) (dotlo_128 T.hg0 hv) T.ht0 C.l0 C.p0 h0 h1 i
  l1 i := left_128 hm (dothi_128 T.hq1 hk) C.l1 h0 h1 i
  p1 i := pre_128 hm after_apply (dothi_128 T.hq1 hk) (dothi_128 T.hg1 hv) T.ht1 C.l1 C.p1 h0 h1 i
  acc i l := by
    refine (accV_128_apply _ _ _ _ _ i l).trans ?_
    rw [C.acc]
    simp only [dz0_128 T hm hk hv h0 h1 C, dz1_128 T hm hk hv h0 h1 C, winV_apply, hk, lanes, coe_lo, coe_hi, ← EReal.coe_mul]
    rw [coe_sum_fin 512 (fun x => part S s0 (dzH q k v d 0 (r0 + i.val)) x * if l.val < 64 then k (s0 + x) l.val else 0),
      coe_sum_fin 512 (fun x => part S s0 (dzH q k v d 1 (r0 + i.val)) x * if l.val < 64 then 0 else k (s0 + x) l.val),
      ← EReal.coe_add, ← EReal.coe_add]
    congr 1
    by_cases hl : l.val < 64
    · simp only [hl, if_true, mul_zero, Finset.sum_const_zero, add_zero, lane_lo hl]
      simp only [part_mul S s0 _ (fun s => k s l.val)]
      rw [part_sum S s0 _ h0 512 h1]; ring
    · simp only [hl, if_false, mul_zero, Finset.sum_const_zero, zero_add, lane_hi hl l.isLt]
      simp only [part_mul S s0 _ (fun s => k s l.val)]
      rw [part_sum S s0 _ h0 512 h1]; ring

include h0 h1 in
/-- A chunk's additions to the gradient of the keys or of the values. -/
theorem cols_128 {D : ℕ → ℕ → ℝ} {x : ℕ → ℕ → ℕ → ℝ} {f : ℕ → ℕ → ℝ} {x0 x1 : FVec Ideal S128x512 .f32} {f0 f1 : FVec Ideal S128x128 .bf16}
    (hx0 : ∀ (i : Fin 128) (j : Fin 512), x0 (ix2 i j) = ((part S s0 (x 0 (r0 + i.val)) j.val : ℝ) : EReal))
    (hx1 : ∀ (i : Fin 128) (j : Fin 512), x1 (ix2 i j) = ((part S s0 (x 1 (r0 + i.val)) j.val : ℝ) : EReal))
    (hf0 : ∀ (i : Fin 128) (l : Fin 128), f0 (ix2 i l) = ((if l.val < 64 then f (r0 + i.val) l.val else 0 : ℝ) : EReal))
    (hf1 : ∀ (i : Fin 128) (l : Fin 128), f1 (ix2 i l) = ((if l.val < 64 then 0 else f (r0 + i.val) l.val : ℝ) : EReal))
    {c c' : S1x2176x128.Idx → EReal} (hc : Cols 128 r0 S D x f c) {old : Vec Ideal S1x512x128 .f32}
    (hold : ∀ (j : Fin 512) (l : Fin 128) (s : Fin 2176), s.val = s0 + j.val → old (ix3 0 j l) = c (ix3 0 s l))
    (hin : ∀ (j : Fin 512) (l : Fin 128) (s : Fin 2176), s.val = s0 + j.val → c' (ix3 0 s l) = addV_128 (catV_128 f0 f1) x0 x1 old (ix3 0 j l))
    (hout : ∀ (s : Fin 2176) (l : Fin 128), s.val < s0 ∨ s0 + 512 ≤ s.val → c' (ix3 0 s l) = c (ix3 0 s l)) :
    Cols 128 r0 (s0 + 512) D x f c' := by
  intro s l
  by_cases hs : s0 ≤ s.val ∧ s.val < s0 + 512
  · obtain ⟨j, hj⟩ : ∃ j : Fin 512, s.val = s0 + j.val := ⟨⟨s.val - s0, by omega⟩, by simp; omega⟩
    rw [hin j l s hj, addV_128_apply, hold j l s hj, hc, if_pos hs.2]
    simp only [catV_128_lo, catV_128_hi, hx0, hx1, hf0, hf1, ← EReal.coe_mul]
    rw [coe_sum_fin 128 (fun i => part S s0 (x 0 (r0 + i)) j.val * if l.val < 64 then f (r0 + i) l.val else 0),
      coe_sum_fin 128 (fun i => part S s0 (x 1 (r0 + i)) j.val * if l.val < 64 then 0 else f (r0 + i) l.val),
      ← EReal.coe_add, ← EReal.coe_add]
    congr 1
    rw [add_assoc]; congr 1
    unfold part
    rw [← hj]
    by_cases hS : s.val < S <;> by_cases hl : l.val < 64
    · simp [hS, hl, lane_lo hl, not_le.2 hS]
    · simp [hS, hl, lane_hi hl l.isLt, not_le.2 hS]
    · simp [hS, hl, lane_lo hl, not_lt.1 hS]
    · simp [hS, hl, lane_hi hl l.isLt, not_lt.1 hS]
  · rw [hout s l (by omega), hc]
    have : s.val < S ↔ s.val < s0 + 512 := by omega
    simp only [this]

end

end Cert.Kernel5Ideal
-- ==== Proof.SbWin.lean ====
/- The loops over the chunks of keys, for one block of queries of the stick-breaking gradient. -/
module

public import proofs.«01_k».proof.Proof.SbTrip
public import proofs.«01_k».proof.Proof.SbChunk
public import Idealize.ShloMosaic.Lib.WritesUnit

@[expose] public section

set_option maxRecDepth 16384
set_option maxHeartbeats 4000000

noncomputable section

namespace Cert.Kernel5Ideal

open Idealize.ShloMosaic Idealize.ShloMosaic.TcCoe
open Idealize.SL Idealize.SL.RA Idealize.SL.BI
open Gen Cert.Stick

/-- The rows of a rectangle of the keys' array. -/
theorem win_read {arg : Memref sig .tc .vmem S1x2176x128 .f32} {X : BufTy.Contents (Elt Ideal) arg.view.ty} {f : ℕ → ℕ → ℝ}
    (hX : ∀ (s : Fin 2176) (l : Fin 128), arg.view.read (Elt Ideal) X (ix3 0 s l) = (f s.val l.val : EReal))
    {off : Fin 3 → ℕ} (inb : ∀ a, off a + S1x512x128.size a ≤ S1x2176x128.size a) {s0 : ℕ} (ho : off = ![0, s0, 0]) (j : Fin 512) (l : Fin 128) :
    View.readAt (Elt Ideal) arg.view (Rect.unit (s := S1x2176x128) off S1x512x128.size inb).toLoadRect X (ix3 0 j l) = (f (s0 + j.val) l.val : EReal) := by
  subst ho
  have hb : s0 + 512 ≤ 2176 := inb 1
  refine Eq.trans ?_ (hX ⟨s0 + j.val, by omega⟩ l)
  rw [View.readAt_apply]
  congr 1
  funext a; refine Fin.ext ?_
  match a with
  | 0 => rfl
  | 1 => show s0 + 1 * j.val = s0 + j.val; rw [one_mul]
  | 2 => show 0 + 1 * l.val = l.val; omega

theorem old_read {arg : Memref sig .tc .vmem S1x2176x128 .f32} (X : BufTy.Contents (Elt Ideal) arg.view.ty)
    {off : Fin 3 → ℕ} (inb : ∀ a, off a + S1x512x128.size a ≤ S1x2176x128.size a) {s0 : ℕ} (ho : off = ![0, s0, 0]) (j : Fin 512) (l : Fin 128)
    (s : Fin 2176) (hs : s.val = s0 + j.val) :
    View.readAt (Elt Ideal) arg.view (Rect.unit (s := S1x2176x128) off S1x512x128.size inb).toLoadRect X (ix3 0 j l) = arg.view.read (Elt Ideal) X (ix3 0 s l) := by
  subst ho
  rw [View.readAt_apply]
  congr 1
  funext a; refine Fin.ext ?_
  match a with
  | 0 => rfl
  | 1 => show s0 + 1 * j.val = s.val; omega
  | 2 => show 0 + 1 * l.val = l.val; omega

/-- A word that holds a number. -/
theorem mask_iff (a b c i j : ℕ) (ha : a + j < 2 ^ 31) (hb : b + i < 2 ^ 31) (hc : c < 2 ^ 31) :
    IntOp.andi (IntOp.cmpi CmpIPredicate.slt (IntOp.addi (BitVec.ofNat 32 a) (BitVec.ofNat 32 j)) (IntOp.addi (BitVec.ofNat 32 b) (BitVec.ofNat 32 i)))
      (IntOp.cmpi CmpIPredicate.sge (IntOp.addi (BitVec.ofNat 32 a) (BitVec.ofNat 32 j)) (BitVec.ofNat 32 c)) = 1#1 ↔ a + j < b + i ∧ c ≤ a + j := by
  have e : ∀ x y : ℕ, IntOp.addi (BitVec.ofNat 32 x) (BitVec.ofNat 32 y) = BitVec.ofNat 32 (x + y) := fun x y => (BitVec.ofNat_add _ _).symm
  rw [e, e, WordCmp.cmpi_slt_ofNat ha hb, WordCmp.cmpi_sge_ofNat ha hc]
  by_cases h1 : a + j < b + i <;> by_cases h2 : c ≤ a + j <;> simp [h1, h2, IntOp.andi]

theorem maskV_512_iff (r0 s0 lower : ℕ) (hr : r0 < 2 ^ 20) (hs : s0 < 2 ^ 20) (hl : lower < 2 ^ 20) (i j : Fin 512) :
    maskV_512 (BitVec.ofNat 32 r0) (BitVec.ofNat 32 s0) (BitVec.ofNat 32 lower) (ix2 i j) = 1#1 ↔ s0 + j.val < r0 + i.val ∧ lower ≤ s0 + j.val := by
  unfold maskV_512; pointwise
  exact mask_iff _ _ _ _ _ (by omega) (by omega) (by omega)

theorem maskV_128_iff (r0 s0 lower : ℕ) (hr : r0 < 2 ^ 20) (hs : s0 < 2 ^ 20) (hl : lower < 2 ^ 20) (i : Fin 128) (j : Fin 512) :
    maskV_128 (BitVec.ofNat 32 r0) (BitVec.ofNat 32 s0) (BitVec.ofNat 32 lower) (ix2 i j) = 1#1 ↔ s0 + j.val < r0 + i.val ∧ lower ≤ s0 + j.val := by
  unfold maskV_128; pointwise
  exact mask_iff _ _ _ _ _ (by omega) (by omega) (by omega)

/-! ## Blocks of 512 queries -/

/-- The carried vectors and the two gradients under way, once the keys before `S` are counted. -/
structure St_512 (q k v d : ℕ → ℕ → ℝ) (r0 S : ℕ) (D8 D9 : ℕ → ℕ → ℝ) (arg8 arg9 : Memref sig .tc .vmem S1x2176x128 .f32)
    (s : FVec Ideal S512x1 .f32 × FVec Ideal S512x1 .f32 × FVec Ideal S512x1 .f32 × FVec Ideal S512x1 .f32 × FVec Ideal S512x128 .f32)
    (f8 : BufTy.Contents (Elt Ideal) arg8.view.ty) (f9 : BufTy.Contents (Elt Ideal) arg9.view.ty) : Prop where
  carry : Carry_512 q k v d r0 S s
  c8 : Cols 512 r0 S D8 (dzH q k v d) q (arg8.view.read (Elt Ideal) f8)
  c9 : Cols 512 r0 S D9 (wtH q k) d (arg9.view.read (Elt Ideal) f9)

theorem cols_write_512 {S s0 r0 : ℕ} (h0 : s0 ≤ S) (h1 : S ≤ s0 + 512) {D : ℕ → ℕ → ℝ} {x : ℕ → ℕ → ℕ → ℝ} {f : ℕ → ℕ → ℝ} {x0 x1 : FVec Ideal S512x512 .f32} {f0 f1 : FVec Ideal S512x128 .bf16}
    (hx0 : ∀ (i : Fin 512) (j : Fin 512), x0 (ix2 i j) = ((part S s0 (x 0 (r0 + i.val)) j.val : ℝ) : EReal))
    (hx1 : ∀ (i : Fin 512) (j : Fin 512), x1 (ix2 i j) = ((part S s0 (x 1 (r0 + i.val)) j.val : ℝ) : EReal))
    (hf0 : ∀ (i : Fin 512) (l : Fin 128), f0 (ix2 i l) = ((if l.val < 64 then f (r0 + i.val) l.val else 0 : ℝ) : EReal))
    (hf1 : ∀ (i : Fin 512) (l : Fin 128), f1 (ix2 i l) = ((if l.val < 64 then 0 else f (r0 + i.val) l.val : ℝ) : EReal))
    {arg : Memref sig .tc .vmem S1x2176x128 .f32} {X : BufTy.Contents (Elt Ideal) arg.view.ty}
    (hc : Cols 512 r0 S D x f (arg.view.read (Elt Ideal) X))
    {off : Fin 3 → ℕ} (inb : ∀ a, off a + S1x512x128.size a ≤ S1x2176x128.size a) (ho : off = ![0, s0, 0]) :
    Cols 512 r0 (s0 + 512) D x f (arg.view.read (Elt Ideal) (arg.view.writes (Elt Ideal) X
      [⟨Rect.unit (s := S1x2176x128) off S1x512x128.size inb, addV_512 (catV_512 f0 f1) x0 x1
        (View.readAt (Elt Ideal) arg.view (Rect.unit (s := S1x2176x128) off S1x512x128.size inb).toLoadRect X)⟩])) := by
  refine cols_512 h0 h1 hx0 hx1 hf0 hf1 hc (fun j l s hs => old_read X inb ho j l s hs) (fun j l s hs => ?_) (fun s l hs => ?_)
  · refine View.read_writes_cons_unit_of_mem arg.view X inb _ [] (ix3 0 s l) (ix3 0 j l) ho fun a => ?_
    match a with
    | 0 => rfl
    | 1 => exact hs
    | 2 => exact (Nat.zero_add _).symm
  · exact View.read_writes_cons_unit_of_not_mem arg.view X inb _ [] (ix3 0 s l) ho 1 hs

section
variable {q k v d : ℕ → ℕ → ℝ} {r0 s0 S : ℕ} {D8 D9 : ℕ → ℕ → ℝ} {m : IVec S512x512 1} {q0 q1 g0 g1 : FVec Ideal S512x128 .bf16} {tot0 tot1 : FVec Ideal S512x1 .f32}
  {arg3 arg4 arg8 arg9 : Memref sig .tc .vmem S1x2176x128 .f32}
  {X3 : BufTy.Contents (Elt Ideal) arg3.view.ty} {X4 : BufTy.Contents (Elt Ideal) arg4.view.ty}
  {f8 : BufTy.Contents (Elt Ideal) arg8.view.ty} {f9 : BufTy.Contents (Elt Ideal) arg9.view.ty}
  {s : FVec Ideal S512x1 .f32 × FVec Ideal S512x1 .f32 × FVec Ideal S512x1 .f32 × FVec Ideal S512x1 .f32 × FVec Ideal S512x128 .f32}

/-- One chunk. -/
theorem st_512 (T : Tile_512 q k v d r0 q0 q1 g0 g1 tot0 tot1)
    (hX3 : ∀ (s : Fin 2176) (l : Fin 128), arg3.view.read (Elt Ideal) X3 (ix3 0 s l) = (k s.val l.val : EReal))
    (hX4 : ∀ (s : Fin 2176) (l : Fin 128), arg4.view.read (Elt Ideal) X4 (ix3 0 s l) = (v s.val l.val : EReal))
    (hm : ∀ (i : Fin 512) (j : Fin 512), m (ix2 i j) = 1#1 ↔ S ≤ s0 + j.val ∧ Vis (r0 + i.val) (s0 + j.val))
    (h0 : s0 ≤ S) (h1 : S ≤ s0 + 512) (C : St_512 q k v d r0 S D8 D9 arg8 arg9 s f8 f9)
    {off : Fin 3 → ℕ} (inb : ∀ a, off a + S1x512x128.size a ≤ S1x2176x128.size a) (ho : off = ![0, s0, 0]) {S' : ℕ} (hS' : S' = s0 + 512) :
    St_512 q k v d r0 S' D8 D9 arg8 arg9
      (stepM_512 k0_pay265 k0_pay266 k0_pay267 m q0 q1 g0 g1 tot0 tot1
        (View.readAt (Elt Ideal) arg3.view (Rect.unit (s := S1x2176x128) off S1x512x128.size inb).toLoadRect X3)
        (View.readAt (Elt Ideal) arg4.view (Rect.unit (s := S1x2176x128) off S1x512x128.size inb).toLoadRect X4) s)
      (arg8.view.writes (Elt Ideal) f8 [⟨Rect.unit (s := S1x2176x128) off S1x512x128.size inb, addV_512 (catV_512 q0 q1)
        (dzM_512 m k0_pay266 k0_pay267 q0 g0 tot0 s.1 s.2.1 (winV (View.readAt (Elt Ideal) arg3.view (Rect.unit (s := S1x2176x128) off S1x512x128.size inb).toLoadRect X3)) (winV (View.readAt (Elt Ideal) arg4.view (Rect.unit (s := S1x2176x128) off S1x512x128.size inb).toLoadRect X4)))
        (dzM_512 m k0_pay266 k0_pay267 q1 g1 tot1 s.2.2.1 s.2.2.2.1 (winV (View.readAt (Elt Ideal) arg3.view (Rect.unit (s := S1x2176x128) off S1x512x128.size inb).toLoadRect X3)) (winV (View.readAt (Elt Ideal) arg4.view (Rect.unit (s := S1x2176x128) off S1x512x128.size inb).toLoadRect X4)))
        (View.readAt (Elt Ideal) arg8.view (Rect.unit (s := S1x2176x128) off S1x512x128.size inb).toLoadRect f8)⟩])
      (arg9.view.writes (Elt Ideal) f9 [⟨Rect.unit (s := S1x2176x128) off S1x512x128.size inb, addV_512 (catV_512 g0 g1)
        (aM_512 m k0_pay266 q0 tot0 s.1 (winV (View.readAt (Elt Ideal) arg3.view (Rect.unit (s := S1x2176x128) off S1x512x128.size inb).toLoadRect X3)))
        (aM_512 m k0_pay266 q1 tot1 s.2.2.1 (winV (View.readAt (Elt Ideal) arg3.view (Rect.unit (s := S1x2176x128) off S1x512x128.size inb).toLoadRect X3)))
        (View.readAt (Elt Ideal) arg9.view (Rect.unit (s := S1x2176x128) off S1x512x128.size inb).toLoadRect f9)⟩]) := by
  subst hS'
  have hk := win_read hX3 inb ho
  have hv := win_read hX4 inb ho
  exact ⟨carry_512 T hm hk hv h0 h1 C.carry,
    cols_write_512 h0 h1 (dz0_512 T hm hk hv h0 h1 C.carry) (dz1_512 T hm hk hv h0 h1 C.carry) T.hq0 T.hq1 C.c8 inb ho,
    cols_write_512 h0 h1 (a0_512 T hm hk h0 h1 C.carry) (a1_512 T hm hk h0 h1 C.carry) T.hg0 T.hg1 C.c9 inb ho⟩

end

/-! ## Blocks of 128 queries -/

/-- The carried vectors and the two gradients under way, once the keys before `S` are counted. -/
structure St_128 (q k v d : ℕ → ℕ → ℝ) (r0 S : ℕ) (D8 D9 : ℕ → ℕ → ℝ) (arg8 arg9 : Memref sig .tc .vmem S1x2176x128 .f32)
    (s : FVec Ideal S128x1 .f32 × FVec Ideal S128x1 .f32 × FVec Ideal S128x1 .f32 × FVec Ideal S128x1 .f32 × FVec Ideal S128x128 .f32)
    (f8 : BufTy.Contents (Elt Ideal) arg8.view.ty) (f9 : BufTy.Contents (Elt Ideal) arg9.view.ty) : Prop where
  carry : Carry_128 q k v d r0 S s
  c8 : Cols 128 r0 S D8 (dzH q k v d) q (arg8.view.read (Elt Ideal) f8)
  c9 : Cols 128 r0 S D9 (wtH q k) d (arg9.view.read (Elt Ideal) f9)

theorem cols_write_128 {S s0 r0 : ℕ} (h0 : s0 ≤ S) (h1 : S ≤ s0 + 512) {D : ℕ → ℕ → ℝ} {x : ℕ → ℕ → ℕ → ℝ} {f : ℕ → ℕ → ℝ} {x0 x1 : FVec Ideal S128x512 .f32} {f0 f1 : FVec Ideal S128x128 .bf16}
    (hx0 : ∀ (i : Fin 128) (j : Fin 512), x0 (ix2 i j) = ((part S s0 (x 0 (r0 + i.val)) j.val : ℝ) : EReal))
    (hx1 : ∀ (i : Fin 128) (j : Fin 512), x1 (ix2 i j) = ((part S s0 (x 1 (r0 + i.val)) j.val : ℝ) : EReal))
    (hf0 : ∀ (i : Fin 128) (l : Fin 128), f0 (ix2 i l) = ((if l.val < 64 then f (r0 + i.val) l.val else 0 : ℝ) : EReal))
    (hf1 : ∀ (i : Fin 128) (l : Fin 128), f1 (ix2 i l) = ((if l.val < 64 then 0 else f (r0 + i.val) l.val : ℝ) : EReal))
    {arg : Memref sig .tc .vmem S1x2176x128 .f32} {X : BufTy.Contents (Elt Ideal) arg.view.ty}
    (hc : Cols 128 r0 S D x f (arg.view.read (Elt Ideal) X))
    {off : Fin 3 → ℕ} (inb : ∀ a, off a + S1x512x128.size a ≤ S1x2176x128.size a) (ho : off = ![0, s0, 0]) :
    Cols 128 r0 (s0 + 512) D x f (arg.view.read (Elt Ideal) (arg.view.writes (Elt Ideal) X
      [⟨Rect.unit (s := S1x2176x128) off S1x512x128.size inb, addV_128 (catV_128 f0 f1) x0 x1
        (View.readAt (Elt Ideal) arg.view (Rect.unit (s := S1x2176x128) off S1x512x128.size inb).toLoadRect X)⟩])) := by
  refine cols_128 h0 h1 hx0 hx1 hf0 hf1 hc (fun j l s hs => old_read X inb ho j l s hs) (fun j l s hs => ?_) (fun s l hs => ?_)
  · refine View.read_writes_cons_unit_of_mem arg.view X inb _ [] (ix3 0 s l) (ix3 0 j l) ho fun a => ?_
    match a with
    | 0 => rfl
    | 1 => exact hs
    | 2 => exact (Nat.zero_add _).symm
  · exact View.read_writes_cons_unit_of_not_mem arg.view X inb _ [] (ix3 0 s l) ho 1 hs

section
variable {q k v d : ℕ → ℕ → ℝ} {r0 s0 S : ℕ} {D8 D9 : ℕ → ℕ → ℝ} {m : IVec S128x512 1} {q0 q1 g0 g1 : FVec Ideal S128x128 .bf16} {tot0 tot1 : FVec Ideal S128x1 .f32}
  {arg3 arg4 arg8 arg9 : Memref sig .tc .vmem S1x2176x128 .f32}
  {X3 : BufTy.Contents (Elt Ideal) arg3.view.ty} {X4 : BufTy.Contents (Elt Ideal) arg4.view.ty}
  {f8 : BufTy.Contents (Elt Ideal) arg8.view.ty} {f9 : BufTy.Contents (Elt Ideal) arg9.view.ty}
  {s : FVec Ideal S128x1 .f32 × FVec Ideal S128x1 .f32 × FVec Ideal S128x1 .f32 × FVec Ideal S128x1 .f32 × FVec Ideal S128x128 .f32}

/-- One chunk. -/
theorem st_128 (T : Tile_128 q k v d r0 q0 q1 g0 g1 tot0 tot1)
    (hX3 : ∀ (s : Fin 2176) (l : Fin 128), arg3.view.read (Elt Ideal) X3 (ix3 0 s l) = (k s.val l.val : EReal))
    (hX4 : ∀ (s : Fin 2176) (l : Fin 128), arg4.view.read (Elt Ideal) X4 (ix3 0 s l) = (v s.val l.val : EReal))
    (hm : ∀ (i : Fin 128) (j : Fin 512), m (ix2 i j) = 1#1 ↔ S ≤ s0 + j.val ∧ Vis (r0 + i.val) (s0 + j.val))
    (h0 : s0 ≤ S) (h1 : S ≤ s0 + 512) (C : St_128 q k v d r0 S D8 D9 arg8 arg9 s f8 f9)
    {off : Fin 3 → ℕ} (inb : ∀ a, off a + S1x512x128.size a ≤ S1x2176x128.size a) (ho : off = ![0, s0, 0]) {S' : ℕ} (hS' : S' = s0 + 512) :
    St_128 q k v d r0 S' D8 D9 arg8 arg9
      (stepM_128 k0_pay265 k0_pay266 k0_pay267 m q0 q1 g0 g1 tot0 tot1
        (View.readAt (Elt Ideal) arg3.view (Rect.unit (s := S1x2176x128) off S1x512x128.size inb).toLoadRect X3)
        (View.readAt (Elt Ideal) arg4.view (Rect.unit (s := S1x2176x128) off S1x512x128.size inb).toLoadRect X4) s)
      (arg8.view.writes (Elt Ideal) f8 [⟨Rect.unit (s := S1x2176x128) off S1x512x128.size inb, addV_128 (catV_128 q0 q1)
        (dzM_128 m k0_pay266 k0_pay267 q0 g0 tot0 s.1 s.2.1 (winV (View.readAt (Elt Ideal) arg3.view (Rect.unit (s := S1x2176x128) off S1x512x128.size inb).toLoadRect X3)) (winV (View.readAt (Elt Ideal) arg4.view (Rect.unit (s := S1x2176x128) off S1x512x128.size inb).toLoadRect X4)))
        (dzM_128 m k0_pay266 k0_pay267 q1 g1 tot1 s.2.2.1 s.2.2.2.1 (winV (View.readAt (Elt Ideal) arg3.view (Rect.unit (s := S1x2176x128) off S1x512x128.size inb).toLoadRect X3)) (winV (View.readAt (Elt Ideal) arg4.view (Rect.unit (s := S1x2176x128) off S1x512x128.size inb).toLoadRect X4)))
        (View.readAt (Elt Ideal) arg8.view (Rect.unit (s := S1x2176x128) off S1x512x128.size inb).toLoadRect f8)⟩])
      (arg9.view.writes (Elt Ideal) f9 [⟨Rect.unit (s := S1x2176x128) off S1x512x128.size inb, addV_128 (catV_128 g0 g1)
        (aM_128 m k0_pay266 q0 tot0 s.1 (winV (View.readAt (Elt Ideal) arg3.view (Rect.unit (s := S1x2176x128) off S1x512x128.size inb).toLoadRect X3)))
        (aM_128 m k0_pay266 q1 tot1 s.2.2.1 (winV (View.readAt (Elt Ideal) arg3.view (Rect.unit (s := S1x2176x128) off S1x512x128.size inb).toLoadRect X3)))
        (View.readAt (Elt Ideal) arg9.view (Rect.unit (s := S1x2176x128) off S1x512x128.size inb).toLoadRect f9)⟩]) := by
  subst hS'
  have hk := win_read hX3 inb ho
  have hv := win_read hX4 inb ho
  exact ⟨carry_128 T hm hk hv h0 h1 C.carry,
    cols_write_128 h0 h1 (dz0_128 T hm hk hv h0 h1 C.carry) (dz1_128 T hm hk hv h0 h1 C.carry) T.hq0 T.hq1 C.c8 inb ho,
    cols_write_128 h0 h1 (a0_128 T hm hk h0 h1 C.carry) (a1_128 T hm hk h0 h1 C.carry) T.hg0 T.hg1 C.c9 inb ho⟩

end

end Cert.Kernel5Ideal
-- ==== Proof.SbChunks.lean ====
/- The loops over the chunks of keys, for one block of queries of the stick-breaking gradient. -/
module

public import proofs.«01_k».proof.Proof.SbWin
public import proofs.«01_k».proof.Proof.Gen.Kernel5Ideal.Loops

@[expose] public section

set_option maxRecDepth 16384
set_option maxHeartbeats 4000000

noncomputable section

namespace Cert.Kernel5Ideal

open Idealize.ShloMosaic Idealize.ShloMosaic.TcCoe
open Idealize.SL Idealize.SL.RA Idealize.SL.BI
open Gen Cert.Stick

theorem trips_t2 : ∀ t : Fin k0_t1_loop.trips, (k0_t2_loop t).trips = t.val - 1 := by decide +kernel
theorem trips_t3 : ∀ t : Fin k0_t1_loop.trips, (k0_t3_loop t).trips = 0 := by decide +kernel
theorem trips_t4 : ∀ t : Fin k0_t1_loop.trips, (k0_t4_loop t).trips = if t.val = 0 then 0 else 1 := by decide +kernel
theorem trips_t5 : ∀ t : Fin k0_t1_loop.trips, (k0_t5_loop t).trips = 0 := by decide +kernel
theorem trips_t6 : k0_t6_loop.trips = 3 := by decide +kernel
theorem trips_t7 : k0_t7_loop.trips = 0 := by decide +kernel
theorem trips_t8 : k0_t8_loop.trips = 1 := by decide +kernel
theorem trips_t9 : k0_t9_loop.trips = 0 := by decide +kernel

theorem off2_eq : k0_off2 = ![0, 0, 0] := by decide +kernel
theorem off3_eq : ∀ (t : Fin k0_t1_loop.trips) (n : Fin (k0_t2_loop t).trips), k0_off3 t n = ![0, 512 * (n.val + 1), 0] := by decide +kernel
theorem off5_eq : ∀ (t : Fin k0_t1_loop.trips) (n : Fin (k0_t4_loop t).trips), k0_off5 t n = ![0, 512 * t.val, 0] := by decide +kernel
theorem off7_eq : k0_off7 = ![0, 0, 0] := by decide +kernel
theorem off8_eq : ∀ n : Fin k0_t6_loop.trips, k0_off8 n = ![0, 512 * (n.val + 1), 0] := by decide +kernel
theorem off10_eq : ∀ n : Fin k0_t8_loop.trips, k0_off10 n = ![0, 1664, 0] := by decide +kernel

/-- The first row of a block of queries, as a word. -/
theorem row_word : ∀ t : Fin k0_t1_loop.trips, Scalar.muli (Scf.iv 0#32 1#32 t) 512#32 = BitVec.ofNat 32 (512 * t.val) := by decide +kernel

theorem mask_first (t : Fin k0_t1_loop.trips) (i j : Fin 512) :
    k0_pay120 (k0_pay117 0#32 1#32 t) (ix2 i j) = 1#1 ↔ 0 ≤ 0 + j.val ∧ Vis (512 * t.val + i.val) (0 + j.val) := by
  have e : k0_pay120 (k0_pay117 0#32 1#32 t) = maskV_512 (Scalar.muli (Scf.iv 0#32 1#32 t) 512#32) (BitVec.ofNat 32 0) (BitVec.ofNat 32 112) := rfl
  have ht : t.val < 4 := t.isLt
  rw [e, row_word, maskV_512_iff _ _ _ (by omega) (by omega) (by omega), Vis]
  omega

theorem mask_last (t : Fin k0_t1_loop.trips) (n : Fin (k0_t4_loop t).trips) (i j : Fin 512) :
    k0_pay44 t (k0_pay117 0#32 1#32 t) (BitVec.ofNat 32 (max t.val 1)) 0#32 1#32 n (ix2 i j) = 1#1
      ↔ 512 * t.val ≤ 512 * t.val + j.val ∧ Vis (512 * t.val + i.val) (512 * t.val + j.val) := by
  have e : k0_pay44 t (k0_pay117 0#32 1#32 t) (BitVec.ofNat 32 (max t.val 1)) 0#32 1#32 n
      = maskV_512 (Scalar.muli (Scf.iv 0#32 1#32 t) 512#32)
        (Scalar.minsi (Scalar.muli (Scalar.addi (BitVec.ofNat 32 (max t.val 1)) (Scf.iv 0#32 1#32 n)) 512#32) 1664#32)
        (Scalar.maxsi (Scalar.muli (Scalar.addi (BitVec.ofNat 32 (max t.val 1)) (Scf.iv 0#32 1#32 n)) 512#32) 112#32) := rfl
  have e1 : ∀ (t : Fin k0_t1_loop.trips) (n : Fin (k0_t4_loop t).trips),
      Scalar.minsi (Scalar.muli (Scalar.addi (BitVec.ofNat 32 (max t.val 1)) (Scf.iv 0#32 1#32 n)) 512#32) 1664#32 = BitVec.ofNat 32 (512 * t.val) := by decide +kernel
  have e2 : ∀ (t : Fin k0_t1_loop.trips) (n : Fin (k0_t4_loop t).trips),
      Scalar.maxsi (Scalar.muli (Scalar.addi (BitVec.ofNat 32 (max t.val 1)) (Scf.iv 0#32 1#32 n)) 512#32) 112#32 = BitVec.ofNat 32 (512 * t.val) := by decide +kernel
  have ht : t.val < 4 := t.isLt
  have ht0 : t.val ≠ 0 := fun h => by have h4 := trips_t4 t; have := n.isLt; rw [if_pos h] at h4; omega
  rw [e, row_word, e1, e2, maskV_512_iff _ _ _ (by omega) (by omega) (by omega), Vis]
  omega

theorem mask_tail_first (i : Fin 128) (j : Fin 512) : k0_pay288 (ix2 i j) = 1#1 ↔ 0 ≤ 0 + j.val ∧ Vis (2048 + i.val) (0 + j.val) := by
  have e : k0_pay288 = maskV_128 (BitVec.ofNat 32 2048) (BitVec.ofNat 32 0) (BitVec.ofNat 32 112) := rfl
  rw [e, maskV_128_iff _ _ _ (by omega) (by omega) (by omega), Vis]
  omega

theorem mask_tail_last (n : Fin k0_t8_loop.trips) (i : Fin 128) (j : Fin 512) :
    k0_pay205 k0_pay285 (Scalar.maxsi 4#32 1#32) 0#32 1#32 n (ix2 i j) = 1#1 ↔ 2048 ≤ 1664 + j.val ∧ Vis (2048 + i.val) (1664 + j.val) := by
  have e : k0_pay205 k0_pay285 (Scalar.maxsi 4#32 1#32) 0#32 1#32 n
      = maskV_128 (BitVec.ofNat 32 2048)
        (Scalar.minsi (Scalar.muli (Scalar.addi (Scalar.maxsi 4#32 1#32) (Scf.iv 0#32 1#32 n)) 512#32) 1664#32)
        (Scalar.maxsi (Scalar.muli (Scalar.addi (Scalar.maxsi 4#32 1#32) (Scf.iv 0#32 1#32 n)) 512#32) 112#32) := rfl
  have e1 : ∀ n : Fin k0_t8_loop.trips,
      Scalar.minsi (Scalar.muli (Scalar.addi (Scalar.maxsi 4#32 1#32) (Scf.iv 0#32 1#32 n)) 512#32) 1664#32 = BitVec.ofNat 32 1664 := by decide +kernel
  have e2 : ∀ n : Fin k0_t8_loop.trips,
      Scalar.maxsi (Scalar.muli (Scalar.addi (Scalar.maxsi 4#32 1#32) (Scf.iv 0#32 1#32 n)) 512#32) 112#32 = BitVec.ofNat 32 2048 := by decide +kernel
  rw [e, e1, e2, maskV_128_iff _ _ _ (by omega) (by omega) (by omega), Vis]
  omega

theorem loop_t2 (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec Ideal S512x512 .bf16) (v14 : FVec Ideal S512x512 .bf16) (k0_t1 : Fin k0_t1_loop.trips) (v217 : BitVec 32) (v219 : BitVec 32) (v229 : FVec Ideal S512x128 .bf16) (v232 : FVec Ideal S512x128 .bf16) (v240 : FVec Ideal S512x128 .bf16) (v243 : FVec Ideal S512x128 .bf16) (v247 : FVec Ideal S512x1 .f32) (v248 : FVec Ideal S512x1 .f32) (v249 : FVec Ideal S1024x128 .bf16) (v250 : FVec Ideal S1024x128 .bf16) (v253 : IVec S512x512 32) (v255 : FVec Ideal S512x128 .f32) (v273 : BitVec 32) (v277 : BitVec 32) (v289 : FVec Ideal S512x128 .bf16) (v333 : FVec Ideal S512x1 .f32) (v336 : FVec Ideal S512x1 .f32) (v337 : FVec Ideal S512x512 .bf16) (v338 : FVec Ideal S512x512 .bf16) (v378 : FVec Ideal S512x1 .f32) (v381 : FVec Ideal S512x1 .f32) (v382 : FVec Ideal S512x512 .bf16) (v383 : FVec Ideal S512x512 .bf16) (X_arg3 : BufTy.Contents (Elt Ideal) arg3.view.ty) (X_arg4 : BufTy.Contents (Elt Ideal) arg4.view.ty) (G_arg8 : BufTy.Contents (Elt Ideal) arg8.view.ty) (G_arg9 : BufTy.Contents (Elt Ideal) arg9.view.ty) (init : FVec Ideal S512x1 .f32 × FVec Ideal S512x1 .f32 × FVec Ideal S512x1 .f32 × FVec Ideal S512x1 .f32 × FVec Ideal S512x128 .f32)
    {qf kf vf df D8 D9 : ℕ → ℕ → ℝ} (hX3 : ∀ (s : Fin 2176) (l : Fin 128), arg3.view.read (Elt Ideal) X_arg3 (ix3 0 s l) = (kf s.val l.val : EReal))
    (hX4 : ∀ (s : Fin 2176) (l : Fin 128), arg4.view.read (Elt Ideal) X_arg4 (ix3 0 s l) = (vf s.val l.val : EReal))
    (h2 : v2 = k0_pay265) (h8 : v8 = k0_pay266) (h14 : v14 = k0_pay267) (h249 : v249 = catV_512 v229 v232) (h250 : v250 = catV_512 v240 v243)
    (T : Tile_512 qf kf vf df (512 * k0_t1.val) v229 v232 v240 v243 v247 v248)
    (C : St_512 qf kf vf df (512 * k0_t1.val) 512 D8 D9 arg8 arg9 init G_arg8 G_arg9) :
    ∀ n : ℕ, n ≤ (k0_t2_loop k0_t1).trips → St_512 qf kf vf df (512 * k0_t1.val) (512 * (n + 1)) D8 D9 arg8 arg9 (st_k0_t2 (F := Ideal) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 X_arg3 X_arg4 G_arg8 G_arg9 init n).1 (arg8.view.writes (Elt Ideal) G_arg8 (st_k0_t2 (F := Ideal) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 X_arg3 X_arg4 G_arg8 G_arg9 init n).2.1) (arg9.view.writes (Elt Ideal) G_arg9 (st_k0_t2 (F := Ideal) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 X_arg3 X_arg4 G_arg8 G_arg9 init n).2.2) := by
  subst h2 h8 h14 h249 h250
  intro n
  induction n with
  | zero => intro _; exact C
  | succ n ih =>
    intro h
    have ih := ih (by omega)
    have hn : n < k0_t1.val - 1 := by rw [← trips_t2]; exact h
    have e := st_k0_t2_succ (F := Ideal) 𝒱 c bd i arg2 harg2 arg3 harg3 arg4 harg4 arg5 harg5 arg6 harg6 arg7 harg7 arg8 harg8 arg9 harg9 k0_pay265 k0_pay266 k0_pay267 k0_t1 v217 v219 v229 v232 v240 v243 v247 v248 (catV_512 v229 v232) (catV_512 v240 v243) v253 v255 v273 v277 v289 v333 v336 v337 v338 v378 v381 v382 v383 X_arg3 X_arg4 G_arg8 G_arg9 init ⟨n, h⟩
    rw [e, tripR_t2_eq, tripL_t2_eq]
    simp only [View.writes_append]
    exact st_512 T hX3 hX4 (m := fun _ => 1#1) (s0 := 512 * (n + 1)) (fun i j => ⟨fun _ => ⟨by omega, ⟨by omega, by omega⟩⟩, fun _ => rfl⟩) le_rfl (by omega) ih
      (k0_off3_inb k0_t1 ⟨n, h⟩) (off3_eq k0_t1 ⟨n, h⟩) (by ring)

theorem loop_t4 (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec Ideal S512x512 .bf16) (v14 : FVec Ideal S512x512 .bf16) (k0_t1 : Fin k0_t1_loop.trips) (v217 : BitVec 32) (v219 : BitVec 32) (v229 : FVec Ideal S512x128 .bf16) (v232 : FVec Ideal S512x128 .bf16) (v240 : FVec Ideal S512x128 .bf16) (v243 : FVec Ideal S512x128 .bf16) (v247 : FVec Ideal S512x1 .f32) (v248 : FVec Ideal S512x1 .f32) (v249 : FVec Ideal S1024x128 .bf16) (v250 : FVec Ideal S1024x128 .bf16) (v253 : IVec S512x512 32) (v255 : FVec Ideal S512x128 .f32) (v273 : BitVec 32) (v277 : BitVec 32) (v289 : FVec Ideal S512x128 .bf16) (v333 : FVec Ideal S512x1 .f32) (v336 : FVec Ideal S512x1 .f32) (v337 : FVec Ideal S512x512 .bf16) (v338 : FVec Ideal S512x512 .bf16) (v378 : FVec Ideal S512x1 .f32) (v381 : FVec Ideal S512x1 .f32) (v382 : FVec Ideal S512x512 .bf16) (v383 : FVec Ideal S512x512 .bf16) (X_arg3 : BufTy.Contents (Elt Ideal) arg3.view.ty) (X_arg4 : BufTy.Contents (Elt Ideal) arg4.view.ty) (G_arg8 : BufTy.Contents (Elt Ideal) arg8.view.ty) (G_arg9 : BufTy.Contents (Elt Ideal) arg9.view.ty) (init : FVec Ideal S512x1 .f32 × FVec Ideal S512x1 .f32 × FVec Ideal S512x1 .f32 × FVec Ideal S512x1 .f32 × FVec Ideal S512x128 .f32)
    {qf kf vf df D8 D9 : ℕ → ℕ → ℝ} (hX3 : ∀ (s : Fin 2176) (l : Fin 128), arg3.view.read (Elt Ideal) X_arg3 (ix3 0 s l) = (kf s.val l.val : EReal))
    (hX4 : ∀ (s : Fin 2176) (l : Fin 128), arg4.view.read (Elt Ideal) X_arg4 (ix3 0 s l) = (vf s.val l.val : EReal))
    (h2 : v2 = k0_pay265) (h8 : v8 = k0_pay266) (h14 : v14 = k0_pay267) (h249 : v249 = catV_512 v229 v232) (h250 : v250 = catV_512 v240 v243)
    (T : Tile_512 qf kf vf df (512 * k0_t1.val) v229 v232 v240 v243 v247 v248)
    (h253 : v253 = k0_pay117 0#32 1#32 k0_t1) (h273 : v273 = BitVec.ofNat 32 (max k0_t1.val 1))
    (C : St_512 qf kf vf df (512 * k0_t1.val) (512 * max k0_t1.val 1) D8 D9 arg8 arg9 init G_arg8 G_arg9) :
    St_512 qf kf vf df (512 * k0_t1.val) (512 * (k0_t1.val + 1)) D8 D9 arg8 arg9 (st_k0_t4 (F := Ideal) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 X_arg3 X_arg4 G_arg8 G_arg9 init (k0_t4_loop k0_t1).trips).1 (arg8.view.writes (Elt Ideal) G_arg8 (st_k0_t4 (F := Ideal) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 X_arg3 X_arg4 G_arg8 G_arg9 init (k0_t4_loop k0_t1).trips).2.1) (arg9.view.writes (Elt Ideal) G_arg9 (st_k0_t4 (F := Ideal) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 X_arg3 X_arg4 G_arg8 G_arg9 init (k0_t4_loop k0_t1).trips).2.2) := by
  subst h2 h8 h14 h249 h250 h253 h273
  by_cases h0 : k0_t1.val = 0
  · rw [trips_t4, if_pos h0]
    have e : 512 * (k0_t1.val + 1) = 512 * max k0_t1.val 1 := by omega
    rw [e]; exact C
  · have h : 0 < (k0_t4_loop k0_t1).trips := by rw [trips_t4, if_neg h0]; exact Nat.one_pos
    have e1 : (k0_t4_loop k0_t1).trips = (⟨0, h⟩ : Fin (k0_t4_loop k0_t1).trips).val + 1 := (trips_t4 k0_t1).trans (if_neg h0)
    have e : 512 * max k0_t1.val 1 = 512 * k0_t1.val := by omega
    rw [e] at C
    rw [e1, st_k0_t4_succ, tripR_t4_eq, tripL_t4_eq]
    simp only [View.writes_append]
    exact st_512 T hX3 hX4 (s0 := 512 * k0_t1.val) (mask_last k0_t1 ⟨0, h⟩) le_rfl (by omega) C
      (k0_off5_inb k0_t1 ⟨0, h⟩) (off5_eq k0_t1 ⟨0, h⟩) (by ring)

theorem loop_t6 (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec Ideal S512x512 .bf16) (v14 : FVec Ideal S512x512 .bf16) (v28 : FVec Ideal S128x128 .bf16) (v31 : FVec Ideal S128x128 .bf16) (v38 : FVec Ideal S128x128 .bf16) (v41 : FVec Ideal S128x128 .bf16) (v44 : FVec Ideal S128x1 .f32) (v45 : FVec Ideal S128x1 .f32) (v46 : FVec Ideal S256x128 .bf16) (v47 : FVec Ideal S256x128 .bf16) (v50 : IVec S128x512 32) (v52 : FVec Ideal S128x128 .f32) (v53 : BitVec 32) (v57 : BitVec 32) (v69 : FVec Ideal S512x128 .bf16) (v113 : FVec Ideal S128x1 .f32) (v116 : FVec Ideal S128x1 .f32) (v117 : FVec Ideal S128x512 .bf16) (v118 : FVec Ideal S128x512 .bf16) (v158 : FVec Ideal S128x1 .f32) (v161 : FVec Ideal S128x1 .f32) (v162 : FVec Ideal S128x512 .bf16) (v163 : FVec Ideal S128x512 .bf16) (v166 : FVec Ideal S512x128 .f32) (v168 : FVec Ideal S512x128 .f32) (X_arg3 : BufTy.Contents (Elt Ideal) arg3.view.ty) (X_arg4 : BufTy.Contents (Elt Ideal) arg4.view.ty) (G_arg8 : BufTy.Contents (Elt Ideal) arg8.view.ty) (G_arg9 : BufTy.Contents (Elt Ideal) arg9.view.ty) (init : FVec Ideal S128x1 .f32 × FVec Ideal S128x1 .f32 × FVec Ideal S128x1 .f32 × FVec Ideal S128x1 .f32 × FVec Ideal S128x128 .f32)
    {qf kf vf df D8 D9 : ℕ → ℕ → ℝ} (hX3 : ∀ (s : Fin 2176) (l : Fin 128), arg3.view.read (Elt Ideal) X_arg3 (ix3 0 s l) = (kf s.val l.val : EReal))
    (hX4 : ∀ (s : Fin 2176) (l : Fin 128), arg4.view.read (Elt Ideal) X_arg4 (ix3 0 s l) = (vf s.val l.val : EReal))
    (h2 : v2 = k0_pay265) (h8 : v8 = k0_pay266) (h14 : v14 = k0_pay267) (h249 : v46 = catV_128 v28 v31) (h250 : v47 = catV_128 v38 v41)
    (T : Tile_128 qf kf vf df 2048 v28 v31 v38 v41 v44 v45)
    (C : St_128 qf kf vf df 2048 512 D8 D9 arg8 arg9 init G_arg8 G_arg9) :
    ∀ n : ℕ, n ≤ k0_t6_loop.trips → St_128 qf kf vf df 2048 (512 * (n + 1)) D8 D9 arg8 arg9 (st_k0_t6 (F := Ideal) 𝒱 c bd i arg2 harg2 arg3 harg3 arg4 harg4 arg5 harg5 arg6 harg6 arg7 harg7 arg8 harg8 arg9 harg9 v2 v8 v14 v28 v31 v38 v41 v44 v45 v46 v47 v50 v52 v53 v57 v69 v113 v116 v117 v118 v158 v161 v162 v163 v166 v168 X_arg3 X_arg4 G_arg8 G_arg9 init n).1 (arg8.view.writes (Elt Ideal) G_arg8 (st_k0_t6 (F := Ideal) 𝒱 c bd i arg2 harg2 arg3 harg3 arg4 harg4 arg5 harg5 arg6 harg6 arg7 harg7 arg8 harg8 arg9 harg9 v2 v8 v14 v28 v31 v38 v41 v44 v45 v46 v47 v50 v52 v53 v57 v69 v113 v116 v117 v118 v158 v161 v162 v163 v166 v168 X_arg3 X_arg4 G_arg8 G_arg9 init n).2.1) (arg9.view.writes (Elt Ideal) G_arg9 (st_k0_t6 (F := Ideal) 𝒱 c bd i arg2 harg2 arg3 harg3 arg4 harg4 arg5 harg5 arg6 harg6 arg7 harg7 arg8 harg8 arg9 harg9 v2 v8 v14 v28 v31 v38 v41 v44 v45 v46 v47 v50 v52 v53 v57 v69 v113 v116 v117 v118 v158 v161 v162 v163 v166 v168 X_arg3 X_arg4 G_arg8 G_arg9 init n).2.2) := by
  subst h2 h8 h14 h249 h250
  intro n
  induction n with
  | zero => intro _; exact C
  | succ n ih =>
    intro h
    have ih := ih (by omega)
    have hn : n < 3 := by rw [← trips_t6]; exact h
    have e := st_k0_t6_succ (F := Ideal) 𝒱 c bd i arg2 harg2 arg3 harg3 arg4 harg4 arg5 harg5 arg6 harg6 arg7 harg7 arg8 harg8 arg9 harg9 k0_pay265 k0_pay266 k0_pay267 v28 v31 v38 v41 v44 v45 (catV_128 v28 v31) (catV_128 v38 v41) v50 v52 v53 v57 v69 v113 v116 v117 v118 v158 v161 v162 v163 v166 v168 X_arg3 X_arg4 G_arg8 G_arg9 init ⟨n, h⟩
    rw [e, tripR_t6_eq, tripL_t6_eq]
    simp only [View.writes_append]
    exact st_128 T hX3 hX4 (m := fun _ => 1#1) (s0 := 512 * (n + 1)) (fun i j => ⟨fun _ => ⟨by omega, ⟨by omega, by omega⟩⟩, fun _ => rfl⟩) le_rfl (by omega) ih
      (k0_off8_inb ⟨n, h⟩) (off8_eq ⟨n, h⟩) (by ring)

theorem loop_t8 (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec Ideal S512x512 .bf16) (v14 : FVec Ideal S512x512 .bf16) (v28 : FVec Ideal S128x128 .bf16) (v31 : FVec Ideal S128x128 .bf16) (v38 : FVec Ideal S128x128 .bf16) (v41 : FVec Ideal S128x128 .bf16) (v44 : FVec Ideal S128x1 .f32) (v45 : FVec Ideal S128x1 .f32) (v46 : FVec Ideal S256x128 .bf16) (v47 : FVec Ideal S256x128 .bf16) (v50 : IVec S128x512 32) (v53 : BitVec 32) (c0_i32_70 : BitVec 32) (X_arg3 : BufTy.Contents (Elt Ideal) arg3.view.ty) (X_arg4 : BufTy.Contents (Elt Ideal) arg4.view.ty) (G_arg8 : BufTy.Contents (Elt Ideal) arg8.view.ty) (G_arg9 : BufTy.Contents (Elt Ideal) arg9.view.ty) (init : FVec Ideal S128x1 .f32 × FVec Ideal S128x1 .f32 × FVec Ideal S128x1 .f32 × FVec Ideal S128x1 .f32 × FVec Ideal S128x128 .f32)
    {qf kf vf df D8 D9 : ℕ → ℕ → ℝ} (hX3 : ∀ (s : Fin 2176) (l : Fin 128), arg3.view.read (Elt Ideal) X_arg3 (ix3 0 s l) = (kf s.val l.val : EReal))
    (hX4 : ∀ (s : Fin 2176) (l : Fin 128), arg4.view.read (Elt Ideal) X_arg4 (ix3 0 s l) = (vf s.val l.val : EReal))
    (h2 : v2 = k0_pay265) (h8 : v8 = k0_pay266) (h14 : v14 = k0_pay267) (h249 : v46 = catV_128 v28 v31) (h250 : v47 = catV_128 v38 v41)
    (T : Tile_128 qf kf vf df 2048 v28 v31 v38 v41 v44 v45)
    (h50 : v50 = k0_pay285) (h53 : v53 = Scalar.maxsi 4#32 1#32) (hc0 : c0_i32_70 = 0#32)
    (C : St_128 qf kf vf df 2048 2048 D8 D9 arg8 arg9 init G_arg8 G_arg9) :
    St_128 qf kf vf df 2048 2176 D8 D9 arg8 arg9 (st_k0_t8 (F := Ideal) 𝒱 c bd i arg2 harg2 arg3 harg3 arg4 harg4 arg5 harg5 arg6 harg6 arg7 harg7 arg8 harg8 arg9 harg9 v2 v8 v14 v28 v31 v38 v41 v44 v45 v46 v47 v50 v53 c0_i32_70 X_arg3 X_arg4 G_arg8 G_arg9 init k0_t8_loop.trips).1 (arg8.view.writes (Elt Ideal) G_arg8 (st_k0_t8 (F := Ideal) 𝒱 c bd i arg2 harg2 arg3 harg3 arg4 harg4 arg5 harg5 arg6 harg6 arg7 harg7 arg8 harg8 arg9 harg9 v2 v8 v14 v28 v31 v38 v41 v44 v45 v46 v47 v50 v53 c0_i32_70 X_arg3 X_arg4 G_arg8 G_arg9 init k0_t8_loop.trips).2.1) (arg9.view.writes (Elt Ideal) G_arg9 (st_k0_t8 (F := Ideal) 𝒱 c bd i arg2 harg2 arg3 harg3 arg4 harg4 arg5 harg5 arg6 harg6 arg7 harg7 arg8 harg8 arg9 harg9 v2 v8 v14 v28 v31 v38 v41 v44 v45 v46 v47 v50 v53 c0_i32_70 X_arg3 X_arg4 G_arg8 G_arg9 init k0_t8_loop.trips).2.2) := by
  subst h2 h8 h14 h249 h250 h50 h53 hc0
  have h : 0 < k0_t8_loop.trips := by rw [trips_t8]; exact Nat.one_pos
  have e1 : k0_t8_loop.trips = (⟨0, h⟩ : Fin k0_t8_loop.trips).val + 1 := trips_t8
  rw [e1, st_k0_t8_succ, tripR_t8_eq, tripL_t8_eq]
  simp only [View.writes_append]
  exact st_128 T hX3 hX4 (s0 := 1664) (mask_tail_last ⟨0, h⟩) (by omega) (by omega) C (k0_off10_inb ⟨0, h⟩) (off10_eq ⟨0, h⟩) rfl

theorem loop_t3 (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec Ideal S512x512 .bf16) (v14 : FVec Ideal S512x512 .bf16) (k0_t1 : Fin k0_t1_loop.trips) (v217 : BitVec 32) (v219 : BitVec 32) (v229 : FVec Ideal S512x128 .bf16) (v232 : FVec Ideal S512x128 .bf16) (v240 : FVec Ideal S512x128 .bf16) (v243 : FVec Ideal S512x128 .bf16) (v247 : FVec Ideal S512x1 .f32) (v248 : FVec Ideal S512x1 .f32) (v249 : FVec Ideal S1024x128 .bf16) (v250 : FVec Ideal S1024x128 .bf16) (v253 : IVec S512x512 32) (v255 : FVec Ideal S512x128 .f32) (v273 : BitVec 32) (v277 : BitVec 32) (v289 : FVec Ideal S512x128 .bf16) (v333 : FVec Ideal S512x1 .f32) (v336 : FVec Ideal S512x1 .f32) (v337 : FVec Ideal S512x512 .bf16) (v338 : FVec Ideal S512x512 .bf16) (v378 : FVec Ideal S512x1 .f32) (v381 : FVec Ideal S512x1 .f32) (v382 : FVec Ideal S512x512 .bf16) (v383 : FVec Ideal S512x512 .bf16) (v420 : BitVec 32) (X_arg3 : BufTy.Contents (Elt Ideal) arg3.view.ty) (X_arg4 : BufTy.Contents (Elt Ideal) arg4.view.ty) (G_arg8 : BufTy.Contents (Elt Ideal) arg8.view.ty) (G_arg9 : BufTy.Contents (Elt Ideal) arg9.view.ty) (init : FVec Ideal S512x1 .f32 × FVec Ideal S512x1 .f32 × FVec Ideal S512x1 .f32 × FVec Ideal S512x1 .f32 × FVec Ideal S512x128 .f32) {qf kf vf df D8 D9 : ℕ → ℕ → ℝ} {r0 S : ℕ}
    (C : St_512 qf kf vf df r0 S D8 D9 arg8 arg9 init G_arg8 G_arg9) :
    St_512 qf kf vf df r0 S D8 D9 arg8 arg9 (st_k0_t3 (F := Ideal) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 v420 X_arg3 X_arg4 G_arg8 G_arg9 init (k0_t3_loop k0_t1).trips).1 (arg8.view.writes (Elt Ideal) G_arg8 (st_k0_t3 (F := Ideal) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 v420 X_arg3 X_arg4 G_arg8 G_arg9 init (k0_t3_loop k0_t1).trips).2.1) (arg9.view.writes (Elt Ideal) G_arg9 (st_k0_t3 (F := Ideal) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 v420 X_arg3 X_arg4 G_arg8 G_arg9 init (k0_t3_loop k0_t1).trips).2.2) := by
  rw [trips_t3]; exact C

theorem loop_t5 (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec Ideal S512x512 .bf16) (v14 : FVec Ideal S512x512 .bf16) (k0_t1 : Fin k0_t1_loop.trips) (v217 : BitVec 32) (v219 : BitVec 32) (v229 : FVec Ideal S512x128 .bf16) (v232 : FVec Ideal S512x128 .bf16) (v240 : FVec Ideal S512x128 .bf16) (v243 : FVec Ideal S512x128 .bf16) (v247 : FVec Ideal S512x1 .f32) (v248 : FVec Ideal S512x1 .f32) (v249 : FVec Ideal S1024x128 .bf16) (v250 : FVec Ideal S1024x128 .bf16) (v253 : IVec S512x512 32) (v255 : FVec Ideal S512x128 .f32) (v273 : BitVec 32) (v277 : BitVec 32) (v289 : FVec Ideal S512x128 .bf16) (v333 : FVec Ideal S512x1 .f32) (v336 : FVec Ideal S512x1 .f32) (v337 : FVec Ideal S512x512 .bf16) (v338 : FVec Ideal S512x512 .bf16) (v378 : FVec Ideal S512x1 .f32) (v381 : FVec Ideal S512x1 .f32) (v382 : FVec Ideal S512x512 .bf16) (v383 : FVec Ideal S512x512 .bf16) (v428 : BitVec 32) (X_arg3 : BufTy.Contents (Elt Ideal) arg3.view.ty) (X_arg4 : BufTy.Contents (Elt Ideal) arg4.view.ty) (G_arg8 : BufTy.Contents (Elt Ideal) arg8.view.ty) (G_arg9 : BufTy.Contents (Elt Ideal) arg9.view.ty) (init : FVec Ideal S512x1 .f32 × FVec Ideal S512x1 .f32 × FVec Ideal S512x1 .f32 × FVec Ideal S512x1 .f32 × FVec Ideal S512x128 .f32) {qf kf vf df D8 D9 : ℕ → ℕ → ℝ} {r0 S : ℕ}
    (C : St_512 qf kf vf df r0 S D8 D9 arg8 arg9 init G_arg8 G_arg9) :
    St_512 qf kf vf df r0 S D8 D9 arg8 arg9 (st_k0_t5 (F := Ideal) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 v428 X_arg3 X_arg4 G_arg8 G_arg9 init (k0_t5_loop k0_t1).trips).1 (arg8.view.writes (Elt Ideal) G_arg8 (st_k0_t5 (F := Ideal) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 v428 X_arg3 X_arg4 G_arg8 G_arg9 init (k0_t5_loop k0_t1).trips).2.1) (arg9.view.writes (Elt Ideal) G_arg9 (st_k0_t5 (F := Ideal) 𝒱 c bd i arg2 harg2 arg3 harg3 arg4 harg4 arg5 harg5 arg6 harg6 arg7 harg7 arg8 harg8 arg9 harg9 v2 v8 v14 k0_t1 v217 v219 v229 v232 v240 v243 v247 v248 v249 v250 v253 v255 v273 v277 v289 v333 v336 v337 v338 v378 v381 v382 v383 v428 X_arg3 X_arg4 G_arg8 G_arg9 init (k0_t5_loop k0_t1).trips).2.2) := by
  rw [trips_t5]; exact C

theorem loop_t7 (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec Ideal S512x512 .bf16) (v14 : FVec Ideal S512x512 .bf16) (v28 : FVec Ideal S128x128 .bf16) (v31 : FVec Ideal S128x128 .bf16) (v38 : FVec Ideal S128x128 .bf16) (v41 : FVec Ideal S128x128 .bf16) (v44 : FVec Ideal S128x1 .f32) (v45 : FVec Ideal S128x1 .f32) (v46 : FVec Ideal S256x128 .bf16) (v47 : FVec Ideal S256x128 .bf16) (v50 : IVec S128x512 32) (v52 : FVec Ideal S128x128 .f32) (v53 : BitVec 32) (v57 : BitVec 32) (v69 : FVec Ideal S512x128 .bf16) (v113 : FVec Ideal S128x1 .f32) (v116 : FVec Ideal S128x1 .f32) (v117 : FVec Ideal S128x512 .bf16) (v118 : FVec Ideal S128x512 .bf16) (v158 : FVec Ideal S128x1 .f32) (v161 : FVec Ideal S128x1 .f32) (v162 : FVec Ideal S128x512 .bf16) (v163 : FVec Ideal S128x512 .bf16) (v166 : FVec Ideal S512x128 .f32) (v168 : FVec Ideal S512x128 .f32) (v200 : BitVec 32) (X_arg3 : BufTy.Contents (Elt Ideal) arg3.view.ty) (X_arg4 : BufTy.Contents (Elt Ideal) arg4.view.ty) (G_arg8 : BufTy.Contents (Elt Ideal) arg8.view.ty) (G_arg9 : BufTy.Contents (Elt Ideal) arg9.view.ty) (init : FVec Ideal S128x1 .f32 × FVec Ideal S128x1 .f32 × FVec Ideal S128x1 .f32 × FVec Ideal S128x1 .f32 × FVec Ideal S128x128 .f32) {qf kf vf df D8 D9 : ℕ → ℕ → ℝ} {r0 S : ℕ}
    (C : St_128 qf kf vf df r0 S D8 D9 arg8 arg9 init G_arg8 G_arg9) :
    St_128 qf kf vf df r0 S D8 D9 arg8 arg9 (st_k0_t7 (F := Ideal) 𝒱 c bd i arg2 harg2 arg3 harg3 arg4 harg4 arg5 harg5 arg6 harg6 arg7 harg7 arg8 harg8 arg9 harg9 v2 v8 v14 v28 v31 v38 v41 v44 v45 v46 v47 v50 v52 v53 v57 v69 v113 v116 v117 v118 v158 v161 v162 v163 v166 v168 v200 X_arg3 X_arg4 G_arg8 G_arg9 init k0_t7_loop.trips).1 (arg8.view.writes (Elt Ideal) G_arg8 (st_k0_t7 (F := Ideal) 𝒱 c bd i arg2 harg2 arg3 harg3 arg4 harg4 arg5 harg5 arg6 harg6 arg7 harg7 arg8 harg8 arg9 harg9 v2 v8 v14 v28 v31 v38 v41 v44 v45 v46 v47 v50 v52 v53 v57 v69 v113 v116 v117 v118 v158 v161 v162 v163 v166 v168 v200 X_arg3 X_arg4 G_arg8 G_arg9 init k0_t7_loop.trips).2.1) (arg9.view.writes (Elt Ideal) G_arg9 (st_k0_t7 (F := Ideal) 𝒱 c bd i arg2 harg2 arg3 harg3 arg4 harg4 arg5 harg5 arg6 harg6 arg7 harg7 arg8 harg8 arg9 harg9 v2 v8 v14 v28 v31 v38 v41 v44 v45 v46 v47 v50 v52 v53 v57 v69 v113 v116 v117 v118 v158 v161 v162 v163 v166 v168 v200 X_arg3 X_arg4 G_arg8 G_arg9 init k0_t7_loop.trips).2.2) := by
  rw [trips_t7]; exact C

theorem loop_t9 (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (v2 : IVec S1x128 1) (v8 : FVec Ideal S512x512 .bf16) (v14 : FVec Ideal S512x512 .bf16) (v28 : FVec Ideal S128x128 .bf16) (v31 : FVec Ideal S128x128 .bf16) (v38 : FVec Ideal S128x128 .bf16) (v41 : FVec Ideal S128x128 .bf16) (v44 : FVec Ideal S128x1 .f32) (v45 : FVec Ideal S128x1 .f32) (v46 : FVec Ideal S256x128 .bf16) (v47 : FVec Ideal S256x128 .bf16) (v50 : IVec S128x512 32) (v53 : BitVec 32) (v208 : BitVec 32) (X_arg3 : BufTy.Contents (Elt Ideal) arg3.view.ty) (X_arg4 : BufTy.Contents (Elt Ideal) arg4.view.ty) (G_arg8 : BufTy.Contents (Elt Ideal) arg8.view.ty) (G_arg9 : BufTy.Contents (Elt Ideal) arg9.view.ty) (init : FVec Ideal S128x1 .f32 × FVec Ideal S128x1 .f32 × FVec Ideal S128x1 .f32 × FVec Ideal S128x1 .f32 × FVec Ideal S128x128 .f32) {qf kf vf df D8 D9 : ℕ → ℕ → ℝ} {r0 S : ℕ}
    (C : St_128 qf kf vf df r0 S D8 D9 arg8 arg9 init G_arg8 G_arg9) :
    St_128 qf kf vf df r0 S D8 D9 arg8 arg9 (st_k0_t9 (F := Ideal) 𝒱 c bd i arg2 harg2 arg3 harg3 arg4 harg4 arg5 harg5 arg6 harg6 arg7 harg7 arg8 harg8 arg9 harg9 v2 v8 v14 v28 v31 v38 v41 v44 v45 v46 v47 v50 v53 v208 X_arg3 X_arg4 G_arg8 G_arg9 init k0_t9_loop.trips).1 (arg8.view.writes (Elt Ideal) G_arg8 (st_k0_t9 (F := Ideal) 𝒱 c bd i arg2 harg2 arg3 harg3 arg4 harg4 arg5 harg5 arg6 harg6 arg7 harg7 arg8 harg8 arg9 harg9 v2 v8 v14 v28 v31 v38 v41 v44 v45 v46 v47 v50 v53 v208 X_arg3 X_arg4 G_arg8 G_arg9 init k0_t9_loop.trips).2.1) (arg9.view.writes (Elt Ideal) G_arg9 (st_k0_t9 (F := Ideal) 𝒱 c bd i arg2 harg2 arg3 harg3 arg4 harg4 arg5 harg5 arg6 harg6 arg7 harg7 arg8 harg8 arg9 harg9 v2 v8 v14 v28 v31 v38 v41 v44 v45 v46 v47 v50 v53 v208 X_arg3 X_arg4 G_arg8 G_arg9 init k0_t9_loop.trips).2.2) := by
  rw [trips_t9]; exact C

end Cert.Kernel5Ideal
-- ==== Proof.SbQuery.lean ====
/- One block of 512 queries of the stick-breaking gradient: the block of the queries' gradient, and what it adds to the other two. -/
module

public import proofs.«01_k».proof.Proof.SbChunks
public import proofs.«01_k».proof.Proof.SbLoop

@[expose] public section

set_option maxRecDepth 16384
set_option maxHeartbeats 8000000

noncomputable section

namespace Cert.Kernel5Ideal

open Idealize.ShloMosaic Idealize.ShloMosaic.TcCoe
open Idealize.SL Idealize.SL.RA Idealize.SL.BI
open Gen Cert.Stick

/-- The scale of the scores. -/
def sc : ℝ := 1 / 8

theorem sc_bits : Ideal.ofBits .f32 0x3E000000#32 = ((sc : ℝ) : EReal) := by
  simp [Ideal.ofBits, Ideal.ieee, sc, -EReal.coe_mul]; norm_num

/-- What the operands' blocks hold: the queries, the keys, the values, the gradient of the result, and each query's total. -/
structure Blocks (q k v d : ℕ → ℕ → ℝ) (x2 x3 x4 x5 x6 : S1x2176x128.Idx → EReal) : Prop where
  h2 : ∀ (s : Fin 2176) (l : Fin 128), x2 (ix3 0 s l) = (q s.val l.val : EReal)
  h3 : ∀ (s : Fin 2176) (l : Fin 128), x3 (ix3 0 s l) = (k s.val l.val : EReal)
  h4 : ∀ (s : Fin 2176) (l : Fin 128), x4 (ix3 0 s l) = (v s.val l.val : EReal)
  h5 : ∀ (s : Fin 2176) (l : Fin 128), x5 (ix3 0 s l) = (lvTo (dotH (fun t l => q t l * sc) k (l.val / 64)) 2176 s.val : EReal)
  h6 : ∀ (s : Fin 2176) (l : Fin 128), x6 (ix3 0 s l) = (d s.val l.val : EReal)

theorem tile_512 {q k v d : ℕ → ℕ → ℝ} {r0 : ℕ} {w2 w5 w6 : Vec Ideal S1x512x128 .f32}
    (h2 : ∀ (i : Fin 512) (l : Fin 128), w2 (ix3 0 i l) = (q (r0 + i.val) l.val : EReal))
    (h5 : ∀ (i : Fin 512) (l : Fin 128), w5 (ix3 0 i l) = (lvTo (dotH (fun t l => q t l * sc) k (l.val / 64)) 2176 (r0 + i.val) : EReal))
    (h6 : ∀ (i : Fin 512) (l : Fin 128), w6 (ix3 0 i l) = (d (r0 + i.val) l.val : EReal)) :
    Tile_512 (fun t l => q t l * sc) k v d r0 (loV_512 k0_pay265 (qV_512 w2)) (hiV_512 k0_pay265 (qV_512 w2))
      (loV_512 k0_pay265 (gV_512 w6)) (hiV_512 k0_pay265 (gV_512 w6)) (tot0V_512 w5) (tot1V_512 w5) where
  hq0 i l := by rw [loV_512_apply, qV_512_apply, h2, sc_bits, ← EReal.coe_mul, coe_lo]; simp only [lanes]
  hq1 i l := by rw [hiV_512_apply, qV_512_apply, h2, sc_bits, ← EReal.coe_mul, coe_hi]; simp only [lanes]
  hg0 i l := by rw [loV_512_apply, gV_512_apply, h6, coe_lo]; simp only [lanes]
  hg1 i l := by rw [hiV_512_apply, gV_512_apply, h6, coe_hi]; simp only [lanes]
  ht0 i := by rw [tot0V_512_apply, h5]; rfl
  ht1 i := by rw [tot1V_512_apply, h5]; rfl

/-- The block of the queries' gradient, scaled. -/
def outV_512 (x : FVec Ideal S512x128 .f32) : FVec Ideal S1x512x128 .f32 :=
  shapeCast S1x512x128 (mulf x (broadcast S512x128 (Scalar.ofBits (F := Ideal) .f32 0x3E000000#32))) shapeCasts_S512x128_S1x512x128

theorem outV_512_apply (x : FVec Ideal S512x128 .f32) (i : Fin 512) (l : Fin 128) : outV_512 x (ix3 0 i l) = x (ix2 i l) * ((sc : ℝ) : EReal) := by
  unfold outV_512; pointwise; rw [sc_bits]

theorem finish_512 {q k v d D8 D9 : ℕ → ℕ → ℝ} {r0 S : ℕ} {arg8 arg9 : Memref sig .tc .vmem S1x2176x128 .f32}
    {s : FVec Ideal S512x1 .f32 × FVec Ideal S512x1 .f32 × FVec Ideal S512x1 .f32 × FVec Ideal S512x1 .f32 × FVec Ideal S512x128 .f32}
    {f8 : BufTy.Contents (Elt Ideal) arg8.view.ty} {f9 : BufTy.Contents (Elt Ideal) arg9.view.ty}
    (C : St_512 q k v d r0 S D8 D9 arg8 arg9 s f8 f9) :
    (∀ (i : Fin 512) (l : Fin 128), outV_512 s.2.2.2.2 (ix3 0 i l)
      = (((∑ s ∈ Finset.range S, dzH q k v d (l.val / 64) (r0 + i.val) s * k s l.val) * sc : ℝ) : EReal))
    ∧ Cols 512 r0 S D8 (dzH q k v d) q (arg8.view.read (Elt Ideal) f8)
    ∧ Cols 512 r0 S D9 (wtH q k) d (arg9.view.read (Elt Ideal) f9) :=
  ⟨fun i l => by rw [outV_512_apply, C.carry.acc, EReal.coe_mul], C.c8, C.c9⟩

theorem app_512 {q k v d D8 D9 : ℕ → ℕ → ℝ} {r0 S : ℕ} {arg8 arg9 : Memref sig .tc .vmem S1x2176x128 .f32}
    {s : FVec Ideal S512x1 .f32 × FVec Ideal S512x1 .f32 × FVec Ideal S512x1 .f32 × FVec Ideal S512x1 .f32 × FVec Ideal S512x128 .f32}
    {f8 : BufTy.Contents (Elt Ideal) arg8.view.ty} {f9 : BufTy.Contents (Elt Ideal) arg9.view.ty}
    {L8 M8 L9 M9 : List (View.Piece (Elt Ideal) S1x2176x128 .f32)}
    (C : St_512 q k v d r0 S D8 D9 arg8 arg9 s (arg8.view.writes (Elt Ideal) (arg8.view.writes (Elt Ideal) f8 M8) L8)
      (arg9.view.writes (Elt Ideal) (arg9.view.writes (Elt Ideal) f9 M9) L9)) :
    St_512 q k v d r0 S D8 D9 arg8 arg9 s (arg8.view.writes (Elt Ideal) f8 (L8 ++ M8)) (arg9.view.writes (Elt Ideal) f9 (L9 ++ M9)) := by
  rw [View.writes_append, View.writes_append]; exact C

theorem start_512 {q k v d D8 D9 : ℕ → ℕ → ℝ} {r0 : ℕ} {arg8 arg9 : Memref sig .tc .vmem S1x2176x128 .f32}
    {f8 : BufTy.Contents (Elt Ideal) arg8.view.ty} {f9 : BufTy.Contents (Elt Ideal) arg9.view.ty}
    (h8 : ∀ (s : Fin 2176) (l : Fin 128), arg8.view.read (Elt Ideal) f8 (ix3 0 s l) = (D8 s.val l.val : EReal))
    (h9 : ∀ (s : Fin 2176) (l : Fin 128), arg9.view.read (Elt Ideal) f9 (ix3 0 s l) = (D9 s.val l.val : EReal)) :
    St_512 q k v d r0 0 D8 D9 arg8 arg9 (zeroV_512 (F := Ideal)) f8 f9 :=
  ⟨carry_zero_512 q k v d r0, fun s l => by rw [h8, if_neg (Nat.not_lt_zero _), add_zero], fun s l => by rw [h9, if_neg (Nat.not_lt_zero _), add_zero]⟩

theorem row_read_512 {arg : Memref sig .tc .vmem S1x2176x128 .f32} {X : BufTy.Contents (Elt Ideal) arg.view.ty} {f : ℕ → ℕ → ℝ}
    (hX : ∀ (s : Fin 2176) (l : Fin 128), arg.view.read (Elt Ideal) X (ix3 0 s l) = (f s.val l.val : EReal))
    {off : Fin 3 → ℕ} (inb : ∀ a, off a + S1x512x128.size a ≤ S1x2176x128.size a) {s0 : ℕ} (ho : off = ![0, s0, 0]) (j : Fin 512) (l : Fin 128) :
    View.readAt (Elt Ideal) arg.view (Rect.unit (s := S1x2176x128) off S1x512x128.size inb).toLoadRect X (ix3 0 j l) = (f (s0 + j.val) l.val : EReal) := by
  subst ho
  have hb : s0 + 512 ≤ 2176 := inb 1
  refine Eq.trans ?_ (hX ⟨s0 + j.val, by omega⟩ l)
  rw [View.readAt_apply]
  congr 1
  funext a; refine Fin.ext ?_
  match a with
  | 0 => rfl
  | 1 => show s0 + 1 * j.val = s0 + j.val; rw [one_mul]
  | 2 => show 0 + 1 * l.val = l.val; omega

theorem tile_128 {q k v d : ℕ → ℕ → ℝ} {r0 : ℕ} {w2 w5 w6 : Vec Ideal S1x128x128 .f32}
    (h2 : ∀ (i : Fin 128) (l : Fin 128), w2 (ix3 0 i l) = (q (r0 + i.val) l.val : EReal))
    (h5 : ∀ (i : Fin 128) (l : Fin 128), w5 (ix3 0 i l) = (lvTo (dotH (fun t l => q t l * sc) k (l.val / 64)) 2176 (r0 + i.val) : EReal))
    (h6 : ∀ (i : Fin 128) (l : Fin 128), w6 (ix3 0 i l) = (d (r0 + i.val) l.val : EReal)) :
    Tile_128 (fun t l => q t l * sc) k v d r0 (loV_128 k0_pay265 (qV_128 w2)) (hiV_128 k0_pay265 (qV_128 w2))
      (loV_128 k0_pay265 (gV_128 w6)) (hiV_128 k0_pay265 (gV_128 w6)) (tot0V_128 w5) (tot1V_128 w5) where
  hq0 i l := by rw [loV_128_apply, qV_128_apply, h2, sc_bits, ← EReal.coe_mul, coe_lo]; simp only [lanes]
  hq1 i l := by rw [hiV_128_apply, qV_128_apply, h2, sc_bits, ← EReal.coe_mul, coe_hi]; simp only [lanes]
  hg0 i l := by rw [loV_128_apply, gV_128_apply, h6, coe_lo]; simp only [lanes]
  hg1 i l := by rw [hiV_128_apply, gV_128_apply, h6, coe_hi]; simp only [lanes]
  ht0 i := by rw [tot0V_128_apply, h5]; rfl
  ht1 i := by rw [tot1V_128_apply, h5]; rfl

/-- The block of the queries' gradient, scaled. -/
def outV_128 (x : FVec Ideal S128x128 .f32) : FVec Ideal S1x128x128 .f32 :=
  shapeCast S1x128x128 (mulf x (broadcast S128x128 (Scalar.ofBits (F := Ideal) .f32 0x3E000000#32))) shapeCasts_S128x128_S1x128x128

theorem outV_128_apply (x : FVec Ideal S128x128 .f32) (i : Fin 128) (l : Fin 128) : outV_128 x (ix3 0 i l) = x (ix2 i l) * ((sc : ℝ) : EReal) := by
  unfold outV_128; pointwise; rw [sc_bits]

theorem finish_128 {q k v d D8 D9 : ℕ → ℕ → ℝ} {r0 S : ℕ} {arg8 arg9 : Memref sig .tc .vmem S1x2176x128 .f32}
    {s : FVec Ideal S128x1 .f32 × FVec Ideal S128x1 .f32 × FVec Ideal S128x1 .f32 × FVec Ideal S128x1 .f32 × FVec Ideal S128x128 .f32}
    {f8 : BufTy.Contents (Elt Ideal) arg8.view.ty} {f9 : BufTy.Contents (Elt Ideal) arg9.view.ty}
    (C : St_128 q k v d r0 S D8 D9 arg8 arg9 s f8 f9) :
    (∀ (i : Fin 128) (l : Fin 128), outV_128 s.2.2.2.2 (ix3 0 i l)
      = (((∑ s ∈ Finset.range S, dzH q k v d (l.val / 64) (r0 + i.val) s * k s l.val) * sc : ℝ) : EReal))
    ∧ Cols 128 r0 S D8 (dzH q k v d) q (arg8.view.read (Elt Ideal) f8)
    ∧ Cols 128 r0 S D9 (wtH q k) d (arg9.view.read (Elt Ideal) f9) :=
  ⟨fun i l => by rw [outV_128_apply, C.carry.acc, EReal.coe_mul], C.c8, C.c9⟩

theorem app_128 {q k v d D8 D9 : ℕ → ℕ → ℝ} {r0 S : ℕ} {arg8 arg9 : Memref sig .tc .vmem S1x2176x128 .f32}
    {s : FVec Ideal S128x1 .f32 × FVec Ideal S128x1 .f32 × FVec Ideal S128x1 .f32 × FVec Ideal S128x1 .f32 × FVec Ideal S128x128 .f32}
    {f8 : BufTy.Contents (Elt Ideal) arg8.view.ty} {f9 : BufTy.Contents (Elt Ideal) arg9.view.ty}
    {L8 M8 L9 M9 : List (View.Piece (Elt Ideal) S1x2176x128 .f32)}
    (C : St_128 q k v d r0 S D8 D9 arg8 arg9 s (arg8.view.writes (Elt Ideal) (arg8.view.writes (Elt Ideal) f8 M8) L8)
      (arg9.view.writes (Elt Ideal) (arg9.view.writes (Elt Ideal) f9 M9) L9)) :
    St_128 q k v d r0 S D8 D9 arg8 arg9 s (arg8.view.writes (Elt Ideal) f8 (L8 ++ M8)) (arg9.view.writes (Elt Ideal) f9 (L9 ++ M9)) := by
  rw [View.writes_append, View.writes_append]; exact C

theorem start_128 {q k v d D8 D9 : ℕ → ℕ → ℝ} {r0 : ℕ} {arg8 arg9 : Memref sig .tc .vmem S1x2176x128 .f32}
    {f8 : BufTy.Contents (Elt Ideal) arg8.view.ty} {f9 : BufTy.Contents (Elt Ideal) arg9.view.ty}
    (h8 : ∀ (s : Fin 2176) (l : Fin 128), arg8.view.read (Elt Ideal) f8 (ix3 0 s l) = (D8 s.val l.val : EReal))
    (h9 : ∀ (s : Fin 2176) (l : Fin 128), arg9.view.read (Elt Ideal) f9 (ix3 0 s l) = (D9 s.val l.val : EReal)) :
    St_128 q k v d r0 0 D8 D9 arg8 arg9 (zeroV_128 (F := Ideal)) f8 f9 :=
  ⟨carry_zero_128 q k v d r0, fun s l => by rw [h8, if_neg (Nat.not_lt_zero _), add_zero], fun s l => by rw [h9, if_neg (Nat.not_lt_zero _), add_zero]⟩

theorem row_read_128 {arg : Memref sig .tc .vmem S1x2176x128 .f32} {X : BufTy.Contents (Elt Ideal) arg.view.ty} {f : ℕ → ℕ → ℝ}
    (hX : ∀ (s : Fin 2176) (l : Fin 128), arg.view.read (Elt Ideal) X (ix3 0 s l) = (f s.val l.val : EReal))
    {off : Fin 3 → ℕ} (inb : ∀ a, off a + S1x128x128.size a ≤ S1x2176x128.size a) {s0 : ℕ} (ho : off = ![0, s0, 0]) (j : Fin 128) (l : Fin 128) :
    View.readAt (Elt Ideal) arg.view (Rect.unit (s := S1x2176x128) off S1x128x128.size inb).toLoadRect X (ix3 0 j l) = (f (s0 + j.val) l.val : EReal) := by
  subst ho
  have hb : s0 + 128 ≤ 2176 := inb 1
  refine Eq.trans ?_ (hX ⟨s0 + j.val, by omega⟩ l)
  rw [View.readAt_apply]
  congr 1
  funext a; refine Fin.ext ?_
  match a with
  | 0 => rfl
  | 1 => show s0 + 1 * j.val = s0 + j.val; rw [one_mul]
  | 2 => show 0 + 1 * l.val = l.val; omega

theorem off1_rows : ∀ t : Fin k0_t1_loop.trips, k0_off1 t = ![0, 512 * t.val, 0] := by decide +kernel

end Cert.Kernel5Ideal
-- ==== Proof.SbTile.lean ====
/- One block of 512 queries of the stick-breaking gradient: the tile of the kernel. -/
module

public import proofs.«01_k».proof.Proof.SbChunks
public import proofs.«01_k».proof.Proof.SbLoop
public import proofs.«01_k».proof.Proof.SbQuery

@[expose] public section

set_option maxRecDepth 16384
set_option maxHeartbeats 8000000

noncomputable section

namespace Cert.Kernel5Ideal

open Idealize.ShloMosaic Idealize.ShloMosaic.TcCoe
open Idealize.SL Idealize.SL.RA Idealize.SL.BI
open Gen Cert.Stick

attribute [local irreducible] st_k0_t2 st_k0_t3 st_k0_t4 st_k0_t5

theorem qtrip_value (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (t : Fin k0_t1_loop.trips)
    {q k v d D8 D9 : ℕ → ℕ → ℝ}
    (B : Blocks q k v d (arg2.view.read (Elt Ideal) X2) (arg3.view.read (Elt Ideal) X3) (arg4.view.read (Elt Ideal) X4) (arg5.view.read (Elt Ideal) X5) (arg6.view.read (Elt Ideal) X6))
    (f8 : BufTy.Contents (Elt Ideal) arg8.view.ty) (f9 : BufTy.Contents (Elt Ideal) arg9.view.ty)
    (h8 : ∀ (s : Fin 2176) (l : Fin 128), arg8.view.read (Elt Ideal) f8 (ix3 0 s l) = (D8 s.val l.val : EReal))
    (h9 : ∀ (s : Fin 2176) (l : Fin 128), arg9.view.read (Elt Ideal) f9 (ix3 0 s l) = (D9 s.val l.val : EReal)) :
    (∀ (j : Fin 512) (l : Fin 128), (qtrip (F := Ideal) 𝒱 c bd i arg2 harg2 arg3 harg3 arg4 harg4 arg5 harg5 arg6 harg6 arg7 harg7 arg8 harg8 arg9 harg9 X2 X3 X4 X5 X6 t).1 f8 f9 (ix3 0 j l)
      = (((∑ s ∈ Finset.range (512 * (t.val + 1)), dzH (fun t l => q t l * sc) k v d (l.val / 64) (512 * t.val + j.val) s * k s l.val) * sc : ℝ) : EReal))
    ∧ Cols 512 (512 * t.val) (512 * (t.val + 1)) D8 (dzH (fun t l => q t l * sc) k v d) (fun t l => q t l * sc)
        (arg8.view.read (Elt Ideal) (arg8.view.writes (Elt Ideal) f8 ((qtrip (F := Ideal) 𝒱 c bd i arg2 harg2 arg3 harg3 arg4 harg4 arg5 harg5 arg6 harg6 arg7 harg7 arg8 harg8 arg9 harg9 X2 X3 X4 X5 X6 t).2.1 f8 f9)))
    ∧ Cols 512 (512 * t.val) (512 * (t.val + 1)) D9 (wtH (fun t l => q t l * sc) k) d
        (arg9.view.read (Elt Ideal) (arg9.view.writes (Elt Ideal) f9 ((qtrip (F := Ideal) 𝒱 c bd i arg2 harg2 arg3 harg3 arg4 harg4 arg5 harg5 arg6 harg6 arg7 harg7 arg8 harg8 arg9 harg9 X2 X3 X4 X5 X6 t).2.2.1 f8 f9))) := by
  have ht : t.val < 4 := t.isLt
  have T := tile_512 (v := v) (k := k) (r0 := 512 * t.val) (row_read_512 B.h2 (k0_off1_inb t) (off1_rows t))
    (row_read_512 (f := fun s l => lvTo (dotH (fun t l => q t l * sc) k (l / 64)) 2176 s) B.h5 (k0_off1_inb t) (off1_rows t)) (row_read_512 B.h6 (k0_off1_inb t) (off1_rows t))
  have S1 := st_512 T B.h3 B.h4 (s0 := 0) (mask_first t) le_rfl (by omega) (start_512 h8 h9) k0_off2_inb off2_eq (S' := 512) rfl
  have e2 : 512 * ((k0_t2_loop t).trips + 1) = 512 * max t.val 1 := by rw [trips_t2]; omega
  have hv : ∀ t : Fin k0_t1_loop.trips, qtrip.sl.v273 t = BitVec.ofNat 32 (max t.val 1) := by decide +kernel
  unfold qtrip
  dsimp only
  refine finish_512 ?_
  refine app_512 ?_
  refine loop_t5 _ _ _ _ _ _ _ _ _ _ _ _ _ _ _ _ _ _ _ _ _ _ _ _ _ _ _ _ _ _ _ _ _ _ _ _ _ _ _ _ _ _ _ _ _ _ _ _ _ _ _ _ _ ?_
  refine app_512 ?_
  refine loop_t4 _ _ _ _ _ _ _ _ _ _ _ _ _ _ _ _ _ _ _ _ _ _ _ _ _ _ _ _ _ _ _ _ _ _ _ _ _ _ _ _ _ _ _ _ _ _ _ _ _ _ _ _ B.h3 B.h4 rfl rfl rfl rfl rfl T rfl (hv t) ?_
  refine app_512 ?_
  refine loop_t3 _ _ _ _ _ _ _ _ _ _ _ _ _ _ _ _ _ _ _ _ _ _ _ _ _ _ _ _ _ _ _ _ _ _ _ _ _ _ _ _ _ _ _ _ _ _ _ _ _ _ _ _ _ ?_
  refine app_512 ?_
  rw [← e2]
  refine loop_t2 _ _ _ _ _ _ _ _ _ _ _ _ _ _ _ _ _ _ _ _ _ _ _ _ _ _ _ _ _ _ _ _ _ _ _ _ _ _ _ _ _ _ _ _ _ _ _ _ _ _ _ _ B.h3 B.h4 rfl rfl rfl rfl rfl T ?_ _ le_rfl
  exact S1

end Cert.Kernel5Ideal
-- ==== Proof.SbTail.lean ====
/- The whole body of the stick-breaking gradient, in ordinary arithmetic. -/
module

public import proofs.«01_k».proof.Proof.SbChunks
public import proofs.«01_k».proof.Proof.SbLoop
public import proofs.«01_k».proof.Proof.SbTile
public import proofs.«01_k».proof.Proof.SbBody
public import Idealize.ShloMosaic.Lib.WritesUnit

@[expose] public section

set_option maxRecDepth 16384
set_option maxHeartbeats 8000000

noncomputable section

namespace Cert.Kernel5Ideal

open Idealize.ShloMosaic Idealize.ShloMosaic.TcCoe
open Idealize.SL Idealize.SL.RA Idealize.SL.BI
open Gen Cert.Stick

attribute [local irreducible] st_k0_t6 st_k0_t7 st_k0_t8 st_k0_t9

theorem dzH_zero (q k v d : ℕ → ℕ → ℝ) (h t s : ℕ) (hs : t ≤ s) : dzH q k v d h t s = 0 := by
  unfold dzH dz; rw [if_neg]; unfold Vis; omega

theorem wtH_zero (q k : ℕ → ℕ → ℝ) (h t s : ℕ) (hs : t ≤ s) : wtH q k h t s = 0 := by
  unfold wtH wt; rw [if_neg]; unfold Vis; omega

/-- The queries' gradient, and the keys' and the values' from the first `n` queries. -/
def dqR (q k v d : ℕ → ℕ → ℝ) (t l : ℕ) : ℝ :=
  (∑ s ∈ Finset.range 2176, dzH (fun t l => q t l * sc) k v d (l / 64) t s * k s l) * sc
def dkR (q k v d : ℕ → ℕ → ℝ) (n s l : ℕ) : ℝ :=
  ∑ t ∈ Finset.range n, dzH (fun t l => q t l * sc) k v d (l / 64) t s * (q t l * sc)
def dvR (q k d : ℕ → ℕ → ℝ) (n s l : ℕ) : ℝ :=
  ∑ t ∈ Finset.range n, wtH (fun t l => q t l * sc) k (l / 64) t s * d t l

theorem dqR_cut (q k v d : ℕ → ℕ → ℝ) (t l n : ℕ) (hn : t < n) (h : n ≤ 2176) :
    (∑ s ∈ Finset.range n, dzH (fun t l => q t l * sc) k v d (l / 64) t s * k s l) * sc = dqR q k v d t l := by
  unfold dqR
  congr 1
  refine Finset.sum_subset (Finset.range_mono h) fun s _ hs => ?_
  rw [Finset.mem_range] at hs
  rw [dzH_zero _ _ _ _ _ _ _ (by omega), zero_mul]

theorem cols_step_512 {r0 S : ℕ} {x : ℕ → ℕ → ℕ → ℝ} {f : ℕ → ℕ → ℝ} {c : S1x2176x128.Idx → EReal}
    (hz : ∀ h t s, t ≤ s → x h t s = 0) (hS : r0 + 512 ≤ S)
    (C : Cols 512 r0 S (fun s l => ∑ t ∈ Finset.range r0, x (l / 64) t s * f t l) x f c) (s : Fin 2176) (l : Fin 128) :
    c (ix3 0 s l) = ((∑ t ∈ Finset.range (r0 + 512), x (l.val / 64) t s.val * f t l.val : ℝ) : EReal) := by
  rw [C s l, Finset.sum_range_add]
  congr 2
  split
  · rfl
  · symm
    refine Finset.sum_eq_zero fun i hi => ?_
    rw [Finset.mem_range] at hi
    rw [hz _ _ _ (by omega), zero_mul]

theorem cols_step_128 {r0 S : ℕ} {x : ℕ → ℕ → ℕ → ℝ} {f : ℕ → ℕ → ℝ} {c : S1x2176x128.Idx → EReal}
    (hz : ∀ h t s, t ≤ s → x h t s = 0) (hS : r0 + 128 ≤ S)
    (C : Cols 128 r0 S (fun s l => ∑ t ∈ Finset.range r0, x (l / 64) t s * f t l) x f c) (s : Fin 2176) (l : Fin 128) :
    c (ix3 0 s l) = ((∑ t ∈ Finset.range (r0 + 128), x (l.val / 64) t s.val * f t l.val : ℝ) : EReal) := by
  rw [C s l, Finset.sum_range_add]
  congr 2
  split
  · rfl
  · symm
    refine Finset.sum_eq_zero fun i hi => ?_
    rw [Finset.mem_range] at hi
    rw [hz _ _ _ (by omega), zero_mul]

/-- The blocks of 512 queries, run. -/
theorem qst_value (𝒱 : Variants) (c : Dev nD) (bd : Option 𝒱.V) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (G8 : BufTy.Contents (Elt Ideal) arg8.view.ty) (G9 : BufTy.Contents (Elt Ideal) arg9.view.ty)
    {q k v d : ℕ → ℕ → ℝ}
    (B : Blocks q k v d (arg2.view.read (Elt Ideal) X2) (arg3.view.read (Elt Ideal) X3) (arg4.view.read (Elt Ideal) X4) (arg5.view.read (Elt Ideal) X5) (arg6.view.read (Elt Ideal) X6))
    (h8 : ∀ (s : Fin 2176) (l : Fin 128), arg8.view.read (Elt Ideal) G8 (ix3 0 s l) = 0)
    (h9 : ∀ (s : Fin 2176) (l : Fin 128), arg9.view.read (Elt Ideal) G9 (ix3 0 s l) = 0) (n : ℕ) (hn : n ≤ k0_t1_loop.trips) :
    (∀ p ∈ (qst (F := Ideal) 𝒱 c bd i arg2 harg2 arg3 harg3 arg4 harg4 arg5 harg5 arg6 harg6 arg7 harg7 arg8 harg8 arg9 harg9 X2 X3 X4 X5 X6 G8 G9 n).1, ∀ x : p.1.shape.Idx, p.2 x = ((dqR q k v d (p.1.emb x 1).val (p.1.emb x 2).val : ℝ) : EReal))
    ∧ (∀ (s : Fin 2176) (l : Fin 128), arg8.view.read (Elt Ideal) (arg8.view.writes (Elt Ideal) G8 (qst (F := Ideal) 𝒱 c bd i arg2 harg2 arg3 harg3 arg4 harg4 arg5 harg5 arg6 harg6 arg7 harg7 arg8 harg8 arg9 harg9 X2 X3 X4 X5 X6 G8 G9 n).2.1) (ix3 0 s l)
        = ((dkR q k v d (512 * n) s.val l.val : ℝ) : EReal))
    ∧ (∀ (s : Fin 2176) (l : Fin 128), arg9.view.read (Elt Ideal) (arg9.view.writes (Elt Ideal) G9 (qst (F := Ideal) 𝒱 c bd i arg2 harg2 arg3 harg3 arg4 harg4 arg5 harg5 arg6 harg6 arg7 harg7 arg8 harg8 arg9 harg9 X2 X3 X4 X5 X6 G8 G9 n).2.2) (ix3 0 s l)
        = ((dvR q k d (512 * n) s.val l.val : ℝ) : EReal)) := by
  induction n with
  | zero =>
    refine ⟨fun p hp => absurd hp List.not_mem_nil, fun s l => (h8 s l).trans ?_, fun s l => (h9 s l).trans ?_⟩
    · unfold dkR; simp
    · unfold dvR; simp
  | succ n ih =>
    obtain ⟨iq, ik, iv⟩ := ih (by omega)
    have hn4 : n < 4 := hn
    have e := qst_succ (F := Ideal) 𝒱 c bd i arg2 harg2 arg3 harg3 arg4 harg4 arg5 harg5 arg6 harg6 arg7 harg7 arg8 harg8 arg9 harg9 X2 X3 X4 X5 X6 G8 G9 ⟨n, hn⟩
    dsimp only at e
    rw [e]
    clear e
    obtain ⟨vq, vk, vv⟩ := qtrip_value 𝒱 c bd i arg2 harg2 arg3 harg3 arg4 harg4 arg5 harg5 arg6 harg6 arg7 harg7 arg8 harg8 arg9 harg9 X2 X3 X4 X5 X6 ⟨n, hn⟩ B _ _ ik iv
    refine ⟨fun p hp => ?_, fun s l => ?_, fun s l => ?_⟩
    · rcases List.mem_cons.mp hp with rfl | hp
      · intro x
        have hx : x = (ix3 0 (x 1) (x 2) : S1x512x128.Idx) := by
          funext a; match a with
          | 0 => exact Fin.ext (by show (x 0).val = 0; exact Nat.lt_one_iff.mp (x 0).isLt)
          | 1 => rfl
          | 2 => rfl
        have h1 : (x 1).val < 512 := (x 1).isLt
        have e1 : ((rowRect ⟨n, hn⟩).emb x 1).val = 512 * n + (x 1).val := by
          show k0_off1 ⟨n, hn⟩ 1 + 1 * (x 1).val = _
          rw [off1_rows, one_mul]; rfl
        have e2 : ((rowRect ⟨n, hn⟩).emb x 2).val = (x 2).val := by
          show k0_off1 ⟨n, hn⟩ 2 + 1 * (x 2).val = _
          rw [off1_rows, one_mul]; exact Nat.zero_add _
        rw [e1, e2]
        refine (congrArg _ hx).trans ((vq (x 1) (x 2)).trans ?_)
        rw [dqR_cut _ _ _ _ _ _ _ (by show 512 * n + (x 1).val < 512 * (n + 1); omega) (by show 512 * (n + 1) ≤ 2176; omega)]
      · exact iq p hp
    · rw [View.writes_append]
      exact cols_step_512 (dzH_zero _ _ _ _) (by show 512 * n + 512 ≤ 512 * (n + 1); omega) vk s l
    · rw [View.writes_append]
      exact cols_step_512 (wtH_zero _ _) (by show 512 * n + 512 ≤ 512 * (n + 1); omega) vv s l

theorem whole_cover (y : S1x2176x128.Idx) : y ∈ (Rect.unit (s := S1x2176x128) ![0, 0, 0] S1x2176x128.size inb_S1x2176x128_S1x2176x128_0_0_0).set := by
  rw [Rect.mem_set_unit]
  intro a
  match a with
  | 0 => exact ⟨Nat.zero_le _, (y 0).isLt.trans_eq (Nat.zero_add _).symm⟩
  | 1 => exact ⟨Nat.zero_le _, (y 1).isLt.trans_eq (Nat.zero_add _).symm⟩
  | 2 => exact ⟨Nat.zero_le _, (y 2).isLt.trans_eq (Nat.zero_add _).symm⟩

theorem sbRun_zero8 (c : Dev nD) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (s : Fin 2176) (l : Fin 128) : arg8.view.read (Elt Ideal) (sbRun (F := Ideal) c i arg2 harg2 arg3 harg3 arg4 harg4 arg5 harg5 arg6 harg6 arg7 harg7 arg8 harg8 arg9 harg9 X2 X3 X4 X5 X6).2.1 (ix3 0 s l) = 0 := by
  unfold sbRun sbRun.sl.H8_1
  dsimp only
  rw [View.read_writes_eq_canon _ _ _ (fun y => ⟨_, List.mem_cons_self, whole_cover y⟩),
    View.canon_cons_unit_lit _ _ _ (fun a => by fin_cases a <;> rfl)]
  unfold k0_pay268; pointwise

theorem sbRun_zero9 (c : Dev nD) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (s : Fin 2176) (l : Fin 128) : arg9.view.read (Elt Ideal) (sbRun (F := Ideal) c i arg2 harg2 arg3 harg3 arg4 harg4 arg5 harg5 arg6 harg6 arg7 harg7 arg8 harg8 arg9 harg9 X2 X3 X4 X5 X6).2.2.1 (ix3 0 s l) = 0 := by
  unfold sbRun sbRun.sl.H9_1
  dsimp only
  rw [View.read_writes_eq_canon _ _ _ (fun y => ⟨_, List.mem_cons_self, whole_cover y⟩),
    View.canon_cons_unit_lit _ _ _ (fun a => by fin_cases a <;> rfl)]
  unfold k0_pay269; pointwise

end Cert.Kernel5Ideal
-- ==== Proof.SbSum.lean ====
/- Running sums along the last axis, as the reference's windows compute them. -/
module

public import proofs.«01_k».proof.Proof.SbReal
public import Idealize.ShloMosaic.Lib.ValueIdx
public import Idealize.ShloMosaic.PureOps.Ideal

@[expose] public section

set_option maxRecDepth 16384

noncomputable section

namespace Cert.Stick

open Idealize.ShloMosaic Finset

theorem foldl_add {M : ℕ} (g : Fin M → EReal) (v : EReal) : (List.finRange M).foldl (fun r n => r + g n) v = v + ∑ n, g n := by
  rw [← List.sum_ofFn, List.ofFn_eq_map]
  generalize List.finRange M = L
  induction L generalizing v with
  | nil => simp
  | cons a L ih => rw [List.foldl_cons, ih, List.map_cons, List.sum_cons, add_assoc]

theorem sum_shift (f : ℕ → ℝ) (N s : ℕ) (h : s ≤ N) :
    ∑ k ∈ range N, (if s + k < N then f (s + k) else 0) = ∑ i ∈ range N, f i - ∑ i ∈ range s, f i := by
  obtain ⟨m, rfl⟩ := Nat.exists_eq_add_of_le h
  rw [sum_range_add f, add_sub_cancel_left, Nat.add_comm s m, sum_range_add,
    sum_congr rfl (fun k hk => if_pos (by rw [mem_range] at hk; omega)), sum_eq_zero (s := range s) (fun k _ => if_neg (by omega)), add_zero]

/-- The scores' shape. -/
abbrev Sc : Shape := ⟨4, ![2, 8, 2176, 2176]⟩
/-- A window: the whole of the last axis. -/
abbrev Wn : Shape := ⟨4, ![1, 1, 1, 2176]⟩

def wnEquiv : Fin 2176 ≃ Wn.Idx where
  toFun k := ix4 0 0 0 k
  invFun w := w 3
  left_inv k := rfl
  right_inv w := by
    funext a
    match a with
    | 0 => exact Fin.ext (Nat.lt_one_iff.mp (w 0).isLt).symm
    | 1 => exact Fin.ext (Nat.lt_one_iff.mp (w 1).isLt).symm
    | 2 => exact Fin.ext (Nat.lt_one_iff.mp (w 2).isLt).symm
    | 3 => rfl

theorem window_sum (lo hi : Fin 4 → ℕ) (x : Sc.Idx → EReal) {u : Shape} (init : u.Idx → EReal) (hu : 0 < u.numel) (hi0 : init (Shape.Idx.first hu) = 0)
    (h : Sc.ReduceWindows ![1, 1, 1, 2176] ![1, 1, 1, 1] lo hi Sc) (j : Sc.Idx) (f : ℕ → EReal)
    (hf : ∀ k : Fin 2176, (if hin : ∀ a, lo a ≤ (j a).val * (![1, 1, 1, 1] : Fin 4 → ℕ) a + ((ix4 0 0 0 k : Wn.Idx) a).val
        ∧ (j a).val * (![1, 1, 1, 1] : Fin 4 → ℕ) a + ((ix4 0 0 0 k : Wn.Idx) a).val - lo a < Sc.size a
      then x (fun a => ⟨(j a).val * (![1, 1, 1, 1] : Fin 4 → ℕ) a + ((ix4 0 0 0 k : Wn.Idx) a).val - lo a, (hin a).2⟩) else 0) = f k.val) :
    Host.reduceWindow (· + ·) ![1, 1, 1, 2176] ![1, 1, 1, 1] lo hi x init h hu j = ∑ k : Fin 2176, f k.val := by
  unfold Host.reduceWindow
  dsimp only
  rw [hi0]
  refine (foldl_add _ 0).trans ?_
  rw [zero_add]
  refine Eq.trans ?_ (sum_congr rfl fun k _ => hf k)
  refine Eq.trans (sum_congr rfl fun n _ => ?_) ((Equiv.sum_comp (Wn.rowMajor.symm) (fun w : Wn.Idx => if hin : ∀ a, lo a ≤ (j a).val * (![1, 1, 1, 1] : Fin 4 → ℕ) a + (w a).val
        ∧ (j a).val * (![1, 1, 1, 1] : Fin 4 → ℕ) a + (w a).val - lo a < Sc.size a
      then x (fun a => ⟨(j a).val * (![1, 1, 1, 1] : Fin 4 → ℕ) a + (w a).val - lo a, (hin a).2⟩) else 0)).trans ?_)
  · split
    · next hin =>
      split
      · rfl
      · next hn => exact absurd hin hn
    · next hin =>
      split
      · next hn => exact absurd hn hin
      · rfl
  exact (Equiv.sum_comp wnEquiv _).symm

variable {u : Shape} (x : Sc.Idx → EReal) (init : u.Idx → EReal) (hu : 0 < u.numel) (hi0 : init (Shape.Idx.first hu) = 0)
  (b : Fin 2) (hd : Fin 8) (t s : Fin 2176) (f : ℕ → ℝ) (hx : ∀ s : Fin 2176, x (ix4 b hd t s) = (f s.val : EReal))

include hi0 hx

/-- The sum from an entry on. -/
theorem sum_from (h : Sc.ReduceWindows ![1, 1, 1, 2176] ![1, 1, 1, 1] ![0, 0, 0, 0] ![0, 0, 0, 2175] Sc) :
    Host.reduceWindow (· + ·) ![1, 1, 1, 2176] ![1, 1, 1, 1] ![0, 0, 0, 0] ![0, 0, 0, 2175] x init h hu (ix4 b hd t s)
      = ((∑ i ∈ range 2176, f i - ∑ i ∈ range s.val, f i : ℝ) : EReal) := by
  have hs := s.isLt
  rw [window_sum _ _ x init hu hi0 h _ (fun k => ((if s.val + k < 2176 then f (s.val + k) else 0 : ℝ) : EReal)), coe_sum_fin 2176 (fun k => if s.val + k < 2176 then f (s.val + k) else 0)]
  · congr 1
    exact sum_shift f 2176 s.val (by omega)
  · intro k
    have hk := k.isLt
    by_cases hsk : s.val + k.val < 2176
    · rw [if_pos hsk, dif_pos]
      · refine Eq.trans (congrArg x ?_) (hx ⟨s.val + k.val, hsk⟩)
        funext a
        match a with
        | 0 => exact Fin.ext (by show b.val * 1 + 0 - 0 = b.val; omega)
        | 1 => exact Fin.ext (by show hd.val * 1 + 0 - 0 = hd.val; omega)
        | 2 => exact Fin.ext (by show t.val * 1 + 0 - 0 = t.val; omega)
        | 3 => exact Fin.ext (by show s.val * 1 + k.val - 0 = s.val + k.val; omega)
      · intro a
        match a with
        | 0 => exact ⟨Nat.zero_le _, by show b.val * 1 + 0 - 0 < 2; have := b.isLt; omega⟩
        | 1 => exact ⟨Nat.zero_le _, by show hd.val * 1 + 0 - 0 < 8; have := hd.isLt; omega⟩
        | 2 => exact ⟨Nat.zero_le _, by show t.val * 1 + 0 - 0 < 2176; have := t.isLt; omega⟩
        | 3 => exact ⟨Nat.zero_le _, by show s.val * 1 + k.val - 0 < 2176; omega⟩
    · rw [if_neg hsk, dif_neg]
      · rfl
      · intro hin
        have h3 : s.val * 1 + k.val - 0 < 2176 := (hin 3).2
        omega

/-- The sum up to an entry. -/
theorem sum_upto (h : Sc.ReduceWindows ![1, 1, 1, 2176] ![1, 1, 1, 1] ![0, 0, 0, 2175] ![0, 0, 0, 0] Sc) :
    Host.reduceWindow (· + ·) ![1, 1, 1, 2176] ![1, 1, 1, 1] ![0, 0, 0, 2175] ![0, 0, 0, 0] x init h hu (ix4 b hd t s)
      = ((∑ i ∈ range (s.val + 1), f i : ℝ) : EReal) := by
  have hs := s.isLt
  rw [window_sum _ _ x init hu hi0 h _ (fun k => ((if 2175 ≤ s.val + k then f (s.val + k - 2175) else 0 : ℝ) : EReal)), coe_sum_fin 2176 (fun k => if 2175 ≤ s.val + k then f (s.val + k - 2175) else 0)]
  · congr 1
    rw [show range 2176 = range ((2175 - s.val) + (s.val + 1)) by congr 1; omega, sum_range_add]
    rw [sum_eq_zero (s := range (2175 - s.val)) (fun k hk => if_neg (by rw [mem_range] at hk; omega)), zero_add]
    refine sum_congr rfl fun k hk => ?_
    rw [if_pos (by omega)]; congr 1; omega
  · intro k
    have hk := k.isLt
    by_cases hsk : 2175 ≤ s.val + k.val
    · rw [if_pos hsk, dif_pos]
      · refine Eq.trans (congrArg x ?_) (hx ⟨s.val + k.val - 2175, by omega⟩)
        funext a
        match a with
        | 0 => exact Fin.ext (by show b.val * 1 + 0 - 0 = b.val; omega)
        | 1 => exact Fin.ext (by show hd.val * 1 + 0 - 0 = hd.val; omega)
        | 2 => exact Fin.ext (by show t.val * 1 + 0 - 0 = t.val; omega)
        | 3 => exact Fin.ext (by show s.val * 1 + k.val - 2175 = s.val + k.val - 2175; omega)
      · intro a
        match a with
        | 0 => exact ⟨Nat.zero_le _, by show b.val * 1 + 0 - 0 < 2; have := b.isLt; omega⟩
        | 1 => exact ⟨Nat.zero_le _, by show hd.val * 1 + 0 - 0 < 8; have := hd.isLt; omega⟩
        | 2 => exact ⟨Nat.zero_le _, by show t.val * 1 + 0 - 0 < 2176; have := t.isLt; omega⟩
        | 3 => exact ⟨by show 2175 ≤ s.val * 1 + k.val; omega, by show s.val * 1 + k.val - 2175 < 2176; omega⟩
    · rw [if_neg hsk, dif_neg]
      · rfl
      · intro hin
        have h3 : 2175 ≤ s.val * 1 + k.val := (hin 3).1
        omega

end Cert.Stick

end
-- ==== Proof.SbRef.lean ====
/- The reference's stick-breaking gradient, in ordinary arithmetic. -/
module

public import proofs.«01_k».proof.Proof.SbTail
public import proofs.«01_k».proof.Proof.SbSum
public import proofs.«01_k».proof.Proof.Gen.Reference5Ideal.Read

@[expose] public section

set_option maxRecDepth 16384
set_option maxHeartbeats 4000000

noncomputable section

namespace Cert.Reference5Ideal

open Idealize.ShloMosaic Idealize.ShloMosaic.TcCoe Cert.Stick
open Cert.Kernel5Ideal (sc sc_bits dqR dkR dvR)
open Cert.Reference5Ideal.Read Cert.Reference5Ideal Cert.Reference5Ideal.Gen

theorem host_from (x : FVec Ideal Sc .f32) {u : Shape} (init : u.Idx → Ideal .f32) (hu : 0 < u.numel) (hi0 : init (Shape.Idx.first hu) = (0 : EReal)) (b : Fin 2) (hd : Fin 8) (t s : Fin 2176) (f : ℕ → ℝ)
    (hx : ∀ s : Fin 2176, x (ix4 b hd t s) = (f s.val : EReal)) (h : Sc.ReduceWindows ![1, 1, 1, 2176] ![1, 1, 1, 1] ![0, 0, 0, 0] ![0, 0, 0, 2175] Sc) :
    Host.reduceWindowAdd ![1, 1, 1, 2176] ![1, 1, 1, 1] ![0, 0, 0, 0] ![0, 0, 0, 2175] x init h hu (ix4 b hd t s)
      = ((∑ i ∈ Finset.range 2176, f i - ∑ i ∈ Finset.range s.val, f i : ℝ) : EReal) := by
  unfold Host.reduceWindowAdd
  rw [hi0]
  rw [Ideal.hostReduceWindowAdd_def]
  unfold Ideal.hostReduceWindowAdd
  exact sum_from x _ _ rfl b hd t s f hx h

theorem host_upto (x : FVec Ideal Sc .f32) {u : Shape} (init : u.Idx → Ideal .f32) (hu : 0 < u.numel) (hi0 : init (Shape.Idx.first hu) = (0 : EReal)) (b : Fin 2) (hd : Fin 8) (t s : Fin 2176) (f : ℕ → ℝ)
    (hx : ∀ s : Fin 2176, x (ix4 b hd t s) = (f s.val : EReal)) (h : Sc.ReduceWindows ![1, 1, 1, 2176] ![1, 1, 1, 1] ![0, 0, 0, 2175] ![0, 0, 0, 0] Sc) :
    Host.reduceWindowAdd ![1, 1, 1, 2176] ![1, 1, 1, 1] ![0, 0, 0, 2175] ![0, 0, 0, 0] x init h hu (ix4 b hd t s)
      = ((∑ i ∈ Finset.range (s.val + 1), f i : ℝ) : EReal) := by
  unfold Host.reduceWindowAdd
  rw [hi0]
  rw [Ideal.hostReduceWindowAdd_def]
  unfold Ideal.hostReduceWindowAdd
  exact sum_upto x _ _ rfl b hd t s f hx h

/-- The entries of the projection and of the result's gradient that the call reads, as real numbers. -/
structure Reals (Q K V D : ℕ → ℕ → ℕ → ℝ) (x0 : S2x2176x3072.Idx → EReal) (x1 : S2x2176x512.Idx → EReal) : Prop where
  hq : ∀ (b : Fin 2) (t : Fin 2176) (c : Fin 512), x0 (ix3 b t ⟨1024 + c.val, by omega⟩) = (Q b.val t.val c.val : EReal)
  hk : ∀ (b : Fin 2) (t : Fin 2176) (c : Fin 512), x0 (ix3 b t ⟨1536 + c.val, by omega⟩) = (K b.val t.val c.val : EReal)
  hv : ∀ (b : Fin 2) (t : Fin 2176) (c : Fin 512), x0 (ix3 b t ⟨2048 + c.val, by omega⟩) = (V b.val t.val c.val : EReal)
  hd : ∀ (b : Fin 2) (t : Fin 2176) (c : Fin 512), x1 (ix3 b t c) = (D b.val t.val c.val : EReal)

variable {Q K V D : ℕ → ℕ → ℕ → ℝ} {x0 : S2x2176x3072.Idx → EReal} {x1 : S2x2176x512.Idx → EReal} (R : Reals Q K V D x0 x1)
  (b : Fin 2) (h : Fin 8) (t s : Fin 2176) (l : Fin 64)

/-- A head's scores. -/
abbrev zz (Q K : ℕ → ℕ → ℕ → ℝ) (b h : ℕ) : ℕ → ℕ → ℝ := dotH (fun t l => Q b t l * sc) (K b) h

include R

theorem r1 : val_main_v1 (F := Ideal) x0 (ix4 b t h l) = (Q b.val t.val (64 * h.val + l.val) : EReal) := by
  refine Eq.trans ?_ (R.hq b t ⟨64 * h.val + l.val, by omega⟩)
  pointwise [val_main_v1, val_main_v0]
  simp only [Nat.mul_comm 64]

theorem r3 : val_main_v3 (F := Ideal) x0 (ix4 b t h l) = (K b.val t.val (64 * h.val + l.val) : EReal) := by
  refine Eq.trans ?_ (R.hk b t ⟨64 * h.val + l.val, by omega⟩)
  pointwise [val_main_v3, val_main_v2]
  simp only [Nat.mul_comm 64]

theorem r5 : val_main_v5 (F := Ideal) x0 (ix4 b t h l) = (V b.val t.val (64 * h.val + l.val) : EReal) := by
  refine Eq.trans ?_ (R.hv b t ⟨64 * h.val + l.val, by omega⟩)
  pointwise [val_main_v5, val_main_v4]
  simp only [Nat.mul_comm 64]

theorem r31 : val_main_v31 (F := Ideal) x1 (ix4 b h l t) = (D b.val t.val (64 * h.val + l.val) : EReal) := by
  refine Eq.trans ?_ (R.hd b t ⟨64 * h.val + l.val, by omega⟩)
  pointwise [val_main_v31, val_main_v30]
  simp only [Nat.mul_comm 64]

theorem r8 : val_main_v8 (F := Ideal) x0 (ix4 b h t s) = (zz Q K b.val h.val t.val s.val : EReal) := by
  rw [val_main_v8_apply, val_main_v6_apply]
  have e : ∀ k : Fin 64, val_main_v1 (F := Ideal) x0 (lidx_main_v6 (ix4 b h t s) k) * val_main_v3 (F := Ideal) x0 (ridx_main_v6 (ix4 b h t s) k)
      = ((Q b.val t.val (64 * h.val + k.val) * K b.val s.val (64 * h.val + k.val) : ℝ) : EReal) := fun k => by
    rw [EReal.coe_mul, ← r1 R b h t k, ← r3 R b h s k]
    congr 2 <;> (funext a; fin_cases a <;> rfl)
  rw [Finset.sum_congr rfl fun k _ => e k, coe_sum_fin 64 (fun k => Q b.val t.val (64 * h.val + k) * K b.val s.val (64 * h.val + k))]
  pointwise [val_main_v7, val_main_cst]
  rw [sc_bits, ← EReal.coe_mul]
  congr 1
  unfold zz dotH
  rw [Finset.sum_mul]
  exact Finset.sum_congr rfl fun _ _ => by ring

omit R in
theorem r19 : val_main_v19 (F := Ideal) (ix2 t s) = 1#1 ↔ Vis t.val s.val := by
  pointwise [val_main_v19, val_main_v15, val_main_v13, val_main_v12, val_main_v11, val_main_v14, val_main_v10, val_main_v9, val_main_v18, val_main_v17, val_main_v16, val_main_c]
  have e := WordCmp.cmpi_slt_ofNat (w := 32) (a := s.val) (b := t.val) (by omega) (by omega)
  have e' := WordCmp.cmpi_sge_ofNat (w := 32) (a := s.val) (b := 112) (by omega) (by omega)
  rw [e, show (112#32 : BitVec 32) = BitVec.ofNat 32 112 from rfl, e']
  unfold Vis
  by_cases a : s.val < t.val <;> by_cases c : 112 ≤ s.val <;> simp [a, c, IntOp.andi]

omit R in
theorem sel {c : BitVec 1} {p : Prop} [Decidable p] (h : c = 1#1 ↔ p) (a b : EReal) : Scalar.select c a b = if p then a else b := by
  unfold Scalar.select
  by_cases hp : p
  · rw [if_pos hp, h.2 hp]; rfl
  · rw [if_neg hp]
    rcases BitVec.eq_zero_or_eq_one c with h' | h'
    · rw [h']; rfl
    · exact absurd (h.1 h') hp

omit R in
theorem neg_abs (x : ℝ) : (-FloatOps.absf (F := Ideal) (φ := .f32) (-(x : EReal)) : EReal) = ((-|x| : ℝ) : EReal) := by
  show (-(max (-(x : EReal)) (- -(x : EReal)))) = _
  rw [neg_neg, ← EReal.coe_neg, abs_eq_max_neg, max_comm x, EReal.coe_neg (max _ _)]
  try congr 1
  all_goals exact (EReal.coe_strictMono.monotone.map_max).symm

omit R in
theorem sp_coe (x : ℝ) : (max (-(x : EReal)) 0 + Ideal.log1p (Ideal.exp (-FloatOps.absf (F := Ideal) (φ := .f32) (-(x : EReal)))) : EReal) = ((-lb x : ℝ) : EReal) := by
  have h3 : ¬ (1 + Real.exp (-|x|)) ≤ 0 := not_le.2 (by positivity)
  have h2 : max (-(x : EReal)) 0 = ((max (-x) 0 : ℝ) : EReal) := by
    rw [← EReal.coe_neg]; exact (EReal.coe_strictMono.monotone.map_max).symm
  rw [neg_abs, h2, Ideal.exp_coe]
  show ((max (-x) 0 : ℝ) : EReal) + Ideal.log (1 + ((Real.exp (-|x|) : ℝ) : EReal)) = _
  rw [← EReal.coe_one, ← EReal.coe_add, Ideal.log_coe, if_neg h3, ← EReal.coe_add]
  congr 1
  unfold lb
  rcases le_total x 0 with h | h
  · rw [max_eq_left (by linarith), min_eq_left h]; ring
  · rw [max_eq_right (by linarith), min_eq_right h]; ring

theorem rsp : val_main_call0_v1_0 (F := Ideal) x0 (ix4 b h t s) = ((-lb (zz Q K b.val h.val t.val s.val) : ℝ) : EReal) := by
  have e := r8 R b h t s
  pointwise [val_main_call0_v1_0, val_main_call0_call0_v4, val_main_call0_call0_v3, val_main_call0_call0_v6, val_main_call0_call0_v11, val_main_call0_v0, val_main_call0_call0_v2, val_main_call0_call0_cst, val_main_call0_call0_v5, val_main_call0_call0_v1, val_main_call0_call0_v0, val_main_call0_call0_v10, val_main_call0_call0_v9, val_main_call0_call0_v8, val_main_call0_call0_v7]
  rw [e, if_neg (fun h => h rfl), sp_coe]

omit R in
theorem top_bits : Ideal.ofBits .f32 0x7F800000#32 = (⊤ : EReal) := by simp [Ideal.ofBits, Ideal.ieee]

theorem r20_1 : val_main_v20_1 (F := Ideal) x0 (ix4 b h t s) = ((Real.exp (lb (zz Q K b.val h.val t.val s.val) - zz Q K b.val h.val t.val s.val) : ℝ) : EReal) := by
  have e := r8 R b h t s
  have e' := rsp R b h t s
  pointwise [val_main_v20_1, val_main_call0_call0_v21, val_main_call0_call0_v16, val_main_call0_call0_v14, val_main_call0_call0_v13, val_main_call0_call0_cst_0, val_main_call0_call0_v15, val_main_call0_call0_cst_1, val_main_call0_call0_v20, val_main_call0_call0_v18, val_main_call0_call0_v17, val_main_call0_call0_cst_2, val_main_call0_call0_v19, val_main_call0_call0_cst_3, val_main_call0_v0]
  rw [e, e', top_bits, ← EReal.coe_neg, if_neg (EReal.coe_ne_top _), if_neg (EReal.coe_ne_top _), ← EReal.coe_sub, Ideal.exp_coe]
  congr 2; ring

theorem r20_0 : val_main_v20_0 (F := Ideal) x0 (ix4 b h t s) = ((lb (zz Q K b.val h.val t.val s.val) : ℝ) : EReal) := by
  have e := rsp R b h t s
  pointwise [val_main_v20_0]
  rw [e, ← EReal.coe_neg, neg_neg]

omit R in
theorem r22_1 : val_main_v22_1 (F := Ideal) (ix4 b h t s) = 1#1 ↔ Vis t.val s.val := by
  have e := r19 t s
  pointwise [val_main_v22_1]
  exact e

omit R in
theorem r27_1 : val_main_v27_1 (F := Ideal) (ix4 b h t s) = 1#1 ↔ Vis t.val s.val := by
  have e := r19 t s
  pointwise [val_main_v27_1]
  exact e

theorem r22_0 : val_main_v22_0 (F := Ideal) x0 (ix4 b h t s) = ((lv (zz Q K b.val h.val) t.val s.val : ℝ) : EReal) := by
  have e0 := r20_0 R b h t s
  have e1 := r8 R b h t s
  have e2 := r22_1 b h t s
  have ez : val_main_call1_v2 (F := Ideal) (ix4 b h t s) = (0 : EReal) := by
    rw [val_main_call1_v2_apply, val_main_call1_v0_apply]; pointwise [val_main_cst_0]
  rw [val_main_v22_0_apply, val_main_v21_apply, e0, e1, ez]
  show Scalar.select _ (((lb _ : ℝ) : EReal) - _) 0 = _
  rw [sel e2, ← EReal.coe_sub]
  unfold lv
  split <;> simp

theorem r23 : val_main_v23 (F := Ideal) x0 (ix4 b h t s) = ((lvTo (zz Q K b.val h.val) 2176 t.val - lvTo (zz Q K b.val h.val) s.val t.val : ℝ) : EReal) := by
  unfold val_main_v23
  refine host_from (val_main_v22_0 (F := Ideal) x0) (val_main_call2_v0 (F := Ideal)) h_S_ ?_ b h t s (lv (zz Q K b.val h.val) t.val) (fun s => r22_0 R b h t s) reduceWindows_S2x8x2176x2176_S2x8x2176x2176_w1s1p0_0_w1s1p0_0_w1s1p0_0_w2176s1p0_2175
  rw [val_main_call2_v0_apply]
  pointwise [val_main_call2_cst]

theorem r26 : val_main_v26 (F := Ideal) x0 (ix4 b h t s) = ((Real.exp (lb (zz Q K b.val h.val t.val s.val) + (lvTo (zz Q K b.val h.val) 2176 t.val - lvTo (zz Q K b.val h.val) (s.val + 1) t.val)) : ℝ) : EReal) := by
  have e0 := r20_0 R b h t s
  have e1 := r23 R b h t s
  have e2 := r22_0 R b h t s
  rw [val_main_v26_apply, val_main_v25_apply, val_main_v24_apply, e0, e1, e2]
  rw [Ideal.hostUnary_exp_def, Ideal.addf_def, Ideal.subf_def]
  rw [← EReal.coe_sub, ← EReal.coe_add, Ideal.exp_coe]
  refine congrArg (fun r : ℝ => ((Real.exp r : ℝ) : EReal)) ?_
  rw [show lvTo (zz Q K b.val h.val) (s.val + 1) t.val = lvTo (zz Q K b.val h.val) s.val t.val + lv (zz Q K b.val h.val) t.val s.val from Finset.sum_range_succ _ _]
  ring

theorem r27_0 : val_main_v27_0 (F := Ideal) x0 (ix4 b h t s) = ((wt (zz Q K b.val h.val) t.val s.val : ℝ) : EReal) := by
  have e0 := r26 R b h t s
  have e2 := r27_1 b h t s
  have ez : val_main_call3_v2 (F := Ideal) (ix4 b h t s) = (0 : EReal) := by
    rw [val_main_call3_v2_apply, val_main_call3_v0_apply]; pointwise [val_main_cst_1]
  rw [val_main_v27_0_apply, e0, ez, sel e2]
  unfold wt
  split <;> simp

theorem r32 : val_main_v32 (F := Ideal) x0 x1 (ix4 b h t s) = (dotH (D b.val) (V b.val) h.val t.val s.val : EReal) := by
  rw [val_main_v32_apply]
  have e : ∀ k : Fin 64, val_main_v31 (F := Ideal) x1 (lidx_main_v32 (ix4 b h t s) k) * val_main_v5 (F := Ideal) x0 (ridx_main_v32 (ix4 b h t s) k)
      = ((D b.val t.val (64 * h.val + k.val) * V b.val s.val (64 * h.val + k.val) : ℝ) : EReal) := fun k => by
    rw [EReal.coe_mul, ← r31 R b h t k, ← r5 R b h s k]
    congr 2 <;> (funext a; fin_cases a <;> rfl)
  rw [Finset.sum_congr rfl fun k _ => e k, coe_sum_fin 64 (fun k => D b.val t.val (64 * h.val + k) * V b.val s.val (64 * h.val + k))]
  rfl

theorem r36 : val_main_v36 (F := Ideal) x0 x1 (ix4 b h t s) = (wg (zz Q K b.val h.val) (dotH (D b.val) (V b.val) h.val) t.val s.val : EReal) := by
  have e0 := r26 R b h t s
  have e1 := r32 R b h t s
  have e2 := r27_1 b h t s
  have ez : val_main_call4_v0 (F := Ideal) (ix4 b h t s) = (0 : EReal) := by
    rw [val_main_call4_v0_apply]; pointwise [val_main_call4_cst]
  rw [val_main_v36_apply, val_main_v35_apply, e0, e1, ez, sel e2]
  show (_ : EReal) * _ = _
  unfold wg wt
  split
  · rw [← EReal.coe_mul, mul_comm]
  · simp

theorem r39 : val_main_v39 (F := Ideal) x0 x1 (ix4 b h t s) = (wgTo (zz Q K b.val h.val) (dotH (D b.val) (V b.val) h.val) s.val t.val : EReal) := by
  have e0 := r36 R b h t s
  have e1 : val_main_v38 (F := Ideal) x0 x1 (ix4 b h t s) = (wgTo (zz Q K b.val h.val) (dotH (D b.val) (V b.val) h.val) (s.val + 1) t.val : EReal) := by
    unfold val_main_v38
    refine host_upto (val_main_v36 (F := Ideal) x0 x1) (val_main_call5_v0 (F := Ideal)) h_S_ ?_ b h t s (wg (zz Q K b.val h.val) (dotH (D b.val) (V b.val) h.val) t.val) (fun s => r36 R b h t s) reduceWindows_S2x8x2176x2176_S2x8x2176x2176_w1s1p0_0_w1s1p0_0_w1s1p0_0_w2176s1p2175_0
    rw [val_main_call5_v0_apply]
    pointwise [val_main_call5_cst]
  rw [val_main_v39_apply, val_main_v37_apply, e0, e1]
  rw [Ideal.hostNegf_def, Ideal.negf_def, Ideal.addf_def]
  rw [← EReal.coe_neg, ← EReal.coe_add]
  refine congrArg (fun r : ℝ => (r : EReal)) ?_
  rw [show wgTo (zz Q K b.val h.val) (dotH (D b.val) (V b.val) h.val) (s.val + 1) t.val = wgTo (zz Q K b.val h.val) (dotH (D b.val) (V b.val) h.val) s.val t.val + wg (zz Q K b.val h.val) (dotH (D b.val) (V b.val) h.val) t.val s.val from Finset.sum_range_succ _ _]
  ring

omit R in
/-- The sigmoid of a number and of its negative add up to one. -/
theorem exp_lb (x : ℝ) : Real.exp (lb x - x) = 1 - Real.exp (lb x) := by
  have hp : (0 : ℝ) < 1 + Real.exp (-|x|) := by positivity
  have e : Real.exp (lb x) = Real.exp (min x 0) / (1 + Real.exp (-|x|)) := by
    unfold lb; rw [Real.exp_sub, Real.exp_log hp]
  rw [Real.exp_sub, e]
  rcases le_total x 0 with h | h
  · rw [min_eq_left h, abs_of_nonpos h, neg_neg] at *
    field_simp
    ring
  · rw [min_eq_right h, abs_of_nonneg h] at *
    rw [Real.exp_neg] at *
    field_simp
    rw [Real.exp_zero]
    ring

theorem r44 : val_main_v44 (F := Ideal) x0 x1 (ix4 b h t s) = (dzH (fun t l => Q b.val t l * sc) (K b.val) (V b.val) (D b.val) h.val t.val s.val : EReal) := by
  have e0 := r36 R b h t s
  have e1 := r39 R b h t s
  have e2 := r22_1 b h t s
  have e3 := r20_1 R b h t s
  have ez : val_main_call6_v0 (F := Ideal) (ix4 b h t s) = (0 : EReal) := by
    rw [val_main_call6_v0_apply]; pointwise [val_main_call6_cst]
  rw [val_main_v44_apply, val_main_v41_apply, val_main_v43_apply, val_main_call7_v1_apply, val_main_call7_v0_apply, val_main_v42_apply, val_main_v40_apply,
    e0, e1, e3, ez, sel e2]
  show (-(_ : EReal)) + -((-(((wg _ _ _ _ : ℝ) : EReal) + _)) * _) = _
  unfold dzH dz
  by_cases hv : Vis t.val s.val
  · simp only [if_pos hv]
    rw [← EReal.coe_add, ← EReal.coe_neg, ← EReal.coe_neg, ← EReal.coe_mul, ← EReal.coe_neg, ← EReal.coe_add, exp_lb]
    congr 1
    ring
  · simp only [if_neg hv]
    rw [show wg (zz Q K b.val h.val) (dotH (D b.val) (V b.val) h.val) t.val s.val = 0 by unfold wg wt; rw [if_neg hv, zero_mul]]
    simp

theorem r47 : val_main_v47 (F := Ideal) x0 x1 (ix4 b h s l) = (dkR (Q b.val) (K b.val) (V b.val) (D b.val) 2176 s.val (64 * h.val + l.val) : EReal) := by
  rw [val_main_v47_apply]
  have e : ∀ t : Fin 2176, val_main_v46 (F := Ideal) x0 x1 (lidx_main_v47 (ix4 b h s l) t) * val_main_v1 (F := Ideal) x0 (ridx_main_v47 (ix4 b h s l) t)
      = ((dzH (fun t l => Q b.val t l * sc) (K b.val) (V b.val) (D b.val) h.val t.val s.val * (Q b.val t.val (64 * h.val + l.val) * sc) : ℝ) : EReal) := fun t => by
    rw [show ridx_main_v47 (ix4 b h s l) t = ix4 b t h l by funext a; fin_cases a <;> rfl, show lidx_main_v47 (ix4 b h s l) t = ix4 b h t s by funext a; fin_cases a <;> rfl, r1 R]
    have e4 := r44 R b h t s
    pointwise [val_main_v46, val_main_v45, val_main_cst_2]
    rw [e4, sc_bits, ← EReal.coe_mul, ← EReal.coe_mul]
    congr 1; ring
  rw [Finset.sum_congr rfl fun k _ => e k, coe_sum_fin 2176 (fun t => dzH (fun t l => Q b.val t l * sc) (K b.val) (V b.val) (D b.val) h.val t s.val * (Q b.val t (64 * h.val + l.val) * sc))]
  unfold dkR
  rw [show (64 * h.val + l.val) / 64 = h.val by omega]

theorem r49 : val_main_v49 (F := Ideal) x0 x1 (ix4 b h t l) = (dqR (Q b.val) (K b.val) (V b.val) (D b.val) t.val (64 * h.val + l.val) : EReal) := by
  rw [val_main_v49_apply]
  have e : ∀ s : Fin 2176, val_main_v46 (F := Ideal) x0 x1 (lidx_main_v49 (ix4 b h t l) s) * val_main_v3 (F := Ideal) x0 (ridx_main_v49 (ix4 b h t l) s)
      = ((dzH (fun t l => Q b.val t l * sc) (K b.val) (V b.val) (D b.val) h.val t.val s.val * K b.val s.val (64 * h.val + l.val) * sc : ℝ) : EReal) := fun s => by
    rw [show ridx_main_v49 (ix4 b h t l) s = ix4 b s h l by funext a; fin_cases a <;> rfl, show lidx_main_v49 (ix4 b h t l) s = ix4 b h t s by funext a; fin_cases a <;> rfl, r3 R]
    have e4 := r44 R b h t s
    pointwise [val_main_v46, val_main_v45, val_main_cst_2]
    rw [e4, sc_bits, ← EReal.coe_mul, ← EReal.coe_mul]
    congr 1; ring
  rw [Finset.sum_congr rfl fun k _ => e k, coe_sum_fin 2176 (fun s => dzH (fun t l => Q b.val t l * sc) (K b.val) (V b.val) (D b.val) h.val t.val s * K b.val s (64 * h.val + l.val) * sc)]
  unfold dqR
  rw [show (64 * h.val + l.val) / 64 = h.val by omega, Finset.sum_mul]

theorem r33 : val_main_v33 (F := Ideal) x0 x1 (ix4 b h l s) = (dvR (Q b.val) (K b.val) (D b.val) 2176 s.val (64 * h.val + l.val) : EReal) := by
  rw [val_main_v33_apply]
  have e : ∀ t : Fin 2176, val_main_v31 (F := Ideal) x1 (lidx_main_v33 (ix4 b h l s) t) * val_main_v27_0 (F := Ideal) x0 (ridx_main_v33 (ix4 b h l s) t)
      = ((wtH (fun t l => Q b.val t l * sc) (K b.val) h.val t.val s.val * D b.val t.val (64 * h.val + l.val) : ℝ) : EReal) := fun t => by
    rw [show ridx_main_v33 (ix4 b h l s) t = ix4 b h t s by funext a; fin_cases a <;> rfl, show lidx_main_v33 (ix4 b h l s) t = ix4 b h l t by funext a; fin_cases a <;> rfl, r31 R, r27_0 R, ← EReal.coe_mul, mul_comm]
    rfl
  rw [Finset.sum_congr rfl fun k _ => e k, coe_sum_fin 2176 (fun t => wtH (fun t l => Q b.val t l * sc) (K b.val) h.val t s.val * D b.val t (64 * h.val + l.val))]
  unfold dvR
  rw [show (64 * h.val + l.val) / 64 = h.val by omega]

variable (c : Fin 512)

theorem r51 : val_main_v51 (F := Ideal) x0 x1 (ix3 b t c) = (dqR (Q b.val) (K b.val) (V b.val) (D b.val) t.val c.val : EReal) := by
  have e := r49 R b ⟨c.val / 64, by omega⟩ t ⟨c.val % 64, by omega⟩
  simp only [Nat.div_add_mod] at e
  refine Eq.trans ?_ e
  pointwise [val_main_v51, val_main_v50]

theorem r52 : val_main_v52 (F := Ideal) x0 x1 (ix3 b t c) = (dkR (Q b.val) (K b.val) (V b.val) (D b.val) 2176 t.val c.val : EReal) := by
  have e := r47 R b ⟨c.val / 64, by omega⟩ t ⟨c.val % 64, by omega⟩
  simp only [Nat.div_add_mod] at e
  refine Eq.trans ?_ e
  pointwise [val_main_v52, val_main_v48]

theorem r53 : val_main_v53 (F := Ideal) x0 x1 (ix3 b t c) = (dvR (Q b.val) (K b.val) (D b.val) 2176 t.val c.val : EReal) := by
  have e := r33 R b ⟨c.val / 64, by omega⟩ t ⟨c.val % 64, by omega⟩
  simp only [Nat.div_add_mod] at e
  refine Eq.trans ?_ e
  pointwise [val_main_v53, val_main_v34]

end Cert.Reference5Ideal

end
-- ==== Proof.SbHost.lean ====
/- The totals that the stick-breaking gradient is given, as the lines before it compute them. -/
module

public import proofs.«01_k».proof.Proof.Gen.Kernel5Ideal
public import proofs.«01_k».proof.Proof.Gen.Kernel5Ideal.Frame
public import proofs.«01_k».proof.Proof.Gen.Reference5Ideal.Read

@[expose] public section

set_option maxRecDepth 16384
set_option maxHeartbeats 8000000

noncomputable section

namespace Cert.Kernel5Ideal

open Idealize.ShloMosaic Idealize.ShloMosaic.TcCoe Idealize.ShloMosaic.StableHlo Gen

variable {F : FTy → Type} [FloatOps F] (m : (ℓ : Loc nD τ sig) → Buf (Elt F) ℓ)

/-- Each head's total of the logarithms, per query. -/
def totOf (x0 : (⟨S2x2176x3072, .f32⟩ : BufTy).Contents (Elt F)) : FVec F S2x8x2176 .f32 :=
  Host.reduceAdd (Reference5Ideal.Read.val_main_v22_0 (F := F) x0) (constant S_ .f32 0x00000000#32) reducesTo_S2x8x2176x2176_S2x8x2176_d3 h_S_

theorem V_tot (c : Dev nD) : V m c main_v27 = shapeCast S2x2176x512 (broadcastInDim S2x2176x8x64 ![0, 1, 2, 3] bcast_S2x2176x8x1_S2x2176x8x64_0_1_2_3
    (broadcastInDim S2x2176x8x1 ![0, 1, 2] bcast_S2x2176x8_S2x2176x8x1_0_1_2
      (transpose S2x2176x8 [0, 2, 1] (totOf (m ((c : Thread nD τ).loc main_arg0))) transposes_S2x8x2176_S2x2176x8_0_2_1))) shapeCasts_S2x2176x8x64_S2x2176x512 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

end Cert.Kernel5Ideal

end
-- ==== Proof.SbTot.lean ====
/- The rows' sums that the host hands to the kernel, in ordinary arithmetic. -/
module

public import proofs.«01_k».proof.Proof.SbRef
public import proofs.«01_k».proof.Proof.SbHost

@[expose] public section

set_option maxRecDepth 16384
set_option maxHeartbeats 4000000

noncomputable section

namespace Cert.Kernel5Ideal

open Idealize.ShloMosaic Idealize.ShloMosaic.TcCoe
open Idealize.SL Idealize.SL.RA Idealize.SL.BI
open Gen Cert.Stick Cert.Reference5Ideal

variable {Q K W D : ℕ → ℕ → ℕ → ℝ} {x0 : S2x2176x3072.Idx → EReal} {x1 : S2x2176x512.Idx → EReal} (R : Reals Q K W D x0 x1)
  (b : Fin 2) (h : Fin 8) (t : Fin 2176)
include R

theorem tot_value : totOf (F := Ideal) x0 (ix3 b h t) = (lvTo (zz Q K b.val h.val) 2176 t.val : EReal) := by
  have e := fun s => r22_0 R b h t s
  unfold totOf
  generalize Reference5Ideal.Read.val_main_v22_0 (F := Ideal) x0 = y at e
  pointwise []
  simp only [e]
  exact coe_sum_fin 2176 (lv (zz Q K b.val h.val) t.val)

omit R
variable (m : (ℓ : Loc nD τ sig) → Buf (Elt Ideal) ℓ) (c : Dev nD) (p : Fin cfg0.N)

theorem pt_lt : p.val < 8 := p.isLt

theorem blk_q (s : Fin 2176) (l : Fin 128) : iblk m c 0 p (ix3 0 s l)
    = (m ((c : Thread nD τ).loc main_arg0)) (ix3 ⟨p.val / 4, by have := pt_lt p; omega⟩ s ⟨1024 + (128 * (p.val % 4) + l.val), by omega⟩) := by
  have e0 : ∀ t : Fin cfg0.N, win0_0.index t = ![t.val / 4, 0, 8 + t.val % 4] := (by decide +kernel : ∀ t : Fin grid0.N, _)
  refine Eq.trans (b := V m c main_arg0 (ix3 ⟨p.val / 4, by have := pt_lt p; omega⟩ s ⟨1024 + (128 * (p.val % 4) + l.val), by omega⟩)) ?_ (by rw [V_main_arg0])
  blk_point [iblk, e0 p]

theorem blk_k (s : Fin 2176) (l : Fin 128) : iblk m c 1 p (ix3 0 s l)
    = (m ((c : Thread nD τ).loc main_arg0)) (ix3 ⟨p.val / 4, by have := pt_lt p; omega⟩ s ⟨1536 + (128 * (p.val % 4) + l.val), by omega⟩) := by
  have e0 : ∀ t : Fin cfg0.N, win0_1.index t = ![t.val / 4, 0, 12 + t.val % 4] := (by decide +kernel : ∀ t : Fin grid0.N, _)
  refine Eq.trans (b := V m c main_arg0 (ix3 ⟨p.val / 4, by have := pt_lt p; omega⟩ s ⟨1536 + (128 * (p.val % 4) + l.val), by omega⟩)) ?_ (by rw [V_main_arg0])
  blk_point [iblk, e0 p]

theorem blk_v (s : Fin 2176) (l : Fin 128) : iblk m c 2 p (ix3 0 s l)
    = (m ((c : Thread nD τ).loc main_arg0)) (ix3 ⟨p.val / 4, by have := pt_lt p; omega⟩ s ⟨2048 + (128 * (p.val % 4) + l.val), by omega⟩) := by
  have e0 : ∀ t : Fin cfg0.N, win0_2.index t = ![t.val / 4, 0, 16 + t.val % 4] := (by decide +kernel : ∀ t : Fin grid0.N, _)
  refine Eq.trans (b := V m c main_arg0 (ix3 ⟨p.val / 4, by have := pt_lt p; omega⟩ s ⟨2048 + (128 * (p.val % 4) + l.val), by omega⟩)) ?_ (by rw [V_main_arg0])
  blk_point [iblk, e0 p]

theorem blk_tot (s : Fin 2176) (l : Fin 128) : iblk m c 3 p (ix3 0 s l)
    = totOf (m ((c : Thread nD τ).loc main_arg0)) (ix3 ⟨p.val / 4, by have := pt_lt p; omega⟩ ⟨2 * (p.val % 4) + l.val / 64, by omega⟩ s) := by
  have e0 : ∀ t : Fin cfg0.N, win0_3.index t = ![t.val / 4, 0, t.val % 4] := (by decide +kernel : ∀ t : Fin grid0.N, _)
  refine Eq.trans (b := V m c main_v27 (ix3 ⟨p.val / 4, by have := pt_lt p; omega⟩ s ⟨128 * (p.val % 4) + l.val, by omega⟩)) ?_ ?_
  · blk_point [iblk, e0 p]
  · rw [V_tot]
    generalize totOf (m ((c : Thread nD τ).loc main_arg0)) = y
    pointwise []
    congr 2
    exact Fin.ext (by show (128 * (p.val % 4) + l.val) / 64 = 2 * (p.val % 4) + l.val / 64; omega)

theorem blk_d (s : Fin 2176) (l : Fin 128) : iblk m c 4 p (ix3 0 s l)
    = (m ((c : Thread nD τ).loc main_arg1)) (ix3 ⟨p.val / 4, by have := pt_lt p; omega⟩ s ⟨128 * (p.val % 4) + l.val, by omega⟩) := by
  have e0 : ∀ t : Fin cfg0.N, win0_4.index t = ![t.val / 4, 0, t.val % 4] := (by decide +kernel : ∀ t : Fin grid0.N, _)
  refine Eq.trans (b := V m c main_arg1 (ix3 ⟨p.val / 4, by have := pt_lt p; omega⟩ s ⟨128 * (p.val % 4) + l.val, by omega⟩)) ?_ (by rw [V_main_arg1])
  blk_point [iblk, e0 p]

end Cert.Kernel5Ideal

end
-- ==== Proof.SbEnd.lean ====
/- The last rows and the whole body of the stick-breaking gradient, in ordinary arithmetic. -/
module

public import proofs.«01_k».proof.Proof.SbChunks
public import proofs.«01_k».proof.Proof.SbLoop
public import proofs.«01_k».proof.Proof.SbTail
public import proofs.«01_k».proof.Proof.SbBody
public import Idealize.ShloMosaic.Lib.WritesUnit

@[expose] public section

set_option maxRecDepth 16384
set_option maxHeartbeats 8000000

noncomputable section

namespace Cert.Kernel5Ideal

open Idealize.ShloMosaic Idealize.ShloMosaic.TcCoe
open Idealize.SL Idealize.SL.RA Idealize.SL.BI
open Gen Cert.Stick

attribute [local irreducible] st_k0_t6 st_k0_t7 st_k0_t8 st_k0_t9

theorem tail_value (c : Dev nD) (i : grid0.Coords) (arg2 : Memref sig .tc .vmem S1x2176x128 .f32) (harg2 : arg2.IsWhole) (arg3 : Memref sig .tc .vmem S1x2176x128 .f32) (harg3 : arg3.IsWhole) (arg4 : Memref sig .tc .vmem S1x2176x128 .f32) (harg4 : arg4.IsWhole) (arg5 : Memref sig .tc .vmem S1x2176x128 .f32) (harg5 : arg5.IsWhole) (arg6 : Memref sig .tc .vmem S1x2176x128 .f32) (harg6 : arg6.IsWhole) (arg7 : Memref sig .tc .vmem S1x2176x128 .f32) (harg7 : arg7.IsWhole) (arg8 : Memref sig .tc .vmem S1x2176x128 .f32) (harg8 : arg8.IsWhole) (arg9 : Memref sig .tc .vmem S1x2176x128 .f32) (harg9 : arg9.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
    {q k v d : ℕ → ℕ → ℝ}
    (B : Blocks q k v d (arg2.view.read (Elt Ideal) X2) (arg3.view.read (Elt Ideal) X3) (arg4.view.read (Elt Ideal) X4) (arg5.view.read (Elt Ideal) X5) (arg6.view.read (Elt Ideal) X6)) :
    (∀ (j : Fin 128) (l : Fin 128), (sbRun (F := Ideal) c i arg2 harg2 arg3 harg3 arg4 harg4 arg5 harg5 arg6 harg6 arg7 harg7 arg8 harg8 arg9 harg9 X2 X3 X4 X5 X6).1 (ix3 0 j l)
      = (((∑ s ∈ Finset.range 2176, dzH (fun t l => q t l * sc) k v d (l.val / 64) (2048 + j.val) s * k s l.val) * sc : ℝ) : EReal))
    ∧ Cols 128 2048 2176 (dkR q k v d 2048) (dzH (fun t l => q t l * sc) k v d) (fun t l => q t l * sc)
        (arg8.view.read (Elt Ideal) (sbRun (F := Ideal) c i arg2 harg2 arg3 harg3 arg4 harg4 arg5 harg5 arg6 harg6 arg7 harg7 arg8 harg8 arg9 harg9 X2 X3 X4 X5 X6).2.2.2.1)
    ∧ Cols 128 2048 2176 (dvR q k d 2048) (wtH (fun t l => q t l * sc) k) d
        (arg9.view.read (Elt Ideal) (sbRun (F := Ideal) c i arg2 harg2 arg3 harg3 arg4 harg4 arg5 harg5 arg6 harg6 arg7 harg7 arg8 harg8 arg9 harg9 X2 X3 X4 X5 X6).2.2.2.2.1) := by
  have T := tile_128 (v := v) (k := k) (r0 := 2048) (row_read_128 B.h2 inb_S1x2176x128_S1x128x128_0_2048_0 rfl)
    (row_read_128 (f := fun s l => lvTo (dotH (fun t l => q t l * sc) k (l / 64)) 2176 s) B.h5 inb_S1x2176x128_S1x128x128_0_2048_0 rfl)
    (row_read_128 B.h6 inb_S1x2176x128_S1x128x128_0_2048_0 rfl)
  obtain ⟨-, ik, iv⟩ := qst_value Variants.none c none i arg2 harg2 arg3 harg3 arg4 harg4 arg5 harg5 arg6 harg6 arg7 harg7 arg8 harg8 arg9 harg9 X2 X3 X4 X5 X6 _ _ B
    (sbRun_zero8 c i arg2 harg2 arg3 harg3 arg4 harg4 arg5 harg5 arg6 harg6 arg7 harg7 arg8 harg8 arg9 harg9 X2 X3 X4 X5 X6) (sbRun_zero9 c i arg2 harg2 arg3 harg3 arg4 harg4 arg5 harg5 arg6 harg6 arg7 harg7 arg8 harg8 arg9 harg9 X2 X3 X4 X5 X6) k0_t1_loop.trips le_rfl
  unfold sbRun at ik iv
  dsimp only at ik iv
  simp only [← View.writes_append] at ik iv
  have S1 := st_128 T B.h3 B.h4 (s0 := 0) mask_tail_first le_rfl (by omega) (start_128 ik iv) k0_off7_inb off7_eq (S' := 512) rfl
  have e6 : 512 * (k0_t6_loop.trips + 1) = 2048 := by rw [trips_t6]
  unfold sbRun
  dsimp only
  refine finish_128 ?_
  refine app_128 ?_
  refine loop_t9 _ _ _ _ _ _ _ _ _ _ _ _ _ _ _ _ _ _ _ _ _ _ _ _ _ _ _ _ _ _ _ _ _ _ _ _ _ _ _ ?_
  refine app_128 ?_
  refine loop_t8 _ _ _ _ _ _ _ _ _ _ _ _ _ _ _ _ _ _ _ _ _ _ _ _ _ _ _ _ _ _ _ _ _ _ _ _ _ _ _ B.h3 B.h4 rfl rfl rfl rfl rfl T rfl rfl rfl ?_
  refine app_128 ?_
  refine loop_t7 _ _ _ _ _ _ _ _ _ _ _ _ _ _ _ _ _ _ _ _ _ _ _ _ _ _ _ _ _ _ _ _ _ _ _ _ _ _ _ _ _ _ _ _ _ _ _ _ _ _ _ _ ?_
  refine app_128 ?_
  rw [← e6]
  refine loop_t6 _ _ _ _ _ _ _ _ _ _ _ _ _ _ _ _ _ _ _ _ _ _ _ _ _ _ _ _ _ _ _ _ _ _ _ _ _ _ _ _ _ _ _ _ _ _ _ _ _ _ _ B.h3 B.h4 rfl rfl rfl rfl rfl T ?_ _ le_rfl
  exact S1

end Cert.Kernel5Ideal
-- ==== Proof.SbFinal.lean ====
/- The stick-breaking gradient's arrays, in ordinary arithmetic. -/
module

public import proofs.«01_k».proof.Proof.SbTot
public import proofs.«01_k».proof.Proof.SbEnd
public import proofs.«01_k».proof.Proof.SbFrame

@[expose] public section

set_option maxRecDepth 16384
set_option maxHeartbeats 4000000

noncomputable section

namespace Cert.Kernel5Ideal

open Idealize.ShloMosaic Idealize.ShloMosaic.TcCoe Idealize.ShloMosaic.Tactic
open Idealize.SL Idealize.SL.RA Idealize.SL.BI
open Gen Cert.Stick Cert.Reference5Ideal

/-- The entries that one grid point sees: a batch, and the columns of two heads. -/
abbrev B (x : ℕ → ℕ → ℕ → ℝ) (p : ℕ) : ℕ → ℕ → ℝ := fun t l => x (p / 4) t (128 * (p % 4) + l)

theorem dotH_blk (x y : ℕ → ℕ → ℝ) (a h : ℕ) : dotH (fun t l => x t (128 * a + l)) (fun s l => y s (128 * a + l)) h = dotH x y (2 * a + h) := by
  funext t s
  unfold dotH
  refine Finset.sum_congr rfl fun l _ => ?_
  dsimp only
  rw [show 64 * (2 * a + h) + l = 128 * a + (64 * h + l) by ring]

theorem dzH_blk (Q K W D : ℕ → ℕ → ℕ → ℝ) (p l : ℕ) : dzH (fun t l => B Q p t l * sc) (B K p) (B W p) (B D p) (l / 64)
    = dzH (fun t l => Q (p / 4) t l * sc) (K (p / 4)) (W (p / 4)) (D (p / 4)) ((128 * (p % 4) + l) / 64) := by
  unfold dzH
  rw [show (128 * (p % 4) + l) / 64 = 2 * (p % 4) + l / 64 by omega, ← dotH_blk, ← dotH_blk]

theorem wtH_blk (Q K : ℕ → ℕ → ℕ → ℝ) (p l : ℕ) : wtH (fun t l => B Q p t l * sc) (B K p) (l / 64)
    = wtH (fun t l => Q (p / 4) t l * sc) (K (p / 4)) ((128 * (p % 4) + l) / 64) := by
  unfold wtH
  rw [show (128 * (p % 4) + l) / 64 = 2 * (p % 4) + l / 64 by omega, ← dotH_blk]

variable (Q K W D : ℕ → ℕ → ℕ → ℝ)

theorem dqR_blk (p t l : ℕ) : dqR (B Q p) (B K p) (B W p) (B D p) t l = dqR (Q (p / 4)) (K (p / 4)) (W (p / 4)) (D (p / 4)) t (128 * (p % 4) + l) := by
  unfold dqR
  rw [dzH_blk]

theorem dkR_blk (p n t l : ℕ) : dkR (B Q p) (B K p) (B W p) (B D p) n t l = dkR (Q (p / 4)) (K (p / 4)) (W (p / 4)) (D (p / 4)) n t (128 * (p % 4) + l) := by
  unfold dkR
  rw [dzH_blk]

theorem dvR_blk (p n t l : ℕ) : dvR (B Q p) (B K p) (B D p) n t l = dvR (Q (p / 4)) (K (p / 4)) (D (p / 4)) n t (128 * (p % 4) + l) := by
  unfold dvR
  rw [wtH_blk]

variable {Q K W D}
variable (m : (ℓ : Loc nD τ sig) → Buf (Elt Ideal) ℓ) (c : Dev nD) (p : Fin cfg0.N)
  (R : Reals Q K W D (m ((c : Thread nD τ).loc main_arg0)) (m ((c : Thread nD τ).loc main_arg1)))
include R

theorem blocks : Blocks (B Q p.val) (B K p.val) (B W p.val) (B D p.val) ((win0_0.stage (cfg0.slots p 0)).view.read (Elt Ideal) ((hstage0_0 ((cfg0.slots p 0).cast nbuf0_0)).unread (iblk m c 0 p))) ((win0_1.stage (cfg0.slots p 1)).view.read (Elt Ideal) ((hstage0_1 ((cfg0.slots p 1).cast nbuf0_1)).unread (iblk m c 1 p))) ((win0_2.stage (cfg0.slots p 2)).view.read (Elt Ideal) ((hstage0_2 ((cfg0.slots p 2).cast nbuf0_2)).unread (iblk m c 2 p))) ((win0_3.stage (cfg0.slots p 3)).view.read (Elt Ideal) ((hstage0_3 ((cfg0.slots p 3).cast nbuf0_3)).unread (iblk m c 3 p))) ((win0_4.stage (cfg0.slots p 4)).view.read (Elt Ideal) ((hstage0_4 ((cfg0.slots p 4).cast nbuf0_4)).unread (iblk m c 4 p))) := by
  constructor <;> intro s l
  · rw [Memref.IsWhole.read_unread, blk_q]
    exact R.hq _ s ⟨128 * (p.val % 4) + l.val, by omega⟩
  · rw [Memref.IsWhole.read_unread, blk_k]
    exact R.hk _ s ⟨128 * (p.val % 4) + l.val, by omega⟩
  · rw [Memref.IsWhole.read_unread, blk_v]
    exact R.hv _ s ⟨128 * (p.val % 4) + l.val, by omega⟩
  · rw [Memref.IsWhole.read_unread, blk_tot, tot_value R]
    exact congrArg (fun z => ((lvTo z 2176 s.val : ℝ) : EReal)) (dotH_blk (fun t l => Q (p.val / 4) t l * sc) (K (p.val / 4)) (p.val % 4) (l.val / 64)).symm
  · rw [Memref.IsWhole.read_unread, blk_d]
    exact R.hd _ s ⟨128 * (p.val % 4) + l.val, by omega⟩

theorem dq_block (y : S1x2176x128.Idx) : dqBlock m c p y = ((dqR (B Q p.val) (B K p.val) (B W p.val) (B D p.val) (y 1).val (y 2).val : ℝ) : EReal) := by
  obtain ⟨iq, -, -⟩ := qst_value Variants.none c none (grid0.coords p) (win0_0.stage (cfg0.slots p 0)) (hstage0_0 ((cfg0.slots p 0).cast nbuf0_0)) (win0_1.stage (cfg0.slots p 1)) (hstage0_1 ((cfg0.slots p 1).cast nbuf0_1)) (win0_2.stage (cfg0.slots p 2)) (hstage0_2 ((cfg0.slots p 2).cast nbuf0_2)) (win0_3.stage (cfg0.slots p 3)) (hstage0_3 ((cfg0.slots p 3).cast nbuf0_3)) (win0_4.stage (cfg0.slots p 4)) (hstage0_4 ((cfg0.slots p 4).cast nbuf0_4)) (win0_5.stage (cfg0.slots p 5)) (hstage0_5 ((cfg0.slots p 5).cast nbuf0_5)) (win0_6.stage (cfg0.slots p 6)) (hstage0_6 ((cfg0.slots p 6).cast nbuf0_6)) (win0_7.stage (cfg0.slots p 7)) (hstage0_7 ((cfg0.slots p 7).cast nbuf0_7)) ((hstage0_0 ((cfg0.slots p 0).cast nbuf0_0)).unread (iblk m c 0 p)) ((hstage0_1 ((cfg0.slots p 1).cast nbuf0_1)).unread (iblk m c 1 p)) ((hstage0_2 ((cfg0.slots p 2).cast nbuf0_2)).unread (iblk m c 2 p)) ((hstage0_3 ((cfg0.slots p 3).cast nbuf0_3)).unread (iblk m c 3 p)) ((hstage0_4 ((cfg0.slots p 4).cast nbuf0_4)).unread (iblk m c 4 p)) _ _ (blocks m c p R)
    (sbRun_zero8 c (grid0.coords p) (win0_0.stage (cfg0.slots p 0)) (hstage0_0 ((cfg0.slots p 0).cast nbuf0_0)) (win0_1.stage (cfg0.slots p 1)) (hstage0_1 ((cfg0.slots p 1).cast nbuf0_1)) (win0_2.stage (cfg0.slots p 2)) (hstage0_2 ((cfg0.slots p 2).cast nbuf0_2)) (win0_3.stage (cfg0.slots p 3)) (hstage0_3 ((cfg0.slots p 3).cast nbuf0_3)) (win0_4.stage (cfg0.slots p 4)) (hstage0_4 ((cfg0.slots p 4).cast nbuf0_4)) (win0_5.stage (cfg0.slots p 5)) (hstage0_5 ((cfg0.slots p 5).cast nbuf0_5)) (win0_6.stage (cfg0.slots p 6)) (hstage0_6 ((cfg0.slots p 6).cast nbuf0_6)) (win0_7.stage (cfg0.slots p 7)) (hstage0_7 ((cfg0.slots p 7).cast nbuf0_7)) ((hstage0_0 ((cfg0.slots p 0).cast nbuf0_0)).unread (iblk m c 0 p)) ((hstage0_1 ((cfg0.slots p 1).cast nbuf0_1)).unread (iblk m c 1 p)) ((hstage0_2 ((cfg0.slots p 2).cast nbuf0_2)).unread (iblk m c 2 p)) ((hstage0_3 ((cfg0.slots p 3).cast nbuf0_3)).unread (iblk m c 3 p)) ((hstage0_4 ((cfg0.slots p 4).cast nbuf0_4)).unread (iblk m c 4 p)))
    (sbRun_zero9 c (grid0.coords p) (win0_0.stage (cfg0.slots p 0)) (hstage0_0 ((cfg0.slots p 0).cast nbuf0_0)) (win0_1.stage (cfg0.slots p 1)) (hstage0_1 ((cfg0.slots p 1).cast nbuf0_1)) (win0_2.stage (cfg0.slots p 2)) (hstage0_2 ((cfg0.slots p 2).cast nbuf0_2)) (win0_3.stage (cfg0.slots p 3)) (hstage0_3 ((cfg0.slots p 3).cast nbuf0_3)) (win0_4.stage (cfg0.slots p 4)) (hstage0_4 ((cfg0.slots p 4).cast nbuf0_4)) (win0_5.stage (cfg0.slots p 5)) (hstage0_5 ((cfg0.slots p 5).cast nbuf0_5)) (win0_6.stage (cfg0.slots p 6)) (hstage0_6 ((cfg0.slots p 6).cast nbuf0_6)) (win0_7.stage (cfg0.slots p 7)) (hstage0_7 ((cfg0.slots p 7).cast nbuf0_7)) ((hstage0_0 ((cfg0.slots p 0).cast nbuf0_0)).unread (iblk m c 0 p)) ((hstage0_1 ((cfg0.slots p 1).cast nbuf0_1)).unread (iblk m c 1 p)) ((hstage0_2 ((cfg0.slots p 2).cast nbuf0_2)).unread (iblk m c 2 p)) ((hstage0_3 ((cfg0.slots p 3).cast nbuf0_3)).unread (iblk m c 3 p)) ((hstage0_4 ((cfg0.slots p 4).cast nbuf0_4)).unread (iblk m c 4 p))) k0_t1_loop.trips le_rfl
  obtain ⟨tq, -, -⟩ := tail_value c (grid0.coords p) (win0_0.stage (cfg0.slots p 0)) (hstage0_0 ((cfg0.slots p 0).cast nbuf0_0)) (win0_1.stage (cfg0.slots p 1)) (hstage0_1 ((cfg0.slots p 1).cast nbuf0_1)) (win0_2.stage (cfg0.slots p 2)) (hstage0_2 ((cfg0.slots p 2).cast nbuf0_2)) (win0_3.stage (cfg0.slots p 3)) (hstage0_3 ((cfg0.slots p 3).cast nbuf0_3)) (win0_4.stage (cfg0.slots p 4)) (hstage0_4 ((cfg0.slots p 4).cast nbuf0_4)) (win0_5.stage (cfg0.slots p 5)) (hstage0_5 ((cfg0.slots p 5).cast nbuf0_5)) (win0_6.stage (cfg0.slots p 6)) (hstage0_6 ((cfg0.slots p 6).cast nbuf0_6)) (win0_7.stage (cfg0.slots p 7)) (hstage0_7 ((cfg0.slots p 7).cast nbuf0_7)) ((hstage0_0 ((cfg0.slots p 0).cast nbuf0_0)).unread (iblk m c 0 p)) ((hstage0_1 ((cfg0.slots p 1).cast nbuf0_1)).unread (iblk m c 1 p)) ((hstage0_2 ((cfg0.slots p 2).cast nbuf0_2)).unread (iblk m c 2 p)) ((hstage0_3 ((cfg0.slots p 3).cast nbuf0_3)).unread (iblk m c 3 p)) ((hstage0_4 ((cfg0.slots p 4).cast nbuf0_4)).unread (iblk m c 4 p)) (blocks m c p R)
  unfold dqBlock
  refine View.canon_apply_of_pieces (fun y : S1x2176x128.Idx => ((dqR (B Q p.val) (B K p.val) (B W p.val) (B D p.val) (y 1).val (y 2).val : ℝ) : EReal)) (dqPieces m c p) ?_ y (dq_cover m c p y)
  intro pc hp
  rcases List.mem_cons.1 hp with rfl | hp
  · intro x
    have ex : x = ix3 0 (x 1) (x 2) := by
      funext a; fin_cases a
      · exact Fin.ext (by show (x 0).val = 0; exact Nat.lt_one_iff.mp (x 0).isLt)
      · rfl
      · rfl
    rw [ex]
    refine (tq (x 1) (x 2)).trans ?_
    show ((dqR _ _ _ _ (2048 + (x 1).val) (x 2).val : ℝ) : EReal) = _
    have e1 : (tailRect.emb (ix3 0 (x 1) (x 2)) 1).val = 2048 + (x 1).val := by
      rw [Rect.emb_apply]
      show 2048 + 1 * (x 1).val = _
      omega
    have e2 : (tailRect.emb (ix3 0 (x 1) (x 2)) 2).val = (x 2).val := by
      rw [Rect.emb_apply]
      show 0 + 1 * (x 2).val = _
      omega
    exact congrArg₂ (fun a b => ((dqR (B Q p.val) (B K p.val) (B W p.val) (B D p.val) a b : ℝ) : EReal)) e1.symm e2.symm
  · exact iq pc hp

theorem dk_block (s : Fin 2176) (l : Fin 128) : dkBlock m c p (ix3 0 s l) = ((dkR (B Q p.val) (B K p.val) (B W p.val) (B D p.val) 2176 s.val l.val : ℝ) : EReal) := by
  obtain ⟨-, tk, -⟩ := tail_value c (grid0.coords p) (win0_0.stage (cfg0.slots p 0)) (hstage0_0 ((cfg0.slots p 0).cast nbuf0_0)) (win0_1.stage (cfg0.slots p 1)) (hstage0_1 ((cfg0.slots p 1).cast nbuf0_1)) (win0_2.stage (cfg0.slots p 2)) (hstage0_2 ((cfg0.slots p 2).cast nbuf0_2)) (win0_3.stage (cfg0.slots p 3)) (hstage0_3 ((cfg0.slots p 3).cast nbuf0_3)) (win0_4.stage (cfg0.slots p 4)) (hstage0_4 ((cfg0.slots p 4).cast nbuf0_4)) (win0_5.stage (cfg0.slots p 5)) (hstage0_5 ((cfg0.slots p 5).cast nbuf0_5)) (win0_6.stage (cfg0.slots p 6)) (hstage0_6 ((cfg0.slots p 6).cast nbuf0_6)) (win0_7.stage (cfg0.slots p 7)) (hstage0_7 ((cfg0.slots p 7).cast nbuf0_7)) ((hstage0_0 ((cfg0.slots p 0).cast nbuf0_0)).unread (iblk m c 0 p)) ((hstage0_1 ((cfg0.slots p 1).cast nbuf0_1)).unread (iblk m c 1 p)) ((hstage0_2 ((cfg0.slots p 2).cast nbuf0_2)).unread (iblk m c 2 p)) ((hstage0_3 ((cfg0.slots p 3).cast nbuf0_3)).unread (iblk m c 3 p)) ((hstage0_4 ((cfg0.slots p 4).cast nbuf0_4)).unread (iblk m c 4 p)) (blocks m c p R)
  exact cols_step_128 (r0 := 2048) (S := 2176) (fun h t s hs => dzH_zero _ _ _ _ h t s hs) (by decide) tk s l

theorem dv_block (s : Fin 2176) (l : Fin 128) : dvBlock m c p (ix3 0 s l) = ((dvR (B Q p.val) (B K p.val) (B D p.val) 2176 s.val l.val : ℝ) : EReal) := by
  obtain ⟨-, -, tv⟩ := tail_value c (grid0.coords p) (win0_0.stage (cfg0.slots p 0)) (hstage0_0 ((cfg0.slots p 0).cast nbuf0_0)) (win0_1.stage (cfg0.slots p 1)) (hstage0_1 ((cfg0.slots p 1).cast nbuf0_1)) (win0_2.stage (cfg0.slots p 2)) (hstage0_2 ((cfg0.slots p 2).cast nbuf0_2)) (win0_3.stage (cfg0.slots p 3)) (hstage0_3 ((cfg0.slots p 3).cast nbuf0_3)) (win0_4.stage (cfg0.slots p 4)) (hstage0_4 ((cfg0.slots p 4).cast nbuf0_4)) (win0_5.stage (cfg0.slots p 5)) (hstage0_5 ((cfg0.slots p 5).cast nbuf0_5)) (win0_6.stage (cfg0.slots p 6)) (hstage0_6 ((cfg0.slots p 6).cast nbuf0_6)) (win0_7.stage (cfg0.slots p 7)) (hstage0_7 ((cfg0.slots p 7).cast nbuf0_7)) ((hstage0_0 ((cfg0.slots p 0).cast nbuf0_0)).unread (iblk m c 0 p)) ((hstage0_1 ((cfg0.slots p 1).cast nbuf0_1)).unread (iblk m c 1 p)) ((hstage0_2 ((cfg0.slots p 2).cast nbuf0_2)).unread (iblk m c 2 p)) ((hstage0_3 ((cfg0.slots p 3).cast nbuf0_3)).unread (iblk m c 3 p)) ((hstage0_4 ((cfg0.slots p 4).cast nbuf0_4)).unread (iblk m c 4 p)) (blocks m c p R)
  exact cols_step_128 (r0 := 2048) (S := 2176) (fun h t s hs => wtH_zero _ _ h t s hs) (by decide) tv s l

theorem dk_block' (y : S1x2176x128.Idx) : dkBlock m c p y = ((dkR (B Q p.val) (B K p.val) (B W p.val) (B D p.val) 2176 (y 1).val (y 2).val : ℝ) : EReal) := by
  have ex : y = ix3 0 (y 1) (y 2) := by
    funext a; fin_cases a
    · exact Fin.ext (by show (y 0).val = 0; exact Nat.lt_one_iff.mp (y 0).isLt)
    · rfl
    · rfl
  exact (congrArg (dkBlock m c p) ex).trans (dk_block m c p R (y 1) (y 2))

theorem dv_block' (y : S1x2176x128.Idx) : dvBlock m c p y = ((dvR (B Q p.val) (B K p.val) (B D p.val) 2176 (y 1).val (y 2).val : ℝ) : EReal) := by
  have ex : y = ix3 0 (y 1) (y 2) := by
    funext a; fin_cases a
    · exact Fin.ext (by show (y 0).val = 0; exact Nat.lt_one_iff.mp (y 0).isLt)
    · rfl
    · rfl
  exact (congrArg (dvBlock m c p) ex).trans (dv_block m c p R (y 1) (y 2))

theorem final_dq : (dats m 0 c).arrAt 5 cfg0.N
    = fun y : S2x2176x512.Idx => ((dqR (Q (y 0).val) (K (y 0).val) (W (y 0).val) (D (y 0).val) (y 1).val (y 2).val : ℝ) : EReal) := by
  refine (dats m 0 c).arrAt_eq_of_covers 5 _ (by decide +kernel) fun p hf y => ?_
  have e : ∀ t : Fin cfg0.N, win0_5.index t = ![t.val / 4, 0, t.val % 4] := (by decide +kernel : ∀ t : Fin grid0.N, _)
  blk_simp
  rw [after0_5, e p]
  refine (dq_block m c p R y).trans ?_
  rw [dqR_blk]
  show _ = ((dqR (Q (p.val / 4)) (K (p.val / 4)) (W (p.val / 4)) (D (p.val / 4)) (0 * 2176 + (y 1).val) (p.val % 4 * 128 + (y 2).val) : ℝ) : EReal)
  rw [Nat.zero_mul, Nat.zero_add, Nat.mul_comm (p.val % 4) 128]

theorem final_dk : (dats m 0 c).arrAt 6 cfg0.N
    = fun y : S2x2176x512.Idx => ((dkR (Q (y 0).val) (K (y 0).val) (W (y 0).val) (D (y 0).val) 2176 (y 1).val (y 2).val : ℝ) : EReal) := by
  refine (dats m 0 c).arrAt_eq_of_covers 6 _ (by decide +kernel) fun p hf y => ?_
  have e : ∀ t : Fin cfg0.N, win0_6.index t = ![t.val / 4, 0, t.val % 4] := (by decide +kernel : ∀ t : Fin grid0.N, _)
  blk_simp
  rw [after0_6, e p]
  refine (dk_block' m c p R y).trans ?_
  rw [dkR_blk]
  show _ = ((dkR (Q (p.val / 4)) (K (p.val / 4)) (W (p.val / 4)) (D (p.val / 4)) 2176 (0 * 2176 + (y 1).val) (p.val % 4 * 128 + (y 2).val) : ℝ) : EReal)
  rw [Nat.zero_mul, Nat.zero_add, Nat.mul_comm (p.val % 4) 128]

theorem final_dv : (dats m 0 c).arrAt 7 cfg0.N
    = fun y : S2x2176x512.Idx => ((dvR (Q (y 0).val) (K (y 0).val) (D (y 0).val) 2176 (y 1).val (y 2).val : ℝ) : EReal) := by
  refine (dats m 0 c).arrAt_eq_of_covers 7 _ (by decide +kernel) fun p hf y => ?_
  have e : ∀ t : Fin cfg0.N, win0_7.index t = ![t.val / 4, 0, t.val % 4] := (by decide +kernel : ∀ t : Fin grid0.N, _)
  blk_simp
  rw [after0_7, e p]
  refine (dv_block' m c p R y).trans ?_
  rw [dvR_blk]
  show _ = ((dvR (Q (p.val / 4)) (K (p.val / 4)) (D (p.val / 4)) 2176 (0 * 2176 + (y 1).val) (p.val % 4 * 128 + (y 2).val) : ℝ) : EReal)
  rw [Nat.zero_mul, Nat.zero_add, Nat.mul_comm (p.val % 4) 128]

end Cert.Kernel5Ideal

end
-- ==== Proof.SbValue.lean ====
/- The stick-breaking gradient on finite heads: what the call and the reference return. -/
module

public import proofs.«01_k».proof.Pre_finite_heads
public import proofs.«01_k».proof.Proof.SbFinal
public import proofs.«01_k».proof.Proof.GateRef
public import Idealize.ShloMosaic.Lib.ReduceAll

@[expose] public section

set_option maxRecDepth 16384

noncomputable section

namespace Cert.Pre_finite_heads

open Idealize.ShloMosaic Idealize.SL.Sem

theorem facts : Facts where
  slices_S2x2176x3072_S2x2176x1536_0_0_1024 := by decide
  bcast_S_S2x2176x1536 := by decide
  reducesTo_S2x2176x1536_S_d0_1_2 := by decide
  h_S_ := by decide
  bcast_S_S2x2176x512 := by decide
  reducesTo_S2x2176x512_S_d0_1_2 := by decide

attribute [local instance] facts

theorem and_one {x y : BitVec 1} (h : IntOp.andi x y = 1#1) : x = 1#1 ∧ y = 1#1 := by
  revert x y; decide

theorem reals (x0 : FVec Ideal S2x2176x3072 .f32) (x1 : FVec Ideal S2x2176x512 .f32) (h : fn (F := Ideal) x0 x1 = fun _ => 1#1) :
    (∀ (b : Fin 2) (t : Fin 2176) (c : Fin 1536), ∃ r : ℝ, x0 (ix3 b t ⟨1024 + c.val, by omega⟩) = r) ∧ ∀ j, ∃ r : ℝ, x1 j = r := by
  have h0 := congrFun h ix0
  obtain ⟨h1, h2⟩ := and_one h0
  haveI : Subsingleton S_.Idx := ⟨fun a b => funext fun i => i.elim0⟩
  refine ⟨fun b t c => ?_, fun j => Cert.Kernel2Ideal.Value.real_of_abs_lt (Host.reduce_andi_all _ _ _ _ _ h2 j)⟩
  obtain ⟨r, hr⟩ := Cert.Kernel2Ideal.Value.real_of_abs_lt (Host.reduce_andi_all _ _ _ _ _ h1 (ix3 b t c))
  refine ⟨r, Eq.trans ?_ hr⟩
  pointwise []

end Cert.Pre_finite_heads

namespace Cert.Kernel5Ideal

open Idealize.ShloMosaic Idealize.ShloMosaic.TcCoe Idealize.ShloMosaic.Tactic
open Idealize.SL Idealize.SL.RA Idealize.SL.BI Idealize.SL.Sem
open Gen Cert.Stick Cert.Reference5Ideal

attribute [local instance] Cert.Pre_finite_heads.facts

section
variable {F : FTy → Type} [FloatOps F] (m : (ℓ : Loc nD τ sig) → Buf (Elt F) ℓ) (ρ : Dev nD → PrngReg)

/-- The run, with each result named and the arguments as they were. -/
theorem run_results : θ_run defs (onTc (τ := τ) (main (F := F))) ⟨m, fun _ => 0, ρ⟩ fun r => ∀ c : Dev nD,
      r.2.mem ((c : Thread nD τ).loc main_v28_0) = (dats m 0 c).arrAt 5 cfg0.N
      ∧ r.2.mem ((c : Thread nD τ).loc main_v28_1) = (dats m 0 c).arrAt 6 cfg0.N
      ∧ r.2.mem ((c : Thread nD τ).loc main_v28_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1 5, (h c).1 6, (h c).1 7,
      ((h c).1 2).trans (((dats m 0 c).arrAt_in 2 rfl _).trans ((A_eq m c 2).trans (V_main_arg0 m c))),
      ((h c).1 4).trans (((dats m 0 c).arrAt_in 4 rfl _).trans ((A_eq m c 4).trans (V_main_arg1 m c)))⟩) (run_main m ρ)

end

/-- An entry of the projection, counted from column `o`, as a real number. -/
def col3 (o : ℕ) (x : S2x2176x3072.Idx → EReal) (b t c : ℕ) : ℝ :=
  if h : b < 2 ∧ t < 2176 ∧ o + c < 3072 then (x (ix3 ⟨b, h.1⟩ ⟨t, h.2.1⟩ ⟨o + c, h.2.2⟩)).toReal else 0

/-- An entry of the incoming gradient as a real number. -/
def col1 (x : S2x2176x512.Idx → EReal) (b t c : ℕ) : ℝ :=
  if h : b < 2 ∧ t < 2176 ∧ c < 512 then (x (ix3 ⟨b, h.1⟩ ⟨t, h.2.1⟩ ⟨c, h.2.2⟩)).toReal else 0

theorem reals_of (x0 : S2x2176x3072.Idx → EReal) (x1 : S2x2176x512.Idx → EReal)
    (h : Cert.Pre_finite_heads.fn (F := Ideal) x0 x1 = fun _ => 1#1) : Reals (col3 1024 x0) (col3 1536 x0) (col3 2048 x0) (col1 x1) x0 x1 := by
  obtain ⟨h0, h1⟩ := Cert.Pre_finite_heads.reals x0 x1 h
  have g : ∀ (o : ℕ) (ho : 1024 ≤ o) (ho' : o ≤ 2048) (b : Fin 2) (t : Fin 2176) (c : Fin 512),
      x0 (ix3 b t ⟨o + c.val, by omega⟩) = (col3 o x0 b.val t.val c.val : EReal) := fun o ho ho' b t c => by
    obtain ⟨r, hr⟩ := h0 b t ⟨o - 1024 + c.val, by omega⟩
    have hr' : x0 (ix3 b t ⟨o + c.val, by omega⟩) = r := by
      rw [← hr]
      congr 2
      exact Fin.ext (by show o + c.val = 1024 + (o - 1024 + c.val); omega)
    unfold col3
    rw [dif_pos ⟨b.isLt, t.isLt, by omega⟩]
    show x0 (ix3 b t ⟨o + c.val, _⟩) = (((x0 (ix3 b t ⟨o + c.val, _⟩)).toReal : ℝ) : EReal)
    rw [hr', EReal.toReal_coe]
  refine ⟨g 1024 (by omega) (by omega), g 1536 (by omega) (by omega), g 2048 (by omega) (by omega), fun b t c => ?_⟩
  obtain ⟨r, hr⟩ := h1 (ix3 b t c)
  unfold col1
  rw [dif_pos ⟨b.isLt, t.isLt, c.isLt⟩]
  show x1 (ix3 b t c) = (((x1 (ix3 b t c)).toReal : ℝ) : EReal)
  rw [hr, EReal.toReal_coe]

/-- The queries', the keys' and the values' gradients, as the call and the reference return them. -/
def gradQ (x0 : S2x2176x3072.Idx → EReal) (x1 : S2x2176x512.Idx → EReal) : S2x2176x512.Idx → EReal := fun y =>
  ((dqR (col3 1024 x0 (y 0).val) (col3 1536 x0 (y 0).val) (col3 2048 x0 (y 0).val) (col1 x1 (y 0).val) (y 1).val (y 2).val : ℝ) : EReal)
def gradK (x0 : S2x2176x3072.Idx → EReal) (x1 : S2x2176x512.Idx → EReal) : S2x2176x512.Idx → EReal := fun y =>
  ((dkR (col3 1024 x0 (y 0).val) (col3 1536 x0 (y 0).val) (col3 2048 x0 (y 0).val) (col1 x1 (y 0).val) 2176 (y 1).val (y 2).val : ℝ) : EReal)
def gradV (x0 : S2x2176x3072.Idx → EReal) (x1 : S2x2176x512.Idx → EReal) : S2x2176x512.Idx → EReal := fun y =>
  ((dvR (col3 1024 x0 (y 0).val) (col3 1536 x0 (y 0).val) (col1 x1 (y 0).val) 2176 (y 1).val (y 2).val : ℝ) : EReal)

section
variable (x0 : S2x2176x3072.Idx → EReal) (x1 : S2x2176x512.Idx → EReal) (h : Cert.Pre_finite_heads.fn (F := Ideal) x0 x1 = fun _ => 1#1)
include h

theorem eta3 (y : S2x2176x512.Idx) : y = ix3 (y 0) (y 1) (y 2) := by
  funext a; fin_cases a <;> rfl

theorem reference_q : Reference5Ideal.Read.val_main_v51 (F := Ideal) x0 x1 = gradQ x0 x1 := by
  funext y
  exact (congrArg _ (eta3 x0 x1 h y)).trans (r51 (reals_of x0 x1 h) (y 0) (y 1) (y 2))
theorem reference_k : Reference5Ideal.Read.val_main_v52 (F := Ideal) x0 x1 = gradK x0 x1 := by
  funext y
  exact (congrArg _ (eta3 x0 x1 h y)).trans (r52 (reals_of x0 x1 h) (y 0) (y 1) (y 2))
theorem reference_v : Reference5Ideal.Read.val_main_v53 (F := Ideal) x0 x1 = gradV x0 x1 := by
  funext y
  exact (congrArg _ (eta3 x0 x1 h y)).trans (r53 (reals_of x0 x1 h) (y 0) (y 1) (y 2))
end

end Cert.Kernel5Ideal

end
-- ==== Proof.TnOut6.lean ====
/- The weight gradient of the input product, `dw = xᵀ · dproj` with 3072 columns: each column block is accumulated over the
   row blocks, and the blocks fill the result array. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Kernel6Ideal.Value

open Cert.Kernel6Ideal Cert.Kernel6Ideal.Gen Idealize.ShloMosaic Idealize.ShloMosaic.TcCoe Idealize.SL.Sem

variable (m : (ℓ : Loc nD τ sig) → Buf (Elt Ideal) ℓ)

theorem zero_apply (j : S1024x1024.Idx) : k0_pay1 (F := Ideal) j = 0 := by pointwise [k0_pay1]

/-- One grid point adds the product of its row blocks. -/
theorem step_apply (acc : Vec Ideal S1024x1024 .f32) (x0 : Vec Ideal S1088x1024 .bf16) (x1 : Vec Ideal S1088x1024 .bf16)
    (j : S1024x1024.Idx) :
    k0_pay2 (F := Ideal) acc x0 x1 j = acc j + ∑ k : Fin 1088, x0 (ix2 k (j 0)) * x1 (ix2 k (j 1)) := by
  pointwise [k0_pay2]

/-- The product over all rows. -/
def grad (x : FVec Ideal S4352x1024 .bf16) (dy : FVec Ideal S4352x3072 .bf16) : FVec Ideal S1024x3072 .f32 :=
  fun j => ∑ r : Fin 4352, x (ix2 r (j 0)) * dy (ix2 r (j 1))

/-- The reference's expression is that product. -/
theorem reference_eq (x : FVec Ideal S4352x1024 .bf16) (dy : FVec Ideal S4352x3072 .bf16) :
    transpose S1024x3072 [1, 0] (Host.dotGeneral (F := Ideal) (φ₁ := .f32) (φ₂ := .f32)
      Cert.Reference6Ideal.dot_S4352x3072_S4352x1024_S3072x1024_0_0_1_1_n_n none (extf .f32 dy Cert.Reference6Ideal.Gen.bitsLt_bf16_f32) (extf .f32 x Cert.Reference6Ideal.Gen.bitsLt_bf16_f32))
      Cert.Reference6Ideal.Gen.transposes_S3072x1024_S1024x3072_1_0 = grad x dy := by
  funext j
  idx_vars j
  pointwise [grad]
  exact Finset.sum_congr rfl fun _ _ => mul_comm _ _

/-- The result array holds the product over all rows. -/
theorem final_o (c : Dev nD) : (dats m 0 c).arrAt 2 cfg0.N
    = grad (m ((c : Thread nD τ).loc main_arg0)) (m ((c : Thread nD τ).loc main_arg1)) := by
  have idx0 : ∀ t : Fin cfg0.N, win0_0.index t = ![t.val % 4, 0] := (by decide +kernel : ∀ t : Fin grid0.N, _)
  have idx1 : ∀ t : Fin cfg0.N, win0_1.index t = ![t.val % 4, t.val / 4] := (by decide +kernel : ∀ t : Fin grid0.N, _)
  have idx2 : ∀ t : Fin cfg0.N, win0_2.index t = ![0, t.val / 4] := (by decide +kernel : ∀ t : Fin grid0.N, _)
  refine (dats m 0 c).arrAt_eq_of_covers 2 _ (by decide +kernel) fun t hf j => ?_
  have hm : t.val % 4 = 4 - 1 := (flush0_2 t).mp hf
  blk_simp
  rw [after0_2, Pipeline.eq_sum_fin_of_reset_step_apply_of_flush (fun n h => outsAt0 m c n h) 4 (fun _ => 0) _
    (fun t h j => by rw [outsAt0_A m c t h]; frame_out; rw [step_apply, zero_apply])
    (fun t h j => by rw [outsAt0_B m c t h]; frame_out; rw [step_apply])
    t hm _, zero_add, grad]
  refine Fin.sum_mul_add_congr fun s k hl => ?_
  have hs := s.isLt
  have hq : (4 * (t.val / 4) + s.val) % 4 = s.val := by omega
  have hd : (4 * (t.val / 4) + s.val) / 4 = t.val / 4 := by omega
  blk_point [iblk, V, idx0, idx1, idx2, hq, hd]

end Cert.Kernel6Ideal.Value
-- ==== Proof.TnOut7.lean ====
/- The weight gradient of the input product, `dw = xᵀ · dproj` with 2304 columns: each column block is accumulated over the
   row blocks, and the blocks fill the result array. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Kernel7Ideal.Value

open Cert.Kernel7Ideal Cert.Kernel7Ideal.Gen Idealize.ShloMosaic Idealize.ShloMosaic.TcCoe Idealize.SL.Sem

variable (m : (ℓ : Loc nD τ sig) → Buf (Elt Ideal) ℓ)

theorem zero_apply (j : S1024x768.Idx) : k0_pay1 (F := Ideal) j = 0 := by pointwise [k0_pay1]

/-- One grid point adds the product of its row blocks. -/
theorem step_apply (acc : Vec Ideal S1024x768 .f32) (x0 : Vec Ideal S1088x1024 .bf16) (x1 : Vec Ideal S1088x768 .bf16)
    (j : S1024x768.Idx) :
    k0_pay2 (F := Ideal) acc x0 x1 j = acc j + ∑ k : Fin 1088, x0 (ix2 k (j 0)) * x1 (ix2 k (j 1)) := by
  pointwise [k0_pay2]

/-- The product over all rows. -/
def grad (x : FVec Ideal S4352x1024 .bf16) (dy : FVec Ideal S4352x2304 .bf16) : FVec Ideal S1024x2304 .f32 :=
  fun j => ∑ r : Fin 4352, x (ix2 r (j 0)) * dy (ix2 r (j 1))

/-- The reference's expression is that product. -/
theorem reference_eq (x : FVec Ideal S4352x1024 .bf16) (dy : FVec Ideal S4352x2304 .bf16) :
    transpose S1024x2304 [1, 0] (Host.dotGeneral (F := Ideal) (φ₁ := .f32) (φ₂ := .f32)
      Cert.Reference7Ideal.dot_S4352x2304_S4352x1024_S2304x1024_0_0_1_1_n_n none (extf .f32 dy Cert.Reference7Ideal.Gen.bitsLt_bf16_f32) (extf .f32 x Cert.Reference7Ideal.Gen.bitsLt_bf16_f32))
      Cert.Reference7Ideal.Gen.transposes_S2304x1024_S1024x2304_1_0 = grad x dy := by
  funext j
  idx_vars j
  pointwise [grad]
  exact Finset.sum_congr rfl fun _ _ => mul_comm _ _

/-- The result array holds the product over all rows. -/
theorem final_o (c : Dev nD) : (dats m 0 c).arrAt 2 cfg0.N
    = grad (m ((c : Thread nD τ).loc main_arg0)) (m ((c : Thread nD τ).loc main_arg1)) := by
  have idx0 : ∀ t : Fin cfg0.N, win0_0.index t = ![t.val % 4, 0] := (by decide +kernel : ∀ t : Fin grid0.N, _)
  have idx1 : ∀ t : Fin cfg0.N, win0_1.index t = ![t.val % 4, t.val / 4] := (by decide +kernel : ∀ t : Fin grid0.N, _)
  have idx2 : ∀ t : Fin cfg0.N, win0_2.index t = ![0, t.val / 4] := (by decide +kernel : ∀ t : Fin grid0.N, _)
  refine (dats m 0 c).arrAt_eq_of_covers 2 _ (by decide +kernel) fun t hf j => ?_
  have hm : t.val % 4 = 4 - 1 := (flush0_2 t).mp hf
  blk_simp
  rw [after0_2, Pipeline.eq_sum_fin_of_reset_step_apply_of_flush (fun n h => outsAt0 m c n h) 4 (fun _ => 0) _
    (fun t h j => by rw [outsAt0_A m c t h]; frame_out; rw [step_apply, zero_apply])
    (fun t h j => by rw [outsAt0_B m c t h]; frame_out; rw [step_apply])
    t hm _, zero_add, grad]
  refine Fin.sum_mul_add_congr fun s k hl => ?_
  have hs := s.isLt
  have hq : (4 * (t.val / 4) + s.val) % 4 = s.val := by omega
  have hd : (4 * (t.val / 4) + s.val) / 4 = t.val / 4 := by omega
  blk_point [iblk, V, idx0, idx1, idx2, hq, hd]

end Cert.Kernel7Ideal.Value
-- ==== Proof.NtOut8.lean ====
/- The input gradient of the input product, `dx = dproj · wᵀ` with 3072 columns: what the kernel's blocks leave in the result
   array. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.Kernel8Ideal.Value

open Cert.Kernel8Ideal Cert.Kernel8Ideal.Gen Idealize.ShloMosaic Idealize.ShloMosaic.TcCoe Idealize.SL.Sem

variable (m : (ℓ : Loc nD τ sig) → Buf (Elt Ideal) ℓ)

theorem pay_apply (x0 : Vec Ideal S1088x3072 .bf16) (x1 : Vec Ideal S1024x3072 .f32) (j : S1088x1024.Idx) :
    k0_pay1 (F := Ideal) x0 x1 j = ∑ k : Fin 3072, x0 (ix2 (j 0) k) * x1 (ix2 (j 1) k) := by
  unfold k0_pay1
  idx_vars j
  pointwise

/-- The result array: row `i` of `dproj` against row `j` of the weight. -/
theorem final_o (c : Dev nD) : (dats m 0 c).arrAt 2 cfg0.N
    = Host.dotGeneral (F := Ideal) (φ₁ := .f32) (φ₂ := .f32) Cert.Reference8Ideal.dot_S4352x3072_S1024x3072_S4352x1024_1_1_0_0_n_n none
        (extf .f32 (show FVec Ideal S4352x3072 .bf16 from (m ((c : Thread nD τ).loc main_arg0))) bitsLt_bf16_f32) (m ((c : Thread nD τ).loc main_arg1)) := by
  refine (dats m 0 c).arrAt_eq_of_covers 2 _ (by decide +kernel) fun t hf y => ?_
  have e0 : ∀ t : Fin cfg0.N, win0_0.index t = ![win0_2.index t 0, 0] := (by decide +kernel : ∀ t : Fin grid0.N, _)
  have e1 : ∀ t : Fin cfg0.N, win0_1.index t = ![win0_2.index t 1, 0] := (by decide +kernel : ∀ t : Fin grid0.N, _)
  blk_simp
  rw [after0_2]; frame_out
  rw [pay_apply]
  pointwise
  blk_point [iblk, V, e0, e1]

end Cert.Kernel8Ideal.Value
-- ==== Proof.NtOut9.lean ====
/- The input gradient of the input product, `dx = dproj · wᵀ` with 2304 columns: what the kernel's blocks leave in the result
   array. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.Kernel9Ideal.Value

open Cert.Kernel9Ideal Cert.Kernel9Ideal.Gen Idealize.ShloMosaic Idealize.ShloMosaic.TcCoe Idealize.SL.Sem

variable (m : (ℓ : Loc nD τ sig) → Buf (Elt Ideal) ℓ)

theorem pay_apply (x0 : Vec Ideal S1088x2304 .bf16) (x1 : Vec Ideal S1024x2304 .f32) (j : S1088x1024.Idx) :
    k0_pay1 (F := Ideal) x0 x1 j = ∑ k : Fin 2304, x0 (ix2 (j 0) k) * x1 (ix2 (j 1) k) := by
  unfold k0_pay1
  idx_vars j
  pointwise

/-- The result array: row `i` of `dproj` against row `j` of the weight. -/
theorem final_o (c : Dev nD) : (dats m 0 c).arrAt 2 cfg0.N
    = Host.dotGeneral (F := Ideal) (φ₁ := .f32) (φ₂ := .f32) Cert.Reference9Ideal.dot_S4352x2304_S1024x2304_S4352x1024_1_1_0_0_n_n none
        (extf .f32 (show FVec Ideal S4352x2304 .bf16 from (m ((c : Thread nD τ).loc main_arg0))) bitsLt_bf16_f32) (m ((c : Thread nD τ).loc main_arg1)) := by
  refine (dats m 0 c).arrAt_eq_of_covers 2 _ (by decide +kernel) fun t hf y => ?_
  have e0 : ∀ t : Fin cfg0.N, win0_0.index t = ![win0_2.index t 0, 0] := (by decide +kernel : ∀ t : Fin grid0.N, _)
  have e1 : ∀ t : Fin cfg0.N, win0_1.index t = ![win0_2.index t 1, 0] := (by decide +kernel : ∀ t : Fin grid0.N, _)
  blk_simp
  rw [after0_2]; frame_out
  rw [pay_apply]
  pointwise
  blk_point [iblk, V, e0, e1]

end Cert.Kernel9Ideal.Value
-- ==== Proof.NnOut10.lean ====
/- The input product `x · w` with 3072 columns: what the kernel's blocks leave in the result array. -/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

namespace Cert.Kernel10Ideal.Value

open Cert.Kernel10Ideal Cert.Kernel10Ideal.Gen Idealize.ShloMosaic Idealize.ShloMosaic.TcCoe Idealize.SL.Sem

variable (m : (ℓ : Loc nD τ sig) → Buf (Elt Ideal) ℓ)

theorem pay_apply (x0 : Vec Ideal S1088x1024 .bf16) (x1 : Vec Ideal S1024x1024 .f32) (j : S1088x1024.Idx) :
    k0_pay1 (F := Ideal) x0 x1 j = ∑ k : Fin 1024, x0 (ix2 (j 0) k) * x1 (ix2 k (j 1)) := by
  unfold k0_pay1
  idx_vars j
  pointwise

/-- The result array: row `i` of `x` against column `j` of the weight. -/
theorem final_o (c : Dev nD) : (dats m 0 c).arrAt 2 cfg0.N
    = Host.dotGeneral (F := Ideal) (φ₁ := .f32) (φ₂ := .f32) Cert.Reference10Ideal.dot_S4352x1024_S1024x3072_S4352x3072_1_0_0_1_n_n none
        (extf .f32 (show FVec Ideal S4352x1024 .bf16 from (m ((c : Thread nD τ).loc main_arg0))) bitsLt_bf16_f32) (m ((c : Thread nD τ).loc main_arg1)) := by
  refine (dats m 0 c).arrAt_eq_of_covers 2 _ (by decide +kernel) fun t hf y => ?_
  have e0 : ∀ t : Fin cfg0.N, win0_0.index t = ![win0_2.index t 0, 0] := (by decide +kernel : ∀ t : Fin grid0.N, _)
  have e1 : ∀ t : Fin cfg0.N, win0_1.index t = ![0, win0_2.index t 1] := (by decide +kernel : ∀ t : Fin grid0.N, _)
  blk_simp
  rw [after0_2]; frame_out
  rw [pay_apply]
  pointwise
  blk_point [iblk, V, e0, e1]

end Cert.Kernel10Ideal.Value
-- ==== Proof.NnOut11.lean ====
/- The input product `x · w` with 2304 columns: what the kernel's blocks leave in the result array. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

namespace Cert.Kernel11Ideal.Value

open Cert.Kernel11Ideal Cert.Kernel11Ideal.Gen Idealize.ShloMosaic Idealize.ShloMosaic.TcCoe Idealize.SL.Sem

variable (m : (ℓ : Loc nD τ sig) → Buf (Elt Ideal) ℓ)

theorem pay_apply (x0 : Vec Ideal S1088x1024 .bf16) (x1 : Vec Ideal S1024x768 .f32) (j : S1088x768.Idx) :
    k0_pay1 (F := Ideal) x0 x1 j = ∑ k : Fin 1024, x0 (ix2 (j 0) k) * x1 (ix2 k (j 1)) := by
  unfold k0_pay1
  idx_vars j
  pointwise

/-- The result array: row `i` of `x` against column `j` of the weight. -/
theorem final_o (c : Dev nD) : (dats m 0 c).arrAt 2 cfg0.N
    = Host.dotGeneral (F := Ideal) (φ₁ := .f32) (φ₂ := .f32) Cert.Reference11Ideal.dot_S4352x1024_S1024x2304_S4352x2304_1_0_0_1_n_n none
        (extf .f32 (show FVec Ideal S4352x1024 .bf16 from (m ((c : Thread nD τ).loc main_arg0))) bitsLt_bf16_f32) (m ((c : Thread nD τ).loc main_arg1)) := by
  refine (dats m 0 c).arrAt_eq_of_covers 2 _ (by decide +kernel) fun t hf y => ?_
  have e0 : ∀ t : Fin cfg0.N, win0_0.index t = ![win0_2.index t 0, 0] := (by decide +kernel : ∀ t : Fin grid0.N, _)
  have e1 : ∀ t : Fin cfg0.N, win0_1.index t = ![0, win0_2.index t 1] := (by decide +kernel : ∀ t : Fin grid0.N, _)
  blk_simp
  rw [after0_2]; frame_out
  rw [pay_apply]
  pointwise
  blk_point [iblk, V, e0, e1]

end Cert.Kernel11Ideal.Value
-- ==== Proof.NnOut12.lean ====
/- The output product with the residual, `x · w + r`: what the kernel's blocks leave in the result array. -/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

set_option maxRecDepth 16384

noncomputable section

namespace Cert.Kernel12Ideal.Value

open Cert.Kernel12Ideal Cert.Kernel12Ideal.Gen Idealize.ShloMosaic Idealize.ShloMosaic.TcCoe Idealize.SL.Sem

variable (m : (ℓ : Loc nD τ sig) → Buf (Elt Ideal) ℓ)

theorem pay_apply (r : Vec Ideal S1088x1024 .f32) (x0 : Vec Ideal S1088x1024 .bf16) (x1 : Vec Ideal S1024x1024 .f32) (j : S1088x1024.Idx) :
    k0_pay1 (F := Ideal) r x0 x1 j = r j + ∑ k : Fin 1024, x0 (ix2 (j 0) k) * x1 (ix2 k (j 1)) := by
  unfold k0_pay1
  idx_vars j
  pointwise

/-- The result array: row `i` of `x` against column `j` of the weight, the residual's entry added. -/
theorem final_o (c : Dev nD) : (dats m 0 c).arrAt 3 cfg0.N
    = addf (F := Ideal) (Host.dotGeneral (F := Ideal) (φ₁ := .f32) (φ₂ := .f32) Cert.Reference12Ideal.dot_S4352x1024_S1024x1024_S4352x1024_1_0_0_1_n_n none
        (extf .f32 (show FVec Ideal S4352x1024 .bf16 from (m ((c : Thread nD τ).loc main_arg0))) bitsLt_bf16_f32) (m ((c : Thread nD τ).loc main_arg1))) (m ((c : Thread nD τ).loc main_arg2)) := by
  refine (dats m 0 c).arrAt_eq_of_covers 3 _ (by decide +kernel) fun t hf y => ?_
  have e0 : ∀ t : Fin cfg0.N, win0_0.index t = ![win0_3.index t 0, 0] := (by decide +kernel : ∀ t : Fin grid0.N, _)
  have e1 : ∀ t : Fin cfg0.N, win0_1.index t = ![0, win0_3.index t 1] := (by decide +kernel : ∀ t : Fin grid0.N, _)
  have e2 : ∀ t : Fin cfg0.N, win0_2.index t = ![win0_3.index t 0, win0_3.index t 1] := (by decide +kernel : ∀ t : Fin grid0.N, _)
  blk_simp
  rw [after0_3]; frame_out
  rw [pay_apply, add_comm]
  pointwise
  blk_point [iblk, V, e0, e1, e2]

end Cert.Kernel12Ideal.Value
-- ==== Proof.NormFwd.lean ====
/- The root-mean-square norm: what the kernel leaves in its result array is the reference's expression. -/
module

public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise

@[expose] public section

set_option maxRecDepth 16384

noncomputable section

namespace Cert.Kernel13Ideal.Value

open Cert.Kernel13Ideal Cert.Kernel13Ideal.Gen Idealize.ShloMosaic Idealize.ShloMosaic.TcCoe Idealize.SL.Sem

/-- One entry of the norm. -/
def normEntry (x : Fin 1024 → EReal) (g : EReal) (j : Fin 1024) : EReal :=
  x j * Ideal.rsqrt (Ideal.div (∑ k, x k * x k) (Ideal.ofBits .f32 0x44800000#32) + Ideal.ofBits .f32 0x358637BD#32) * g

theorem pay_apply (x : Vec Ideal S544x1024 .f32) (g : Vec Ideal S1x1024 .f32) (j : S544x1024.Idx) :
    k0_pay1 (F := Ideal) x g j = normEntry (fun k => x (ix2 (j 0) k)) (g (ix2 0 (j 1))) (j 1) := by
  idx_vars j
  pointwise [k0_pay1, normEntry]

open Cert.Reference13Ideal.Read in
theorem reference_apply (x : FVec Ideal S4352x1024 .f32) (g : FVec Ideal S1x1024 .f32) (j : S4352x1024.Idx) :
    val_main_v12 (F := Ideal) x g j = normEntry (fun k => x (ix2 (j 0) k)) (g (ix2 0 (j 1))) (j 1) := by
  idx_vars j
  pointwise [val_main_v0, val_main_cst, val_main_v1, val_main_v2, val_main_cst_0, val_main_v3, val_main_v4, val_main_cst_1, val_main_v5, val_main_v6, val_main_v7, val_main_v8, val_main_v9, val_main_v10, val_main_v11, val_main_v12, normEntry]

variable (m : (ℓ : Loc nD τ sig) → Buf (Elt Ideal) ℓ)

/-- The result array is the norm of the rows. -/
theorem final_o (c : Dev nD) : (dats m 0 c).arrAt 2 cfg0.N
    = Cert.Reference13Ideal.Read.val_main_v12 (F := Ideal) (m ((c : Thread nD τ).loc main_arg0)) (m ((c : Thread nD τ).loc main_arg1)) := by
  refine (dats m 0 c).arrAt_eq_of_covers 2 _ (by decide +kernel) fun t hf y => ?_
  have e0 : ∀ t : Fin cfg0.N, win0_0.index t = ![t.val, 0] := (by decide +kernel : ∀ t : Fin grid0.N, _)
  have e1 : ∀ t : Fin cfg0.N, win0_1.index t = ![0, 0] := (by decide +kernel : ∀ t : Fin grid0.N, _)
  have e2 : ∀ t : Fin cfg0.N, win0_2.index t = ![t.val, 0] := (by decide +kernel : ∀ t : Fin grid0.N, _)
  blk_simp
  rw [after0_2]; frame_out
  rw [pay_apply, reference_apply]
  blk_point [iblk, V, e0 t, e1 t, e2 t]

end Cert.Kernel13Ideal.Value
-- ==== Proof.GateFwd.lean ====
/- The even layer's gate: what the kernel leaves in its result array is the reference's expression. -/
module

public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pointwise

@[expose] public section

set_option maxRecDepth 16384

noncomputable section

namespace Cert.Kernel14Ideal.Value

open Cert.Kernel14Ideal Cert.Kernel14Ideal.Gen Idealize.ShloMosaic Idealize.ShloMosaic.TcCoe Idealize.SL.Sem

/-- The logistic function. -/
def logit (x : EReal) : EReal := Ideal.div 1 (1 + Ideal.exp (-x))

theorem pay1_apply (g o : Vec Ideal S544x512 .f32) (j : S544x512.Idx) :
    k0_pay1 (F := Ideal) g o j = o j * (g j * logit (g j)) := by
  idx_vars j
  pointwise [k0_pay1, logit]
  rw [zero_sub]

theorem pay2_apply (g o : Vec Ideal S544x512 .f32) (j : S544x512.Idx) :
    k0_pay2 (F := Ideal) g o j = o j * (g j * logit (g j)) := by
  idx_vars j
  pointwise [k0_pay2, logit]
  rw [zero_sub]

/-- Column `k` of the gate's logits as a column of the projection. -/
def wide (k : Fin 1024) : Fin 3072 := ⟨k.val, by have := k.isLt; omega⟩

open Cert.Reference14Ideal.Read in
theorem reference_lo (a b : FVec Ideal S4352x512 .f32) (p : FVec Ideal S4352x3072 .f32) (j : S4352x1024.Idx) (i : Fin 512)
    (h : (j 1).val = i.val) :
    val_main_v8 (F := Ideal) a b p j = a (ix2 (j 0) i) * (p (ix2 (j 0) (wide (j 1))) * logit (p (ix2 (j 0) (wide (j 1))))) := by
  idx_vars j
  have hi := i.isLt
  have h' : j1.val = i.val := h
  rw [show j1 = (⟨i.val, lt_trans hi (by decide)⟩ : Fin 1024) from Fin.ext h']
  pointwise [val_main_v0, val_main_v1, val_main_call0_v0, val_main_call0_v1, val_main_call0_cst, val_main_call0_v2, val_main_call0_v3, val_main_call0_cst_0, val_main_call0_v4, val_main_call0_v5, val_main_v2, val_main_v3, val_main_v4, val_main_call1_v0, val_main_call1_v1, val_main_call1_cst, val_main_call1_v2, val_main_call1_v3, val_main_call1_cst_0, val_main_call1_v4, val_main_call1_v5, val_main_v5, val_main_v6, val_main_v7, val_main_v8, logit, wide]

open Cert.Reference14Ideal.Read in
theorem reference_hi (a b : FVec Ideal S4352x512 .f32) (p : FVec Ideal S4352x3072 .f32) (j : S4352x1024.Idx) (i : Fin 512)
    (h : (j 1).val = 512 + i.val) :
    val_main_v8 (F := Ideal) a b p j = b (ix2 (j 0) i) * (p (ix2 (j 0) (wide (j 1))) * logit (p (ix2 (j 0) (wide (j 1))))) := by
  idx_vars j
  have hi := i.isLt
  have h' : j1.val = 512 + i.val := h
  rw [show j1 = (⟨512 + i.val, by omega⟩ : Fin 1024) from Fin.ext h']
  pointwise [val_main_v0, val_main_v1, val_main_call0_v0, val_main_call0_v1, val_main_call0_cst, val_main_call0_v2, val_main_call0_v3, val_main_call0_cst_0, val_main_call0_v4, val_main_call0_v5, val_main_v2, val_main_v3, val_main_v4, val_main_call1_v0, val_main_call1_v1, val_main_call1_cst, val_main_call1_v2, val_main_call1_v3, val_main_call1_cst_0, val_main_call1_v4, val_main_call1_v5, val_main_v5, val_main_v6, val_main_v7, val_main_v8, logit, wide]

variable (m : (ℓ : Loc nD τ sig) → Buf (Elt Ideal) ℓ)

/-- The result array is the gated outputs side by side. -/
theorem final_o (c : Dev nD) : (dats m 0 c).arrAt 3 cfg0.N
    = Cert.Reference14Ideal.Read.val_main_v8 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  have e0 : ∀ t : Fin cfg0.N, win0_0.index t = ![t.val, 0] := (by decide +kernel : ∀ t : Fin grid0.N, _)
  have e1 : ∀ t : Fin cfg0.N, win0_1.index t = ![t.val, 0] := (by decide +kernel : ∀ t : Fin grid0.N, _)
  have e2 : ∀ t : Fin cfg0.N, win0_2.index t = ![t.val, 0] := (by decide +kernel : ∀ t : Fin grid0.N, _)
  have e3 : ∀ t : Fin cfg0.N, win0_3.index t = ![t.val, 0] := (by decide +kernel : ∀ t : Fin grid0.N, _)
  blk_simp
  rw [after0_3]
  unfold out0_3
  canon_tiles x hx
  · refine (pay2_apply _ _ x).trans (Eq.trans ?_ (reference_hi _ _ _ _ (x 1) (by blk_simp [e3 t] <;> omega)).symm)
    pointwise [wide]
    blk_point [iblk, V, e1 t, e2 t, e3 t]
  · refine (pay1_apply _ _ x).trans (Eq.trans ?_ (reference_lo _ _ _ _ (x 1) (by blk_simp [e3 t] <;> omega)).symm)
    pointwise [wide]
    blk_point [iblk, V, e0 t, e2 t, e3 t]

end Cert.Kernel14Ideal.Value
-- ==== Proof.GateFwd15.lean ====
/- The second layer's gate: what the kernel leaves in its result array is the reference's expression. -/
module

public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pointwise

@[expose] public section

set_option maxRecDepth 16384

noncomputable section

namespace Cert.Kernel15Ideal.Value

open Cert.Kernel15Ideal Cert.Kernel15Ideal.Gen Idealize.ShloMosaic Idealize.ShloMosaic.TcCoe Idealize.SL.Sem

/-- The logistic function. -/
def logit (x : EReal) : EReal := Ideal.div 1 (1 + Ideal.exp (-x))

theorem pay1_apply (g o : Vec Ideal S544x1024 .f32) (j : S544x1024.Idx) :
    k0_pay1 (F := Ideal) g o j = o j * (g j * logit (g j)) := by
  idx_vars j
  pointwise [k0_pay1, logit]
  rw [zero_sub]

open Cert.Reference15Ideal.Read in
theorem reference_apply (o : FVec Ideal S4352x1024 .f32) (p : FVec Ideal S4352x2304 .f32) (j : S4352x1024.Idx) :
    val_main_v3 (F := Ideal) o p j = o j * (p (ix2 (j 0) ⟨(j 1).val, lt_trans (j 1).isLt (by decide)⟩)
      * logit (p (ix2 (j 0) ⟨(j 1).val, lt_trans (j 1).isLt (by decide)⟩))) := by
  idx_vars j
  pointwise [val_main_v0, val_main_call0_v0, val_main_call0_v1, val_main_call0_cst, val_main_call0_v2, val_main_call0_v3, val_main_call0_cst_0, val_main_call0_v4, val_main_call0_v5, val_main_v1, val_main_v2, val_main_v3, logit]

variable (m : (ℓ : Loc nD τ sig) → Buf (Elt Ideal) ℓ)

/-- The result array is the gated output. -/
theorem final_o (c : Dev nD) : (dats m 0 c).arrAt 2 cfg0.N
    = Cert.Reference15Ideal.Read.val_main_v3 (F := Ideal) (m ((c : Thread nD τ).loc main_arg0)) (m ((c : Thread nD τ).loc main_arg1)) := by
  refine (dats m 0 c).arrAt_eq_of_covers 2 _ (by decide +kernel) fun t hf y => ?_
  have e0 : ∀ t : Fin cfg0.N, win0_0.index t = ![t.val, 0] := (by decide +kernel : ∀ t : Fin grid0.N, _)
  have e1 : ∀ t : Fin cfg0.N, win0_1.index t = ![t.val, 0] := (by decide +kernel : ∀ t : Fin grid0.N, _)
  have e2 : ∀ t : Fin cfg0.N, win0_2.index t = ![t.val, 0] := (by decide +kernel : ∀ t : Fin grid0.N, _)
  blk_simp
  rw [after0_2]; unfold outsAt0; frame_out
  rw [pay1_apply, reference_apply]
  have key : X0_1 m c t y = m ((c : Thread nD τ).loc main_arg1) (ix2 (((cfg0.win 2).blk t).view.emb y 0)
      ⟨(((cfg0.win 2).blk t).view.emb y 1).val, lt_trans (((cfg0.win 2).blk t).view.emb y 1).isLt (by decide : 1024 < 2304)⟩) := by
    unfold X0_1 Pipeline.Window.fill
    rw [dif_pos (moved0_1 t y)]
    blk_point [iblk, V, e1 t, e2 t]
  have key0 : iblk m c 0 t y = m ((c : Thread nD τ).loc main_arg0) (((cfg0.win 2).blk t).view.emb y) := by
    blk_point [iblk, V, e0 t, e2 t]
  exact congrArg₂ (fun u z : EReal => u * (z * logit z)) key0 key

end Cert.Kernel15Ideal.Value
-- ==== Proof.PrepNorm.lean ====
/- One entry of a root-mean-square norm. -/
module

public import Idealize.ShloMosaic.Lib.Pointwise

@[expose] public section

noncomputable section

namespace Cert

open Idealize.ShloMosaic

/-- An entry of a row over the root of the mean of the row's squares, times the gain. -/
def nrm {n : ℕ} (w : BitVec 32) (x g : Fin n → EReal) (k : Fin n) : EReal :=
  x k * Ideal.rsqrt (Ideal.div (∑ k, x k * x k) (Ideal.ofBits .f32 w) + Ideal.ofBits .f32 0x358637BD#32) * g k

end Cert

end
-- ==== Proof.Prep.lean ====
/- The latent attention's inputs: the entries of the three result blocks, from the blocks the body reads. -/
module

public import proofs.«01_k».proof.Proof.Gen.Kernel16Ideal.Value
public import proofs.«01_k».proof.Proof.PrepNorm
public import Idealize.ShloMosaic.Lib.Pipeline.ValueKit
public import Idealize.ShloMosaic.Lib.Pointwise
public import Idealize.ShloMosaic.Lib.KernelVsHost

@[expose] public section

set_option maxRecDepth 16384

noncomputable section

namespace Cert.Kernel16Ideal.Value

open Cert.Kernel16Ideal Cert.Kernel16Ideal.Gen Idealize.ShloMosaic Idealize.ShloMosaic.TcCoe Idealize.SL.Sem

/-- One lane of the rotation by the three tables. -/
def ropeAt (f c s1 s2 : Fin 128 → EReal) (d : Fin 128) : EReal :=
  f d * c d + f ⟨(d.val + 128 - 112) % 128, Nat.mod_lt _ (by decide)⟩ * s1 d + f ⟨(d.val + 128 - 16) % 128, Nat.mod_lt _ (by decide)⟩ * s2 d

theorem qpay (o : ℕ) (ho : o + 128 ≤ 1024) (hs : S1088x1024.Slices ![0, o] S1088x128) (v1 v3 v5 : FVec Ideal S1088x128 .f32) (v25 : FVec Ideal S1088x1024 .f32)
    (z : Fin 1) (r : Fin 1088) (d : Fin 128) :
    shapeCast S1x1088x128 (truncf .bf16 (addf (addf (mulf (extractStridedSlice S1088x128 ![0, o] v25 hs) v1)
        (mulf (dynamicRotate 1 112#32 none (extractStridedSlice S1088x128 ![0, o] v25 hs) rotates_S1088x128_d1) v3))
        (mulf (dynamicRotate 1 16#32 none (extractStridedSlice S1088x128 ![0, o] v25 hs) rotates_S1088x128_d1) v5)) bitsLt_bf16_f32) shapeCasts_S1088x128_S1x1088x128 (ix3 z r d)
      = ropeAt (fun d => v25 (ix2 r ⟨o + d.val, by have := d.isLt; omega⟩)) (fun d => v1 (ix2 r d)) (fun d => v3 (ix2 r d)) (fun d => v5 (ix2 r d)) d := by
  pointwise
  rfl

theorem rope13 (v1 v3 v5 : FVec Ideal S1088x128 .f32) (x : FVec Ideal S1x1088x128 .f32) (r : Fin 1088) (d : Fin 128) :
    k0_pay13 (F := Ideal) v1 v3 v5 x (ix2 r d) = ropeAt (fun d => x (ix3 0 r d)) (fun d => v1 (ix2 r d)) (fun d => v3 (ix2 r d)) (fun d => v5 (ix2 r d)) d := by
  pointwise [k0_pay13]
  rfl

theorem q7 (x0 : FVec Ideal S1x1088x256 .f32) (x3 : FVec Ideal S1x256 .f32) (x5 : FVec Ideal S256x1024 .f32) (r : Fin 1088) (e : Fin 1024) :
    k0_pay7 (F := Ideal) x0 x3 x5 (ix2 r e) = ∑ k : Fin 256, nrm 0x43800000#32 (fun k => x0 (ix3 0 r k)) (fun k => x3 (ix2 0 k)) k * x5 (ix2 k e) := by
  pointwise [k0_pay7, nrm]

theorem n10 (x1 : FVec Ideal S1x1088x128 .f32) (x4 : FVec Ideal S1x128 .f32) (r : Fin 1088) (k : Fin 128) :
    k0_pay10 (F := Ideal) (k0_pay8 x1) (k0_pay9 x1) x4 (ix2 r k) = nrm 0x43000000#32 (fun k => x1 (ix3 0 r k)) (fun k => x4 (ix2 0 k)) k := by
  pointwise [k0_pay10, k0_pay9, k0_pay8, nrm]

theorem k11 (x1 : FVec Ideal S1x1088x128 .f32) (x4 : FVec Ideal S1x128 .f32) (x6 : FVec Ideal S128x1024 .f32) (r : Fin 1088) (e : Fin 1024) :
    k0_pay11 (F := Ideal) (k0_pay8 x1) (k0_pay9 x1) x4 x6 (ix2 r e) = ∑ k : Fin 128, nrm 0x43000000#32 (fun k => x1 (ix3 0 r k)) (fun k => x4 (ix2 0 k)) k * x6 (ix2 k e) := by
  simp only [← n10]
  pointwise [k0_pay11]

theorem v12 (x1 : FVec Ideal S1x1088x128 .f32) (x4 : FVec Ideal S1x128 .f32) (x7 : FVec Ideal S128x512 .f32) (z : Fin 1) (r : Fin 1088) (e : Fin 512) :
    k0_pay12 (F := Ideal) (k0_pay8 x1) (k0_pay9 x1) x4 x7 (ix3 z r e) = ∑ k : Fin 128, nrm 0x43000000#32 (fun k => x1 (ix3 0 r k)) (fun k => x4 (ix2 0 k)) k * x7 (ix2 k e) := by
  simp only [← n10]
  pointwise [k0_pay12]

/-- The queries' block, entry by entry. -/
def qOut (v1 v3 v5 : FVec Ideal S1088x128 .f32) (v25 : FVec Ideal S1088x1024 .f32) (y : S1x1088x1024.Idx) : EReal :=
  ropeAt (fun d => v25 (ix2 (y 1) ⟨(y 2).val / 128 * 128 + d.val, by have h := (y 2).isLt; have h : (y 2).val < 1024 := h; have := d.isLt; omega⟩))
    (fun d => v1 (ix2 (y 1) d)) (fun d => v3 (ix2 (y 1) d)) (fun d => v5 (ix2 (y 1) d)) ⟨(y 2).val % 128, Nat.mod_lt _ (by decide)⟩

theorem qpiece (o : ℕ) (ho : o + 128 ≤ 1024) (h128 : o % 128 = 0) (hs : S1088x1024.Slices ![0, o] S1088x128) (v1 v3 v5 : FVec Ideal S1088x128 .f32) (v25 : FVec Ideal S1088x1024 .f32)
    (x : S1x1088x128.Idx) (y : S1x1088x1024.Idx) (h1 : (y 1).val = (x 1).val) (h2 : (y 2).val = o + (x 2).val) :
    shapeCast S1x1088x128 (truncf .bf16 (addf (addf (mulf (extractStridedSlice S1088x128 ![0, o] v25 hs) v1)
        (mulf (dynamicRotate 1 112#32 none (extractStridedSlice S1088x128 ![0, o] v25 hs) rotates_S1088x128_d1) v3))
        (mulf (dynamicRotate 1 16#32 none (extractStridedSlice S1088x128 ![0, o] v25 hs) rotates_S1088x128_d1) v5)) bitsLt_bf16_f32) shapeCasts_S1088x128_S1x1088x128 x
      = qOut v1 v3 v5 v25 y := by
  have hx : (x 2).val < 128 := (x 2).isLt
  have ex : x = ix3 0 (x 1) (x 2) := by
    funext a; fin_cases a
    · exact Fin.ext (by show (x 0).val = 0; exact Nat.lt_one_iff.mp (x 0).isLt)
    · rfl
    · rfl
  have e1 : (y 1 : Fin 1088) = x 1 := Fin.ext h1
  have e2 : (⟨(y 2).val % 128, Nat.mod_lt _ (by decide)⟩ : Fin 128) = x 2 := Fin.ext (by show (y 2).val % 128 = (x 2).val; omega)
  rw [ex]
  refine (qpay o ho hs v1 v3 v5 v25 0 (x 1) (x 2)).trans ?_
  unfold qOut
  rw [e2]
  have e3 : ∀ d : Fin 128, (y 2).val / 128 * 128 + d.val = o + d.val := fun d => by omega
  simp only [e3]
  rw [show (y 1) = x 1 from e1]

theorem q_block (x0 : Vec Ideal S1x1088x256 .f32) (x1 : Vec Ideal S1x1088x128 .f32) (x2 : Vec Ideal S1x1088x128 .f32) (x3 : Vec Ideal S1x256 .f32) (x4 : Vec Ideal S1x128 .f32) (x5 : Vec Ideal S256x1024 .f32) (x6 : Vec Ideal S128x1024 .f32) (x7 : Vec Ideal S128x512 .f32) (x8 x9 x10 : Vec Ideal S1088x128 .f32) (y : S1x1088x1024.Idx) :
    out0_11 (F := Ideal) x0 x1 x2 x3 x4 x5 x6 x7 x8 x9 x10 y = qOut (k0_pay4 (View.ld x8 r0_0)) (k0_pay5 (View.ld x9 r0_0)) (k0_pay6 (View.ld x10 r0_0)) (k0_pay7 (View.ld x0 r0_1) (View.ld x3 r0_2) (View.ld x5 r0_3)) y := by
  unfold_out out0_11
  refine View.canon_apply_of_pieces (Val := Elt Ideal) (e := .bf16) (qOut _ _ _ _) _ ?_ y (cover0_11 _ _ _ _ _ _ _ _ y)
  intro pc hpc
  rcases List.mem_cons.mp hpc with rfl | hpc
  · exact fun x => qpiece 896 (by decide) (by decide) _ _ _ _ _ x (r0_16.emb x) (by show 0 + 1 * (x 1).val = (x 1).val; omega) (by show 896 + 1 * (x 2).val = 896 + (x 2).val; omega)
  rcases List.mem_cons.mp hpc with rfl | hpc
  · exact fun x => qpiece 768 (by decide) (by decide) _ _ _ _ _ x (r0_15.emb x) (by show 0 + 1 * (x 1).val = (x 1).val; omega) (by show 768 + 1 * (x 2).val = 768 + (x 2).val; omega)
  rcases List.mem_cons.mp hpc with rfl | hpc
  · exact fun x => qpiece 640 (by decide) (by decide) _ _ _ _ _ x (r0_14.emb x) (by show 0 + 1 * (x 1).val = (x 1).val; omega) (by show 640 + 1 * (x 2).val = 640 + (x 2).val; omega)
  rcases List.mem_cons.mp hpc with rfl | hpc
  · exact fun x => qpiece 512 (by decide) (by decide) _ _ _ _ _ x (r0_13.emb x) (by show 0 + 1 * (x 1).val = (x 1).val; omega) (by show 512 + 1 * (x 2).val = 512 + (x 2).val; omega)
  rcases List.mem_cons.mp hpc with rfl | hpc
  · exact fun x => qpiece 384 (by decide) (by decide) _ _ _ _ _ x (r0_12.emb x) (by show 0 + 1 * (x 1).val = (x 1).val; omega) (by show 384 + 1 * (x 2).val = 384 + (x 2).val; omega)
  rcases List.mem_cons.mp hpc with rfl | hpc
  · exact fun x => qpiece 256 (by decide) (by decide) _ _ _ _ _ x (r0_11.emb x) (by show 0 + 1 * (x 1).val = (x 1).val; omega) (by show 256 + 1 * (x 2).val = 256 + (x 2).val; omega)
  rcases List.mem_cons.mp hpc with rfl | hpc
  · exact fun x => qpiece 128 (by decide) (by decide) _ _ _ _ _ x (r0_10.emb x) (by show 0 + 1 * (x 1).val = (x 1).val; omega) (by show 128 + 1 * (x 2).val = 128 + (x 2).val; omega)
  rcases List.mem_cons.mp hpc with rfl | hpc
  · exact fun x => qpiece 0 (by decide) (by decide) _ _ _ _ _ x (r0_9.emb x) (by show 0 + 1 * (x 1).val = (x 1).val; omega) (by show 0 + 1 * (x 2).val = 0 + (x 2).val; omega)
  nomatch hpc

end Cert.Kernel16Ideal.Value
-- ==== Proof.PrepOut.lean ====
/- The latent attention's preparation: the three result blocks from the blocks the body reads. -/
module

public import proofs.«01_k».proof.Proof.Prep

@[expose] public section

set_option maxRecDepth 16384

noncomputable section

namespace Cert.Kernel16Ideal.Value

open Cert.Kernel16Ideal Cert.Kernel16Ideal.Gen Idealize.ShloMosaic Idealize.ShloMosaic.TcCoe Idealize.SL.Sem

variable (x0 : Vec Ideal S1x1088x256 .f32) (x1 : Vec Ideal S1x1088x128 .f32) (x2 : Vec Ideal S1x1088x128 .f32) (x3 : Vec Ideal S1x256 .f32) (x4 : Vec Ideal S1x128 .f32) (x5 : Vec Ideal S256x1024 .f32) (x6 : Vec Ideal S128x1024 .f32) (x7 : Vec Ideal S128x512 .f32) (x8 x9 x10 : Vec Ideal S1088x128 .f32)

theorem ld0 : View.ld x8 r0_0 = x8 := by frame_out
theorem ld1 : View.ld x0 r0_1 = x0 := by frame_out
theorem ld2 : View.ld x3 r0_2 = x3 := by frame_out
theorem ld3 : View.ld x5 r0_3 = x5 := by frame_out
theorem ld4 : View.ld x1 r0_4 = x1 := by frame_out
theorem ld5 : View.ld x4 r0_5 = x4 := by frame_out
theorem ld6 : View.ld x6 r0_6 = x6 := by frame_out
theorem ld7 : View.ld x7 r0_7 = x7 := by frame_out

theorem pay4 (i : S1088x128.Idx) : k0_pay4 (F := Ideal) x8 i = x8 i := by
  idx_vars i
  pointwise [k0_pay4]
theorem pay5 (i : S1088x128.Idx) : k0_pay5 (F := Ideal) x8 i = x8 i := by
  idx_vars i
  pointwise [k0_pay5]
theorem pay6 (i : S1088x128.Idx) : k0_pay6 (F := Ideal) x8 i = x8 i := by
  idx_vars i
  pointwise [k0_pay6]

theorem q_entry (y : S1x1088x1024.Idx) : out0_11 (F := Ideal) x0 x1 x2 x3 x4 x5 x6 x7 x8 x9 x10 y
    = ropeAt (fun d => ∑ k : Fin 256, nrm 0x43800000#32 (fun k => x0 (ix3 0 (y 1 : Fin 1088) k)) (fun k => x3 (ix2 0 k)) k
          * x5 (ix2 k ⟨(y 2).val / 128 * 128 + d.val, by have h := (y 2).isLt; have h : (y 2).val < 1024 := h; have := d.isLt; omega⟩))
        (fun d => x8 (ix2 (y 1 : Fin 1088) d)) (fun d => x9 (ix2 (y 1 : Fin 1088) d)) (fun d => x10 (ix2 (y 1 : Fin 1088) d)) ⟨(y 2).val % 128, Nat.mod_lt _ (by decide)⟩ := by
  rw [q_block, ld0, ld0, ld0, ld1, ld2, ld3]
  unfold qOut
  simp only [pay4, pay5, pay6]
  congr 1
  funext d
  exact q7 x0 x3 x5 (y 1 : Fin 1088) _

theorem k_entry (y : S1x1088x1024.Idx) : out0_12 (F := Ideal) x0 x1 x2 x3 x4 x5 x6 x7 x8 x9 x10 y
    = (∑ k : Fin 128, nrm 0x43000000#32 (fun k => x1 (ix3 0 (y 1 : Fin 1088) k)) (fun k => x4 (ix2 0 k)) k * x6 (ix2 k (y 2 : Fin 1024)))
        + ropeAt (fun d => x2 (ix3 0 (y 1 : Fin 1088) d))
            (fun d => x8 (ix2 (y 1 : Fin 1088) d)) (fun d => x9 (ix2 (y 1 : Fin 1088) d)) (fun d => x10 (ix2 (y 1 : Fin 1088) d)) ⟨(y 2).val % 128, Nat.mod_lt _ (by decide)⟩ := by
  unfold_out out0_12
  rw [ld0, ld0, ld0, ld4, ld4, ld5, ld6]
  refine (canon12_eq x1 x4 x6 x8 x9 x10 x2 y).trans ?_
  have e0 : ix12_0 y = ix2 (y 1 : Fin 1088) (y 2 : Fin 1024) := by funext a; fin_cases a <;> rfl
  have e1 : ix12_1 y = ix2 (y 1 : Fin 1088) (⟨(y 2).val % 128, Nat.mod_lt _ (by decide)⟩ : Fin 128) := by funext a; fin_cases a <;> rfl
  have h0 := k11 x1 x4 x6 (y 1 : Fin 1088) (y 2 : Fin 1024)
  have h1 := rope13 (k0_pay4 x8) (k0_pay5 x9) (k0_pay6 x10) x2 (y 1 : Fin 1088) (⟨(y 2).val % 128, Nat.mod_lt _ (by decide)⟩ : Fin 128)
  simp only [pay4, pay5, pay6] at h1
  have h0' := (congrArg (k0_pay11 (F := Ideal) (k0_pay8 x1) (k0_pay9 x1) x4 x6) e0).trans h0
  have h1' := (congrArg (k0_pay13 (F := Ideal) (k0_pay4 x8) (k0_pay5 x9) (k0_pay6 x10) x2) e1).trans h1
  refine Eq.trans ?_ (congrArg₂ (fun a b : EReal => a + b) h0' h1')
  rfl

theorem v_entry (y : S1x1088x512.Idx) : out0_13 (F := Ideal) x0 x1 x2 x3 x4 x5 x6 x7 x8 x9 x10 y
    = (∑ k : Fin 128, nrm 0x43000000#32 (fun k => x1 (ix3 0 (y 1 : Fin 1088) k)) (fun k => x4 (ix2 0 k)) k * x7 (ix2 k (y 2 : Fin 512))) := by
  unfold_out out0_13
  frame_out
  rw [← v12 x1 x4 x7 (y 0 : Fin 1) (y 1 : Fin 1088) (y 2 : Fin 512)]
  congr 1
  funext a; fin_cases a <;> rfl

end Cert.Kernel16Ideal.Value

end
-- ==== Proof.PrepHost.lean ====
/- The arrays that the latent attention's preparation is given, as the lines before it compute them. -/
module

public import proofs.«01_k».proof.Proof.Gen.Kernel16Ideal
public import proofs.«01_k».proof.Proof.Gen.Kernel16Ideal.Frame
public import proofs.«01_k».proof.Proof.Gen.Reference16Ideal.Read
public import Idealize.ShloMosaic.Lib.Pointwise
public import Idealize.ShloMosaic.Lib.KernelVsHost

@[expose] public section

set_option maxRecDepth 16384
set_option maxHeartbeats 8000000

noncomputable section

namespace Cert.Kernel16Ideal

open Idealize.ShloMosaic Idealize.ShloMosaic.TcCoe Idealize.ShloMosaic.StableHlo Gen

variable (m : (ℓ : Loc nD τ sig) → Buf (Elt Ideal) ℓ)

theorem join4 {a b0 b1 b2 b3 : Shape} {d : Fin a.rank} {x0 y0 : FVec Ideal b0 .f32} {x1 y1 : FVec Ideal b1 .f32} {x2 y2 : FVec Ideal b2 .f32} {x3 y3 : FVec Ideal b3 .f32}
    {h : Shape.Concatenates [b0, b1, b2, b3] a d} (h0 : x0 = y0) (h1 : x1 = y1) (h2 : x2 = y2) (h3 : x3 = y3) :
    (concatenate a d [⟨b0, x0⟩, ⟨b1, x1⟩, ⟨b2, x2⟩, ⟨b3, x3⟩] h : FVec Ideal a .f32) = concatenate a d [⟨b0, y0⟩, ⟨b1, y1⟩, ⟨b2, y2⟩, ⟨b3, y3⟩] h := by
  subst h0 h1 h2 h3; rfl

theorem join6 {a b0 b1 b2 b3 b4 b5 : Shape} {d : Fin a.rank} {x0 y0 : FVec Ideal b0 .f32} {x1 y1 : FVec Ideal b1 .f32} {x2 y2 : FVec Ideal b2 .f32} {x3 y3 : FVec Ideal b3 .f32}
    {x4 y4 : FVec Ideal b4 .f32} {x5 y5 : FVec Ideal b5 .f32}
    {h : Shape.Concatenates [b0, b1, b2, b3, b4, b5] a d} (h0 : x0 = y0) (h1 : x1 = y1) (h2 : x2 = y2) (h3 : x3 = y3) (h4 : x4 = y4) (h5 : x5 = y5) :
    (concatenate a d [⟨b0, x0⟩, ⟨b1, x1⟩, ⟨b2, x2⟩, ⟨b3, x3⟩, ⟨b4, x4⟩, ⟨b5, x5⟩] h : FVec Ideal a .f32)
      = concatenate a d [⟨b0, y0⟩, ⟨b1, y1⟩, ⟨b2, y2⟩, ⟨b3, y3⟩, ⟨b4, y4⟩, ⟨b5, y5⟩] h := by
  subst h0 h1 h2 h3 h4 h5; rfl

/-- The cosines and sines of the angles. -/
def cosT : FVec Ideal S2176x16 .f32 := Reference16Ideal.Read.val_main_v46 (F := Ideal)
def sinT : FVec Ideal S2176x16 .f32 := Reference16Ideal.Read.val_main_v48 (F := Ideal)

theorem V_cos (c : Dev nD) : V m c main_v28 = cosT := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

theorem V_sin (c : Dev nD) : V m c main_v29 = sinT := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

theorem V_c0 (c : Dev nD) : V m c main_v32 = (concatenate S2176x128 1 [⟨S2176x64, broadcastInDim S2176x64 ![] bcast_S_S2176x64 (constant (F := Ideal) S_ .f32 0x3F800000#32)⟩, ⟨S2176x16, (V m c main_v28)⟩, ⟨S2176x16, (V m c main_v28)⟩, ⟨S2176x32, broadcastInDim S2176x32 ![] bcast_S_S2176x32 (constant (F := Ideal) S_ .f32 0x00000000#32)⟩] concatenates_S2176x64_S2176x16_S2176x16_S2176x32_S2176x128_d1 : FVec Ideal S2176x128 .f32) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  refine join4 ?_ ?_ ?_ ?_
  all_goals dsimp only [Matrix.cons_val]
  all_goals after_results_simp

theorem V_s10 (c : Dev nD) : V m c main_v37 = (concatenate S2176x128 1 [⟨S2176x64, broadcastInDim S2176x64 ![] bcast_S_S2176x64 (constant (F := Ideal) S_ .f32 0x00000000#32)⟩, ⟨S2176x16, Host.negf (V m c main_v29)⟩, ⟨S2176x16, broadcastInDim S2176x16 ![] bcast_S_S2176x16 (constant (F := Ideal) S_ .f32 0x00000000#32)⟩, ⟨S2176x32, broadcastInDim S2176x32 ![] bcast_S_S2176x32 (constant (F := Ideal) S_ .f32 0x00000000#32)⟩] concatenates_S2176x64_S2176x16_S2176x16_S2176x32_S2176x128_d1 : FVec Ideal S2176x128 .f32) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  refine join4 ?_ ?_ ?_ ?_
  all_goals dsimp only [Matrix.cons_val]
  all_goals after_results_simp

theorem V_s20 (c : Dev nD) : V m c main_v41 = (concatenate S2176x128 1 [⟨S2176x64, broadcastInDim S2176x64 ![] bcast_S_S2176x64 (constant (F := Ideal) S_ .f32 0x00000000#32)⟩, ⟨S2176x16, broadcastInDim S2176x16 ![] bcast_S_S2176x16 (constant (F := Ideal) S_ .f32 0x00000000#32)⟩, ⟨S2176x16, (V m c main_v29)⟩, ⟨S2176x32, broadcastInDim S2176x32 ![] bcast_S_S2176x32 (constant (F := Ideal) S_ .f32 0x00000000#32)⟩] concatenates_S2176x64_S2176x16_S2176x16_S2176x32_S2176x128_d1 : FVec Ideal S2176x128 .f32) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  refine join4 ?_ ?_ ?_ ?_
  all_goals dsimp only [Matrix.cons_val]
  all_goals after_results_simp

theorem V_proj (c : Dev nD) : V m c main_v3 = (concatenate S2x2176x3072 2 [⟨S2x2176x2560, broadcastInDim S2x2176x2560 ![] bcast_S_S2x2176x2560 (constant (F := Ideal) S_ .f32 0x00000000#32)⟩, ⟨S2x2176x256, m ((c : Thread nD τ).loc main_arg0)⟩,
    ⟨S2x2176x128, m ((c : Thread nD τ).loc main_arg1)⟩, ⟨S2x2176x64, broadcastInDim S2x2176x64 ![] bcast_S_S2x2176x64 (constant (F := Ideal) S_ .f32 0x00000000#32)⟩, ⟨S2x2176x32, m ((c : Thread nD τ).loc main_arg2)⟩, ⟨S2x2176x32, broadcastInDim S2x2176x32 ![] bcast_S_S2x2176x32 (constant (F := Ideal) S_ .f32 0x00000000#32)⟩] concatenates_S2x2176x2560_S2x2176x256_S2x2176x128_S2x2176x64_S2x2176x32_S2x2176x32_S2x2176x3072_d2 : FVec Ideal S2x2176x3072 .f32) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  refine join6 ?_ ?_ ?_ ?_ ?_ ?_
  all_goals dsimp only [Matrix.cons_val]
  all_goals after_results_simp
  all_goals rfl

theorem V_wq (c : Dev nD) : V m c main_v6 = shapeCast _ (pad S256x8x128 ![0, 0, 0] ![0, 0, 32] ![0, 0, 0] (shapeCast _ (m ((c : Thread nD τ).loc main_arg5)) shapeCasts_S256x768_S256x8x96)
    (sitofp (F := Ideal) .f32 (constantI S_ 32 0#32)) pads_S256x8x96_S256x8x128_000_000_0320 h_S_) shapeCasts_S256x8x128_S256x1024 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

theorem V_wk (c : Dev nD) : V m c main_v10 = shapeCast _ (pad S128x8x128 ![0, 0, 0] ![0, 0, 64] ![0, 0, 0]
    (extractStridedSlice S128x8x64 ![0, 0, 0] (shapeCast S128x8x128 (m ((c : Thread nD τ).loc main_arg6)) shapeCasts_S128x1024_S128x8x128) slices_S128x8x128_S128x8x64_0_0_0)
    (sitofp (F := Ideal) .f32 (constantI S_ 32 0#32)) pads_S128x8x64_S128x8x128_000_000_0640 h_S_) shapeCasts_S128x8x128_S128x1024 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

theorem V_wv (c : Dev nD) : V m c main_v12 = shapeCast _
    (extractStridedSlice S128x8x64 ![0, 0, 64] (shapeCast S128x8x128 (m ((c : Thread nD τ).loc main_arg6)) shapeCasts_S128x1024_S128x8x128) slices_S128x8x128_S128x8x64_0_0_64) shapeCasts_S128x8x64_S128x512 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

end Cert.Kernel16Ideal

end
-- ==== Proof.PrepTab.lean ====
/- The latent attention's preparation: the entries of the arrays that its call is given. -/
module

public import proofs.«01_k».proof.Proof.PrepHost

@[expose] public section

set_option maxRecDepth 16384

noncomputable section

namespace Cert.Kernel16Ideal

open Idealize.ShloMosaic Idealize.ShloMosaic.TcCoe Idealize.ShloMosaic.StableHlo Gen

variable (m : (ℓ : Loc nD τ sig) → Buf (Elt Ideal) ℓ)

/-- The three tables' lanes. -/
def cAt (r : Fin 2176) (d : Fin 128) : EReal :=
  if h : d.val < 64 then 1 else if h : d.val - 64 < 16 then cosT (ix2 r ⟨d.val - 64, h⟩) else if h : d.val - 64 - 16 < 16 then cosT (ix2 r ⟨d.val - 64 - 16, h⟩) else 0
def s1At (r : Fin 2176) (d : Fin 128) : EReal :=
  if h : d.val < 64 then 0 else if h : d.val - 64 < 16 then -sinT (ix2 r ⟨d.val - 64, h⟩) else 0
def s2At (r : Fin 2176) (d : Fin 128) : EReal :=
  if h : d.val < 64 then 0 else if h : d.val - 64 < 16 then 0 else if h : d.val - 64 - 16 < 16 then sinT (ix2 r ⟨d.val - 64 - 16, h⟩) else 0

theorem c_at (c : Dev nD) (r : Fin 2176) (d : Fin 128) : (V m c main_v32 : FVec Ideal S2176x128 .f32) (ix2 r d) = cAt r d := by
  rw [V_c0, V_cos]
  pointwise [cAt]

theorem s1_at (c : Dev nD) (r : Fin 2176) (d : Fin 128) : (V m c main_v37 : FVec Ideal S2176x128 .f32) (ix2 r d) = s1At r d := by
  rw [V_s10, V_sin]
  pointwise [s1At]
  all_goals simp only [dite_eq_ite, ite_self]

theorem s2_at (c : Dev nD) (r : Fin 2176) (d : Fin 128) : (V m c main_v41 : FVec Ideal S2176x128 .f32) (ix2 r d) = s2At r d := by
  rw [V_s20, V_sin]
  pointwise [s2At]

/-- The rotated keys' lanes before the rotation. -/
def krAt (x : FVec Ideal S2x2176x32 .f32) (b : Fin 2) (r : Fin 2176) (d : Fin 128) : EReal :=
  if h : d.val < 64 then 0 else if h : d.val - 64 < 32 then x (ix3 b r ⟨d.val - 64, h⟩) else 0

theorem zero_word : FloatOps.sitofp (F := Ideal) FTy.f32 (0#32) = (0 : EReal) := by
  show (((0#32 : BitVec 32).toInt : ℝ) : EReal) = 0
  simp

/-- The projection's array from the three given parts. -/
def joined (x0 : FVec Ideal S2x2176x256 .f32) (x1 : FVec Ideal S2x2176x128 .f32) (x2 : FVec Ideal S2x2176x32 .f32) : FVec Ideal S2x2176x3072 .f32 :=
  concatenate S2x2176x3072 2 [⟨S2x2176x2560, broadcastInDim S2x2176x2560 ![] bcast_S_S2x2176x2560 (constant (F := Ideal) S_ .f32 0x00000000#32)⟩, ⟨S2x2176x256, x0⟩,
    ⟨S2x2176x128, x1⟩, ⟨S2x2176x64, broadcastInDim S2x2176x64 ![] bcast_S_S2x2176x64 (constant (F := Ideal) S_ .f32 0x00000000#32)⟩, ⟨S2x2176x32, x2⟩, ⟨S2x2176x32, broadcastInDim S2x2176x32 ![] bcast_S_S2x2176x32 (constant (F := Ideal) S_ .f32 0x00000000#32)⟩] concatenates_S2x2176x2560_S2x2176x256_S2x2176x128_S2x2176x64_S2x2176x32_S2x2176x32_S2x2176x3072_d2

theorem j_cq (x0 : FVec Ideal S2x2176x256 .f32) (x1 : FVec Ideal S2x2176x128 .f32) (x2 : FVec Ideal S2x2176x32 .f32) (b : Fin 2) (r : Fin 2176) (d : Fin 256) : joined x0 x1 x2 (ix3 b r ⟨2560 + d.val, by have := d.isLt; omega⟩) = x0 (ix3 b r d) := by
  have hd := d.isLt
  pointwise [joined]

theorem cq_at (c : Dev nD) (b : Fin 2) (r : Fin 2176) (d : Fin 256) : (V m c main_v3 : FVec Ideal S2x2176x3072 .f32) (ix3 b r ⟨2560 + d.val, by have := d.isLt; omega⟩)
    = (m ((c : Thread nD τ).loc main_arg0) : FVec Ideal S2x2176x256 .f32) (ix3 b r d) := by
  rw [V_proj]
  exact j_cq _ _ _ b r d

theorem j_ckv (x0 : FVec Ideal S2x2176x256 .f32) (x1 : FVec Ideal S2x2176x128 .f32) (x2 : FVec Ideal S2x2176x32 .f32) (b : Fin 2) (r : Fin 2176) (d : Fin 128) : joined x0 x1 x2 (ix3 b r ⟨2816 + d.val, by have := d.isLt; omega⟩) = x1 (ix3 b r d) := by
  have hd := d.isLt
  pointwise [joined]
  simp (disch := omega) only [dif_pos, dif_neg]
  exact congrArg (fun e => x1 (ix3 b r e)) (Fin.ext (by show 2816 + d.val - 2560 - 256 = d.val; omega))

theorem ckv_at (c : Dev nD) (b : Fin 2) (r : Fin 2176) (d : Fin 128) : (V m c main_v3 : FVec Ideal S2x2176x3072 .f32) (ix3 b r ⟨2816 + d.val, by have := d.isLt; omega⟩)
    = (m ((c : Thread nD τ).loc main_arg1) : FVec Ideal S2x2176x128 .f32) (ix3 b r d) := by
  rw [V_proj]
  exact j_ckv _ _ _ b r d

theorem j_kr (x0 : FVec Ideal S2x2176x256 .f32) (x1 : FVec Ideal S2x2176x128 .f32) (x2 : FVec Ideal S2x2176x32 .f32) (b : Fin 2) (r : Fin 2176) (d : Fin 128) : joined x0 x1 x2 (ix3 b r ⟨2944 + d.val, by have := d.isLt; omega⟩) = krAt x2 b r d := by
  have hd := d.isLt
  pointwise [joined, krAt]
  by_cases h1 : d.val < 64
  · simp (disch := omega) only [dif_pos, dif_neg]
  · by_cases h2 : d.val < 96
    · simp (disch := omega) only [dif_pos, dif_neg]
      exact congrArg (fun e => x2 (ix3 b r e)) (Fin.ext (by show 2944 + d.val - 2560 - 256 - 128 - 64 = d.val - 64; omega))
    · simp (disch := omega) only [dif_pos, dif_neg]

theorem kr_at (c : Dev nD) (b : Fin 2) (r : Fin 2176) (d : Fin 128) : (V m c main_v3 : FVec Ideal S2x2176x3072 .f32) (ix3 b r ⟨2944 + d.val, by have := d.isLt; omega⟩)
    = krAt (m ((c : Thread nD τ).loc main_arg2) : FVec Ideal S2x2176x32 .f32) b r d := by
  rw [V_proj]
  exact j_kr _ _ _ b r d

theorem p_wq (x : FVec Ideal S256x768 .f32) (k : Fin 256) (h : Fin 8) (d : Fin 128) :
    (shapeCast S256x1024 (pad S256x8x128 ![0, 0, 0] ![0, 0, 32] ![0, 0, 0] (shapeCast S256x8x96 x shapeCasts_S256x768_S256x8x96) (sitofp (F := Ideal) .f32 (constantI S_ 32 0#32)) pads_S256x8x96_S256x8x128_000_000_0320 h_S_) shapeCasts_S256x8x128_S256x1024 : FVec Ideal S256x1024 .f32) (ix2 k ⟨h.val * 128 + d.val, by have := d.isLt; have := h.isLt; omega⟩) = if hd : d.val < 96 then x (ix2 k ⟨h.val * 96 + d.val, by have := h.isLt; omega⟩) else 0 := by
  have hd := d.isLt
  have hh := h.isLt
  pointwise
  all_goals (split_ifs <;> first | omega | exact zero_word | rfl)

theorem wq_at (c : Dev nD) (k : Fin 256) (h : Fin 8) (d : Fin 128) : (V m c main_v6 : FVec Ideal S256x1024 .f32) (ix2 k ⟨h.val * 128 + d.val, by have := d.isLt; have := h.isLt; omega⟩) = (if hd : d.val < 96 then (m ((c : Thread nD τ).loc main_arg5) : FVec Ideal S256x768 .f32) (ix2 k ⟨h.val * 96 + d.val, by have := h.isLt; omega⟩) else 0 : EReal) := by
  rw [V_wq]
  exact p_wq _ k h d

theorem p_wk (x : FVec Ideal S128x1024 .f32) (k : Fin 128) (h : Fin 8) (d : Fin 128) :
    (shapeCast S128x1024 (pad S128x8x128 ![0, 0, 0] ![0, 0, 64] ![0, 0, 0] (extractStridedSlice S128x8x64 ![0, 0, 0] (shapeCast S128x8x128 x shapeCasts_S128x1024_S128x8x128) slices_S128x8x128_S128x8x64_0_0_0) (sitofp (F := Ideal) .f32 (constantI S_ 32 0#32)) pads_S128x8x64_S128x8x128_000_000_0640 h_S_) shapeCasts_S128x8x128_S128x1024 : FVec Ideal S128x1024 .f32) (ix2 k ⟨h.val * 128 + d.val, by have := d.isLt; have := h.isLt; omega⟩) = if d.val < 64 then x (ix2 k ⟨h.val * 128 + d.val, by have := h.isLt; have := d.isLt; omega⟩) else 0 := by
  have hd := d.isLt
  have hh := h.isLt
  pointwise
  all_goals (split_ifs <;> first | omega | exact zero_word | rfl)

theorem wk_at (c : Dev nD) (k : Fin 128) (h : Fin 8) (d : Fin 128) : (V m c main_v10 : FVec Ideal S128x1024 .f32) (ix2 k ⟨h.val * 128 + d.val, by have := d.isLt; have := h.isLt; omega⟩) = (if d.val < 64 then (m ((c : Thread nD τ).loc main_arg6) : FVec Ideal S128x1024 .f32) (ix2 k ⟨h.val * 128 + d.val, by have := h.isLt; have := d.isLt; omega⟩) else 0 : EReal) := by
  rw [V_wk]
  exact p_wk _ k h d

theorem p_wv (x : FVec Ideal S128x1024 .f32) (k : Fin 128) (h : Fin 8) (d : Fin 64) :
    (shapeCast S128x512 (extractStridedSlice S128x8x64 ![0, 0, 64] (shapeCast S128x8x128 x shapeCasts_S128x1024_S128x8x128) slices_S128x8x128_S128x8x64_0_0_64) shapeCasts_S128x8x64_S128x512 : FVec Ideal S128x512 .f32) (ix2 k ⟨h.val * 64 + d.val, by have := d.isLt; have := h.isLt; omega⟩) = x (ix2 k ⟨h.val * 128 + (64 + d.val), by have := h.isLt; have := d.isLt; omega⟩) := by
  have hd := d.isLt
  have hh := h.isLt
  pointwise

theorem wv_at (c : Dev nD) (k : Fin 128) (h : Fin 8) (d : Fin 64) : (V m c main_v12 : FVec Ideal S128x512 .f32) (ix2 k ⟨h.val * 64 + d.val, by have := d.isLt; have := h.isLt; omega⟩) = ((m ((c : Thread nD τ).loc main_arg6) : FVec Ideal S128x1024 .f32) (ix2 k ⟨h.val * 128 + (64 + d.val), by have := h.isLt; have := d.isLt; omega⟩) : EReal) := by
  rw [V_wv]
  exact p_wv _ k h d

end Cert.Kernel16Ideal

end
-- ==== Proof.PrepBlk.lean ====
/- The blocks that each step of the latent attention's preparation reads, entry by entry. -/
module

public import proofs.«01_k».proof.Proof.Prep
public import proofs.«01_k».proof.Proof.PrepTab

@[expose] public section

set_option maxRecDepth 16384

noncomputable section

namespace Cert.Kernel16Ideal.Value

open Cert.Kernel16Ideal Cert.Kernel16Ideal.Gen Idealize.ShloMosaic Idealize.ShloMosaic.TcCoe Idealize.SL.Sem

variable (m : (ℓ : Loc nD τ sig) → Buf (Elt Ideal) ℓ) (c : Dev nD) (t : Fin cfg0.N)

/-- The batch and the row of the array under a block's row. -/
def bat : Fin 2 := ⟨t.val / 2, by have h : t.val < 4 := t.isLt; omega⟩
def row (r : Fin 1088) : Fin 2176 := ⟨t.val % 2 * 1088 + r.val, by have := r.isLt; omega⟩

theorem blk0 (r : Fin 1088) (k : Fin 256) : iblk m c 0 t (ix3 0 r k) = (m ((c : Thread nD τ).loc main_arg0) : FVec Ideal S2x2176x256 .f32) (ix3 (bat t) (row t r) k) := by
  rw [← cq_at m c (bat t) (row t r) k]
  have e0 : ∀ t : Fin cfg0.N, win0_0.index t = ![t.val / 2, t.val % 2, 10] := (by decide +kernel : ∀ t : Fin grid0.N, _)
  blk_point [iblk, e0 t, bat, row]

theorem blk1 (r : Fin 1088) (k : Fin 128) : iblk m c 1 t (ix3 0 r k) = (m ((c : Thread nD τ).loc main_arg1) : FVec Ideal S2x2176x128 .f32) (ix3 (bat t) (row t r) k) := by
  rw [← ckv_at m c (bat t) (row t r) k]
  have e0 : ∀ t : Fin cfg0.N, win0_1.index t = ![t.val / 2, t.val % 2, 22] := (by decide +kernel : ∀ t : Fin grid0.N, _)
  blk_point [iblk, e0 t, bat, row]

theorem blk2 (r : Fin 1088) (k : Fin 128) : iblk m c 2 t (ix3 0 r k) = krAt (m ((c : Thread nD τ).loc main_arg2)) (bat t) (row t r) k := by
  rw [← kr_at m c (bat t) (row t r) k]
  have e0 : ∀ t : Fin cfg0.N, win0_2.index t = ![t.val / 2, t.val % 2, 23] := (by decide +kernel : ∀ t : Fin grid0.N, _)
  blk_point [iblk, e0 t, bat, row]

theorem blk3 (k : Fin 256) : iblk m c 3 t (ix2 0 k) = (m ((c : Thread nD τ).loc main_arg3) : FVec Ideal S1x256 .f32) (ix2 0 k) := by
  rw [← V_main_arg3 m c]
  have e0 : ∀ t : Fin cfg0.N, win0_3.index t = ![0, 0] := (by decide +kernel : ∀ t : Fin grid0.N, _)
  blk_point [iblk, e0 t]

theorem blk4 (k : Fin 128) : iblk m c 4 t (ix2 0 k) = (m ((c : Thread nD τ).loc main_arg4) : FVec Ideal S1x128 .f32) (ix2 0 k) := by
  rw [← V_main_arg4 m c]
  have e0 : ∀ t : Fin cfg0.N, win0_4.index t = ![0, 0] := (by decide +kernel : ∀ t : Fin grid0.N, _)
  blk_point [iblk, e0 t]

theorem blk5 (k : Fin 256) (e : Fin 1024) : iblk m c 5 t (ix2 k e) = (V m c main_v6 : FVec Ideal S256x1024 .f32) (ix2 k e) := by
  have e0 : ∀ t : Fin cfg0.N, win0_5.index t = ![0, 0] := (by decide +kernel : ∀ t : Fin grid0.N, _)
  blk_point [iblk, e0 t]

theorem blk6 (k : Fin 128) (e : Fin 1024) : iblk m c 6 t (ix2 k e) = (V m c main_v10 : FVec Ideal S128x1024 .f32) (ix2 k e) := by
  have e0 : ∀ t : Fin cfg0.N, win0_6.index t = ![0, 0] := (by decide +kernel : ∀ t : Fin grid0.N, _)
  blk_point [iblk, e0 t]

theorem blk7 (k : Fin 128) (e : Fin 512) : iblk m c 7 t (ix2 k e) = (V m c main_v12 : FVec Ideal S128x512 .f32) (ix2 k e) := by
  have e0 : ∀ t : Fin cfg0.N, win0_7.index t = ![0, 0] := (by decide +kernel : ∀ t : Fin grid0.N, _)
  blk_point [iblk, e0 t]

theorem blk8 (r : Fin 1088) (d : Fin 128) : iblk m c 8 t (ix2 r d) = cAt (row t r) d := by
  rw [← c_at m c (row t r) d]
  have e0 : ∀ t : Fin cfg0.N, win0_8.index t = ![t.val % 2, 0] := (by decide +kernel : ∀ t : Fin grid0.N, _)
  blk_point [iblk, e0 t, row]

theorem blk9 (r : Fin 1088) (d : Fin 128) : iblk m c 9 t (ix2 r d) = s1At (row t r) d := by
  rw [← s1_at m c (row t r) d]
  have e0 : ∀ t : Fin cfg0.N, win0_9.index t = ![t.val % 2, 0] := (by decide +kernel : ∀ t : Fin grid0.N, _)
  blk_point [iblk, e0 t, row]

theorem blk10 (r : Fin 1088) (d : Fin 128) : iblk m c 10 t (ix2 r d) = s2At (row t r) d := by
  rw [← s2_at m c (row t r) d]
  have e0 : ∀ t : Fin cfg0.N, win0_10.index t = ![t.val % 2, 0] := (by decide +kernel : ∀ t : Fin grid0.N, _)
  blk_point [iblk, e0 t, row]

end Cert.Kernel16Ideal.Value

end
-- ==== Proof.PrepRef.lean ====
/- The latent attention's inputs: the entries of the reference's three results. -/
module

public import proofs.«01_k».proof.Proof.Gen.Reference16Ideal.Read
public import proofs.«01_k».proof.Proof.PrepNorm
public import Idealize.ShloMosaic.Lib.Pipeline.ValueKit
public import Idealize.ShloMosaic.Lib.Pointwise

@[expose] public section

set_option maxRecDepth 16384

noncomputable section

namespace Cert.Reference16Ideal.Read

open Cert.Reference16Ideal Cert.Reference16Ideal.Gen Idealize.ShloMosaic Idealize.ShloMosaic.TcCoe Idealize.SL.Sem

theorem q_prod (x0 : FVec Ideal S2x2176x256 .f32) (x3 : FVec Ideal S1x256 .f32) (x5 : FVec Ideal S256x768 .f32) (b : Fin 2) (r : Fin 2176) (e : Fin 768) :
    val_main_v16 (F := Ideal) x0 x3 x5 (ix3 b r e) = ∑ k : Fin 256, nrm 0x43800000#32 (fun k => x0 (ix3 b r k)) (fun k => x3 (ix2 0 k)) k * x5 (ix2 k e) := by
  pointwise [val_main_v3, val_main_cst, val_main_v4, val_main_v5, val_main_cst_0, val_main_v6, val_main_v7, val_main_cst_1, val_main_v8, val_main_v9, val_main_v10, val_main_v11, val_main_v12, val_main_v13, val_main_v14, val_main_v15, val_main_v16, nrm]

theorem kv_prod (x1 : FVec Ideal S2x2176x128 .f32) (x4 : FVec Ideal S1x128 .f32) (x6 : FVec Ideal S128x1024 .f32) (b : Fin 2) (r : Fin 2176) (e : Fin 1024) :
    val_main_v31 (F := Ideal) x1 x4 x6 (ix3 b r e) = ∑ k : Fin 128, nrm 0x43000000#32 (fun k => x1 (ix3 b r k)) (fun k => x4 (ix2 0 k)) k * x6 (ix2 k e) := by
  pointwise [val_main_v18, val_main_cst_2, val_main_v19, val_main_v20, val_main_cst_3, val_main_v21, val_main_v22, val_main_cst_4, val_main_v23, val_main_v24, val_main_v25, val_main_v26, val_main_v27, val_main_v28, val_main_v29, val_main_v30, val_main_v31, nrm]

theorem q17 (x0 : FVec Ideal S2x2176x256 .f32) (x3 : FVec Ideal S1x256 .f32) (x5 : FVec Ideal S256x768 .f32) (b : Fin 2) (r : Fin 2176) (h : Fin 8) (e : Fin 96) :
    val_main_v17 (F := Ideal) x0 x3 x5 (ix4 b r h e) = val_main_v16 (F := Ideal) x0 x3 x5 (ix3 b r ⟨h.val * 96 + e.val, by have := e.isLt; have := h.isLt; omega⟩) := by
  pointwise [val_main_v17]

theorem q69 (x0 : FVec Ideal S2x2176x256 .f32) (x3 : FVec Ideal S1x256 .f32) (x5 : FVec Ideal S256x768 .f32) (b : Fin 2) (r : Fin 2176) (h : Fin 8) (e : Fin 64) :
    val_main_v69 (F := Ideal) x0 x3 x5 (ix4 b r h e) = val_main_v17 (F := Ideal) x0 x3 x5 (ix4 b r h ⟨e.val, by have := e.isLt; omega⟩) := by
  pointwise [val_main_v69]

theorem q87 (x0 : FVec Ideal S2x2176x256 .f32) (x3 : FVec Ideal S1x256 .f32) (x5 : FVec Ideal S256x768 .f32) (b : Fin 2) (r : Fin 2176) (h : Fin 8) (e : Fin 16) :
    val_main_v87 (F := Ideal) x0 x3 x5 (ix4 b r h e) = val_main_v17 (F := Ideal) x0 x3 x5 (ix4 b r h ⟨64 + e.val, by have := e.isLt; omega⟩) := by
  pointwise [val_main_v87, val_main_v70]

theorem q88 (x0 : FVec Ideal S2x2176x256 .f32) (x3 : FVec Ideal S1x256 .f32) (x5 : FVec Ideal S256x768 .f32) (b : Fin 2) (r : Fin 2176) (h : Fin 8) (e : Fin 16) :
    val_main_v88 (F := Ideal) x0 x3 x5 (ix4 b r h e) = val_main_v17 (F := Ideal) x0 x3 x5 (ix4 b r h ⟨64 + (16 + e.val), by have := e.isLt; omega⟩) := by
  pointwise [val_main_v88, val_main_v70]

theorem q90 (b : Fin 2) (r : Fin 2176) (h : Fin 8) (e : Fin 16) :
    val_main_v90 (F := Ideal) (ix4 b r h e) = val_main_v83 (F := Ideal) (ix2 r e) := by
  pointwise [val_main_v90, val_main_v89, val_main_v84]

theorem q93 (b : Fin 2) (r : Fin 2176) (h : Fin 8) (e : Fin 16) :
    val_main_v93 (F := Ideal) (ix4 b r h e) = val_main_v85 (F := Ideal) (ix2 r e) := by
  pointwise [val_main_v93, val_main_v92, val_main_v86]

theorem q97 (b : Fin 2) (r : Fin 2176) (h : Fin 8) (e : Fin 16) :
    val_main_v97 (F := Ideal) (ix4 b r h e) = val_main_v85 (F := Ideal) (ix2 r e) := by
  pointwise [val_main_v97, val_main_v96, val_main_v86]

theorem q100 (b : Fin 2) (r : Fin 2176) (h : Fin 8) (e : Fin 16) :
    val_main_v100 (F := Ideal) (ix4 b r h e) = val_main_v83 (F := Ideal) (ix2 r e) := by
  pointwise [val_main_v100, val_main_v99, val_main_v84]

theorem q95 (x0 : FVec Ideal S2x2176x256 .f32) (x3 : FVec Ideal S1x256 .f32) (x5 : FVec Ideal S256x768 .f32) (b : Fin 2) (r : Fin 2176) (h : Fin 8) (e : Fin 16) :
    val_main_v95 (F := Ideal) x0 x3 x5 (ix4 b r h e) = val_main_v17 (F := Ideal) x0 x3 x5 (ix4 b r h ⟨64 + e.val, by have := e.isLt; omega⟩) * val_main_v83 (F := Ideal) (ix2 r e) - val_main_v17 (F := Ideal) x0 x3 x5 (ix4 b r h ⟨64 + (16 + e.val), by have := e.isLt; omega⟩) * val_main_v85 (F := Ideal) (ix2 r e) := by
  rw [← q87 x0 x3 x5, ← q88 x0 x3 x5, ← q90 b r h e, ← q93 b r h e]; rfl

theorem q102 (x0 : FVec Ideal S2x2176x256 .f32) (x3 : FVec Ideal S1x256 .f32) (x5 : FVec Ideal S256x768 .f32) (b : Fin 2) (r : Fin 2176) (h : Fin 8) (e : Fin 16) :
    val_main_v102 (F := Ideal) x0 x3 x5 (ix4 b r h e) = val_main_v17 (F := Ideal) x0 x3 x5 (ix4 b r h ⟨64 + e.val, by have := e.isLt; omega⟩) * val_main_v85 (F := Ideal) (ix2 r e) + val_main_v17 (F := Ideal) x0 x3 x5 (ix4 b r h ⟨64 + (16 + e.val), by have := e.isLt; omega⟩) * val_main_v83 (F := Ideal) (ix2 r e) := by
  rw [← q87 x0 x3 x5, ← q88 x0 x3 x5, ← q97 b r h e, ← q100 b r h e]; rfl

theorem q103 (x0 : FVec Ideal S2x2176x256 .f32) (x3 : FVec Ideal S1x256 .f32) (x5 : FVec Ideal S256x768 .f32) (b : Fin 2) (r : Fin 2176) (h : Fin 8) (e : Fin 32) :
    val_main_v103 (F := Ideal) x0 x3 x5 (ix4 b r h e) = if hl : e.val < 16 then val_main_v95 (F := Ideal) x0 x3 x5 (ix4 b r h ⟨e.val, hl⟩) else val_main_v102 (F := Ideal) x0 x3 x5 (ix4 b r h ⟨e.val - 16, by have := e.isLt; omega⟩) := by
  pointwise [val_main_v103]

theorem q104 (x0 : FVec Ideal S2x2176x256 .f32) (x3 : FVec Ideal S1x256 .f32) (x5 : FVec Ideal S256x768 .f32) (b : Fin 2) (r : Fin 2176) (h : Fin 8) (e : Fin 128) :
    val_main_v104 (F := Ideal) x0 x3 x5 (ix4 b r h e) = if hl : e.val < 64 then val_main_v69 (F := Ideal) x0 x3 x5 (ix4 b r h ⟨e.val, hl⟩) else if hm : e.val - 64 < 32 then val_main_v103 (F := Ideal) x0 x3 x5 (ix4 b r h ⟨e.val - 64, hm⟩) else 0 := by
  pointwise [val_main_v104, val_main_v68, val_main_cst_7]

theorem cast1024 (y : FVec Ideal S2x2176x8x128 .f32) (b : Fin 2) (r : Fin 2176) (h : Fin 8) (e : Fin 128) :
    shapeCast S2x2176x1024 y shapeCasts_S2x2176x8x128_S2x2176x1024 (ix3 b r ⟨h.val * 128 + e.val, by have := e.isLt; have := h.isLt; omega⟩) = y (ix4 b r h e) := by
  refine shapeCast_apply _ _ _ _ ?_
  rw [Shape.rowMajor_val_three, Shape.rowMajor_val_four]
  show ((b.val * 2176 + r.val) * 8 + h.val) * 128 + e.val = (b.val * 2176 + r.val) * 1024 + (h.val * 128 + e.val)
  ring

theorem q107 (x0 : FVec Ideal S2x2176x256 .f32) (x3 : FVec Ideal S1x256 .f32) (x5 : FVec Ideal S256x768 .f32) (b : Fin 2) (r : Fin 2176) (h : Fin 8) (e : Fin 128) :
    val_main_v107 (F := Ideal) x0 x3 x5 (ix3 b r ⟨h.val * 128 + e.val, by have := e.isLt; have := h.isLt; omega⟩) = val_main_v104 (F := Ideal) x0 x3 x5 (ix4 b r h e) := by
  unfold val_main_v107
  generalize val_main_v104 (F := Ideal) x0 x3 x5 = y
  exact cast1024 y b r h e

theorem k109 (x1 : FVec Ideal S2x2176x128 .f32) (x2 : FVec Ideal S2x2176x32 .f32) (x4 : FVec Ideal S1x128 .f32) (x6 : FVec Ideal S128x1024 .f32) (b : Fin 2) (r : Fin 2176) (h : Fin 8) (e : Fin 128) :
    val_main_v109 (F := Ideal) x1 x2 x4 x6 (ix3 b r ⟨h.val * 128 + e.val, by have := e.isLt; have := h.isLt; omega⟩) = val_main_v106 (F := Ideal) x1 x2 x4 x6 (ix4 b r h e) := by
  unfold val_main_v109
  generalize val_main_v106 (F := Ideal) x1 x2 x4 x6 = y
  exact cast1024 y b r h e

theorem k53 (b : Fin 2) (r : Fin 2176) (z : Fin 1) (e : Fin 16) :
    val_main_v53 (F := Ideal) (ix4 b r z e) = val_main_v46 (F := Ideal) (ix2 r e) := by
  pointwise [val_main_v53, val_main_v52, val_main_v47]

theorem k63 (b : Fin 2) (r : Fin 2176) (z : Fin 1) (e : Fin 16) :
    val_main_v63 (F := Ideal) (ix4 b r z e) = val_main_v46 (F := Ideal) (ix2 r e) := by
  pointwise [val_main_v63, val_main_v62, val_main_v47]

theorem k56 (b : Fin 2) (r : Fin 2176) (z : Fin 1) (e : Fin 16) :
    val_main_v56 (F := Ideal) (ix4 b r z e) = val_main_v48 (F := Ideal) (ix2 r e) := by
  pointwise [val_main_v56, val_main_v55, val_main_v49]

theorem k60 (b : Fin 2) (r : Fin 2176) (z : Fin 1) (e : Fin 16) :
    val_main_v60 (F := Ideal) (ix4 b r z e) = val_main_v48 (F := Ideal) (ix2 r e) := by
  pointwise [val_main_v60, val_main_v59, val_main_v49]

theorem k50 (x2 : FVec Ideal S2x2176x32 .f32) (b : Fin 2) (r : Fin 2176) (z : Fin 1) (e : Fin 16) :
    val_main_v50 (F := Ideal) x2 (ix4 b r z e) = x2 (ix3 b r ⟨e.val, by have := e.isLt; omega⟩) := by
  pointwise [val_main_v50, val_main_v33]

theorem k51 (x2 : FVec Ideal S2x2176x32 .f32) (b : Fin 2) (r : Fin 2176) (z : Fin 1) (e : Fin 16) :
    val_main_v51 (F := Ideal) x2 (ix4 b r z e) = x2 (ix3 b r ⟨16 + e.val, by have := e.isLt; omega⟩) := by
  pointwise [val_main_v51, val_main_v33]

theorem k58 (x2 : FVec Ideal S2x2176x32 .f32) (b : Fin 2) (r : Fin 2176) (z : Fin 1) (e : Fin 16) :
    val_main_v58 (F := Ideal) x2 (ix4 b r z e) = x2 (ix3 b r ⟨e.val, by have := e.isLt; omega⟩) * val_main_v46 (F := Ideal) (ix2 r e) - x2 (ix3 b r ⟨16 + e.val, by have := e.isLt; omega⟩) * val_main_v48 (F := Ideal) (ix2 r e) := by
  rw [← k50 x2 b r z e, ← k51 x2 b r z e, ← k53 b r z e, ← k56 b r z e]; rfl

theorem k65 (x2 : FVec Ideal S2x2176x32 .f32) (b : Fin 2) (r : Fin 2176) (z : Fin 1) (e : Fin 16) :
    val_main_v65 (F := Ideal) x2 (ix4 b r z e) = x2 (ix3 b r ⟨e.val, by have := e.isLt; omega⟩) * val_main_v48 (F := Ideal) (ix2 r e) + x2 (ix3 b r ⟨16 + e.val, by have := e.isLt; omega⟩) * val_main_v46 (F := Ideal) (ix2 r e) := by
  rw [← k50 x2 b r z e, ← k51 x2 b r z e, ← k60 b r z e, ← k63 b r z e]; rfl

theorem k67 (x2 : FVec Ideal S2x2176x32 .f32) (b : Fin 2) (r : Fin 2176) (h : Fin 8) (e : Fin 32) :
    val_main_v67 (F := Ideal) x2 (ix4 b r h e) = if hl : e.val < 16 then val_main_v58 (F := Ideal) x2 (ix4 b r 0 ⟨e.val, hl⟩) else val_main_v65 (F := Ideal) x2 (ix4 b r 0 ⟨e.val - 16, by have := e.isLt; omega⟩) := by
  pointwise [val_main_v67, val_main_v66]

theorem k105 (x1 : FVec Ideal S2x2176x128 .f32) (x4 : FVec Ideal S1x128 .f32) (x6 : FVec Ideal S128x1024 .f32) (b : Fin 2) (r : Fin 2176) (h : Fin 8) (e : Fin 64) :
    val_main_v105 (F := Ideal) x1 x4 x6 (ix4 b r h e) = val_main_v31 (F := Ideal) x1 x4 x6 (ix3 b r ⟨h.val * 128 + e.val, by have := e.isLt; have := h.isLt; omega⟩) := by
  pointwise [val_main_v105, val_main_v32]

theorem k106 (x1 : FVec Ideal S2x2176x128 .f32) (x2 : FVec Ideal S2x2176x32 .f32) (x4 : FVec Ideal S1x128 .f32) (x6 : FVec Ideal S128x1024 .f32) (b : Fin 2) (r : Fin 2176) (h : Fin 8) (e : Fin 128) :
    val_main_v106 (F := Ideal) x1 x2 x4 x6 (ix4 b r h e) = if hl : e.val < 64 then val_main_v105 (F := Ideal) x1 x4 x6 (ix4 b r h ⟨e.val, hl⟩) else if hm : e.val - 64 < 32 then val_main_v67 (F := Ideal) x2 (ix4 b r h ⟨e.val - 64, hm⟩) else 0 := by
  pointwise [val_main_v106, val_main_v68, val_main_cst_7]

theorem v111 (x1 : FVec Ideal S2x2176x128 .f32) (x4 : FVec Ideal S1x128 .f32) (x6 : FVec Ideal S128x1024 .f32) (b : Fin 2) (r : Fin 2176) (h : Fin 8) (e : Fin 64) :
    val_main_v111 (F := Ideal) x1 x4 x6 (ix4 b r h e) = val_main_v31 (F := Ideal) x1 x4 x6 (ix3 b r ⟨h.val * 128 + (64 + e.val), by have := e.isLt; have := h.isLt; omega⟩) := by
  pointwise [val_main_v111, val_main_v32]

theorem v113 (x1 : FVec Ideal S2x2176x128 .f32) (x4 : FVec Ideal S1x128 .f32) (x6 : FVec Ideal S128x1024 .f32) (b : Fin 2) (r : Fin 2176) (h : Fin 8) (e : Fin 64) :
    val_main_v113 (F := Ideal) x1 x4 x6 (ix3 b r ⟨h.val * 64 + e.val, by have := e.isLt; have := h.isLt; omega⟩) = val_main_v111 (F := Ideal) x1 x4 x6 (ix4 b r h e) := by
  show val_main_v112 (F := Ideal) x1 x4 x6 _ = _
  unfold val_main_v112
  refine shapeCast_apply _ _ _ _ ?_
  rw [Shape.rowMajor_val_three, Shape.rowMajor_val_four]
  show ((b.val * 2176 + r.val) * 8 + h.val) * 64 + e.val = (b.val * 2176 + r.val) * 512 + (h.val * 64 + e.val)
  ring

end Cert.Reference16Ideal.Read
-- ==== Proof.PrepRope.lean ====
/- The rotation by the tables, lane by lane, and its agreement with the reference's. -/
module

public import proofs.«01_k».proof.Proof.Prep
public import proofs.«01_k».proof.Proof.PrepTab
public import proofs.«01_k».proof.Proof.PrepRef

@[expose] public section

set_option maxRecDepth 16384

noncomputable section

namespace Cert.Kernel16Ideal.Value

open Cert.Kernel16Ideal Cert.Kernel16Ideal.Gen Idealize.ShloMosaic Idealize.ShloMosaic.TcCoe Idealize.SL.Sem
open Cert.Reference16Ideal.Read

theorem ropeAt_eq (f : Fin 128 → EReal) (r : Fin 2176) (d : Fin 128) : ropeAt f (cAt r) (s1At r) (s2At r) d
    = if h : d.val < 64 then f d else if h2 : d.val - 64 < 32 then
        if h3 : d.val - 64 < 16 then f d * cosT (ix2 r ⟨d.val - 64, h3⟩) - f ⟨d.val + 16, by omega⟩ * sinT (ix2 r ⟨d.val - 64, h3⟩)
        else f ⟨d.val - 16, by have := d.isLt; omega⟩ * sinT (ix2 r ⟨d.val - 64 - 16, by omega⟩) + f d * cosT (ix2 r ⟨d.val - 64 - 16, by omega⟩)
      else 0 := by
  have hd := d.isLt
  unfold ropeAt cAt s1At s2At
  by_cases h1 : d.val < 64
  · simp (disch := omega) only [dif_pos, dif_neg, mul_one, mul_zero, add_zero]
  · by_cases h2 : d.val < 80
    · simp (disch := omega) only [dif_pos, dif_neg, mul_one, mul_zero, add_zero]
      rw [show (⟨(d.val + 128 - 112) % 128, Nat.mod_lt _ (by decide)⟩ : Fin 128) = ⟨d.val + 16, by omega⟩ from Fin.ext (by show (d.val + 128 - 112) % 128 = d.val + 16; omega), mul_neg]
      rfl
    · by_cases h3 : d.val < 96
      · simp (disch := omega) only [dif_pos, dif_neg, mul_one, mul_zero, add_zero]
        rw [show (⟨(d.val + 128 - 16) % 128, Nat.mod_lt _ (by decide)⟩ : Fin 128) = ⟨d.val - 16, by omega⟩ from Fin.ext (by show (d.val + 128 - 16) % 128 = d.val - 16; omega), add_comm]
      · simp (disch := omega) only [dif_pos, dif_neg, mul_one, mul_zero, add_zero]

theorem cos83 : val_main_v83 (F := Ideal) = cosT := rfl
theorem sin85 : val_main_v85 (F := Ideal) = sinT := rfl

/-- The rotated queries are the reference's. -/
theorem rope_q (x0 : FVec Ideal S2x2176x256 .f32) (x3 : FVec Ideal S1x256 .f32) (x5 : FVec Ideal S256x768 .f32) (b : Fin 2) (r : Fin 2176) (h : Fin 8) (d : Fin 128) :
    ropeAt (fun d => if hd : d.val < 96 then val_main_v16 (F := Ideal) x0 x3 x5 (ix3 b r ⟨h.val * 96 + d.val, by have := h.isLt; omega⟩) else 0) (cAt r) (s1At r) (s2At r) d
      = val_main_v104 (F := Ideal) x0 x3 x5 (ix4 b r h d) := by
  have hd := d.isLt
  have hh := h.isLt
  rw [ropeAt_eq, q104]
  simp only [q103, q69, q95, q102, q17, cos83, sin85]
  by_cases h1 : d.val < 64
  · simp (disch := omega) only [dif_pos]
  · by_cases h2 : d.val < 80
    · simp (disch := omega) only [dif_pos, dif_neg]
      congr 3
      all_goals (try (apply congrArg (ix3 b r); apply Fin.ext))
      all_goals (dsimp only; omega)
    · by_cases h3 : d.val < 96
      · simp (disch := omega) only [dif_pos, dif_neg]
        congr 3
        all_goals (try (apply congrArg (ix3 b r); apply Fin.ext))
        all_goals (dsimp only; omega)
      · simp (disch := omega) only [dif_pos, dif_neg]

/-- The keys with the rotated part are the reference's. -/
theorem rope_k (x1 : FVec Ideal S2x2176x128 .f32) (x2 : FVec Ideal S2x2176x32 .f32) (x4 : FVec Ideal S1x128 .f32) (x6 : FVec Ideal S128x1024 .f32) (b : Fin 2) (r : Fin 2176) (h : Fin 8) (d : Fin 128) :
    (if d.val < 64 then val_main_v31 (F := Ideal) x1 x4 x6 (ix3 b r ⟨h.val * 128 + d.val, by have := h.isLt; have := d.isLt; omega⟩) else 0)
        + ropeAt (krAt x2 b r) (cAt r) (s1At r) (s2At r) d
      = val_main_v106 (F := Ideal) x1 x2 x4 x6 (ix4 b r h d) := by
  have hd := d.isLt
  have hh := h.isLt
  rw [ropeAt_eq, k106]
  simp only [k67, k58, k65, k105]
  unfold krAt
  by_cases h1 : d.val < 64
  · simp (disch := omega) only [dif_pos, if_pos, add_zero]
  · by_cases h2 : d.val < 80
    · simp (disch := omega) only [dif_pos, dif_neg, if_neg, zero_add]
      rw [show (⟨d.val + 16 - 64, by omega⟩ : Fin 32) = ⟨16 + (d.val - 64), by omega⟩ from Fin.ext (by show d.val + 16 - 64 = 16 + (d.val - 64); omega)]
      rfl
    · by_cases h3 : d.val < 96
      · simp (disch := omega) only [dif_pos, dif_neg, if_neg, zero_add]
        rw [show (⟨d.val - 16 - 64, by omega⟩ : Fin 32) = ⟨d.val - 64 - 16, by omega⟩ from Fin.ext (by show d.val - 16 - 64 = d.val - 64 - 16; omega),
          show x2 (ix3 b r ⟨d.val - 64, by omega⟩) = x2 (ix3 b r ⟨16 + (d.val - 64 - 16), by omega⟩) from congrArg (fun e : Fin 32 => x2 (ix3 b r e)) (Fin.ext (by show d.val - 64 = 16 + (d.val - 64 - 16); omega))]
        rfl
      · simp (disch := omega) only [dif_pos, dif_neg, if_neg, zero_add]

end Cert.Kernel16Ideal.Value

end
-- ==== Proof.PrepFinal.lean ====
/- The latent attention's preparation: what the kernel leaves in its three result arrays is the reference's. -/
module

public import proofs.«01_k».proof.Proof.PrepOut
public import proofs.«01_k».proof.Proof.PrepBlk
public import proofs.«01_k».proof.Proof.PrepRope
public import proofs.«01_k».proof.Proof.Gen.Reference16Ideal.Run

@[expose] public section

set_option maxRecDepth 16384

noncomputable section

namespace Cert.Kernel16Ideal.Value

open Cert.Kernel16Ideal Cert.Kernel16Ideal.Gen Idealize.ShloMosaic Idealize.ShloMosaic.TcCoe Idealize.SL.Sem
open Cert.Reference16Ideal.Read

/-- A row's products with weights that are zero where a lane is not used. -/
theorem sum_pad {n : ℕ} (p : Prop) [Decidable p] (f : Fin n → EReal) (w : p → Fin n → EReal) :
    (∑ k, f k * (if h : p then w h k else 0)) = if h : p then ∑ k, f k * w h k else 0 := by
  by_cases h : p <;> simp [h]

/-- The reference's queries at a row and a column. -/
theorem ref_q (x0 : FVec Ideal S2x2176x256 .f32) (x3 : FVec Ideal S1x256 .f32) (x5 : FVec Ideal S256x768 .f32) (b : Fin 2) (r : Fin 2176) (e : Fin 1024) :
    (val_main_v107 (F := Ideal) x0 x3 x5 (ix3 b r e) : EReal) = ropeAt (fun d => if hd : d.val < 96 then
        (∑ k : Fin 256, nrm 0x43800000#32 (fun k => x0 (ix3 b r k)) (fun k => x3 (ix2 0 k)) k * x5 (ix2 k ⟨e.val / 128 * 96 + d.val, by have := e.isLt; omega⟩)) else 0)
        (cAt r) (s1At r) (s2At r) ⟨e.val % 128, Nat.mod_lt _ (by decide)⟩ := by
  have he := e.isLt
  have h := q107 x0 x3 x5 b r ⟨e.val / 128, by omega⟩ ⟨e.val % 128, Nat.mod_lt _ (by decide)⟩
  rw [← rope_q] at h
  simp only [q_prod] at h
  rw [← h]
  exact congrArg (fun e => val_main_v107 (F := Ideal) x0 x3 x5 (ix3 b r e)) (Fin.ext (by show e.val = e.val / 128 * 128 + e.val % 128; omega))

/-- The reference's keys at a row and a column. -/
theorem ref_k (x1 : FVec Ideal S2x2176x128 .f32) (x2 : FVec Ideal S2x2176x32 .f32) (x4 : FVec Ideal S1x128 .f32) (x6 : FVec Ideal S128x1024 .f32) (b : Fin 2) (r : Fin 2176) (e : Fin 1024) :
    (val_main_v109 (F := Ideal) x1 x2 x4 x6 (ix3 b r e) : EReal) = (if e.val % 128 < 64 then
        (∑ k : Fin 128, nrm 0x43000000#32 (fun k => x1 (ix3 b r k)) (fun k => x4 (ix2 0 k)) k * x6 (ix2 k e)) else 0)
        + ropeAt (krAt x2 b r) (cAt r) (s1At r) (s2At r) ⟨e.val % 128, Nat.mod_lt _ (by decide)⟩ := by
  have he := e.isLt
  have h := k109 x1 x2 x4 x6 b r ⟨e.val / 128, by omega⟩ ⟨e.val % 128, Nat.mod_lt _ (by decide)⟩
  rw [← rope_k] at h
  have e1 : (⟨e.val / 128 * 128 + e.val % 128, by omega⟩ : Fin 1024) = e := Fin.ext (by show e.val / 128 * 128 + e.val % 128 = e.val; omega)
  simp only [e1, kv_prod] at h
  exact h

/-- The reference's values at a row and a column. -/
theorem ref_v (x1 : FVec Ideal S2x2176x128 .f32) (x4 : FVec Ideal S1x128 .f32) (x6 : FVec Ideal S128x1024 .f32) (b : Fin 2) (r : Fin 2176) (e : Fin 512) :
    (val_main_v113 (F := Ideal) x1 x4 x6 (ix3 b r e) : EReal) =
        (∑ k : Fin 128, nrm 0x43000000#32 (fun k => x1 (ix3 b r k)) (fun k => x4 (ix2 0 k)) k * x6 (ix2 k ⟨e.val / 64 * 128 + (64 + e.val % 64), by have := e.isLt; omega⟩)) := by
  have he := e.isLt
  have h := v113 x1 x4 x6 b r ⟨e.val / 64, by omega⟩ ⟨e.val % 64, Nat.mod_lt _ (by decide)⟩
  have e1 : (⟨e.val / 64 * 64 + e.val % 64, by omega⟩ : Fin 512) = e := Fin.ext (by show e.val / 64 * 64 + e.val % 64 = e.val; omega)
  rw [v111, kv_prod] at h
  simp only [e1] at h
  exact h

section
variable (x0 : Vec Ideal S1x1088x256 .f32) (x1 : Vec Ideal S1x1088x128 .f32) (x2 : Vec Ideal S1x1088x128 .f32) (x3 : Vec Ideal S1x256 .f32) (x4 : Vec Ideal S1x128 .f32) (x5 : Vec Ideal S256x1024 .f32) (x6 : Vec Ideal S128x1024 .f32) (x7 : Vec Ideal S128x512 .f32) (x8 x9 x10 : Vec Ideal S1088x128 .f32)
variable (a0 : FVec Ideal S2x2176x256 .f32) (a1 : FVec Ideal S2x2176x128 .f32) (a2 : FVec Ideal S2x2176x32 .f32) (a3 : FVec Ideal S1x256 .f32) (a4 : FVec Ideal S1x128 .f32) (a5 : FVec Ideal S256x768 .f32) (a6 : FVec Ideal S128x1024 .f32)
variable (b : Fin 2) (R : Fin 1088 → Fin 2176)

/-- The queries' block is the reference's rows. -/
theorem block_q (h0 : ∀ r k, (x0 (ix3 0 r k) : EReal) = a0 (ix3 b (R r) k)) (h3 : ∀ k, (x3 (ix2 0 k) : EReal) = a3 (ix2 0 k))
    (h5 : ∀ (k : Fin 256) (h : Fin 8) (d : Fin 128), (x5 (ix2 k ⟨h.val * 128 + d.val, by have := h.isLt; have := d.isLt; omega⟩) : EReal)
      = if hd : d.val < 96 then a5 (ix2 k ⟨h.val * 96 + d.val, by have := h.isLt; omega⟩) else (0 : EReal))
    (h8 : ∀ r d, (x8 (ix2 r d) : EReal) = cAt (R r) d) (h9 : ∀ r d, (x9 (ix2 r d) : EReal) = s1At (R r) d) (h10 : ∀ r d, (x10 (ix2 r d) : EReal) = s2At (R r) d)
    (r : Fin 1088) (e : Fin 1024) :
    (out0_11 (F := Ideal) x0 x1 x2 x3 x4 x5 x6 x7 x8 x9 x10 (ix3 0 r e) : EReal) = val_main_v107 (F := Ideal) a0 a3 a5 (ix3 b (R r) e) := by
  have he := e.isLt
  refine (q_entry x0 x1 x2 x3 x4 x5 x6 x7 x8 x9 x10 (ix3 0 r e)).trans ?_
  refine Eq.trans ?_ (ref_q a0 a3 a5 b (R r) e).symm
  show ropeAt (fun d => ∑ k : Fin 256, nrm 0x43800000#32 (fun k => x0 (ix3 0 r k)) (fun k => x3 (ix2 0 k)) k
          * x5 (ix2 k ⟨e.val / 128 * 128 + d.val, by have := d.isLt; omega⟩))
        (fun d => x8 (ix2 r d)) (fun d => x9 (ix2 r d)) (fun d => x10 (ix2 r d)) ⟨e.val % 128, Nat.mod_lt _ (by decide)⟩ = _
  simp only [h0, h3, h8, h9, h10]
  congr 1
  funext d
  rw [← sum_pad]
  refine Finset.sum_congr rfl fun k _ => congrArg _ ?_
  exact h5 k ⟨e.val / 128, by omega⟩ d

/-- The keys' block is the reference's rows. -/
theorem block_k (h1 : ∀ r k, (x1 (ix3 0 r k) : EReal) = a1 (ix3 b (R r) k)) (h2 : ∀ r k, (x2 (ix3 0 r k) : EReal) = krAt a2 b (R r) k) (h4 : ∀ k, (x4 (ix2 0 k) : EReal) = a4 (ix2 0 k))
    (h6 : ∀ (k : Fin 128) (h : Fin 8) (d : Fin 128), (x6 (ix2 k ⟨h.val * 128 + d.val, by have := h.isLt; have := d.isLt; omega⟩) : EReal)
      = if d.val < 64 then a6 (ix2 k ⟨h.val * 128 + d.val, by have := h.isLt; have := d.isLt; omega⟩) else (0 : EReal))
    (h8 : ∀ r d, (x8 (ix2 r d) : EReal) = cAt (R r) d) (h9 : ∀ r d, (x9 (ix2 r d) : EReal) = s1At (R r) d) (h10 : ∀ r d, (x10 (ix2 r d) : EReal) = s2At (R r) d)
    (r : Fin 1088) (e : Fin 1024) :
    (out0_12 (F := Ideal) x0 x1 x2 x3 x4 x5 x6 x7 x8 x9 x10 (ix3 0 r e) : EReal) = val_main_v109 (F := Ideal) a1 a2 a4 a6 (ix3 b (R r) e) := by
  have he := e.isLt
  refine (k_entry x0 x1 x2 x3 x4 x5 x6 x7 x8 x9 x10 (ix3 0 r e)).trans ?_
  refine Eq.trans ?_ (ref_k a1 a2 a4 a6 b (R r) e).symm
  have e1 : (⟨e.val / 128 * 128 + e.val % 128, by omega⟩ : Fin 1024) = e := Fin.ext (by show e.val / 128 * 128 + e.val % 128 = e.val; omega)
  have hw : ∀ k : Fin 128, (x6 (ix2 k e) : EReal) = if h : e.val % 128 < 64 then a6 (ix2 k e) else (0 : EReal) := fun k => by
    have h := h6 k ⟨e.val / 128, by omega⟩ ⟨e.val % 128, Nat.mod_lt _ (by decide)⟩
    simp only [e1] at h
    exact h
  show (∑ k : Fin 128, nrm 0x43000000#32 (fun k => x1 (ix3 0 r k)) (fun k => x4 (ix2 0 k)) k * x6 (ix2 k e))
        + ropeAt (fun d => x2 (ix3 0 r d))
            (fun d => x8 (ix2 r d)) (fun d => x9 (ix2 r d)) (fun d => x10 (ix2 r d)) ⟨e.val % 128, Nat.mod_lt _ (by decide)⟩ = _
  simp only [h1, h2, h4, h8, h9, h10, hw]
  rw [sum_pad]
  rfl

/-- The values' block is the reference's rows. -/
theorem block_v (h1 : ∀ r k, (x1 (ix3 0 r k) : EReal) = a1 (ix3 b (R r) k)) (h4 : ∀ k, (x4 (ix2 0 k) : EReal) = a4 (ix2 0 k))
    (h7 : ∀ (k : Fin 128) (h : Fin 8) (d : Fin 64), (x7 (ix2 k ⟨h.val * 64 + d.val, by have := h.isLt; have := d.isLt; omega⟩) : EReal)
      = a6 (ix2 k ⟨h.val * 128 + (64 + d.val), by have := h.isLt; have := d.isLt; omega⟩))
    (r : Fin 1088) (e : Fin 512) :
    (out0_13 (F := Ideal) x0 x1 x2 x3 x4 x5 x6 x7 x8 x9 x10 (ix3 0 r e) : EReal) = val_main_v113 (F := Ideal) a1 a4 a6 (ix3 b (R r) e) := by
  have he := e.isLt
  refine (v_entry x0 x1 x2 x3 x4 x5 x6 x7 x8 x9 x10 (ix3 0 r e)).trans ?_
  refine Eq.trans ?_ (ref_v a1 a4 a6 b (R r) e).symm
  show (∑ k : Fin 128, nrm 0x43000000#32 (fun k => x1 (ix3 0 r k)) (fun k => x4 (ix2 0 k)) k * x7 (ix2 k e)) = _
  simp only [h1, h4]
  refine Finset.sum_congr rfl fun k _ => congrArg _ ?_
  have h := h7 k ⟨e.val / 64, by omega⟩ ⟨e.val % 64, Nat.mod_lt _ (by decide)⟩
  have e1 : (⟨e.val / 64 * 64 + e.val % 64, by omega⟩ : Fin 512) = e := Fin.ext (by show e.val / 64 * 64 + e.val % 64 = e.val; omega)
  simp only [e1] at h
  exact h

end

variable (m : (ℓ : Loc nD τ sig) → Buf (Elt Ideal) ℓ) (c : Dev nD) (t : Fin cfg0.N)

/-- An entry of a bfloat16 array of the reference is the entry before the conversion. -/
theorem at108 (a0 : FVec Ideal S2x2176x256 .f32) (a3 : FVec Ideal S1x256 .f32) (a5 : FVec Ideal S256x768 .f32) (i : S2x2176x1024.Idx) (z : EReal)
    (h : z = val_main_v107 (F := Ideal) a0 a3 a5 i) : (z : Ideal .bf16) = val_main_v108 (F := Ideal) a0 a3 a5 i := by
  rw [val_main_v108_apply]
  generalize val_main_v107 (F := Ideal) a0 a3 a5 i = w at h
  exact h

theorem at110 (a1 : FVec Ideal S2x2176x128 .f32) (a2 : FVec Ideal S2x2176x32 .f32) (a4 : FVec Ideal S1x128 .f32) (a6 : FVec Ideal S128x1024 .f32) (i : S2x2176x1024.Idx) (z : EReal)
    (h : z = val_main_v109 (F := Ideal) a1 a2 a4 a6 i) : (z : Ideal .bf16) = val_main_v110 (F := Ideal) a1 a2 a4 a6 i := by
  rw [val_main_v110_apply]
  generalize val_main_v109 (F := Ideal) a1 a2 a4 a6 i = w at h
  exact h

/-- The first result array is the queries. -/
theorem final_q (c : Dev nD) : (dats m 0 c).arrAt 11 cfg0.N
    = val_main_v108 (F := Ideal) (m ((c : Thread nD τ).loc main_arg0)) (m ((c : Thread nD τ).loc main_arg3)) (m ((c : Thread nD τ).loc main_arg5)) := by
  refine (dats m 0 c).arrAt_eq_of_covers 11 _ (by decide +kernel) fun t hf y => ?_
  have e0 : ∀ t : Fin cfg0.N, win0_11.index t = ![t.val / 2, t.val % 2, 0] := (by decide +kernel : ∀ t : Fin grid0.N, _)
  have hy0 : (y 0).val < 1 := (y 0).isLt
  have ey : y = ix3 0 (y 1 : Fin 1088) (y 2 : Fin 1024) := by
    funext a; fin_cases a
    · exact Fin.ext (Nat.lt_one_iff.mp hy0)
    · rfl
    · rfl
  blk_simp
  rw [after0_11]
  have hi : (win0_11.blk t).view.emb y = ix3 (bat t) (row t (y 1 : Fin 1088)) (y 2 : Fin 1024) := by
    blk_ext! [e0 t, bat, row]
  refine at108 _ _ _ _ _ ?_
  rw [hi]
  exact (congrArg _ ey).trans (block_q (iblk m c 0 t) (iblk m c 1 t) (iblk m c 2 t) (iblk m c 3 t) (iblk m c 4 t) (iblk m c 5 t) (iblk m c 6 t) (iblk m c 7 t) (iblk m c 8 t) (iblk m c 9 t) (iblk m c 10 t)
    (m ((c : Thread nD τ).loc main_arg0)) (m ((c : Thread nD τ).loc main_arg3)) (m ((c : Thread nD τ).loc main_arg5)) (bat t) (row t)
    (blk0 m c t) (blk3 m c t) (fun k h d => (blk5 m c t k _).trans (wq_at m c k h d)) (blk8 m c t) (blk9 m c t) (blk10 m c t) (y 1 : Fin 1088) (y 2 : Fin 1024))

/-- The second result array is the keys. -/
theorem final_k (c : Dev nD) : (dats m 0 c).arrAt 12 cfg0.N
    = val_main_v110 (F := Ideal) (m ((c : Thread nD τ).loc main_arg1)) (m ((c : Thread nD τ).loc main_arg2)) (m ((c : Thread nD τ).loc main_arg4)) (m ((c : Thread nD τ).loc main_arg6)) := by
  refine (dats m 0 c).arrAt_eq_of_covers 12 _ (by decide +kernel) fun t hf y => ?_
  have e0 : ∀ t : Fin cfg0.N, win0_12.index t = ![t.val / 2, t.val % 2, 0] := (by decide +kernel : ∀ t : Fin grid0.N, _)
  have hy0 : (y 0).val < 1 := (y 0).isLt
  have ey : y = ix3 0 (y 1 : Fin 1088) (y 2 : Fin 1024) := by
    funext a; fin_cases a
    · exact Fin.ext (Nat.lt_one_iff.mp hy0)
    · rfl
    · rfl
  blk_simp
  rw [after0_12]
  have hi : (win0_12.blk t).view.emb y = ix3 (bat t) (row t (y 1 : Fin 1088)) (y 2 : Fin 1024) := by
    blk_ext! [e0 t, bat, row]
  refine at110 _ _ _ _ _ _ ?_
  rw [hi]
  exact (congrArg _ ey).trans (block_k (iblk m c 0 t) (iblk m c 1 t) (iblk m c 2 t) (iblk m c 3 t) (iblk m c 4 t) (iblk m c 5 t) (iblk m c 6 t) (iblk m c 7 t) (iblk m c 8 t) (iblk m c 9 t) (iblk m c 10 t)
    (m ((c : Thread nD τ).loc main_arg1)) (m ((c : Thread nD τ).loc main_arg2)) (m ((c : Thread nD τ).loc main_arg4)) (m ((c : Thread nD τ).loc main_arg6)) (bat t) (row t)
    (blk1 m c t) (blk2 m c t) (blk4 m c t) (fun k h d => (blk6 m c t k _).trans (wk_at m c k h d)) (blk8 m c t) (blk9 m c t) (blk10 m c t) (y 1 : Fin 1088) (y 2 : Fin 1024))

/-- The third result array is the values. -/
theorem final_v (c : Dev nD) : (dats m 0 c).arrAt 13 cfg0.N
    = val_main_v113 (F := Ideal) (m ((c : Thread nD τ).loc main_arg1)) (m ((c : Thread nD τ).loc main_arg4)) (m ((c : Thread nD τ).loc main_arg6)) := by
  refine (dats m 0 c).arrAt_eq_of_covers 13 _ (by decide +kernel) fun t hf y => ?_
  have e0 : ∀ t : Fin cfg0.N, win0_13.index t = ![t.val / 2, t.val % 2, 0] := (by decide +kernel : ∀ t : Fin grid0.N, _)
  have hy0 : (y 0).val < 1 := (y 0).isLt
  have ey : y = ix3 0 (y 1 : Fin 1088) (y 2 : Fin 512) := by
    funext a; fin_cases a
    · exact Fin.ext (Nat.lt_one_iff.mp hy0)
    · rfl
    · rfl
  blk_simp
  rw [after0_13]
  have hi : (win0_13.blk t).view.emb y = ix3 (bat t) (row t (y 1 : Fin 1088)) (y 2 : Fin 512) := by
    blk_ext! [e0 t, bat, row]
  rw [hi]
  exact (congrArg _ ey).trans (block_v (iblk m c 0 t) (iblk m c 1 t) (iblk m c 2 t) (iblk m c 3 t) (iblk m c 4 t) (iblk m c 5 t) (iblk m c 6 t) (iblk m c 7 t) (iblk m c 8 t) (iblk m c 9 t) (iblk m c 10 t)
    (m ((c : Thread nD τ).loc main_arg1)) (m ((c : Thread nD τ).loc main_arg4)) (m ((c : Thread nD τ).loc main_arg6)) (bat t) (row t)
    (blk1 m c t) (blk4 m c t) (fun k h d => (blk7 m c t k _).trans (wv_at m c k h d)) (y 1 : Fin 1088) (y 2 : Fin 512))

end Cert.Kernel16Ideal.Value

end
-- ==== Proof.Claims.lean ====
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Norm
public import proofs.«01_k».proof.Proof.NormRef
public import proofs.«01_k».proof.Proof.Gate
public import proofs.«01_k».proof.Proof.GateRef
public import proofs.«01_k».proof.Proof.Finite
public import proofs.«01_k».proof.Proof.TnOut
public import proofs.«01_k».proof.Proof.NtOut
public import proofs.«01_k».proof.Proof.Gen.Kernel5
public import proofs.«01_k».proof.Proof.Gen.Reference5Ideal.Run
public import proofs.«01_k».proof.Proof.SbBits
public import proofs.«01_k».proof.Proof.SbValue
public import proofs.«01_k».proof.Proof.Gen.Reference6Ideal.Run
public import proofs.«01_k».proof.Proof.TnOut6
public import proofs.«01_k».proof.Proof.Gen.Reference7Ideal.Run
public import proofs.«01_k».proof.Proof.TnOut7
public import proofs.«01_k».proof.Proof.Gen.Reference8Ideal.Run
public import proofs.«01_k».proof.Proof.NtOut8
public import proofs.«01_k».proof.Proof.Gen.Reference9Ideal.Run
public import proofs.«01_k».proof.Proof.NtOut9
public import proofs.«01_k».proof.Proof.Gen.Reference10Ideal.Run
public import proofs.«01_k».proof.Proof.NnOut10
public import proofs.«01_k».proof.Proof.Gen.Reference11Ideal.Run
public import proofs.«01_k».proof.Proof.NnOut11
public import proofs.«01_k».proof.Proof.Gen.Reference12Ideal.Run
public import proofs.«01_k».proof.Proof.NnOut12
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.NormFwd
public import proofs.«01_k».proof.Proof.GateFwd
public import proofs.«01_k».proof.Proof.GateFwd15
public import proofs.«01_k».proof.Proof.PrepFinal
public import proofs.«01_k».proof.Proof.Gen.Kernel2Ideal.Frame
public import Idealize.ShloMosaic.Lib.Quiescent
public import Idealize.ShloMosaic.Adequacy
public import Idealize.ShloMosaic.Init

/-! The frames that the compiled programs leave over and the value claims: each kernel's results, and its
reference's, are one stated function of the arguments. -/

@[expose] public section

noncomputable section

namespace Cert.Claims

open Idealize.ShloMosaic Idealize.SL.Sem

attribute [local instance] Cert.Pre_finite.facts Cert.Pre_finite_heads.facts

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run m ρ)

theorem frame_reference2_finite : Cert.quiescent_Reference2Ideal_pre_finite := fun m ρ _ =>
  (θ_run Cert.Reference2Ideal.defs _ _).mono (fun r h => ⟨fun c => (h c).2.2.2, sem_eq_zero_of_no_sems (by decide) r.2⟩)
    (Cert.Reference2Ideal.Value.run m ρ)

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem frame_reference5 : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run m ρ)

theorem frame_reference5_finite : Cert.quiescent_Reference5Ideal_pre_finite_heads := fun m ρ _ => frame_reference5 m ρ trivial

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

theorem frame_stick_breaking_ideal : Cert.quiescent_Kernel5Ideal := fun m ρ _ =>
  Cert.Kernel5Ideal.frame_run (F := Ideal) m ρ

theorem frame_stick_breaking_finite : Cert.quiescent_Kernel5Ideal_pre_finite_heads := fun m ρ _ =>
  Cert.Kernel5Ideal.frame_run (F := Ideal) m ρ

/-- The norm's backward call is the vector-Jacobian product of the norm, the residual added. -/
theorem norm : Cert.algebraic_KernelIdeal_ReferenceIdeal := fun m g m' g' _ hagree =>
  ⟨fun c => Cert.KernelIdeal.Value.gradH (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.KernelIdeal.Value.gradG (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    (θ_run _ _ _).mono (fun r h c => ⟨(h c).1.trans (Cert.KernelIdeal.Value.final_dh m c),
      (h c).2.1.trans (Cert.KernelIdeal.Value.final_dg m c), (h c).2.2⟩) (Cert.KernelIdeal.Value.run_blocks m g),
    (θ_run _ _ _).mono (fun r h c => by
      obtain ⟨e0, e1, e2, e3⟩ := hagree c
      refine ⟨(h c).1.trans ((Cert.ReferenceIdeal.Read.val_main_v34_eq _ _ _ _).trans
        ((Cert.KernelIdeal.Value.reference_dh _ _ _ _).trans ?_)),
        (h c).2.1.trans ((Cert.ReferenceIdeal.Read.val_main_v17_eq _ _).trans
          ((Cert.KernelIdeal.Value.reference_dg _ _).trans ?_)), (h c).2.2⟩
      · rw [e0, e1, e2, e3]
      · rw [e0, e2]) (Cert.ReferenceIdeal.Value.run m' g')⟩

/-- The gate's backward call is the vector-Jacobian product of the gated join. -/
theorem gate : Cert.algebraic_Kernel2Ideal_Reference2Ideal_pre_finite := fun m g m' g' hpre hagree =>
  ⟨fun c => Cert.Kernel2Ideal.Value.gradPart 0 (by decide) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg3)),
    fun c => Cert.Kernel2Ideal.Value.gradPart 512 (by decide) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg3)),
    fun c => Cert.Kernel2Ideal.Value.gradGate (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)),
    (θ_run _ _ _).mono (fun r h c => ⟨(h c).1.trans (Cert.Kernel2Ideal.Value.final_sb m c),
      (h c).2.1.trans (Cert.Kernel2Ideal.Value.final_mla m c),
      (h c).2.2.1.trans (Cert.Kernel2Ideal.Value.final_gate m c), (h c).2.2.2⟩) (Cert.Kernel2Ideal.Value.run_blocks m g),
    (θ_run _ _ _).mono (fun r h c => by
      obtain ⟨e0, e1, e2, e3⟩ := hagree c
      obtain ⟨hd, hs, hm⟩ := Cert.Pre_finite.reals _ _ _ _ (hpre c)
      rw [← e0] at hd
      rw [← e1] at hs
      rw [← e2] at hm
      refine ⟨(h c).1.trans ((Cert.Reference2Ideal.Read.val_main_v15_eq _ _).trans
        ((Cert.Kernel2Ideal.Value.reference_sb _ _).trans ?_)),
        (h c).2.1.trans ((Cert.Reference2Ideal.Read.val_main_v11_eq _ _).trans
          ((Cert.Kernel2Ideal.Value.reference_mla _ _).trans ?_)),
        (h c).2.2.1.trans ((Cert.Reference2Ideal.Read.val_main_v19_eq _ _ _ _).trans
          ((Cert.Kernel2Ideal.Value.reference_gate _ _ _ _ hd hs hm).trans ?_)), (h c).2.2.2⟩
      · rw [e0, e3]
      · rw [e0, e3]
      · rw [e0, e1, e2, e3]) (Cert.Reference2Ideal.Value.run m' g')⟩

/-- The stick-breaking attention's backward call is the vector-Jacobian product of stick-breaking attention. -/
theorem stickBreaking : Cert.algebraic_Kernel5Ideal_Reference5Ideal_pre_finite_heads := fun m g m' g' hpre hagree =>
  ⟨fun c => Cert.Kernel5Ideal.gradQ (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)),
    fun c => Cert.Kernel5Ideal.gradK (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)),
    fun c => Cert.Kernel5Ideal.gradV (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)),
    (θ_run _ _ _).mono (fun r h c => ⟨(h c).1.trans (Cert.Kernel5Ideal.final_dq m c (Cert.Kernel5Ideal.reals_of _ _ (hpre c))),
      (h c).2.1.trans (Cert.Kernel5Ideal.final_dk m c (Cert.Kernel5Ideal.reals_of _ _ (hpre c))),
      (h c).2.2.1.trans (Cert.Kernel5Ideal.final_dv m c (Cert.Kernel5Ideal.reals_of _ _ (hpre c))), (h c).2.2.2⟩) (Cert.Kernel5Ideal.run_results m g),
    (θ_run _ _ _).mono (fun r h c => by
      obtain ⟨e0, e1⟩ := hagree c
      refine ⟨(h c).1.trans ((Cert.Reference5Ideal.Read.val_main_v51_eq _ _).trans ?_),
        (h c).2.1.trans ((Cert.Reference5Ideal.Read.val_main_v52_eq _ _).trans ?_),
        (h c).2.2.1.trans ((Cert.Reference5Ideal.Read.val_main_v53_eq _ _).trans ?_), (h c).2.2.2⟩
      · rw [e0, e1]; exact Cert.Kernel5Ideal.reference_q _ _ (hpre c)
      · rw [e0, e1]; exact Cert.Kernel5Ideal.reference_k _ _ (hpre c)
      · rw [e0, e1]; exact Cert.Kernel5Ideal.reference_v _ _ (hpre c)) (Cert.Reference5Ideal.Value.run m' g')⟩

/-- The output product's weight gradient. -/
theorem weightGrad : Cert.algebraic_Kernel3Ideal_Reference3Ideal := fun m g m' g' _ hagree =>
  ⟨fun c => Cert.Kernel3Ideal.Value.grad (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)),
    (θ_run _ _ _).mono (fun r h c => ⟨(h c).1.trans (Cert.Kernel3Ideal.Value.final_o m c), (h c).2⟩)
      (Cert.Kernel3Ideal.Value.run_blocks m g),
    (θ_run _ _ _).mono (fun r h c => by
      obtain ⟨e0, e1⟩ := hagree c
      refine ⟨(h c).1.trans ((Cert.Kernel3Ideal.Value.reference_eq _ _).trans ?_), (h c).2⟩
      rw [e0, e1]) (Cert.Reference3Ideal.Value.run m' g')⟩

/-- The output product's input gradient. -/
theorem inputGrad : Cert.algebraic_Kernel4Ideal_Reference4Ideal := fun m g m' g' _ hagree =>
  ⟨fun c => Host.dotGeneral (F := Ideal) Cert.Reference4Ideal.dot_S4352x1024_S1024x1024_S4352x1024_1_1_0_0_n_n none
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)),
    (θ_run _ _ _).mono (fun r h c => ⟨(h c).1.trans (Cert.Kernel4Ideal.Value.final_o m c), (h c).2⟩)
      (Cert.Kernel4Ideal.Value.run_blocks m g),
    (θ_run _ _ _).mono (fun r h c => by
      obtain ⟨e0, e1⟩ := hagree c
      refine ⟨(h c).1.trans ?_, (h c).2⟩
      rw [e0, e1]) (Cert.Reference4Ideal.Value.run m' g')⟩

/-- The first layer's input product's weight gradient. -/
theorem weightGrad6 : Cert.algebraic_Kernel6Ideal_Reference6Ideal := fun m g m' g' _ hagree =>
  ⟨fun c => Cert.Kernel6Ideal.Value.grad (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)),
    (θ_run _ _ _).mono (fun r h c => ⟨(h c).1.trans (Cert.Kernel6Ideal.Value.final_o m c), (h c).2⟩)
      (Cert.Kernel6Ideal.Value.run_blocks m g),
    (θ_run _ _ _).mono (fun r h c => by
      obtain ⟨e0, e1⟩ := hagree c
      refine ⟨(h c).1.trans ((Cert.Kernel6Ideal.Value.reference_eq _ _).trans ?_), (h c).2⟩
      rw [e0, e1]) (Cert.Reference6Ideal.Value.run m' g')⟩

/-- The second layer's input product's weight gradient. -/
theorem weightGrad7 : Cert.algebraic_Kernel7Ideal_Reference7Ideal := fun m g m' g' _ hagree =>
  ⟨fun c => Cert.Kernel7Ideal.Value.grad (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)),
    (θ_run _ _ _).mono (fun r h c => ⟨(h c).1.trans (Cert.Kernel7Ideal.Value.final_o m c), (h c).2⟩)
      (Cert.Kernel7Ideal.Value.run_blocks m g),
    (θ_run _ _ _).mono (fun r h c => by
      obtain ⟨e0, e1⟩ := hagree c
      refine ⟨(h c).1.trans ((Cert.Kernel7Ideal.Value.reference_eq _ _).trans ?_), (h c).2⟩
      rw [e0, e1]) (Cert.Reference7Ideal.Value.run m' g')⟩

/-- The first layer's input product's input gradient. -/
theorem inputGrad8 : Cert.algebraic_Kernel8Ideal_Reference8Ideal := fun m g m' g' _ hagree =>
  ⟨fun c => Host.dotGeneral (F := Ideal) (φ₁ := .f32) (φ₂ := .f32) Cert.Reference8Ideal.dot_S4352x3072_S1024x3072_S4352x1024_1_1_0_0_n_n none
      (extf .f32 (show FVec Ideal Cert.Kernel8Ideal.S4352x3072 .bf16 from (m ((c.tc : Thread Cert.Kernel8Ideal.nD Cert.Kernel8Ideal.τ).loc Cert.Kernel8Ideal.main_arg0))) Cert.Kernel8Ideal.Gen.bitsLt_bf16_f32)
      (m ((c.tc : Thread Cert.Kernel8Ideal.nD Cert.Kernel8Ideal.τ).loc Cert.Kernel8Ideal.main_arg1)),
    (θ_run _ _ _).mono (fun r h c => ⟨(h c).1.trans (Cert.Kernel8Ideal.Value.final_o m c), (h c).2⟩)
      (Cert.Kernel8Ideal.Value.run_blocks m g),
    (θ_run _ _ _).mono (fun r h c => by
      obtain ⟨e0, e1⟩ := hagree c
      refine ⟨(h c).1.trans ?_, (h c).2⟩
      rw [e0, e1]) (Cert.Reference8Ideal.Value.run m' g')⟩

/-- The second layer's input product's input gradient. -/
theorem inputGrad9 : Cert.algebraic_Kernel9Ideal_Reference9Ideal := fun m g m' g' _ hagree =>
  ⟨fun c => Host.dotGeneral (F := Ideal) (φ₁ := .f32) (φ₂ := .f32) Cert.Reference9Ideal.dot_S4352x2304_S1024x2304_S4352x1024_1_1_0_0_n_n none
      (extf .f32 (show FVec Ideal Cert.Kernel9Ideal.S4352x2304 .bf16 from (m ((c.tc : Thread Cert.Kernel9Ideal.nD Cert.Kernel9Ideal.τ).loc Cert.Kernel9Ideal.main_arg0))) Cert.Kernel9Ideal.Gen.bitsLt_bf16_f32)
      (m ((c.tc : Thread Cert.Kernel9Ideal.nD Cert.Kernel9Ideal.τ).loc Cert.Kernel9Ideal.main_arg1)),
    (θ_run _ _ _).mono (fun r h c => ⟨(h c).1.trans (Cert.Kernel9Ideal.Value.final_o m c), (h c).2⟩)
      (Cert.Kernel9Ideal.Value.run_blocks m g),
    (θ_run _ _ _).mono (fun r h c => by
      obtain ⟨e0, e1⟩ := hagree c
      refine ⟨(h c).1.trans ?_, (h c).2⟩
      rw [e0, e1]) (Cert.Reference9Ideal.Value.run m' g')⟩

/-- The first layer's input product. -/
theorem inputProduct10 : Cert.algebraic_Kernel10Ideal_Reference10Ideal := fun m g m' g' _ hagree =>
  ⟨fun c => Host.dotGeneral (F := Ideal) (φ₁ := .f32) (φ₂ := .f32) Cert.Reference10Ideal.dot_S4352x1024_S1024x3072_S4352x3072_1_0_0_1_n_n none
      (extf .f32 (show FVec Ideal Cert.Kernel10Ideal.S4352x1024 .bf16 from (m ((c.tc : Thread Cert.Kernel10Ideal.nD Cert.Kernel10Ideal.τ).loc Cert.Kernel10Ideal.main_arg0))) Cert.Kernel10Ideal.Gen.bitsLt_bf16_f32)
      (m ((c.tc : Thread Cert.Kernel10Ideal.nD Cert.Kernel10Ideal.τ).loc Cert.Kernel10Ideal.main_arg1)),
    (θ_run _ _ _).mono (fun r h c => ⟨(h c).1.trans (Cert.Kernel10Ideal.Value.final_o m c), (h c).2⟩)
      (Cert.Kernel10Ideal.Value.run_blocks m g),
    (θ_run _ _ _).mono (fun r h c => by
      obtain ⟨e0, e1⟩ := hagree c
      refine ⟨(h c).1.trans ?_, (h c).2⟩
      rw [e0, e1]) (Cert.Reference10Ideal.Value.run m' g')⟩

/-- The second layer's input product. -/
theorem inputProduct11 : Cert.algebraic_Kernel11Ideal_Reference11Ideal := fun m g m' g' _ hagree =>
  ⟨fun c => Host.dotGeneral (F := Ideal) (φ₁ := .f32) (φ₂ := .f32) Cert.Reference11Ideal.dot_S4352x1024_S1024x2304_S4352x2304_1_0_0_1_n_n none
      (extf .f32 (show FVec Ideal Cert.Kernel11Ideal.S4352x1024 .bf16 from (m ((c.tc : Thread Cert.Kernel11Ideal.nD Cert.Kernel11Ideal.τ).loc Cert.Kernel11Ideal.main_arg0))) Cert.Kernel11Ideal.Gen.bitsLt_bf16_f32)
      (m ((c.tc : Thread Cert.Kernel11Ideal.nD Cert.Kernel11Ideal.τ).loc Cert.Kernel11Ideal.main_arg1)),
    (θ_run _ _ _).mono (fun r h c => ⟨(h c).1.trans (Cert.Kernel11Ideal.Value.final_o m c), (h c).2⟩)
      (Cert.Kernel11Ideal.Value.run_blocks m g),
    (θ_run _ _ _).mono (fun r h c => by
      obtain ⟨e0, e1⟩ := hagree c
      refine ⟨(h c).1.trans ?_, (h c).2⟩
      rw [e0, e1]) (Cert.Reference11Ideal.Value.run m' g')⟩

/-- The output product with the residual. -/
theorem outputProduct : Cert.algebraic_Kernel12Ideal_Reference12Ideal := fun m g m' g' _ hagree =>
  ⟨fun c => addf (F := Ideal) (Host.dotGeneral (F := Ideal) (φ₁ := .f32) (φ₂ := .f32) Cert.Reference12Ideal.dot_S4352x1024_S1024x1024_S4352x1024_1_0_0_1_n_n none
      (extf .f32 (show FVec Ideal Cert.Kernel12Ideal.S4352x1024 .bf16 from (m ((c.tc : Thread Cert.Kernel12Ideal.nD Cert.Kernel12Ideal.τ).loc Cert.Kernel12Ideal.main_arg0))) Cert.Kernel12Ideal.Gen.bitsLt_bf16_f32)
      (m ((c.tc : Thread Cert.Kernel12Ideal.nD Cert.Kernel12Ideal.τ).loc Cert.Kernel12Ideal.main_arg1)))
      (m ((c.tc : Thread Cert.Kernel12Ideal.nD Cert.Kernel12Ideal.τ).loc Cert.Kernel12Ideal.main_arg2)),
    (θ_run _ _ _).mono (fun r h c => ⟨(h c).1.trans (Cert.Kernel12Ideal.Value.final_o m c), (h c).2⟩)
      (Cert.Kernel12Ideal.Value.run_blocks m g),
    (θ_run _ _ _).mono (fun r h c => by
      obtain ⟨e0, e1, e2⟩ := hagree c
      refine ⟨(h c).1.trans ?_, (h c).2⟩
      rw [e0, e1, e2]) (Cert.Reference12Ideal.Value.run m' g')⟩

theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run m ρ)

theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

theorem frame_reference16 : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run m ρ)

/-- The norm's forward call. -/
theorem normForward : Cert.algebraic_Kernel13Ideal_Reference13Ideal := fun m g m' g' _ hagree =>
  ⟨fun c => Cert.Reference13Ideal.Read.val_main_v12 (F := Ideal)
      (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1)),
    (θ_run _ _ _).mono (fun r h c => ⟨(h c).1.trans (Cert.Kernel13Ideal.Value.final_o m c), (h c).2⟩)
      (Cert.Kernel13Ideal.Value.run_blocks m g),
    (θ_run _ _ _).mono (fun r h c => by
      obtain ⟨e0, e1⟩ := hagree c
      refine ⟨(h c).1.trans ((Cert.Reference13Ideal.Read.val_main_v12_eq _ _).trans ?_), (h c).2⟩
      rw [e0, e1]) (Cert.Reference13Ideal.Value.run m' g')⟩

/-- The even layer's gate, forward. -/
theorem gateForward : Cert.algebraic_Kernel14Ideal_Reference14Ideal := fun m g m' g' _ hagree =>
  ⟨fun c => Cert.Reference14Ideal.Read.val_main_v8 (F := Ideal)
      (m ((c.tc : Thread Cert.Kernel14Ideal.nD Cert.Kernel14Ideal.τ).loc Cert.Kernel14Ideal.main_arg0))
      (m ((c.tc : Thread Cert.Kernel14Ideal.nD Cert.Kernel14Ideal.τ).loc Cert.Kernel14Ideal.main_arg1))
      (m ((c.tc : Thread Cert.Kernel14Ideal.nD Cert.Kernel14Ideal.τ).loc Cert.Kernel14Ideal.main_arg2)),
    (θ_run _ _ _).mono (fun r h c => ⟨(h c).1.trans (Cert.Kernel14Ideal.Value.final_o m c), (h c).2⟩)
      (Cert.Kernel14Ideal.Value.run_blocks m g),
    (θ_run _ _ _).mono (fun r h c => by
      obtain ⟨e0, e1, e2⟩ := hagree c
      refine ⟨(h c).1.trans ((Cert.Reference14Ideal.Read.val_main_v8_eq _ _ _).trans ?_), (h c).2⟩
      rw [e0, e1, e2]) (Cert.Reference14Ideal.Value.run m' g')⟩

/-- The odd layer's gate, forward. -/
theorem gateForward15 : Cert.algebraic_Kernel15Ideal_Reference15Ideal := fun m g m' g' _ hagree =>
  ⟨fun c => Cert.Reference15Ideal.Read.val_main_v3 (F := Ideal)
      (m ((c.tc : Thread Cert.Kernel15Ideal.nD Cert.Kernel15Ideal.τ).loc Cert.Kernel15Ideal.main_arg0))
      (m ((c.tc : Thread Cert.Kernel15Ideal.nD Cert.Kernel15Ideal.τ).loc Cert.Kernel15Ideal.main_arg1)),
    (θ_run _ _ _).mono (fun r h c => ⟨(h c).1.trans (Cert.Kernel15Ideal.Value.final_o m c), (h c).2⟩)
      (Cert.Kernel15Ideal.Value.run_blocks m g),
    (θ_run _ _ _).mono (fun r h c => by
      obtain ⟨e0, e1⟩ := hagree c
      refine ⟨(h c).1.trans ((Cert.Reference15Ideal.Read.val_main_v3_eq _ _).trans ?_), (h c).2⟩
      rw [e0, e1]) (Cert.Reference15Ideal.Value.run m' g')⟩

/-- The latent attention's queries, keys and values. -/
theorem prep : Cert.algebraic_Kernel16Ideal_Reference16Ideal := fun m g m' g' _ hagree =>
  ⟨fun c => Cert.Reference16Ideal.Read.val_main_v108 (F := Ideal) (m ((c.tc : Thread Cert.Kernel16Ideal.nD Cert.Kernel16Ideal.τ).loc Cert.Kernel16Ideal.main_arg0))
      (m ((c.tc : Thread Cert.Kernel16Ideal.nD Cert.Kernel16Ideal.τ).loc Cert.Kernel16Ideal.main_arg3))
      (m ((c.tc : Thread Cert.Kernel16Ideal.nD Cert.Kernel16Ideal.τ).loc Cert.Kernel16Ideal.main_arg5)),
    fun c => Cert.Reference16Ideal.Read.val_main_v110 (F := Ideal) (m ((c.tc : Thread Cert.Kernel16Ideal.nD Cert.Kernel16Ideal.τ).loc Cert.Kernel16Ideal.main_arg1))
      (m ((c.tc : Thread Cert.Kernel16Ideal.nD Cert.Kernel16Ideal.τ).loc Cert.Kernel16Ideal.main_arg2))
      (m ((c.tc : Thread Cert.Kernel16Ideal.nD Cert.Kernel16Ideal.τ).loc Cert.Kernel16Ideal.main_arg4))
      (m ((c.tc : Thread Cert.Kernel16Ideal.nD Cert.Kernel16Ideal.τ).loc Cert.Kernel16Ideal.main_arg6)),
    fun c => Cert.Reference16Ideal.Read.val_main_v113 (F := Ideal) (m ((c.tc : Thread Cert.Kernel16Ideal.nD Cert.Kernel16Ideal.τ).loc Cert.Kernel16Ideal.main_arg1))
      (m ((c.tc : Thread Cert.Kernel16Ideal.nD Cert.Kernel16Ideal.τ).loc Cert.Kernel16Ideal.main_arg4))
      (m ((c.tc : Thread Cert.Kernel16Ideal.nD Cert.Kernel16Ideal.τ).loc Cert.Kernel16Ideal.main_arg6)),
    (θ_run _ _ _).mono (fun r h c => ⟨(h c).1.trans (Cert.Kernel16Ideal.Value.final_q m c), (h c).2.1.trans (Cert.Kernel16Ideal.Value.final_k m c),
      (h c).2.2.1.trans (Cert.Kernel16Ideal.Value.final_v m c), (h c).2.2.2⟩) (Cert.Kernel16Ideal.Value.run_blocks m g),
    (θ_run _ _ _).mono (fun r h c => by
      obtain ⟨e0, e1, e2, e3, e4, e5, e6⟩ := hagree c
      refine ⟨(h c).1.trans ((Cert.Reference16Ideal.Read.val_main_v108_eq _ _).trans ?_), (h c).2.1.trans ((Cert.Reference16Ideal.Read.val_main_v110_eq _ _).trans ?_),
        (h c).2.2.1.trans ((Cert.Reference16Ideal.Read.val_main_v113_eq _ _ _).trans ?_), (h c).2.2.2⟩
      · rw [e0, e3, e5]
      · rw [e1, e2, e4, e6]
      · rw [e1, e4, e6]) (Cert.Reference16Ideal.Value.run m' g')⟩

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5.Loops
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Loops
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every frame and every value claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Pre_finite.facts, Cert.Pre_finite_heads.facts,
  fun m ρ _ => Cert.Kernel.Gen.frame m ρ, fun m ρ _ => Cert.KernelIdeal.Gen.frame m ρ, Claims.frame_reference,
  fun m ρ _ => Cert.Kernel2.Gen.frame m ρ, fun m ρ _ => Cert.Kernel2Ideal.Gen.frame m ρ,
  fun m ρ _ => Cert.Kernel2Ideal.Gen.frame m ρ, Claims.frame_reference2, Claims.frame_reference2_finite,
  fun m ρ _ => Cert.Kernel3.Gen.frame m ρ, fun m ρ _ => Cert.Kernel3Ideal.Gen.frame m ρ, Claims.frame_reference3,
  fun m ρ _ => Cert.Kernel4.Gen.frame m ρ, fun m ρ _ => Cert.Kernel4Ideal.Gen.frame m ρ, Claims.frame_reference4,
  Claims.frame_stick_breaking, Claims.frame_stick_breaking_ideal, Claims.frame_stick_breaking_finite,
  Claims.frame_reference5, Claims.frame_reference5_finite,
  fun m ρ _ => Cert.Kernel6.Gen.frame m ρ, fun m ρ _ => Cert.Kernel6Ideal.Gen.frame m ρ, Claims.frame_reference6,
  fun m ρ _ => Cert.Kernel7.Gen.frame m ρ, fun m ρ _ => Cert.Kernel7Ideal.Gen.frame m ρ, Claims.frame_reference7,
  fun m ρ _ => Cert.Kernel8.Gen.frame m ρ, fun m ρ _ => Cert.Kernel8Ideal.Gen.frame m ρ, Claims.frame_reference8,
  fun m ρ _ => Cert.Kernel9.Gen.frame m ρ, fun m ρ _ => Cert.Kernel9Ideal.Gen.frame m ρ, Claims.frame_reference9,
  fun m ρ _ => Cert.Kernel10.Gen.frame m ρ, fun m ρ _ => Cert.Kernel10Ideal.Gen.frame m ρ, Claims.frame_reference10,
  fun m ρ _ => Cert.Kernel11.Gen.frame m ρ, fun m ρ _ => Cert.Kernel11Ideal.Gen.frame m ρ, Claims.frame_reference11,
  fun m ρ _ => Cert.Kernel12.Gen.frame m ρ, fun m ρ _ => Cert.Kernel12Ideal.Gen.frame m ρ, Claims.frame_reference12,
  fun m ρ _ => Cert.Kernel13.Gen.frame m ρ, fun m ρ _ => Cert.Kernel13Ideal.Gen.frame m ρ, Claims.frame_reference13,
  fun m ρ _ => Cert.Kernel14.Gen.frame m ρ, fun m ρ _ => Cert.Kernel14Ideal.Gen.frame m ρ, Claims.frame_reference14,
  fun m ρ _ => Cert.Kernel15.Gen.frame m ρ, fun m ρ _ => Cert.Kernel15Ideal.Gen.frame m ρ, Claims.frame_reference15,
  fun m ρ _ => Cert.Kernel16.Gen.frame m ρ, fun m ρ _ => Cert.Kernel16Ideal.Gen.frame m ρ, Claims.frame_reference16,
  trivial, Claims.norm, trivial, Claims.gate, trivial, Claims.weightGrad, trivial, Claims.inputGrad, trivial, Claims.stickBreaking,
  trivial, Claims.weightGrad6, trivial, Claims.weightGrad7, trivial, Claims.inputGrad8, trivial, Claims.inputGrad9,
  trivial, Claims.inputProduct10, trivial, Claims.inputProduct11, trivial, Claims.outputProduct,
  trivial, Claims.normForward, trivial, Claims.gateForward, trivial, Claims.gateForward15, trivial, Claims.prep⟩

end Cert.Proof

end
